-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gate [hPre_finite_gate : Cert.Pre_finite_gate.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gate [hPre_finite_gate : Cert.Pre_finite_gate.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_norm [hPre_finite_norm : Cert.Pre_finite_norm.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_norm.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite_norm.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_norm [hPre_finite_norm : Cert.Pre_finite_norm.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_norm.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite_norm.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_gain [hPre_finite_gain : Cert.Pre_finite_gain.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_gain.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))).1 = (fun _ => 1#1)
    ∧ (Cert.Pre_finite_gain.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))).2.1 = (fun _ => 1#1)
    ∧ (Cert.Pre_finite_gain.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5))).2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_gain [hPre_finite_gain : Cert.Pre_finite_gain.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_gain.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))).1 = (fun _ => 1#1)
    ∧ (Cert.Pre_finite_gain.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))).2.1 = (fun _ => 1#1)
    ∧ (Cert.Pre_finite_gain.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5))).2.2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_gate [hKernel7Ideal : Cert.Kernel7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gate m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_gate [hReference7Ideal : Cert.Reference7Ideal.Facts] [hPre_finite_gate : Cert.Pre_finite_gate.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gate m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_norm [hKernel9Ideal : Cert.Kernel9Ideal.Facts] [hPre_finite_norm : Cert.Pre_finite_norm.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_norm m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_norm [hReference9Ideal : Cert.Reference9Ideal.Facts] [hPre_finite_norm : Cert.Pre_finite_norm.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_norm m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Kernel21Ideal_pre_finite_gain [hKernel21Ideal : Cert.Kernel21Ideal.Facts] [hPre_finite_gain : Cert.Pre_finite_gain.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_gain m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Reference21Ideal_pre_finite_gain [hReference21Ideal : Cert.Reference21Ideal.Facts] [hPre_finite_gain : Cert.Pre_finite_gain.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_gain m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v49)) (v4 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_v44) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_gate [hKernel7Ideal : Cert.Kernel7Ideal.Facts] [hReference7Ideal : Cert.Reference7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gate m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_norm [hKernel9Ideal : Cert.Kernel9Ideal.Facts] [hReference9Ideal : Cert.Reference9Ideal.Facts] [hPre_finite_norm : Cert.Pre_finite_norm.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_norm m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v77) = v1 c
          ∧ r.2.mem ((c.tc : Thread Cert.Reference9Ideal.nD Cert.Reference9Ideal.τ).loc Cert.Reference9Ideal.main_v79) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_v9) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal_pre_finite_gain [hKernel21Ideal : Cert.Kernel21Ideal.Facts] [hReference21Ideal : Cert.Reference21Ideal.Facts] [hPre_finite_gain : Cert.Pre_finite_gain.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_gain m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v69) = v0 c
          ∧ r.2.mem ((c.tc : Thread Cert.Reference21Ideal.nD Cert.Reference21Ideal.τ).loc Cert.Reference21Ideal.main_v29) = v1 c
          ∧ r.2.mem ((c.tc : Thread Cert.Reference21Ideal.nD Cert.Reference21Ideal.τ).loc Cert.Reference21Ideal.main_v68) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v46) = v0 c
          ∧ r.2.mem ((c.tc : Thread Cert.Reference22Ideal.nD Cert.Reference22Ideal.τ).loc Cert.Reference22Ideal.main_v48) = v1 c
          ∧ r.2.mem ((c.tc : Thread Cert.Reference22Ideal.nD Cert.Reference22Ideal.τ).loc Cert.Reference22Ideal.main_v53) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_v9) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v19) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v3) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_v30) = v4 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v9) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_scores : Cert.Pre_finite_scores.Facts) (hPre_finite_gate : Cert.Pre_finite_gate.Facts) (hPre_finite_norm : Cert.Pre_finite_norm.Facts) (hPre_finite_gain : Cert.Pre_finite_gain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_gate (hKernel7Ideal := hKernel7Ideal) (hPre_finite_gate := hPre_finite_gate)
    ∧ quiescent_Reference7Ideal (hReference7Ideal := hReference7Ideal)
    ∧ quiescent_Reference7Ideal_pre_finite_gate (hReference7Ideal := hReference7Ideal) (hPre_finite_gate := hPre_finite_gate)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_norm (hKernel9Ideal := hKernel9Ideal) (hPre_finite_norm := hPre_finite_norm)
    ∧ quiescent_Reference9Ideal (hReference9Ideal := hReference9Ideal)
    ∧ quiescent_Reference9Ideal_pre_finite_norm (hReference9Ideal := hReference9Ideal) (hPre_finite_norm := hPre_finite_norm)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_gain (hKernel21Ideal := hKernel21Ideal) (hPre_finite_gain := hPre_finite_gain)
    ∧ quiescent_Reference21Ideal (hReference21Ideal := hReference21Ideal)
    ∧ quiescent_Reference21Ideal_pre_finite_gain (hReference21Ideal := hReference21Ideal) (hPre_finite_gain := hPre_finite_gain)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_gate (hKernel7Ideal := hKernel7Ideal) (hReference7Ideal := hReference7Ideal) (hPre_finite_gate := hPre_finite_gate)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_norm (hKernel9Ideal := hKernel9Ideal) (hReference9Ideal := hReference9Ideal) (hPre_finite_norm := hPre_finite_norm)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_gain (hKernel21Ideal := hKernel21Ideal) (hReference21Ideal := hReference21Ideal) (hPre_finite_gain := hPre_finite_gain)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S16384x8x128 : Shape := ⟨3, ![16384, 8, 128]⟩
abbrev S16384x8x64 : Shape := ⟨3, ![16384, 8, 64]⟩
abbrev S16384x64 : Shape := ⟨2, ![16384, 64]⟩
abbrev S_ : Shape := ⟨0, ![]⟩

class Facts : Prop where
  bcast_S_S16384x8x128 : S_.BroadcastsInDim S16384x8x128 (![] : Fin 0 → Fin S16384x8x128.rank)
  bcast_S_S16384x8x64 : S_.BroadcastsInDim S16384x8x64 (![] : Fin 0 → Fin S16384x8x64.rank)
  bcast_S_S16384x64 : S_.BroadcastsInDim S16384x64 (![] : Fin 0 → Fin S16384x64.rank)

variable [Facts]

def fn {F : FTy → Type} [FloatOps F] (main_arg0 : FVec F S16384x8x128 .f32) (main_arg1 : FVec F S16384x8x64 .f32) (main_arg2 : FVec F S16384x8x128 .f32) (main_arg3 : FVec F S16384x64 .f32) (main_arg4 : FVec F S16384x8x128 .f32) (main_arg5 : FVec F S16384x8x128 .f32) : IVec S16384x8x128 1 × IVec S16384x8x64 1 × IVec S16384x8x128 1 × IVec S16384x64 1 × IVec S16384x8x128 1 × IVec S16384x8x128 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_v3 : FVec F S16384x8x64 .f32 := Host.absf main_arg1
  let main_cst_0 : FVec F S_ .f32 := constant S_ .f32 0x7F800000#32
  let main_v4 : FVec F S16384x8x64 .f32 := broadcastInDim S16384x8x64 ![] bcast_S_S16384x8x64 main_cst_0
  let main_v5 : IVec S16384x8x64 1 := cmpf .olt main_v3 main_v4
  let main_v6 : FVec F S16384x8x128 .f32 := Host.absf main_arg2
  let main_cst_1 : FVec F S_ .f32 := constant S_ .f32 0x7F800000#32
  let main_v7 : FVec F S16384x8x128 .f32 := broadcastInDim S16384x8x128 ![] bcast_S_S16384x8x128 main_cst_1
  let main_v8 : IVec S16384x8x128 1 := cmpf .olt main_v6 main_v7
  let main_v9 : FVec F S16384x64 .f32 := Host.absf main_arg3
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_v12 : FVec F S16384x8x128 .f32 := Host.absf main_arg4
  let main_cst_3 : FVec F S_ .f32 := constant S_ .f32 0x7F800000#32
  let main_v13 : FVec F S16384x8x128 .f32 := broadcastInDim S16384x8x128 ![] bcast_S_S16384x8x128 main_cst_3
  let main_v14 : IVec S16384x8x128 1 := cmpf .olt main_v12 main_v13
  let main_v15 : FVec F S16384x8x128 .f32 := Host.absf main_arg5
  let main_cst_4 : FVec F S_ .f32 := constant S_ .f32 0x7F800000#32
  let main_v16 : FVec F S16384x8x128 .f32 := broadcastInDim S16384x8x128 ![] bcast_S_S16384x8x128 main_cst_4
  let main_v17 : IVec S16384x8x128 1 := cmpf .olt main_v15 main_v16
  (main_v2, main_v5, main_v8, main_v11, main_v14, main_v17)
-- ==== Pre_finite_gain.lean ====
abbrev S16384x1024 : Shape := ⟨2, ![16384, 1024]⟩
abbrev S1024x1024 : Shape := ⟨2, ![1024, 1024]⟩
abbrev S16384x5120 : Shape := ⟨2, ![16384, 5120]⟩
abbrev S1x128 : Shape := ⟨2, ![1, 128]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S1024x1024 : S_.BroadcastsInDim S1024x1024 (![] : Fin 0 → Fin S1024x1024.rank)
  bcast_S_S1x128 : S_.BroadcastsInDim S1x128 (![] : Fin 0 → Fin S1x128.rank)

variable [Facts]

def fn {F : FTy → Type} [FloatOps F] (main_arg0 : FVec F S16384x1024 .f32) (main_arg1 : FVec F S1024x1024 .bf16) (main_arg2 : FVec F S16384x1024 .f32) (main_arg3 : FVec F S16384x1024 .f32) (main_arg4 : FVec F S16384x5120 .f32) (main_arg5 : FVec F S1x128 .f32) : IVec S16384x1024 1 × IVec S1024x1024 1 × IVec S1x128 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x1024 .f32 := (extf .f32 · bitsLt_bf16_f32) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S1x128 .f32 := Host.absf main_arg5
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  (main_v2, main_v6, main_v9)
-- ==== Pre_finite_gate.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x2816 : S_.BroadcastsInDim S16384x2816 (![] : Fin 0 → Fin S16384x2816.rank)

variable [Facts]

def fn {F : FTy → Type} [FloatOps F] (main_arg0 : FVec F S16384x1024 .f32) (main_arg1 : FVec F S2816x1024 .bf16) (main_arg2 : FVec F S16384x2816 .f32) (main_arg3 : FVec F S16384x2816 .f32) : IVec S16384x1024 1 × IVec S2816x1024 1 × IVec S16384x2816 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S16384x2816 .f32 := Host.absf main_arg3
  let main_cst_1 : FVec F S_ .f32 := constant S_ .f32 0x7F800000#32
  let main_v7 : FVec F S16384x2816 .f32 := broadcastInDim S16384x2816 ![] bcast_S_S16384x2816 main_cst_1
  let main_v8 : IVec S16384x2816 1 := cmpf .olt main_v6 main_v7
  (main_v2, main_v5, main_v8)
-- ==== Pre_finite_norm.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S1x1024 .f32) : IVec S16384x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_scores.lean ====
abbrev S16384x8x128 : Shape := ⟨3, ![16384, 8, 128]⟩
abbrev S16384x8x64 : Shape := ⟨3, ![16384, 8, 64]⟩
abbrev S16384x64 : Shape := ⟨2, ![16384, 64]⟩
abbrev S_ : Shape := ⟨0, ![]⟩

class Facts : Prop where
  bcast_S_S16384x8x128 : S_.BroadcastsInDim S16384x8x128 (![] : Fin 0 → Fin S16384x8x128.rank)
  bcast_S_S16384x8x64 : S_.BroadcastsInDim S16384x8x64 (![] : Fin 0 → Fin S16384x8x64.rank)
  bcast_S_S16384x64 : S_.BroadcastsInDim S16384x64 (![] : Fin 0 → Fin S16384x64.rank)

variable [Facts]

def fn {F : FTy → Type} [FloatOps F] (main_arg0 : FVec F S16384x8x128 .f32) (main_arg1 : FVec F S16384x8x64 .f32) (main_arg2 : FVec F S16384x8x128 .f32) (main_arg3 : FVec F S16384x64 .f32) (main_arg4 : FVec F S16384x8x128 .f32) : IVec S16384x8x128 1 × IVec S16384x8x64 1 × IVec S16384x8x128 1 × IVec S16384x64 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_v3 : FVec F S16384x8x64 .f32 := Host.absf main_arg1
  let main_cst_0 : FVec F S_ .f32 := constant S_ .f32 0x7F800000#32
  let main_v4 : FVec F S16384x8x64 .f32 := broadcastInDim S16384x8x64 ![] bcast_S_S16384x8x64 main_cst_0
  let main_v5 : IVec S16384x8x64 1 := cmpf .olt main_v3 main_v4
  let main_v6 : FVec F S16384x8x128 .f32 := Host.absf main_arg2
  let main_cst_1 : FVec F S_ .f32 := constant S_ .f32 0x7F800000#32
  let main_v7 : FVec F S16384x8x128 .f32 := broadcastInDim S16384x8x128 ![] bcast_S_S16384x8x128 main_cst_1
  let main_v8 : IVec S16384x8x128 1 := cmpf .olt main_v6 main_v7
  let main_v9 : FVec F S16384x64 .f32 := Host.absf main_arg3
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  (main_v2, main_v5, main_v8, main_v11)
-- ==== Kernel.lean ====
abbrev S16384x8x128 : Shape := ⟨3, ![16384, 8, 128]⟩
abbrev S16384x8x64 : Shape := ⟨3, ![16384, 8, 64]⟩
abbrev S16384x64 : Shape := ⟨2, ![16384, 64]⟩
abbrev S8x16384x16384 : Shape := ⟨3, ![8, 16384, 16384]⟩
abbrev S16384x16384x8 : Shape := ⟨3, ![16384, 16384, 8]⟩
abbrev S_ : Shape := ⟨0, ![]⟩
abbrev S8x16384 : Shape := ⟨2, ![8, 16384]⟩
abbrev S8x16384x1 : Shape := ⟨3, ![8, 16384, 1]⟩
abbrev S8x16384x128 : Shape := ⟨3, ![8, 16384, 128]⟩
abbrev S16384x8x1 : Shape := ⟨3, ![16384, 8, 1]⟩
abbrev S16384x1024 : Shape := ⟨2, ![16384, 1024]⟩
abbrev S16384x1x64 : Shape := ⟨3, ![16384, 1, 64]⟩
abbrev S16384x8x256 : Shape := ⟨3, ![16384, 8, 256]⟩
abbrev S8x16384x256 : Shape := ⟨3, ![8, 16384, 256]⟩
abbrev S1x2048x256 : Shape := ⟨3, ![1, 2048, 256]⟩
abbrev S1x1024x256 : Shape := ⟨3, ![1, 1024, 256]⟩
abbrev S1x1024x128 : Shape := ⟨3, ![1, 1024, 128]⟩
abbrev S2048x128 : Shape := ⟨2, ![2048, 128]⟩
abbrev S1x16384x256 : Shape := ⟨3, ![1, 16384, 256]⟩
abbrev S1024x256 : Shape := ⟨2, ![1024, 256]⟩
abbrev S1024x128 : Shape := ⟨2, ![1024, 128]⟩
abbrev S16384x256 : Shape := ⟨2, ![16384, 256]⟩
abbrev S1x512x256 : Shape := ⟨3, ![1, 512, 256]⟩
abbrev S512x256 : Shape := ⟨2, ![512, 256]⟩
abbrev S512x128 : Shape := ⟨2, ![512, 128]⟩
abbrev S512x1024 : Shape := ⟨2, ![512, 1024]⟩

abbrev nBuf : Space → Nat
  | .hbm => 64
  | .vmem => 20
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384x8x128, .f32⟩
  | .hbm, ⟨6, _⟩ => ⟨S8x16384x16384, .f32⟩
  | .hbm, ⟨7, _⟩ => ⟨S16384x16384x8, .f32⟩
  | .hbm, ⟨8, _⟩ => ⟨S8x16384x16384, .f32⟩
  | .hbm, ⟨9, _⟩ => ⟨S8x16384x16384, .f32⟩
  | .hbm, ⟨10, _⟩ => ⟨S_, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x16384x128, .f32⟩
  | .hbm, ⟨22, _⟩ => ⟨S8x16384x128, .f32⟩
  | .hbm, ⟨23, _⟩ => ⟨S8x16384x128, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x1, .f32⟩
  | .hbm, ⟨28, _⟩ => ⟨S8x16384x1, .f32⟩
  | .hbm, ⟨29, _⟩ => ⟨S16384x8x1, .f32⟩
  | .hbm, ⟨30, _⟩ => ⟨S16384x8x128, .f32⟩
  | .hbm, ⟨31, _⟩ => ⟨S16384x1024, .f32⟩
  | .hbm, ⟨32, _⟩ => ⟨S16384x8x1, .f32⟩
  | .hbm, ⟨33, _⟩ => ⟨S16384x8x128, .f32⟩
  | .hbm, ⟨34, _⟩ => ⟨S16384x1024, .f32⟩
  | .hbm, ⟨35, _⟩ => ⟨S16384x1x64, .f32⟩
  | .hbm, ⟨36, _⟩ => ⟨S16384x8x64, .f32⟩
  | .hbm, ⟨37, _⟩ => ⟨S16384x8x256, .f32⟩
  | .hbm, ⟨38, _⟩ => ⟨S8x16384x256, .f32⟩
  | .hbm, ⟨39, _⟩ => ⟨S8x16384x256, .bf16⟩
  | .hbm, ⟨40, _⟩ => ⟨S_, .f32⟩
  | .hbm, ⟨41, _⟩ => ⟨S16384x8x64, .f32⟩
  | .hbm, ⟨42, _⟩ => ⟨S16384x8x256, .f32⟩
  | .hbm, ⟨43, _⟩ => ⟨S8x16384x256, .f32⟩
  | .hbm, ⟨44, _⟩ => ⟨S8x16384x256, .bf16⟩
  | .hbm, ⟨45, _⟩ => ⟨S_, .f32⟩
  | .hbm, ⟨46, _⟩ => ⟨S16384x8x128, .f32⟩
  | .hbm, ⟨47, _⟩ => ⟨S16384x8x256, .f32⟩
  | .hbm, ⟨48, _⟩ => ⟨S8x16384x256, .f32⟩
  | .hbm, ⟨49, _⟩ => ⟨S8x16384x256, .bf16⟩
  | .hbm, ⟨50, _⟩ => ⟨S16384x1024, .f32⟩
  | .hbm, ⟨51, _⟩ => ⟨S16384x1024, .bf16⟩
  | .hbm, ⟨52, _⟩ => ⟨S8x16384x256, .f32⟩
  | .hbm, ⟨53, _⟩ => ⟨S8x16384x256, .f32⟩
  | .hbm, ⟨54, _⟩ => ⟨S8x16384x128, .f32⟩
  | .hbm, ⟨55, _⟩ => ⟨S16384x8x256, .f32⟩
  | .hbm, ⟨56, _⟩ => ⟨S16384x8x256, .f32⟩
  | .hbm, ⟨57, _⟩ => ⟨S16384x8x128, .f32⟩
  | .hbm, ⟨58, _⟩ => ⟨S16384x8x128, .f32⟩
  | .hbm, ⟨59, _⟩ => ⟨S16384x8x64, .f32⟩
  | .hbm, ⟨60, _⟩ => ⟨S16384x8x128, .f32⟩
  | .hbm, ⟨61, _⟩ => ⟨S16384x8x64, .f32⟩
  | .hbm, ⟨62, _⟩ => ⟨S_, .f32⟩
  | .hbm, ⟨63, _⟩ => ⟨S16384x64, .f32⟩
  | .local _ .vmem, ⟨0, _⟩ => ⟨S1x2048x256, .bf16⟩
  | .local _ .vmem, ⟨1, _⟩ => ⟨S1x2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x16384x256, .f32⟩
  | .local _ .vmem, ⟨13, _⟩ => ⟨S1x16384x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x128, .f32⟩
  | .local _ .vmem, ⟨17, _⟩ => ⟨S1x1024x128, .f32⟩
  | .local _ .vmem, ⟨18, _⟩ => ⟨S1024x256, .f32⟩
  | .local _ .vmem, ⟨19, _⟩ => ⟨S1024x128, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 16, 8], ![false, false, false]⟩

def k0_mult1 (i : grid0.Coords) : BitVec 32 :=
  let arg2 : BitVec 32 := BitVec.ofNat 32 (i 2).val
  let c2048_i32 : BitVec 32 := 2048#32
  let v36 : BitVec 32 := Scalar.muli arg2 c2048_i32
  let c0_i32_25 : BitVec 32 := 0#32
  let v37 : BitVec 32 := Scalar.addi v36 c0_i32_25
  v37
def k0_off1 (i : grid0.Coords) (c0_i32_25 : BitVec 32) : Fin 3 → Nat :=
  let c0_26 : Index := 0#32
  let arg2 : BitVec 32 := BitVec.ofNat 32 (i 2).val
  let c2048_i32 : BitVec 32 := 2048#32
  let v36 : BitVec 32 := Scalar.muli arg2 c2048_i32
  let v37 : BitVec 32 := Scalar.addi v36 c0_i32_25
  let v38 : BitVec 32 := v37
  let v39 : Index := Scalar.indexCast v38
  let c0_27 : Index := 0#32
  ![0, v39.toNat, 0]
def k0_mult2 (i : grid0.Coords) : BitVec 32 :=
  let arg2 : BitVec 32 := BitVec.ofNat 32 (i 2).val
  let c2048_i32_43 : BitVec 32 := 2048#32
  let v70 : BitVec 32 := Scalar.muli arg2 c2048_i32_43
  let c512_i32 : BitVec 32 := 512#32
  let v71 : BitVec 32 := Scalar.addi v70 c512_i32
  v71
def k0_mult3 (i : grid0.Coords) : BitVec 32 :=
  let arg2 : BitVec 32 := BitVec.ofNat 32 (i 2).val
  let c2048_i32_61 : BitVec 32 := 2048#32
  let v104 : BitVec 32 := Scalar.muli arg2 c2048_i32_61
  let c1024_i32 : BitVec 32 := 1024#32
  let v105 : BitVec 32 := Scalar.addi v104 c1024_i32
  v105
def k0_mult4 (i : grid0.Coords) : BitVec 32 :=
  let arg2 : BitVec 32 := BitVec.ofNat 32 (i 2).val
  let c2048_i32_79 : BitVec 32 := 2048#32
  let v138 : BitVec 32 := Scalar.muli arg2 c2048_i32_79
  let c1536_i32 : BitVec 32 := 1536#32
  let v139 : BitVec 32 := Scalar.addi v138 c1536_i32
  v139
def k0_cond3 (i : grid0.Coords) : BitVec 1 :=
  let arg2 : BitVec 32 := BitVec.ofNat 32 (i 2).val
  let c7_i32 : BitVec 32 := 7#32
  let v156 : BitVec 1 := Scalar.cmpi .eq arg2 c7_i32
  let v157 : BitVec 32 := Scalar.extui v156
  let c0_i32_89 : BitVec 32 := 0#32
  let v158 : BitVec 1 := Scalar.cmpi .ne v157 c0_i32_89
  v158

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x16384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S16384x8x128 : Shape := ⟨3, ![16384, 8, 128]⟩
abbrev S16384x8x64 : Shape := ⟨3, ![16384, 8, 64]⟩
abbrev S16384x64 : Shape := ⟨2, ![16384, 64]⟩
abbrev S8x16384x16384 : Shape := ⟨3, ![8, 16384, 16384]⟩
abbrev S16384x16384x8 : Shape := ⟨3, ![16384, 16384, 8]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S8x16384x128 : Shape := ⟨3, ![8, 16384, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384x8x128, .f32⟩
  | .hbm, ⟨6, _⟩ => ⟨S8x16384x16384, .f32⟩
  | .hbm, ⟨7, _⟩ => ⟨S16384x16384x8, .f32⟩
  | .hbm, ⟨8, _⟩ => ⟨S8x16384x16384, .f32⟩
  | .hbm, ⟨9, _⟩ => ⟨S8x16384x16384, .f32⟩
  | .hbm, ⟨10, _⟩ => ⟨S_, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .i1⟩
  | .hbm, ⟨15, _⟩ => ⟨S8x16384x16384, .f32⟩
  | .hbm, ⟨16, _⟩ => ⟨S_, .f32⟩
  | .hbm, ⟨17, _⟩ => ⟨S8x16384, .f32⟩
  | .hbm, ⟨18, _⟩ => ⟨S_, .f32⟩
  | .hbm, ⟨19, _⟩ => ⟨S8x16384, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .i1⟩
  | .hbm, ⟨24, _⟩ => ⟨S_, .f32⟩
  | .hbm, ⟨25, _⟩ => ⟨S8x16384, .f32⟩
  | .hbm, ⟨26, _⟩ => ⟨S8x16384, .i1⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S8x16384, .f32⟩
  | .hbm, ⟨35, _⟩ => ⟨S8x16384x1, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S_, .f32⟩
  | .hbm, ⟨40, _⟩ => ⟨S8x16384, .f32⟩
  | .hbm, ⟨41, _⟩ => ⟨S8x16384x1, .f32⟩
  | .hbm, ⟨42, _⟩ => ⟨S8x16384x16384, .f32⟩
  | .hbm, ⟨43, _⟩ => ⟨S8x16384x16384, .f32⟩
  | .hbm, ⟨44, _⟩ => ⟨S8x16384x1, .f32⟩
  | .hbm, ⟨45, _⟩ => ⟨S_, .f32⟩
  | .hbm, ⟨46, _⟩ => ⟨S8x16384x1, .f32⟩
  | .hbm, ⟨47, _⟩ => ⟨S8x16384x1, .f32⟩
  | .hbm, ⟨48, _⟩ => ⟨S8x128x16384, .f32⟩
  | .hbm, ⟨49, _⟩ => ⟨S16384x8x128, .f32⟩
  | .hbm, ⟨50, _⟩ => ⟨S8x128x16384, .f32⟩
  | .hbm, ⟨51, _⟩ => ⟨S8x16384x16384, .f32⟩
  | .hbm, ⟨52, _⟩ => ⟨S8x128x16384, .f32⟩
  | .hbm, ⟨53, _⟩ => ⟨S16384x8x128, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x1, .f32⟩
  | .hbm, ⟨61, _⟩ => ⟨S8x16384x16384, .f32⟩
  | .hbm, ⟨62, _⟩ => ⟨S8x16384x16384, .f32⟩
  | .hbm, ⟨63, _⟩ => ⟨S_, .f32⟩
  | .hbm, ⟨64, _⟩ => ⟨S8x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S16384x16384x8, .f32⟩
  | .hbm, ⟨69, _⟩ => ⟨S16384x8x64, .f32⟩
  | .hbm, ⟨70, _⟩ => ⟨S16384x64, .f32⟩
  | .hbm, ⟨71, _⟩ => ⟨S8x16384x128, .f32⟩
  | .hbm, ⟨72, _⟩ => ⟨S16384x8x128, .f32⟩
  | .hbm, ⟨73, _⟩ => ⟨S8x16384x128, .f32⟩
  | .hbm, ⟨74, _⟩ => ⟨S16384x8x128, .f32⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel2.lean ====
abbrev S16384x8x128 : Shape := ⟨3, ![16384, 8, 128]⟩
abbrev S16384x8x64 : Shape := ⟨3, ![16384, 8, 64]⟩
abbrev S16384x64 : Shape := ⟨2, ![16384, 64]⟩
abbrev S16384x1x64 : Shape := ⟨3, ![16384, 1, 64]⟩
abbrev S16384x8x256 : Shape := ⟨3, ![16384, 8, 256]⟩
abbrev S8x16384x256 : Shape := ⟨3, ![8, 16384, 256]⟩
abbrev S_ : Shape := ⟨0, ![]⟩
abbrev S16384x1024 : Shape := ⟨2, ![16384, 1024]⟩
abbrev S1x2048x256 : Shape := ⟨3, ![1, 2048, 256]⟩
abbrev S2048x128 : Shape := ⟨2, ![2048, 128]⟩
abbrev S2048x256 : Shape := ⟨2, ![2048, 256]⟩
abbrev S1x512x256 : Shape := ⟨3, ![1, 512, 256]⟩
abbrev S512x256 : Shape := ⟨2, ![512, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 22
  | .vmem => 12
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S16384x1x64, .f32⟩
  | .hbm, ⟨6, _⟩ => ⟨S16384x8x64, .f32⟩
  | .hbm, ⟨7, _⟩ => ⟨S16384x8x256, .f32⟩
  | .hbm, ⟨8, _⟩ => ⟨S8x16384x256, .f32⟩
  | .hbm, ⟨9, _⟩ => ⟨S8x16384x256, .bf16⟩
  | .hbm, ⟨10, _⟩ => ⟨S_, .f32⟩
  | .hbm, ⟨11, _⟩ => ⟨S16384x8x64, .f32⟩
  | .hbm, ⟨12, _⟩ => ⟨S16384x8x256, .f32⟩
  | .hbm, ⟨13, _⟩ => ⟨S8x16384x256, .f32⟩
  | .hbm, ⟨14, _⟩ => ⟨S8x16384x256, .bf16⟩
  | .hbm, ⟨15, _⟩ => ⟨S_, .f32⟩
  | .hbm, ⟨16, _⟩ => ⟨S16384x8x128, .f32⟩
  | .hbm, ⟨17, _⟩ => ⟨S16384x8x256, .f32⟩
  | .hbm, ⟨18, _⟩ => ⟨S8x16384x256, .f32⟩
  | .hbm, ⟨19, _⟩ => ⟨S8x16384x256, .bf16⟩
  | .hbm, ⟨20, _⟩ => ⟨S16384x1024, .f32⟩
  | .hbm, ⟨21, _⟩ => ⟨S16384x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x256, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v89 : BitVec 1 := Scalar.cmpi .eq arg2 c7_i32
  let v90 : BitVec 32 := Scalar.extui v89
  let c0_i32_43 : BitVec 32 := 0#32
  let v91 : BitVec 1 := Scalar.cmpi .ne v90 c0_i32_43
  v91

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S16384x8x128 : Shape := ⟨3, ![16384, 8, 128]⟩
abbrev S16384x8x64 : Shape := ⟨3, ![16384, 8, 64]⟩
abbrev S16384x64 : Shape := ⟨2, ![16384, 64]⟩
abbrev S8x16384x16384 : Shape := ⟨3, ![8, 16384, 16384]⟩
abbrev S16384x16384x8 : Shape := ⟨3, ![16384, 16384, 8]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S16384x8x1 : Shape := ⟨3, ![16384, 8, 1]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16384x8x128, .f32⟩
  | .hbm, ⟨3, _⟩ => ⟨S16384x64, .f32⟩
  | .hbm, ⟨4, _⟩ => ⟨S16384x8x128, .f32⟩
  | .hbm, ⟨5, _⟩ => ⟨S8x16384x16384, .f32⟩
  | .hbm, ⟨6, _⟩ => ⟨S16384x16384x8, .f32⟩
  | .hbm, ⟨7, _⟩ => ⟨S8x16384x16384, .f32⟩
  | .hbm, ⟨8, _⟩ => ⟨S8x16384x16384, .f32⟩
  | .hbm, ⟨9, _⟩ => ⟨S_, .f32⟩
  | .hbm, ⟨10, _⟩ => ⟨S8x16384, .f32⟩
  | .hbm, ⟨11, _⟩ => ⟨S8x16384x1, .f32⟩
  | .hbm, ⟨12, _⟩ => ⟨S8x16384x16384, .f32⟩
  | .hbm, ⟨13, _⟩ => ⟨S8x16384x16384, .f32⟩
  | .hbm, ⟨14, _⟩ => ⟨S8x16384x16384, .f32⟩
  | .hbm, ⟨15, _⟩ => ⟨S_, .f32⟩
  | .hbm, ⟨16, _⟩ => ⟨S8x16384, .f32⟩
  | .hbm, ⟨17, _⟩ => ⟨S8x16384x1, .f32⟩
  | .hbm, ⟨18, _⟩ => ⟨S8x16384x1, .f32⟩
  | .hbm, ⟨19, _⟩ => ⟨S8x16384x1, .f32⟩
  | .hbm, ⟨20, _⟩ => ⟨S_, .f32⟩
  | .hbm, ⟨21, _⟩ => ⟨S8x16384, .f32⟩
  | .hbm, ⟨22, _⟩ => ⟨S_, .f32⟩
  | .hbm, ⟨23, _⟩ => ⟨S8x16384, .f32⟩
  | .hbm, ⟨24, _⟩ => ⟨S8x16384, .f32⟩
  | .hbm, ⟨25, _⟩ => ⟨S8x16384x1, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x128x16384, .f32⟩
  | .hbm, ⟨35, _⟩ => ⟨S16384x8x128, .f32⟩
  | .hbm, ⟨36, _⟩ => ⟨S16384x8x1, .f32⟩
  | .hbm, ⟨37, _⟩ => ⟨S16384x8x128, .f32⟩
  | .hbm, ⟨38, _⟩ => ⟨S16384x1024, .f32⟩
  | .hbm, ⟨39, _⟩ => ⟨S16384x1024, .f32⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S16384x2816 : Shape := ⟨2, ![16384, 2816]⟩
abbrev S1024x5632 : Shape := ⟨2, ![1024, 5632]⟩
abbrev S256x2816 : Shape := ⟨2, ![256, 2816]⟩
abbrev S1024x2816 : Shape := ⟨2, ![1024, 2816]⟩
abbrev S256x1024 : Shape := ⟨2, ![256, 1024]⟩
abbrev S1x256x1024 : Shape := ⟨3, ![1, 256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S1024x5632, .bf16⟩
  | .hbm, ⟨4, _⟩ => ⟨S16384x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![64, 1, 1], ![false, false, false]⟩

def k0_cond2 (i : grid0.Coords) : BitVec 1 :=
  let arg2 : BitVec 32 := BitVec.ofNat 32 (i 2).val
  let c0_i32_21 : BitVec 32 := 0#32
  let v21 : BitVec 1 := Scalar.cmpi .eq arg2 c0_i32_21
  let v22 : BitVec 32 := Scalar.extui v21
  let c0_i32_22 : BitVec 32 := 0#32
  let v23 : BitVec 1 := Scalar.cmpi .ne v22 c0_i32_22
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference3Ideal.lean ====
abbrev S16384x1024 : Shape := ⟨2, ![16384, 1024]⟩
abbrev S16384x2816 : Shape := ⟨2, ![16384, 2816]⟩
abbrev S1024x5632 : Shape := ⟨2, ![1024, 5632]⟩
abbrev S_ : Shape := ⟨0, ![]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S1024x5632, .bf16⟩
  | .hbm, ⟨4, _⟩ => ⟨S_, .f32⟩
  | .hbm, ⟨5, _⟩ => ⟨S16384x1024, .f32⟩
  | .hbm, ⟨6, _⟩ => ⟨S1024x5632, .f32⟩
  | .hbm, ⟨7, _⟩ => ⟨S16384x5632, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x5632, .f32⟩
  | .hbm, ⟨19, _⟩ => ⟨S16384x1024, .f32⟩
  | .hbm, ⟨20, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S1024x2816, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S2816x1024, .f32⟩
  | .hbm, ⟨7, _⟩ => ⟨S1024x2816, .f32⟩
  | .hbm, ⟨8, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩
abbrev S1x1408x1024 : Shape := ⟨3, ![1, 1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1x1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 5
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S16384x2816, .f32⟩
  | .hbm, ⟨3, _⟩ => ⟨S16384x2816, .f32⟩
  | .hbm, ⟨4, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S2x512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 1], ![false, false, false]⟩

def k0_cond2 (i : grid0.Coords) : BitVec 1 :=
  let arg2 : BitVec 32 := BitVec.ofNat 32 (i 2).val
  let c0_i32_20 : BitVec 32 := 0#32
  let v23 : BitVec 1 := Scalar.cmpi .eq arg2 c0_i32_20
  let v24 : BitVec 32 := Scalar.extui v23
  let c0_i32_21 : BitVec 32 := 0#32
  let v25 : BitVec 1 := Scalar.cmpi .ne v24 c0_i32_21
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S1024x5632, .f32⟩
  | .hbm, ⟨3, _⟩ => ⟨S16384x5632, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel7.lean ====
abbrev S16384x1024 : Shape := ⟨2, ![16384, 1024]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .f32⟩
  | .hbm, ⟨3, _⟩ => ⟨S16384x2816, .f32⟩
  | .hbm, ⟨4, _⟩ => ⟨S16384x2816, .bf16⟩
  | .hbm, ⟨5, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1x512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S2816x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .bf16⟩
  | .hbm, ⟨28, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel8.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference8Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S2816x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S256x1024 : Shape := ⟨2, ![256, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S256x1024, .f32⟩
  | .hbm, ⟨5, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S32x1x512x1024 : Shape := ⟨4, ![32, 1, 512, 1024]⟩
abbrev S32x1x1024 : Shape := ⟨3, ![32, 1, 1024]⟩
abbrev S32x8x1024 : Shape := ⟨3, ![32, 8, 1024]⟩
abbrev S256x1024 : Shape := ⟨2, ![256, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S32x1x512x1024, .f32⟩
  | .hbm, ⟨96, _⟩ => ⟨S_, .f32⟩
  | .hbm, ⟨97, _⟩ => ⟨S32x1x1024, .f32⟩
  | .hbm, ⟨98, _⟩ => ⟨S32x1x512x1024, .f32⟩
  | .hbm, ⟨99, _⟩ => ⟨S_, .f32⟩
  | .hbm, ⟨100, _⟩ => ⟨S32x1x1024, .f32⟩
  | .hbm, ⟨101, _⟩ => ⟨S32x8x1024, .f32⟩
  | .hbm, ⟨102, _⟩ => ⟨S256x1024, .f32⟩
  | .hbm, ⟨103, _⟩ => ⟨S32x8x1024, .f32⟩
  | .hbm, ⟨104, _⟩ => ⟨S256x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_cst_17 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_19 : Ref sig .tc := ⟨.hbm, 96, rfl⟩
abbrev main_v73 : Ref sig .tc := ⟨.hbm, 97, rfl⟩
abbrev main_v74 : Ref sig .tc := ⟨.hbm, 98, rfl⟩
abbrev main_cst_20 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel10.lean ====
abbrev S16384x1024 : Shape := ⟨2, ![16384, 1024]⟩
abbrev S1024x5120 : Shape := ⟨2, ![1024, 5120]⟩
abbrev S16384x5120 : Shape := ⟨2, ![16384, 5120]⟩
abbrev S512x1024 : Shape := ⟨2, ![512, 1024]⟩
abbrev S1024x1280 : Shape := ⟨2, ![1024, 1280]⟩
abbrev S512x1280 : Shape := ⟨2, ![512, 1280]⟩
abbrev S1x512x1280 : Shape := ⟨3, ![1, 512, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5120, .bf16⟩
  | .hbm, ⟨2, _⟩ => ⟨S16384x5120, .f32⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | .local _ .vmem, ⟨6, _⟩ => ⟨S1x512x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x5120 : Shape := ⟨2, ![1024, 5120]⟩
abbrev S16384x5120 : Shape := ⟨2, ![16384, 5120]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5120, .bf16⟩
  | .hbm, ⟨2, _⟩ => ⟨S1024x5120, .f32⟩
  | .hbm, ⟨3, _⟩ => ⟨S16384x5120, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S16384x5120 : Shape := ⟨2, ![16384, 5120]⟩
abbrev S1024x5120 : Shape := ⟨2, ![1024, 5120]⟩
abbrev S16384x1024 : Shape := ⟨2, ![16384, 1024]⟩
abbrev S256x5120 : Shape := ⟨2, ![256, 5120]⟩
abbrev S256x1024 : Shape := ⟨2, ![256, 1024]⟩
abbrev S1x256x1024 : Shape := ⟨3, ![1, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x5120, .bf16⟩
  | .hbm, ⟨1, _⟩ => ⟨S1024x5120, .bf16⟩
  | .hbm, ⟨2, _⟩ => ⟨S16384x1024, .f32⟩
  | .hbm, ⟨3, _⟩ => ⟨S16384x1024, .f32⟩
  | .local _ .vmem, ⟨0, _⟩ => ⟨S256x5120, .bf16⟩
  | .local _ .vmem, ⟨1, _⟩ => ⟨S256x5120, .bf16⟩
  | .local _ .vmem, ⟨2, _⟩ => ⟨S1024x5120, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x256x1024, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![64, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S16384x5120 : Shape := ⟨2, ![16384, 5120]⟩
abbrev S1024x5120 : Shape := ⟨2, ![1024, 5120]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S1024x5120, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x5120, .f32⟩
  | .hbm, ⟨9, _⟩ => ⟨S16384x5120, .f32⟩
  | .hbm, ⟨10, _⟩ => ⟨S16384x5120, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S16384x1024 : Shape := ⟨2, ![16384, 1024]⟩
abbrev S16384x5120 : Shape := ⟨2, ![16384, 5120]⟩
abbrev S1024x5120 : Shape := ⟨2, ![1024, 5120]⟩
abbrev S512x1024 : Shape := ⟨2, ![512, 1024]⟩
abbrev S512x1280 : Shape := ⟨2, ![512, 1280]⟩
abbrev S1024x1280 : Shape := ⟨2, ![1024, 1280]⟩
abbrev S1x1024x1280 : Shape := ⟨3, ![1, 1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x5120, .bf16⟩
  | .hbm, ⟨2, _⟩ => ⟨S1024x5120, .bf16⟩
  | .local _ .vmem, ⟨0, _⟩ => ⟨S512x1024, .f32⟩
  | .local _ .vmem, ⟨1, _⟩ => ⟨S512x1024, .f32⟩
  | .local _ .vmem, ⟨2, _⟩ => ⟨S512x1280, .bf16⟩
  | .local _ .vmem, ⟨3, _⟩ => ⟨S512x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1x1024x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S16384x5120 : Shape := ⟨2, ![16384, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5120, .bf16⟩
  | .hbm, ⟨2, _⟩ => ⟨S_, .f32⟩
  | .hbm, ⟨3, _⟩ => ⟨S1024x5120, .f32⟩
  | .hbm, ⟨4, _⟩ => ⟨S16384x5120, .f32⟩
  | .hbm, ⟨5, _⟩ => ⟨S16384x5120, .f32⟩
  | .hbm, ⟨6, _⟩ => ⟨S5120x1024, .f32⟩
  | .hbm, ⟨7, _⟩ => ⟨S1024x5120, .f32⟩
  | .hbm, ⟨8, _⟩ => ⟨S1024x5120, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S1x512x1024 : Shape := ⟨3, ![1, 512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1x1024, .f32⟩
  | .hbm, ⟨3, _⟩ => ⟨S16384x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩
abbrev S_ : Shape := ⟨0, ![]⟩
abbrev S256x1024 : Shape := ⟨2, ![256, 1024]⟩
abbrev S512x1024 : Shape := ⟨2, ![512, 1024]⟩
abbrev S8x1024 : Shape := ⟨2, ![8, 1024]⟩
abbrev S1x512x1024 : Shape := ⟨3, ![1, 512, 1024]⟩
abbrev S1024 : Shape := ⟨1, ![1024]⟩
abbrev S1x1024 : Shape := ⟨2, ![1, 1024]⟩

abbrev nBuf : Space → Nat
  | .hbm => 15
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference14Ideal.lean ====
abbrev S16384x1024 : Shape := ⟨2, ![16384, 1024]⟩
abbrev S1024x1024 : Shape := ⟨2, ![1024, 1024]⟩
abbrev S_ : Shape := ⟨0, ![]⟩
abbrev S32x1x512x1024 : Shape := ⟨4, ![32, 1, 512, 1024]⟩
abbrev S32x1x1024 : Shape := ⟨3, ![32, 1, 1024]⟩
abbrev S32x8x1024 : Shape := ⟨3, ![32, 8, 1024]⟩
abbrev S256x1024 : Shape := ⟨2, ![256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S32x1x512x1024, .f32⟩
  | .hbm, ⟨24, _⟩ => ⟨S_, .f32⟩
  | .hbm, ⟨25, _⟩ => ⟨S32x1x1024, .f32⟩
  | .hbm, ⟨26, _⟩ => ⟨S32x8x1024, .f32⟩
  | .hbm, ⟨27, _⟩ => ⟨S256x1024, .f32⟩
  | .hbm, ⟨28, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel15.lean ====
abbrev S16384x1024 : Shape := ⟨2, ![16384, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel16.lean ====
abbrev S16384x1024 : Shape := ⟨2, ![16384, 1024]⟩
abbrev S1024x1024 : Shape := ⟨2, ![1024, 1024]⟩
abbrev S512x1024 : Shape := ⟨2, ![512, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference17Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel18.lean ====
abbrev S16384x1024 : Shape := ⟨2, ![16384, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S16384x1024 : Shape := ⟨2, ![16384, 1024]⟩
abbrev S1024x1024 : Shape := ⟨2, ![1024, 1024]⟩
abbrev S512x1024 : Shape := ⟨2, ![512, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v14 : BitVec 1 := Scalar.cmpi .eq arg2 c31_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S16384x1024 : Shape := ⟨2, ![16384, 1024]⟩
abbrev S1024x1024 : Shape := ⟨2, ![1024, 1024]⟩
abbrev S512x1024 : Shape := ⟨2, ![512, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩
abbrev S16384x5120 : Shape := ⟨2, ![16384, 5120]⟩
abbrev S1x128 : Shape := ⟨2, ![1, 128]⟩
abbrev S256x1024 : Shape := ⟨2, ![256, 1024]⟩
abbrev S512x1024 : Shape := ⟨2, ![512, 1024]⟩
abbrev S8x1024 : Shape := ⟨2, ![8, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S128 : Shape := ⟨1, ![128]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x5120, .f32⟩
  | .hbm, ⟨5, _⟩ => ⟨S1x128, .f32⟩
  | .hbm, ⟨6, _⟩ => ⟨S16384x1024, .f32⟩
  | .hbm, ⟨7, _⟩ => ⟨S16384x1024, .f32⟩
  | .hbm, ⟨8, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | .local _ .vmem, ⟨16, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference21Ideal.lean ====
abbrev S16384x1024 : Shape := ⟨2, ![16384, 1024]⟩
abbrev S1024x1024 : Shape := ⟨2, ![1024, 1024]⟩
abbrev S16384x5120 : Shape := ⟨2, ![16384, 5120]⟩
abbrev S1x128 : Shape := ⟨2, ![1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S32x1x512x1024 : Shape := ⟨4, ![32, 1, 512, 1024]⟩
abbrev S32x1x1024 : Shape := ⟨3, ![32, 1, 1024]⟩
abbrev S32x8x1024 : Shape := ⟨3, ![32, 8, 1024]⟩
abbrev S256x1024 : Shape := ⟨2, ![256, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x5120, .f32⟩
  | .hbm, ⟨5, _⟩ => ⟨S1x128, .f32⟩
  | .hbm, ⟨6, _⟩ => ⟨S1024x1024, .f32⟩
  | .hbm, ⟨7, _⟩ => ⟨S16384x1024, .f32⟩
  | .hbm, ⟨8, _⟩ => ⟨S16384x8x128, .f32⟩
  | .hbm, ⟨9, _⟩ => ⟨S16384x1024, .f32⟩
  | .hbm, ⟨10, _⟩ => ⟨S16384x8x128, .f32⟩
  | .hbm, ⟨11, _⟩ => ⟨S_, .f32⟩
  | .hbm, ⟨12, _⟩ => ⟨S16384x8x128, .f32⟩
  | .hbm, ⟨13, _⟩ => ⟨S16384x8x128, .f32⟩
  | .hbm, ⟨14, _⟩ => ⟨S_, .f32⟩
  | .hbm, ⟨15, _⟩ => ⟨S16384x8, .f32⟩
  | .hbm, ⟨16, _⟩ => ⟨S16384x8x1, .f32⟩
  | .hbm, ⟨17, _⟩ => ⟨S_, .f32⟩
  | .hbm, ⟨18, _⟩ => ⟨S16384x8x1, .f32⟩
  | .hbm, ⟨19, _⟩ => ⟨S16384x8x1, .f32⟩
  | .hbm, ⟨20, _⟩ => ⟨S_, .f32⟩
  | .hbm, ⟨21, _⟩ => ⟨S16384x8x1, .f32⟩
  | .hbm, ⟨22, _⟩ => ⟨S16384x8x1, .f32⟩
  | .hbm, ⟨23, _⟩ => ⟨S16384x8x1, .f32⟩
  | .hbm, ⟨24, _⟩ => ⟨S16384x8x1, .f32⟩
  | .hbm, ⟨25, _⟩ => ⟨S_, .f32⟩
  | .hbm, ⟨26, _⟩ => ⟨S16384x8x1, .f32⟩
  | .hbm, ⟨27, _⟩ => ⟨S16384x8x1, .f32⟩
  | .hbm, ⟨28, _⟩ => ⟨S16384x8x128, .f32⟩
  | .hbm, ⟨29, _⟩ => ⟨S16384x8x128, .f32⟩
  | .hbm, ⟨30, _⟩ => ⟨S1x1x128, .f32⟩
  | .hbm, ⟨31, _⟩ => ⟨S16384x8x128, .f32⟩
  | .hbm, ⟨32, _⟩ => ⟨S16384x8x128, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x8x128, .f32⟩
  | .hbm, ⟨57, _⟩ => ⟨S16384x8x128, .f32⟩
  | .hbm, ⟨58, _⟩ => ⟨S16384x8x128, .f32⟩
  | .hbm, ⟨59, _⟩ => ⟨S16384x8x128, .f32⟩
  | .hbm, ⟨60, _⟩ => ⟨S_, .f32⟩
  | .hbm, ⟨61, _⟩ => ⟨S16384x8, .f32⟩
  | .hbm, ⟨62, _⟩ => ⟨S16384x8x1, .f32⟩
  | .hbm, ⟨63, _⟩ => ⟨S16384x8x128, .f32⟩
  | .hbm, ⟨64, _⟩ => ⟨S16384x8x128, .f32⟩
  | .hbm, ⟨65, _⟩ => ⟨S16384x8x1, .f32⟩
  | .hbm, ⟨66, _⟩ => ⟨S_, .f32⟩
  | .hbm, ⟨67, _⟩ => ⟨S16384x8x1, .f32⟩
  | .hbm, ⟨68, _⟩ => ⟨S16384x8x1, .f32⟩
  | .hbm, ⟨69, _⟩ => ⟨S_, .f32⟩
  | .hbm, ⟨70, _⟩ => ⟨S16384x8, .f32⟩
  | .hbm, ⟨71, _⟩ => ⟨S16384x8x128, .f32⟩
  | .hbm, ⟨72, _⟩ => ⟨S16384x8x128, .f32⟩
  | .hbm, ⟨73, _⟩ => ⟨S16384x8x128, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x8x128, .f32⟩
  | .hbm, ⟨89, _⟩ => ⟨S16384x8x128, .f32⟩
  | .hbm, ⟨90, _⟩ => ⟨S_, .f32⟩
  | .hbm, ⟨91, _⟩ => ⟨S16384x8, .f32⟩
  | .hbm, ⟨92, _⟩ => ⟨S16384x8x1, .f32⟩
  | .hbm, ⟨93, _⟩ => ⟨S_, .f32⟩
  | .hbm, ⟨94, _⟩ => ⟨S16384x8x1, .f32⟩
  | .hbm, ⟨95, _⟩ => ⟨S16384x8x1, .f32⟩
  | .hbm, ⟨96, _⟩ => ⟨S_, .f32⟩
  | .hbm, ⟨97, _⟩ => ⟨S16384x8x1, .f32⟩
  | .hbm, ⟨98, _⟩ => ⟨S16384x8x1, .f32⟩
  | .hbm, ⟨99, _⟩ => ⟨S16384x8x1, .f32⟩
  | .hbm, ⟨100, _⟩ => ⟨S16384x8x128, .f32⟩
  | .hbm, ⟨101, _⟩ => ⟨S16384x8x128, .f32⟩
  | .hbm, ⟨102, _⟩ => ⟨S_, .f32⟩
  | .hbm, ⟨103, _⟩ => ⟨S16384x8x128, .f32⟩
  | .hbm, ⟨104, _⟩ => ⟨S16384x8x128, .f32⟩
  | .hbm, ⟨105, _⟩ => ⟨S16384x8x128, .f32⟩
  | .hbm, ⟨106, _⟩ => ⟨S32x1x512x1024, .f32⟩
  | .hbm, ⟨107, _⟩ => ⟨S_, .f32⟩
  | .hbm, ⟨108, _⟩ => ⟨S32x1x1024, .f32⟩
  | .hbm, ⟨109, _⟩ => ⟨S32x8x1024, .f32⟩
  | .hbm, ⟨110, _⟩ => ⟨S256x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_cst_8 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_10 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_11 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩

abbrev nD : Nat := 1
abbrev τ : Topo := Topo.v7x

variable {F : FTy → Type} [FloatOps F]
-- ==== Kernel22.lean ====
abbrev S16384x1024 : Shape := ⟨2, ![16384, 1024]⟩
abbrev S1024x1024 : Shape := ⟨2, ![1024, 1024]⟩
abbrev S1x1024 : Shape := ⟨2, ![1, 1024]⟩
abbrev S256x1024 : Shape := ⟨2, ![256, 1024]⟩
abbrev S512x1024 : Shape := ⟨2, ![512, 1024]⟩
abbrev S8x1024 : Shape := ⟨2, ![8, 1024]⟩
abbrev S1x512x1024 : Shape := ⟨3, ![1, 512, 1024]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S8x1024, .f32⟩
  | .local _ .vmem, ⟨16, _⟩ => ⟨S1x512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference22Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S32x1x512x1024 : Shape := ⟨4, ![32, 1, 512, 1024]⟩
abbrev S32x1x1024 : Shape := ⟨3, ![32, 1, 1024]⟩
abbrev S32x8x1024 : Shape := ⟨3, ![32, 8, 1024]⟩
abbrev S256x1024 : Shape := ⟨2, ![256, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1024x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S32x1x512x1024, .f32⟩
  | .hbm, ⟨69, _⟩ => ⟨S_, .f32⟩
  | .hbm, ⟨70, _⟩ => ⟨S32x1x1024, .f32⟩
  | .hbm, ⟨71, _⟩ => ⟨S32x8x1024, .f32⟩
  | .hbm, ⟨72, _⟩ => ⟨S256x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel23.lean ====
abbrev S16384x1024 : Shape := ⟨2, ![16384, 1024]⟩
abbrev S1024x1024 : Shape := ⟨2, ![1024, 1024]⟩
abbrev S512x1024 : Shape := ⟨2, ![512, 1024]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16384x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference23Ideal.lean ====
abbrev S16384x1024 : Shape := ⟨2, ![16384, 1024]⟩
abbrev S1024x1024 : Shape := ⟨2, ![1024, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x8x128, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S16384x1024, .bf16⟩
  | .hbm, ⟨12, _⟩ => ⟨S16384x8x128, .f32⟩
  | .hbm, ⟨13, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel24.lean ====
abbrev S16384x1024 : Shape := ⟨2, ![16384, 1024]⟩
abbrev S16384x5120 : Shape := ⟨2, ![16384, 5120]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S1x128, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S16384x1024 : Shape := ⟨2, ![16384, 1024]⟩
abbrev S16384x5120 : Shape := ⟨2, ![16384, 5120]⟩
abbrev S1x128 : Shape := ⟨2, ![1, 128]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x5120, .f32⟩
  | .hbm, ⟨3, _⟩ => ⟨S1x128, .f32⟩
  | .hbm, ⟨4, _⟩ => ⟨S16384x1024, .f32⟩
  | .hbm, ⟨5, _⟩ => ⟨S16384x8x128, .f32⟩
  | .hbm, ⟨6, _⟩ => ⟨S16384x8x128, .f32⟩
  | .hbm, ⟨7, _⟩ => ⟨S_, .f32⟩
  | .hbm, ⟨8, _⟩ => ⟨S16384x8, .f32⟩
  | .hbm, ⟨9, _⟩ => ⟨S16384x8x1, .f32⟩
  | .hbm, ⟨10, _⟩ => ⟨S_, .f32⟩
  | .hbm, ⟨11, _⟩ => ⟨S16384x8x1, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x1, .f32⟩
  | .hbm, ⟨17, _⟩ => ⟨S16384x8x128, .f32⟩
  | .hbm, ⟨18, _⟩ => ⟨S16384x8x128, .f32⟩
  | .hbm, ⟨19, _⟩ => ⟨S1x1x128, .f32⟩
  | .hbm, ⟨20, _⟩ => ⟨S16384x8x128, .f32⟩
  | .hbm, ⟨21, _⟩ => ⟨S16384x8x128, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel25.lean ====
abbrev S16384x1024 : Shape := ⟨2, ![16384, 1024]⟩
abbrev S1024x768 : Shape := ⟨2, ![1024, 768]⟩
abbrev S1x384 : Shape := ⟨2, ![1, 384]⟩
abbrev S1x256 : Shape := ⟨2, ![1, 256]⟩
abbrev S16384x384 : Shape := ⟨2, ![16384, 384]⟩
abbrev S16384x256 : Shape := ⟨2, ![16384, 256]⟩
abbrev S16384x128 : Shape := ⟨2, ![16384, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x768, .bf16⟩
  | .hbm, ⟨2, _⟩ => ⟨S1x384, .f32⟩
  | .hbm, ⟨3, _⟩ => ⟨S1x256, .f32⟩
  | .hbm, ⟨4, _⟩ => ⟨S16384x384, .f32⟩
  | .hbm, ⟨5, _⟩ => ⟨S16384x256, .f32⟩
  | .hbm, ⟨6, _⟩ => ⟨S16384x128, .f32⟩
  | .hbm, ⟨7, _⟩ => ⟨S16384x384, .bf16⟩
  | .hbm, ⟨8, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1024x768, .bf16⟩
  | .local _ .vmem, ⟨3, _⟩ => ⟨S1x384, .f32⟩
  | .local _ .vmem, ⟨4, _⟩ => ⟨S1x256, .f32⟩
  | .local _ .vmem, ⟨5, _⟩ => ⟨S512x384, .f32⟩
  | .local _ .vmem, ⟨6, _⟩ => ⟨S512x384, .f32⟩
  | .local _ .vmem, ⟨7, _⟩ => ⟨S512x256, .f32⟩
  | .local _ .vmem, ⟨8, _⟩ => ⟨S512x256, .f32⟩
  | .local _ .vmem, ⟨9, _⟩ => ⟨S512x128, .f32⟩
  | .local _ .vmem, ⟨10, _⟩ => ⟨S512x128, .f32⟩
  | .local _ .vmem, ⟨11, _⟩ => ⟨S512x384, .bf16⟩
  | .local _ .vmem, ⟨12, _⟩ => ⟨S512x384, .bf16⟩
  | .local _ .vmem, ⟨13, _⟩ => ⟨S512x256, .bf16⟩
  | .local _ .vmem, ⟨14, _⟩ => ⟨S512x256, .bf16⟩
  | .local _ .vmem, ⟨15, _⟩ => ⟨S1x512x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference25Ideal.lean ====
abbrev S16384x1024 : Shape := ⟨2, ![16384, 1024]⟩
abbrev S1024x768 : Shape := ⟨2, ![1024, 768]⟩
abbrev S1x384 : Shape := ⟨2, ![1, 384]⟩
abbrev S1x256 : Shape := ⟨2, ![1, 256]⟩
abbrev S16384x768 : Shape := ⟨2, ![16384, 768]⟩
abbrev S16384x384 : Shape := ⟨2, ![16384, 384]⟩
abbrev S16384x256 : Shape := ⟨2, ![16384, 256]⟩
abbrev S16384x128 : Shape := ⟨2, ![16384, 128]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x768, .bf16⟩
  | .hbm, ⟨2, _⟩ => ⟨S1x384, .f32⟩
  | .hbm, ⟨3, _⟩ => ⟨S1x256, .f32⟩
  | .hbm, ⟨4, _⟩ => ⟨S1024x768, .f32⟩
  | .hbm, ⟨5, _⟩ => ⟨S16384x768, .f32⟩
  | .hbm, ⟨6, _⟩ => ⟨S16384x384, .f32⟩
  | .hbm, ⟨7, _⟩ => ⟨S16384x256, .f32⟩
  | .hbm, ⟨8, _⟩ => ⟨S16384x128, .f32⟩
  | .hbm, ⟨9, _⟩ => ⟨S16384x384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x384, .f32⟩
  | .hbm, ⟨21, _⟩ => ⟨S16384x384, .f32⟩
  | .hbm, ⟨22, _⟩ => ⟨S16384x384, .f32⟩
  | .hbm, ⟨23, _⟩ => ⟨S16384x384, .f32⟩
  | .hbm, ⟨24, _⟩ => ⟨S16384x384, .bf16⟩
  | .hbm, ⟨25, _⟩ => ⟨S16384x256, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel26.lean ====
abbrev S16384x768 : Shape := ⟨2, ![16384, 768]⟩
abbrev S1024x768 : Shape := ⟨2, ![1024, 768]⟩
abbrev S16384x1024 : Shape := ⟨2, ![16384, 1024]⟩
abbrev S512x768 : Shape := ⟨2, ![512, 768]⟩
abbrev S512x1024 : Shape := ⟨2, ![512, 1024]⟩
abbrev S1x512x1024 : Shape := ⟨3, ![1, 512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x768, .bf16⟩
  | .hbm, ⟨1, _⟩ => ⟨S1024x768, .bf16⟩
  | .hbm, ⟨2, _⟩ => ⟨S16384x1024, .f32⟩
  | .hbm, ⟨3, _⟩ => ⟨S16384x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x512x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def k0_cond2 (i : grid0.Coords) : BitVec 1 :=
  let arg2 : BitVec 32 := BitVec.ofNat 32 (i 2).val
  let c0_i32_10 : BitVec 32 := 0#32
  let v12 : BitVec 1 := Scalar.cmpi .eq arg2 c0_i32_10
  let v13 : BitVec 32 := Scalar.extui v12
  let c0_i32_11 : BitVec 32 := 0#32
  let v14 : BitVec 1 := Scalar.cmpi .ne v13 c0_i32_11
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S16384x768 : Shape := ⟨2, ![16384, 768]⟩
abbrev S1024x768 : Shape := ⟨2, ![1024, 768]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S1024x768, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S1024x768, .f32⟩
  | .hbm, ⟨9, _⟩ => ⟨S16384x768, .f32⟩
  | .hbm, ⟨10, _⟩ => ⟨S16384x768, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel27.lean ====
abbrev S16384x1024 : Shape := ⟨2, ![16384, 1024]⟩
abbrev S16384x768 : Shape := ⟨2, ![16384, 768]⟩
abbrev S1024x768 : Shape := ⟨2, ![1024, 768]⟩
abbrev S512x1024 : Shape := ⟨2, ![512, 1024]⟩
abbrev S512x768 : Shape := ⟨2, ![512, 768]⟩
abbrev S1x1024x768 : Shape := ⟨3, ![1, 1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S1024x768, .bf16⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S1024x768, .bf16⟩
  | .local _ .vmem, ⟨5, _⟩ => ⟨S1x1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S16384x1024 : Shape := ⟨2, ![16384, 1024]⟩
abbrev S16384x768 : Shape := ⟨2, ![16384, 768]⟩
abbrev S_ : Shape := ⟨0, ![]⟩
abbrev S1024x768 : Shape := ⟨2, ![1024, 768]⟩
abbrev S768x1024 : Shape := ⟨2, ![768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S_, .f32⟩
  | .hbm, ⟨3, _⟩ => ⟨S1024x768, .f32⟩
  | .hbm, ⟨4, _⟩ => ⟨S16384x768, .f32⟩
  | .hbm, ⟨5, _⟩ => ⟨S16384x768, .f32⟩
  | .hbm, ⟨6, _⟩ => ⟨S768x1024, .f32⟩
  | .hbm, ⟨7, _⟩ => ⟨S1024x768, .f32⟩
  | .hbm, ⟨8, _⟩ => ⟨S1024x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Grad.Body.lean ====
/- The attention gradient's kernel body, run once per kind of grid point, with the contents it leaves in every buffer. -/
module

public import proofs.«01_k».proof.Proof.Gen.KernelIdeal.Frame
public import proofs.«01_k».proof.Proof.Gen.KernelIdeal.Skeleton

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition, at the grid point's coordinates: the first key block and the first query block. -/
abbrev atHead (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The second: the first query block. -/
abbrev atFirst (i : grid0.Coords) : Prop := (Scalar.cmpi .ne (Scalar.extui (Scalar.cmpi .eq (BitVec.ofNat 32 (i 2).val) 0#32)) 0#32) = 1#1
/-- The third: the last query block. -/
abbrev atLast (i : grid0.Coords) : Prop := k0_cond3 i = 1#1

variable (c : Dev nD) (i : grid0.Coords)
  (arg3 : Memref sig .tc .vmem S1x2048x256 .bf16) (harg3 : arg3.IsWhole) (arg4 : Memref sig .tc .vmem S1x1024x256 .bf16) (harg4 : arg4.IsWhole)
  (arg5 : Memref sig .tc .vmem S1x1024x128 .bf16) (harg5 : arg5.IsWhole) (arg6 : Memref sig .tc .vmem S2048x128 .bf16) (harg6 : arg6.IsWhole)
  (arg7 : Memref sig .tc .vmem S2048x128 .f32) (harg7 : arg7.IsWhole) (arg8 : Memref sig .tc .vmem S2048x128 .f32) (harg8 : arg8.IsWhole)
  (arg9 : Memref sig .tc .vmem S1x16384x256 .f32) (harg9 : arg9.IsWhole) (arg10 : Memref sig .tc .vmem S1x1024x256 .f32) (harg10 : arg10.IsWhole)
  (arg11 : Memref sig .tc .vmem S1x1024x128 .f32) (harg11 : arg11.IsWhole) (arg12 : Memref sig .tc .vmem S1024x256 .f32) (harg12 : arg12.IsWhole)
  (arg13 : Memref sig .tc .vmem S1024x128 .f32) (harg13 : arg13.IsWhole)
  (x0 : Vec F S1x2048x256 .bf16) (x1 : Vec F S1x1024x256 .bf16) (x2 : Vec F S1x1024x128 .bf16) (x3 : Vec F S2048x128 .bf16)
  (x4 : Vec F S2048x128 .f32) (x5 : Vec F S2048x128 .f32)

/-- The six input buffers at their blocks. -/
abbrev inputs : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5)

/-- The input buffers as the run holds them are the buffers at their blocks. -/
theorem inputs_intro :
    iprop((arg3.view.loc (c : Thread nD τ) ↦[arg3.view.set]{fullShare} harg3.unread x0) ∗ (arg4.view.loc (c : Thread nD τ) ↦[arg4.view.set]{fullShare} harg4.unread x1)
      ∗ (arg5.view.loc (c : Thread nD τ) ↦[arg5.view.set]{fullShare} harg5.unread x2) ∗ (arg6.view.loc (c : Thread nD τ) ↦[arg6.view.set]{fullShare} harg6.unread x3)
      ∗ (arg7.view.loc (c : Thread nD τ) ↦[arg7.view.set]{fullShare} harg7.unread x4) ∗ (arg8.view.loc (c : Thread nD τ) ↦[arg8.view.set]{fullShare} harg8.unread x5))
    ⊢ (inputs c arg3 arg4 arg5 arg6 arg7 arg8 x0 x1 x2 x3 x4 x5 : sProp 𝕄) := by
  unfold inputs owns
  iintro ⟨H0, H1, H2, H3, H4, H5⟩
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; · ipureintro; exact harg8.read_unread _
  iexact H5

set_option maxHeartbeats 2000000 in
/-- A point that is neither the first nor the last of its key block. -/
noncomputable def runMid (h0 : ¬atHead i) (h1 : ¬atFirst i) (h2 : ¬atLast i) (y : Vec F S1x16384x256 .f32) (k : Vec F S1024x256 .f32) (v : Vec F S1024x128 .f32) :
    Σ' (LQ : List (View.Piece (Elt F) S1x16384x256 .f32)) (LK : List (View.Piece (Elt F) S1024x256 .f32)), { LV : List (View.Piece (Elt F) S1024x128 .f32) //
      ∀ (E : Set ℕ) (K : PUnit → sProp 𝕄),
        iprop(inputs c arg3 arg4 arg5 arg6 arg7 arg8 x0 x1 x2 x3 x4 x5
            ∗ owns (c : Thread nD τ) arg9 fullShare y
            ∗ owns (c : Thread nD τ) arg12 fullShare k
            ∗ owns (c : Thread nD τ) arg13 fullShare v
            ∗ (iprop(inputs c arg3 arg4 arg5 arg6 arg7 arg8 x0 x1 x2 x3 x4 x5
                ∗ (arg9.view.loc (c : Thread nD τ) ↦[arg9.view.set]{fullShare} arg9.view.writes (Elt F) (harg9.unread y) LQ)
                ∗ (∃ f, arg12.view.loc (c : Thread nD τ) ↦[arg12.view.set]{fullShare} arg12.view.writes (Elt F) f LK)
                ∗ (∃ f, arg13.view.loc (c : Thread nD τ) ↦[arg13.view.set]{fullShare} arg13.view.writes (Elt F) f LV)) -∗ K ⟨⟩))
          ⊢ wp frame (wpE (defs₀ (F := F)) Variants.none c none) E (cc0_mla2_attnb i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla2_attnb_eq_skeleton]; unfold cc0_mla2_attnb_skel
    simp only [k0_part1_eq_skeleton, k0_part2_eq_skeleton, k0_part3_eq_skeleton, k0_part4_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg12.eq_unread hf7; obtain rfl := harg13.eq_unread hf8
    sl_exec (disch := first | sl_exact h0 | sl_exact h1 | sl_exact h2)
    sl_step
    iapply Hk
    isplitl [H0 H1 H2 H3 H4 H5]
    · iapply (inputs_intro c arg3 harg3 arg4 harg4 arg5 harg5 arg6 harg6 arg7 harg7 arg8 harg8 x0 x1 x2 x3 x4 x5)
      isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    iexists _; iexact H8

set_option maxHeartbeats 2000000 in
/-- The first point of a key block that is not the first of its head: both accumulators are set to zero. -/
noncomputable def runFirst (h0 : ¬atHead i) (h1 : atFirst i) (h2 : ¬atLast i) (y : Vec F S1x16384x256 .f32) :
    Σ' (LQ : List (View.Piece (Elt F) S1x16384x256 .f32)) (LK : List (View.Piece (Elt F) S1024x256 .f32)), { LV : List (View.Piece (Elt F) S1024x128 .f32) //
      ∀ (E : Set ℕ) (K : PUnit → sProp 𝕄),
        iprop(inputs c arg3 arg4 arg5 arg6 arg7 arg8 x0 x1 x2 x3 x4 x5
            ∗ owns (c : Thread nD τ) arg9 fullShare y
            ∗ (∃ d, owns (c : Thread nD τ) arg12 fullShare d)
            ∗ (∃ d, owns (c : Thread nD τ) arg13 fullShare d)
            ∗ (iprop(inputs c arg3 arg4 arg5 arg6 arg7 arg8 x0 x1 x2 x3 x4 x5
                ∗ (arg9.view.loc (c : Thread nD τ) ↦[arg9.view.set]{fullShare} arg9.view.writes (Elt F) (harg9.unread y) LQ)
                ∗ (∃ f, arg12.view.loc (c : Thread nD τ) ↦[arg12.view.set]{fullShare} arg12.view.writes (Elt F) f LK)
                ∗ (∃ f, arg13.view.loc (c : Thread nD τ) ↦[arg13.view.set]{fullShare} arg13.view.writes (Elt F) f LV)) -∗ K ⟨⟩))
          ⊢ wp frame (wpE (defs₀ (F := F)) Variants.none c none) E (cc0_mla2_attnb i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla2_attnb_eq_skeleton]; unfold cc0_mla2_attnb_skel
    simp only [k0_part1_eq_skeleton, k0_part2_eq_skeleton, k0_part3_eq_skeleton, k0_part4_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%d7, %f7, -, H7⟩, ⟨%d8, %f8, -, H8⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | sl_exact h0 | sl_exact h1 | sl_exact h2)
    sl_step
    iapply Hk
    isplitl [H0 H1 H2 H3 H4 H5]
    · iapply (inputs_intro c arg3 harg3 arg4 harg4 arg5 harg5 arg6 harg6 arg7 harg7 arg8 harg8 x0 x1 x2 x3 x4 x5)
      isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    iexists _; iexact H8

set_option maxHeartbeats 2000000 in
/-- The last point of a key block: the accumulators are also stored to the results. -/
noncomputable def runLast (h0 : ¬atHead i) (h1 : ¬atFirst i) (h2 : atLast i) (y : Vec F S1x16384x256 .f32) (k : Vec F S1024x256 .f32) (v : Vec F S1024x128 .f32) :
    Σ' (LQ : List (View.Piece (Elt F) S1x16384x256 .f32)) (LK : List (View.Piece (Elt F) S1024x256 .f32)) (LKO : List (View.Piece (Elt F) S1x1024x256 .f32)) (LVO : List (View.Piece (Elt F) S1x1024x128 .f32)), { LV : List (View.Piece (Elt F) S1024x128 .f32) //
      ∀ (E : Set ℕ) (K : PUnit → sProp 𝕄),
        iprop(inputs c arg3 arg4 arg5 arg6 arg7 arg8 x0 x1 x2 x3 x4 x5
            ∗ owns (c : Thread nD τ) arg9 fullShare y
            ∗ owns (c : Thread nD τ) arg12 fullShare k
            ∗ owns (c : Thread nD τ) arg13 fullShare v
            ∗ (∃ d, owns (c : Thread nD τ) arg10 fullShare d)
            ∗ (∃ d, owns (c : Thread nD τ) arg11 fullShare d)
            ∗ (iprop(inputs c arg3 arg4 arg5 arg6 arg7 arg8 x0 x1 x2 x3 x4 x5
                ∗ (arg9.view.loc (c : Thread nD τ) ↦[arg9.view.set]{fullShare} arg9.view.writes (Elt F) (harg9.unread y) LQ)
                ∗ (∃ f, arg12.view.loc (c : Thread nD τ) ↦[arg12.view.set]{fullShare} arg12.view.writes (Elt F) f LK)
                ∗ (∃ f, arg13.view.loc (c : Thread nD τ) ↦[arg13.view.set]{fullShare} arg13.view.writes (Elt F) f LV)
                ∗ (∃ f, arg10.view.loc (c : Thread nD τ) ↦[arg10.view.set]{fullShare} arg10.view.writes (Elt F) f LKO)
                ∗ (∃ f, arg11.view.loc (c : Thread nD τ) ↦[arg11.view.set]{fullShare} arg11.view.writes (Elt F) f LVO)) -∗ K ⟨⟩))
          ⊢ wp frame (wpE (defs₀ (F := F)) Variants.none c none) E (cc0_mla2_attnb i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mla2_attnb_eq_skeleton]; unfold cc0_mla2_attnb_skel
    simp only [k0_part1_eq_skeleton, k0_part2_eq_skeleton, k0_part3_eq_skeleton, k0_part4_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, ⟨%f7, %hf7, H7⟩, ⟨%f8, %hf8, H8⟩, ⟨%d9, %f9, -, H9⟩, ⟨%da, %fa, -, HA⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    obtain rfl := harg12.eq_unread hf7; obtain rfl := harg13.eq_unread hf8
    sl_exec (disch := first | sl_exact h0 | sl_exact h1 | sl_exact h2)
    sl_step
    iapply Hk
    isplitl [H0 H1 H2 H3 H4 H5]
    · iapply (inputs_intro c arg3 harg3 arg4 harg4 arg5 harg5 arg6 harg6 arg7 harg7 arg8 harg8 x0 x1 x2 x3 x4 x5)
      isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexists _; iexact H8
    isplitl [H9]; · iexists _; iexact H9
    iexists _; iexact HA

set_option maxHeartbeats 2000000 in
/-- The first point of a head: the query gradient and both accumulators are set to zero before they are added to. -/
noncomputable def runHead (h0 : atHead i) (h1 : atFirst i) (h2 : ¬atLast i) :
    Σ' (LQ : List (View.Piece (Elt F) S1x16384x256 .f32)) (LK : List (View.Piece (Elt F) S1024x256 .f32)), { LV : List (View.Piece (Elt F) S1024x128 .f32) //
      ∀ (E : Set ℕ) (K : PUnit → sProp 𝕄),
        iprop(inputs c arg3 arg4 arg5 arg6 arg7 arg8 x0 x1 x2 x3 x4 x5
            ∗ (∃ d, owns (c : Thread nD τ) arg9 fullShare d)
            ∗ (∃ d, owns (c : Thread nD τ) arg12 fullShare d)
            ∗ (∃ d, owns (c : Thread nD τ) arg13 fullShare d)
            ∗ (iprop(inputs c arg3 arg4 arg5 arg6 arg7 arg8 x0 x1 x2 x3 x4 x5
                ∗ (∃ f, arg9.view.loc (c : Thread nD τ) ↦[arg9.view.set]{fullShare} arg9.view.writes (Elt F) f LQ)
                ∗ (∃ f, arg12.view.loc (c : Thread nD τ) ↦[arg12.view.set]{fullShare} arg12.view.writes (Elt F) f LK)
                ∗ (∃ f, arg13.view.loc (c : Thread nD τ) ↦[arg13.view.set]{fullShare} arg13.view.writes (Elt F) f LV)) -∗ K ⟨⟩))
          ⊢ wp frame (wpE (defs₀ (F := F)) Variants.none c none) E (cc0_mla2_attnb i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla2_attnb_eq_skeleton]; unfold cc0_mla2_attnb_skel
    simp only [k0_part1_eq_skeleton, k0_part2_eq_skeleton, k0_part3_eq_skeleton, k0_part4_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | sl_exact h0 | sl_exact h1 | sl_exact h2)
    sl_step
    iapply Hk
    isplitl [H0 H1 H2 H3 H4 H5]
    · iapply (inputs_intro c arg3 harg3 arg4 harg4 arg5 harg5 arg6 harg6 arg7 harg7 arg8 harg8 x0 x1 x2 x3 x4 x5)
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    iexists _; iexact H8

end Cert.KernelIdeal.Grad

end
-- ==== Proof.Grad.Data.lean ====
/- The launch of the attention gradient's kernel: what every grid point leaves in the buffers, the body's obligation at a
   point, the run of @main and the frame. Over any reading of the float operations. -/
module

public import proofs.«01_k».proof.Proof.Grad.Body
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points' coordinates and the conditions on them -/

theorem head_val (t : Fin cfg0.N) : (grid0.coords t 0).val = t.val / 128 % 8 := Pipeline.Grid.coords_val t 0 (by decide) rfl
theorem key_val (t : Fin cfg0.N) : (grid0.coords t 1).val = t.val / 8 % 16 := Pipeline.Grid.coords_val t 1 (by decide) rfl
theorem query_val (t : Fin cfg0.N) : (grid0.coords t 2).val = t.val / 1 % 8 := Pipeline.Grid.coords_val t 2 (by decide) rfl

theorem atHead_iff (t : Fin cfg0.N) : atHead (grid0.coords t) ↔ t.val % 128 = 0 := by
  have ht : t.val < 1024 := Nat.lt_of_lt_of_eq t.isLt N_0
  simp only [atHead, key_val, query_val]
  word_cmp
theorem atFirst_iff (t : Fin cfg0.N) : atFirst (grid0.coords t) ↔ t.val % 8 = 0 := by
  have ht : t.val < 1024 := Nat.lt_of_lt_of_eq t.isLt N_0
  simp only [atFirst, key_val, query_val]
  word_cmp
theorem atLast_iff (t : Fin cfg0.N) : atLast (grid0.coords t) ↔ t.val % 8 = 7 := by
  have ht : t.val < 1024 := Nat.lt_of_lt_of_eq t.isLt N_0
  simp only [atLast, k0_cond3, key_val, query_val]
  word_cmp

/-! ## The buffers a point works on -/

abbrev ms0_0 (t : Fin cfg0.N) : Memref sig .tc .vmem S1x2048x256 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S1x1024x256 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S1x16384x256 .f32 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S1x1024x256 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S1x1024x128 .f32 := win0_8.stage (cfg0.slots t 8)
theorem hs0_8 (t : Fin cfg0.N) : (ms0_8 t).IsWhole := hstage0_8 ((cfg0.slots t 8).cast nbuf0_8)
/-- The two accumulators. -/
abbrev scM0_0 : Memref sig .tc .vmem S1024x256 .f32 := Memref.whole cc0_scratch0
abbrev scM0_1 : Memref sig .tc .vmem S1024x128 .f32 := Memref.whole cc0_scratch1

/-- The launch's resources: the accumulators at anything and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg) (c : Dev nD) (t : Fin cfg0.N)

/-! ## What a point leaves -/

/-- The query gradient's block and the two accumulators. -/
structure Left (F : FTy → Type) where
  q : Vec F S1x16384x256 .f32
  k : Vec F S1024x256 .f32
  v : Vec F S1024x128 .f32

abbrev headAt (h0 : t.val % 128 = 0) := runHead (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
  ((atHead_iff t).mpr h0) ((atFirst_iff t).mpr (by omega)) (fun h => by have := (atLast_iff t).mp h; omega)
abbrev firstAt (h0 : ¬t.val % 128 = 0) (h1 : t.val % 8 = 0) (p : Left F) := runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
  (fun h => h0 ((atHead_iff t).mp h)) ((atFirst_iff t).mpr h1) (fun h => by have := (atLast_iff t).mp h; omega) p.q
abbrev lastAt (h2 : t.val % 8 = 7) (p : Left F) := runLast (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
  (fun h => by have := (atHead_iff t).mp h; omega) (fun h => by have := (atFirst_iff t).mp h; omega) ((atLast_iff t).mpr h2) p.q p.k p.v
abbrev midAt (h1 : ¬t.val % 8 = 0) (h2 : ¬t.val % 8 = 7) (p : Left F) := runMid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
  (fun h => by have := (atHead_iff t).mp h; omega) (fun h => h1 ((atFirst_iff t).mp h)) (fun h => h2 ((atLast_iff t).mp h)) p.q p.k p.v

/-- What point `t` leaves, from what the point before left. -/
def left (p : Left F) : Left F :=
  if h0 : t.val % 128 = 0 then
    ⟨(ms0_6 t).view.read (Elt F) ((ms0_6 t).view.writes (Elt F) (ms0_6 t).view.junk (headAt m c t h0).1),
      scM0_0.view.read (Elt F) (scM0_0.view.writes (Elt F) scM0_0.view.junk (headAt m c t h0).2.1),
      scM0_1.view.read (Elt F) (scM0_1.view.writes (Elt F) scM0_1.view.junk (headAt m c t h0).2.2.1)⟩
  else if h1 : t.val % 8 = 0 then
    ⟨(ms0_6 t).view.read (Elt F) ((ms0_6 t).view.writes (Elt F) ((hs0_6 t).unread p.q) (firstAt m c t h0 h1 p).1),
      scM0_0.view.read (Elt F) (scM0_0.view.writes (Elt F) scM0_0.view.junk (firstAt m c t h0 h1 p).2.1),
      scM0_1.view.read (Elt F) (scM0_1.view.writes (Elt F) scM0_1.view.junk (firstAt m c t h0 h1 p).2.2.1)⟩
  else if h2 : t.val % 8 = 7 then
    ⟨(ms0_6 t).view.read (Elt F) ((ms0_6 t).view.writes (Elt F) ((hs0_6 t).unread p.q) (lastAt m c t h2 p).1),
      scM0_0.view.read (Elt F) (scM0_0.view.writes (Elt F) scM0_0.view.junk (lastAt m c t h2 p).2.1),
      scM0_1.view.read (Elt F) (scM0_1.view.writes (Elt F) scM0_1.view.junk (lastAt m c t h2 p).2.2.2.2.1)⟩
  else
    ⟨(ms0_6 t).view.read (Elt F) ((ms0_6 t).view.writes (Elt F) ((hs0_6 t).unread p.q) (midAt m c t h1 h2 p).1),
      scM0_0.view.read (Elt F) (scM0_0.view.writes (Elt F) scM0_0.view.junk (midAt m c t h1 h2 p).2.1),
      scM0_1.view.read (Elt F) (scM0_1.view.writes (Elt F) scM0_1.view.junk (midAt m c t h1 h2 p).2.2.1)⟩

/-- The blocks of the key and the value gradient that point `t` stores, if it stores any. -/
def keyOut (p : Left F) : Vec F S1x1024x256 .f32 :=
  if h2 : t.val % 8 = 7 then (ms0_7 t).view.read (Elt F) ((ms0_7 t).view.writes (Elt F) (ms0_7 t).view.junk (lastAt m c t h2 p).2.2.1)
  else (ms0_7 t).view.read (Elt F) (ms0_7 t).view.junk
def valueOut (p : Left F) : Vec F S1x1024x128 .f32 :=
  if h2 : t.val % 8 = 7 then (ms0_8 t).view.read (Elt F) ((ms0_8 t).view.writes (Elt F) (ms0_8 t).view.junk (lastAt m c t h2 p).2.2.2.1)
  else (ms0_8 t).view.read (Elt F) (ms0_8 t).view.junk

/-- Before the first point: anything. -/
def start : Left F :=
  ⟨(ms0_6 ⟨0, Nat.lt_of_lt_of_eq (show 0 < 1024 by decide) N_0.symm⟩).view.read (Elt F) (ms0_6 ⟨0, Nat.lt_of_lt_of_eq (show 0 < 1024 by decide) N_0.symm⟩).view.junk,
    scM0_0.view.read (Elt F) scM0_0.view.junk, scM0_1.view.read (Elt F) scM0_1.view.junk⟩

/-- What is left before point `n`. -/
def upTo : ℕ → Left F
  | 0 => start
  | n + 1 => if h : n < cfg0.N then left m c ⟨n, h⟩ (upTo n) else upTo n

theorem upTo_succ (t : Fin cfg0.N) : upTo m c (t.val + 1) = left m c t (upTo m c t.val) := by
  rw [upTo, dif_pos t.isLt]

/-! ## The stores into the accumulators and the result blocks cover them -/

theorem head_coverQ (h0 : t.val % 128 = 0) (y : S1x16384x256.Idx) : ∃ pc ∈ (headAt m c t h0).1, y ∈ pc.1.set :=
  View.cover_of_wholeMem _ (by sl_whole_mem) y
theorem head_coverK (h0 : t.val % 128 = 0) (y : S1024x256.Idx) : ∃ pc ∈ (headAt m c t h0).2.1, y ∈ pc.1.set :=
  View.cover_of_wholeMem _ (by sl_whole_mem) y
theorem head_coverV (h0 : t.val % 128 = 0) (y : S1024x128.Idx) : ∃ pc ∈ (headAt m c t h0).2.2.1, y ∈ pc.1.set :=
  View.cover_of_wholeMem _ (by sl_whole_mem) y
theorem first_coverK (h0 : ¬t.val % 128 = 0) (h1 : t.val % 8 = 0) (p : Left F) (y : S1024x256.Idx) : ∃ pc ∈ (firstAt m c t h0 h1 p).2.1, y ∈ pc.1.set :=
  View.cover_of_wholeMem _ (by sl_whole_mem) y
theorem first_coverV (h0 : ¬t.val % 128 = 0) (h1 : t.val % 8 = 0) (p : Left F) (y : S1024x128.Idx) : ∃ pc ∈ (firstAt m c t h0 h1 p).2.2.1, y ∈ pc.1.set :=
  View.cover_of_wholeMem _ (by sl_whole_mem) y
theorem last_coverK (h2 : t.val % 8 = 7) (p : Left F) (y : S1024x256.Idx) : ∃ pc ∈ (lastAt m c t h2 p).2.1, y ∈ pc.1.set :=
  View.cover_of_wholeMem _ (by sl_whole_mem) y
theorem last_coverV (h2 : t.val % 8 = 7) (p : Left F) (y : S1024x128.Idx) : ∃ pc ∈ (lastAt m c t h2 p).2.2.2.2.1, y ∈ pc.1.set :=
  View.cover_of_wholeMem _ (by sl_whole_mem) y
theorem last_coverKO (h2 : t.val % 8 = 7) (p : Left F) (y : S1x1024x256.Idx) : ∃ pc ∈ (lastAt m c t h2 p).2.2.1, y ∈ pc.1.set :=
  View.cover_of_wholeMem _ (by sl_whole_mem) y
theorem last_coverVO (h2 : t.val % 8 = 7) (p : Left F) (y : S1x1024x128.Idx) : ∃ pc ∈ (lastAt m c t h2 p).2.2.2.1, y ∈ pc.1.set :=
  View.cover_of_wholeMem _ (by sl_whole_mem) y
theorem mid_coverK (h1 : ¬t.val % 8 = 0) (h2 : ¬t.val % 8 = 7) (p : Left F) (y : S1024x256.Idx) : ∃ pc ∈ (midAt m c t h1 h2 p).2.1, y ∈ pc.1.set :=
  View.cover_of_wholeMem _ (by sl_whole_mem) y
theorem mid_coverV (h1 : ¬t.val % 8 = 0) (h2 : ¬t.val % 8 = 7) (p : Left F) (y : S1024x128.Idx) : ∃ pc ∈ (midAt m c t h1 h2 p).2.2.1, y ∈ pc.1.set :=
  View.cover_of_wholeMem _ (by sl_whole_mem) y

/-! ## The proof data -/

/-- The invariant between points: the accumulators at what the point before left. -/
def PhiS : (n : ℕ) → n ≤ cfg0.N → sProp 𝕄
  | 0, _ => Pipeline.ΦA spec0 c
  | n + 1, _ => iprop((owns (c : Thread nD τ) scM0_0 fullShare (upTo m c (n + 1)).k ∗ owns (c : Thread nD τ) scM0_1 fullShare (upTo m c (n + 1)).v) ∗ (∃ r, prngReg c r))

theorem PhiS_pos (n : ℕ) (h : n ≤ cfg0.N) (hz : n ≠ 0) :
    PhiS m c n h = iprop((owns (c : Thread nD τ) scM0_0 fullShare (upTo m c n).k ∗ owns (c : Thread nD τ) scM0_1 fullShare (upTo m c n).v) ∗ (∃ r, prngReg c r)) := by
  obtain _ | n := n
  · exact absurd rfl hz
  · rfl

/-- Between points the accumulators are at some contents, at least. -/
theorem PhiS_any (n : ℕ) (h : n ≤ cfg0.N) : PhiS m c n h ⊢ (Pipeline.ΦA spec0 c : sProp 𝕄) := by
  obtain _ | n := n
  · exact Entails.refl _
  · rw [PhiS_pos m c _ _ (by omega), PhiA0_eq]
    iintro ⟨⟨H0, H1⟩, Hg⟩
    isplitl [H0 H1]
    · isplitl [H0]
      · iexists _; iexact H0
      iexists _; iexact H1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (upTo m c (t.val + 1)).q
    | ⟨7, _⟩ => keyOut m c t (upTo m c t.val)
    | ⟨8, _⟩ => valueOut m c t (upTo m c t.val)
  Φ t := PhiS m c t.val (Nat.le_of_lt_succ t.isLt)
  q _ := fullShare
  owed _ := 0

theorem A_eq (w : Fin cfg0.W) : (dats m 0 c).A w = V m c (Pipeline.arrRef spec0 w) := by
  dsimp only [dats]
theorem Phi_castSucc : (dats m 0 c).Φ t.castSucc = PhiS m c t.val (Nat.le_of_lt t.isLt) := by
  dsimp only [dats]; exact Pipeline.Dat.Φ_castSucc (PhiS m c) t

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = (upTo m c (t.val + 1)).q := by dsimp only [dats]
theorem after0_7 : (dats m 0 c).after 7 t = keyOut m c t (upTo m c t.val) := by dsimp only [dats]
theorem after0_8 : (dats m 0 c).after 8 t = valueOut m c t (upTo m c t.val) := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
/-- The query gradient's block carries over from the point before. -/
theorem before0_6 (h0 : ¬t.val % 128 = 0) (d) : (dats m 0 c).before 6 t d = (upTo m c t.val).q := by
  have hz : t.val ≠ 0 := fun h => h0 (by rw [h])
  refine (Dat.before_out_kept (dats m 0 c) 6 rfl t hz ?_ (fun _ => rfl) (fun _ _ => rfl) d).trans ?_
  · rw [Bool.eq_false_iff]
    intro h
    have := (flush0_6 _).mp h
    simp only at this
    omega
  · rw [after0_6]
    congr 2
    simp only
    omega

theorem leaves0_0 : (dats m 0 c).leavesExact 0 t = owns (c : Thread nD τ) (ms0_0 t) fullShare ((dats m 0 c).after 0 t) := by
  unfold Dat.leavesExact; rw [show cfg0.idle 0 (cfg0.grid.coords t) = false from rfl]
theorem leaves0_1 : (dats m 0 c).leavesExact 1 t = owns (c : Thread nD τ) (ms0_1 t) fullShare ((dats m 0 c).after 1 t) := by
  unfold Dat.leavesExact; rw [show cfg0.idle 1 (cfg0.grid.coords t) = false from rfl]
theorem leaves0_2 : (dats m 0 c).leavesExact 2 t = owns (c : Thread nD τ) (ms0_2 t) fullShare ((dats m 0 c).after 2 t) := by
  unfold Dat.leavesExact; rw [show cfg0.idle 2 (cfg0.grid.coords t) = false from rfl]
theorem leaves0_3 : (dats m 0 c).leavesExact 3 t = owns (c : Thread nD τ) (ms0_3 t) fullShare ((dats m 0 c).after 3 t) := by
  unfold Dat.leavesExact; rw [show cfg0.idle 3 (cfg0.grid.coords t) = false from rfl]
theorem leaves0_4 : (dats m 0 c).leavesExact 4 t = owns (c : Thread nD τ) (ms0_4 t) fullShare ((dats m 0 c).after 4 t) := by
  unfold Dat.leavesExact; rw [show cfg0.idle 4 (cfg0.grid.coords t) = false from rfl]
theorem leaves0_5 : (dats m 0 c).leavesExact 5 t = owns (c : Thread nD τ) (ms0_5 t) fullShare ((dats m 0 c).after 5 t) := by
  unfold Dat.leavesExact; rw [show cfg0.idle 5 (cfg0.grid.coords t) = false from rfl]
theorem leaves0_6 : (dats m 0 c).leavesExact 6 t = owns (c : Thread nD τ) (ms0_6 t) fullShare ((dats m 0 c).after 6 t) := by
  unfold Dat.leavesExact; rw [show cfg0.idle 6 (cfg0.grid.coords t) = false from rfl]
theorem leaves0_7_last (h2 : t.val % 8 = 7) : (dats m 0 c).leavesExact 7 t = owns (c : Thread nD τ) (ms0_7 t) fullShare ((dats m 0 c).after 7 t) := by
  unfold Dat.leavesExact
  rw [show cfg0.idle 7 (cfg0.grid.coords t) = false from by
    show (!(k0_cond3 (grid0.coords t) == 1#1)) = false
    rw [show k0_cond3 (grid0.coords t) = 1#1 from (atLast_iff t).mpr h2]; rfl]
theorem leaves0_7_idle (h2 : ¬t.val % 8 = 7) : (dats m 0 c).leavesExact 7 t = iprop(∃ d, owns (c : Thread nD τ) (ms0_7 t) fullShare ((dats m 0 c).before 7 t d)) := by
  refine (dats m 0 c).leavesExact_idle 7 t ?_ ?_
  · show (!(k0_cond3 (grid0.coords t) == 1#1)) = true
    rw [Bool.not_eq_true', beq_eq_false_iff_ne]
    exact fun h => h2 ((atLast_iff t).mp h)
  · rw [Bool.eq_false_iff]
    exact fun h => h2 ((flush0_7 t).mp h)
theorem leaves0_8_last (h2 : t.val % 8 = 7) : (dats m 0 c).leavesExact 8 t = owns (c : Thread nD τ) (ms0_8 t) fullShare ((dats m 0 c).after 8 t) := by
  unfold Dat.leavesExact
  rw [show cfg0.idle 8 (cfg0.grid.coords t) = false from by
    show (!(k0_cond3 (grid0.coords t) == 1#1)) = false
    rw [show k0_cond3 (grid0.coords t) = 1#1 from (atLast_iff t).mpr h2]; rfl]
theorem leaves0_8_idle (h2 : ¬t.val % 8 = 7) : (dats m 0 c).leavesExact 8 t = iprop(∃ d, owns (c : Thread nD τ) (ms0_8 t) fullShare ((dats m 0 c).before 8 t d)) := by
  refine (dats m 0 c).leavesExact_idle 8 t ?_ ?_
  · show (!(k0_cond3 (grid0.coords t) == 1#1)) = true
    rw [Bool.not_eq_true', beq_eq_false_iff_ne]
    exact fun h => h2 ((atLast_iff t).mp h)
  · rw [Bool.eq_false_iff]
    exact fun h => h2 ((flush0_8 t).mp h)

/-! ## The body's obligation -/

def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
theorem sound_head (h0 : t.val % 128 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6,
    after0_0, after0_1, after0_2, after0_3, after0_4, after0_5, after0_6]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc, upTo_succ]
  rw [leaves0_7_idle m c t (by omega), leaves0_8_idle m c t (by omega)]
  rw [left, dif_pos h0]
  refine (Idealize.SL.BI.Laws.sep_mono_left (PhiS_any m c _ _)).trans ?_
  rw [PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((headAt m c t h0).2.2.2 Set.univ _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [HS0]; · iexact HS0
  isplitl [HS1]; · iexact HS1
  iintro ⟨⟨H0, H1, H2, H3, H4, H5⟩, ⟨%es6, H6⟩, ⟨%es0, HS0⟩, ⟨%es1, HS1⟩⟩
  isplitl [HS0 HS1 Hg]
  · isplitl [HS0 HS1]
    · isplitl [HS0]
      · unfold owns; iexists _; isplitr
        swap; · iexact HS0
        ipureintro; dsimp only; exact View.read_writes_of_cover _ _ _ _ _ (head_coverK m c t h0)
      unfold owns; iexists _; isplitr
      swap; · iexact HS1
      ipureintro; dsimp only; exact View.read_writes_of_cover _ _ _ _ _ (head_coverV m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; dsimp only; exact View.read_writes_of_cover _ _ _ _ _ (head_coverQ m c t h0)
  isplitl [H7]; · iexists _; iexact H7
  iexists _; iexact H8

set_option maxHeartbeats 3200000 in
theorem sound_first (h0 : ¬t.val % 128 = 0) (h1 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6,
    after0_0, after0_1, after0_2, after0_3, after0_4, after0_5, after0_6]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc, upTo_succ]
  rw [leaves0_7_idle m c t (by omega), leaves0_8_idle m c t (by omega)]
  simp only [before0_6 m c t (show ¬t.val % 128 = 0 by omega)]
  rw [left, dif_neg h0, dif_pos h1]
  refine (Idealize.SL.BI.Laws.sep_mono_left (PhiS_any m c _ _)).trans ?_
  rw [PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((firstAt m c t h0 h1 (upTo m c t.val)).2.2.2 Set.univ _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]; · iexact HS0
  isplitl [HS1]; · iexact HS1
  iintro ⟨⟨H0, H1, H2, H3, H4, H5⟩, H6, ⟨%es0, HS0⟩, ⟨%es1, HS1⟩⟩
  isplitl [HS0 HS1 Hg]
  · isplitl [HS0 HS1]
    · isplitl [HS0]
      · unfold owns; iexists _; isplitr
        swap; · iexact HS0
        ipureintro; dsimp only; exact View.read_writes_of_cover _ _ _ _ _ (first_coverK m c t h0 h1 _)
      unfold owns; iexists _; isplitr
      swap; · iexact HS1
      ipureintro; dsimp only; exact View.read_writes_of_cover _ _ _ _ _ (first_coverV m c t h0 h1 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; dsimp only
  isplitl [H7]; · iexists _; iexact H7
  iexists _; iexact H8

set_option maxHeartbeats 3200000 in
theorem sound_last (h2 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6,
    after0_0, after0_1, after0_2, after0_3, after0_4, after0_5, after0_6]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc, upTo_succ]
  rw [leaves0_7_last m c t h2, leaves0_8_last m c t h2, after0_7, after0_8]
  simp only [before0_6 m c t (show ¬t.val % 128 = 0 by omega)]
  rw [left, dif_neg (show ¬t.val % 128 = 0 by omega), dif_neg (show ¬t.val % 8 = 0 by omega), dif_pos h2, keyOut, dif_pos h2, valueOut, dif_pos h2]
  rw [PhiS_pos m c _ _ (show t.val ≠ 0 by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((lastAt m c t h2 (upTo m c t.val)).2.2.2.2.2 Set.univ _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]; · iexact HS0
  isplitl [HS1]; · iexact HS1
  isplitl [H7]; · iexists _; iexact H7
  isplitl [H8]; · iexists _; iexact H8
  iintro ⟨⟨H0, H1, H2, H3, H4, H5⟩, H6, ⟨%es0, HS0⟩, ⟨%es1, HS1⟩, ⟨%es7, H7⟩, ⟨%es8, H8⟩⟩
  isplitl [HS0 HS1 Hg]
  · isplitl [HS0 HS1]
    · isplitl [HS0]
      · unfold owns; iexists _; isplitr
        swap; · iexact HS0
        ipureintro; dsimp only; exact View.read_writes_of_cover _ _ _ _ _ (last_coverK m c t h2 _)
      unfold owns; iexists _; isplitr
      swap; · iexact HS1
      ipureintro; dsimp only; exact View.read_writes_of_cover _ _ _ _ _ (last_coverV m c t h2 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; dsimp only
  isplitl [H7]
  · unfold owns; iexists _; isplitr
    swap; · iexact H7
    ipureintro; dsimp only; exact View.read_writes_of_cover _ _ _ _ _ (last_coverKO m c t h2 _)
  unfold owns; iexists _; isplitr
  swap; · iexact H8
  ipureintro; dsimp only; exact View.read_writes_of_cover _ _ _ _ _ (last_coverVO m c t h2 _)

set_option maxHeartbeats 3200000 in
theorem sound_mid (h1 : ¬t.val % 8 = 0) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6,
    after0_0, after0_1, after0_2, after0_3, after0_4, after0_5, after0_6]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc, upTo_succ]
  rw [leaves0_7_idle m c t (by omega), leaves0_8_idle m c t (by omega)]
  simp only [before0_6 m c t (show ¬t.val % 128 = 0 by omega)]
  rw [left, dif_neg (show ¬t.val % 128 = 0 by omega), dif_neg h1, dif_neg h2]
  rw [PhiS_pos m c _ _ (show t.val ≠ 0 by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((midAt m c t h1 h2 (upTo m c t.val)).2.2.2 Set.univ _)
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS0]; · iexact HS0
  isplitl [HS1]; · iexact HS1
  iintro ⟨⟨H0, H1, H2, H3, H4, H5⟩, H6, ⟨%es0, HS0⟩, ⟨%es1, HS1⟩⟩
  isplitl [HS0 HS1 Hg]
  · isplitl [HS0 HS1]
    · isplitl [HS0]
      · unfold owns; iexists _; isplitr
        swap; · iexact HS0
        ipureintro; dsimp only; exact View.read_writes_of_cover _ _ _ _ _ (mid_coverK m c t h1 h2 _)
      unfold owns; iexists _; isplitr
      swap; · iexact HS1
      ipureintro; dsimp only; exact View.read_writes_of_cover _ _ _ _ _ (mid_coverV m c t h1 h2 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; dsimp only
  isplitl [H7]; · iexists _; iexact H7
  iexists _; iexact H8

theorem sound_body : bodyPre m c t ⊢ wp frame (wpE (defs₀ (F := F)) Variants.none c none) Set.univ (bodyAt0 t) (fun _ => bodyPost m c t) := by
  by_cases h0 : t.val % 128 = 0
  · exact sound_head m c t h0
  by_cases h1 : t.val % 8 = 0
  · exact sound_first m c t h0 h1
  by_cases h2 : t.val % 8 = 7
  · exact sound_last m c t h2
  · exact sound_mid m c t h1 h2

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl]
  exact Entails.refl _

theorem hout : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run of @main and the frame -/

set_option backward.isDefEq.respectTransparency.types false in
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c)⟩, h.2⟩) (run_main m ρ)

end Cert.KernelIdeal.Grad

end
-- ==== Proof.Grad.Frames.lean ====
/- The frames the certificate claims: of the version's program at the machine's numbers, of its reading in the extended
   reals, and of the reference. The version's run is written once over any reading of the floats (Data.lean); the program
   printed for the machine's numbers is the same program, so its frame is that run at `Bits`. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Grad.Data

@[expose] public section

set_option maxRecDepth 16384

noncomputable section

namespace Cert.KernelIdeal.Grad

open Idealize.ShloMosaic Idealize.SL.Sem

set_option smartUnfolding false in
/-- The two printings name the same functions. -/
theorem defs_same : Cert.Kernel.defs (F := Bits) = Cert.KernelIdeal.defs (F := Bits) := rfl

set_option maxHeartbeats 0 in
/-- The two printings of the program are the same. -/
theorem main_same : Cert.Kernel.main (F := Bits) = Cert.KernelIdeal.main (F := Bits) := by
  unfold Cert.Kernel.main Cert.KernelIdeal.main
  rfl

set_option maxHeartbeats 1000000 in
set_option smartUnfolding false in
/-- The frame of the version's program at the machine's numbers. -/
theorem frame_kernel : @Cert.quiescent_Kernel Cert.Kernel.Gen.facts := fun m ρ _ => by
  have h := frame (F := Bits) m ρ
  rw [← defs_same, ← main_same] at h
  exact h

/-- The frame of the version's program in the extended reals. -/
theorem frame_ideal : @Cert.quiescent_KernelIdeal Cert.KernelIdeal.Gen.facts := fun m ρ _ => frame m ρ

/-- The frame of the reference. -/
theorem frame_reference : @Cert.quiescent_ReferenceIdeal Cert.ReferenceIdeal.Gen.facts := fun m ρ _ =>
  (θ_run _ _ _).mono (fun r h => ⟨fun c => (h c).2.2.2.2.2, sem_eq_zero_of_no_sems (by decide) r.2⟩)
    (Cert.ReferenceIdeal.Value.run (F := Ideal) m ρ)

end Cert.KernelIdeal.Grad

end
-- ==== Proof.Grad.Terms.lean ====
/- What one grid point of the attention gradient adds to the three gradients, as sums over its blocks. -/
module

public import proofs.«01_k».proof.Proof.Gen.KernelIdeal
public import proofs.«01_k».proof.Proof.Gen.KernelIdeal.Skeleton
public import Idealize.ShloMosaic.Lib.Pipeline.ValueKit

@[expose] public section

set_option maxRecDepth 16384

noncomputable section

namespace Cert.KernelIdeal.Grad

open Idealize.ShloMosaic Idealize.SL.Sem Cert.KernelIdeal.Gen

/-- The lane of a row's column that tile column `n` reads. -/
abbrev lane (n : Fin 1024) : Fin 128 := ⟨n.val % 128, Nat.mod_lt _ (by decide)⟩

/-- Row `r` of the 512 rows from `o` on. -/
abbrev rowOf (o : ℕ) (ho : o ≤ 1536) (r : Fin 512) : Fin 2048 := ⟨o + r.val, by omega⟩

section Tile

variable (x1 : Vec Ideal S1x1024x256 .bf16) (x2 : Vec Ideal S1x1024x128 .bf16)
  (a : Vec Ideal S1x512x256 .bf16) (b : Vec Ideal S512x128 .bf16) (u w : Vec Ideal S512x128 .f32)

/-- A tile's probability of key `n` in row `r`. -/
def tileP (r : Fin 512) (n : Fin 1024) : EReal :=
  Ideal.exp ((∑ d : Fin 256, a (ix3 0 r d) * x1 (ix3 0 n d)) - u (ix2 r (lane n)))

/-- A tile's gradient of the score of key `n` in row `r`. -/
def tileG (r : Fin 512) (n : Fin 1024) : EReal :=
  tileP x1 a u r n * ((∑ d : Fin 128, b (ix2 r d) * x2 (ix3 0 n d)) - w (ix2 r (lane n)))

/-- Eight copies of a row's 128 lanes side by side read the lane of the column. -/
theorem lanes_nest {α : Type} (g : Fin 128 → α) (k : Fin 1024) :
    (if h : k.val < 128 then g ⟨k.val, h⟩
      else if h : k.val - 128 < 128 then g ⟨k.val - 128, h⟩
      else if h : k.val - 128 - 128 < 128 then g ⟨k.val - 128 - 128, h⟩
      else if h : k.val - 128 - 128 - 128 < 128 then g ⟨k.val - 128 - 128 - 128, h⟩
      else if h : k.val - 128 - 128 - 128 - 128 < 128 then g ⟨k.val - 128 - 128 - 128 - 128, h⟩
      else if h : k.val - 128 - 128 - 128 - 128 - 128 < 128 then g ⟨k.val - 128 - 128 - 128 - 128 - 128, h⟩
      else if h : k.val - 128 - 128 - 128 - 128 - 128 - 128 < 128 then g ⟨k.val - 128 - 128 - 128 - 128 - 128 - 128, h⟩
      else g ⟨k.val - 128 - 128 - 128 - 128 - 128 - 128 - 128, by omega⟩) = g (lane k) := by
  split_ifs <;> exact congrArg g (Fin.ext (by simp only; omega))

theorem p13 (r : Fin 512) (n : Fin 1024) : k0_pay13 x1 a u (ix2 r n) = tileP x1 a u r n := by
  unfold k0_pay13 k0_pay11 k0_pay9 tileP
  pointwise
  refine congrArg (fun z => Ideal.exp (_ - z)) ?_
  exact lanes_nest (fun l => u (ix2 r l)) n

theorem p14 (r : Fin 512) (n : Fin 1024) :
    k0_pay14 x2 b w (ix2 r n) = (∑ d : Fin 128, b (ix2 r d) * x2 (ix3 0 n d)) - w (ix2 r (lane n)) := by
  unfold k0_pay14 k0_pay12 k0_pay10
  pointwise
  refine congrArg (fun z => _ - z) ?_
  exact lanes_nest (fun l => w (ix2 r l)) n

theorem p15 (r : Fin 512) (n : Fin 1024) :
    k0_pay15 (k0_pay13 x1 a u) (k0_pay14 x2 b w) (ix2 r n) = tileG x1 x2 a b u w r n := by
  unfold tileG; rw [← p13, ← p14]; rfl

/-- A row of the query gradient after the tile: what was there and the tile's term. -/
theorem q18 (y : Vec Ideal S1x512x256 .f32) (r : Fin 512) (e : Fin 256) :
    k0_pay18 (k0_pay9 x1) (k0_pay13 x1 a u) (k0_pay14 x2 b w) y (ix3 0 r e)
      = y (ix3 0 r e) + ∑ n : Fin 1024, tileG x1 x2 a b u w r n * x1 (ix3 0 n e) := by
  simp only [← p15]
  unfold k0_pay18 k0_pay9
  pointwise

theorem k17 (k : Vec Ideal S1024x256 .f32) (n : Fin 1024) (e : Fin 256) :
    k0_pay17 k (k0_pay11 a) (k0_pay13 x1 a u) (k0_pay14 x2 b w) (ix2 n e)
      = k (ix2 n e) + ∑ r : Fin 512, tileG x1 x2 a b u w r n * a (ix3 0 r e) := by
  simp only [← p15]
  unfold k0_pay17 k0_pay11
  pointwise

theorem v16 (v : Vec Ideal S1024x128 .f32) (n : Fin 1024) (e : Fin 128) :
    k0_pay16 v (k0_pay12 b) (k0_pay13 x1 a u) (ix2 n e)
      = v (ix2 n e) + ∑ r : Fin 512, tileP x1 a u r n * b (ix2 r e) := by
  simp only [← p13]
  unfold k0_pay16 k0_pay12
  pointwise

end Tile

section Block

variable (x0 : Vec Ideal S1x2048x256 .bf16) (x1 : Vec Ideal S1x1024x256 .bf16) (x2 : Vec Ideal S1x1024x128 .bf16)
  (x3 : Vec Ideal S2048x128 .bf16) (x4 x5 : Vec Ideal S2048x128 .f32)

/-- A grid point's probability of key `n` in row `r` of its blocks. -/
def blockP (r : Fin 2048) (n : Fin 1024) : EReal :=
  Ideal.exp ((∑ d : Fin 256, x0 (ix3 0 r d) * x1 (ix3 0 n d)) - x4 (ix2 r (lane n)))

/-- A grid point's gradient of the score of key `n` in row `r` of its blocks. -/
def blockG (r : Fin 2048) (n : Fin 1024) : EReal :=
  blockP x0 x1 x4 r n * ((∑ d : Fin 128, x3 (ix2 r d) * x2 (ix3 0 n d)) - x5 (ix2 r (lane n)))

/-- The 512 rows from `o` on of a block of rows under a unit axis. -/
abbrev rows3 (o : ℕ) (inb : ∀ a, (![0, o, 0] : Fin 3 → ℕ) a + (![1, 512, 256] : Fin 3 → ℕ) a ≤ S1x2048x256.size a) : Vec Ideal S1x512x256 .bf16 := View.ld (Val := Elt Ideal) x0 (Rect.unit ![0, o, 0] ![1, 512, 256] inb)

theorem rows3_apply (o : ℕ) (ho : o ≤ 1536) (inb) (r : Fin 512) (d : Fin 256) :
    rows3 x0 o inb (ix3 0 r d) = x0 (ix3 0 (rowOf o ho r) d) :=
  View.ld_unit_apply_of _ _ _ _ _ _ fun a => by fin_cases a <;> simp

/-- The 512 rows from `o` on of a block of rows. -/
abbrev rows2 {e : EltTy} (x : Vec Ideal S2048x128 e) (o : ℕ) (inb : ∀ a, (![o, 0] : Fin 2 → ℕ) a + (![512, 128] : Fin 2 → ℕ) a ≤ S2048x128.size a) :
    Vec Ideal S512x128 e := View.ld (Val := Elt Ideal) x (Rect.unit ![o, 0] ![512, 128] inb)

theorem rows2_apply {e : EltTy} (x : Vec Ideal S2048x128 e) (o : ℕ) (ho : o ≤ 1536) (inb) (r : Fin 512) (d : Fin 128) :
    rows2 x o inb (ix2 r d) = x (ix2 (rowOf o ho r) d) :=
  View.ld_unit_apply_of _ _ _ _ _ _ fun a => by fin_cases a <;> simp

theorem tileP_rows (o : ℕ) (ho : o ≤ 1536) (inb) (inb') (r : Fin 512) (n : Fin 1024) :
    tileP x1 (rows3 x0 o inb) (rows2 x4 o inb') r n
      = blockP x0 x1 x4 (rowOf o ho r) n := by
  unfold tileP blockP
  simp only [rows3_apply x0 o ho, rows2_apply x4 o ho inb']

theorem tileG_rows (o : ℕ) (ho : o ≤ 1536) (inb) (inb') (r : Fin 512) (n : Fin 1024) :
    tileG x1 x2 (rows3 x0 o inb) (rows2 x3 o inb')
        (rows2 x4 o inb') (rows2 x5 o inb') r n
      = blockG x0 x1 x2 x3 x4 x5 (rowOf o ho r) n := by
  unfold tileG blockG
  simp only [rows2_apply x3 o ho inb', rows2_apply x5 o ho inb', tileP_rows x0 x1 x4 o ho]

/-- A sum over a block's rows is the four sums over its tiles' rows. -/
theorem sum_tiles (f : Fin 2048 → EReal) (z : EReal) :
    z + (∑ r : Fin 512, f (rowOf 0 (by decide) r)) + (∑ r : Fin 512, f (rowOf 512 (by decide) r))
      + (∑ r : Fin 512, f (rowOf 1024 (by decide) r)) + (∑ r : Fin 512, f (rowOf 1536 (by decide) r)) = z + ∑ r, f r := by
  have hg : ∀ n : Fin 2048, f n = (fun n : ℕ => if h : n < 2048 then f ⟨n, h⟩ else 0) n.val := fun n => by
    simp only [n.isLt, dif_pos]
  have part : ∀ (o : ℕ) (ho : o ≤ 1536), (∑ r : Fin 512, f (rowOf o ho r))
      = ∑ n ∈ Finset.range 512, (fun n : ℕ => if h : n < 2048 then f ⟨n, h⟩ else 0) (o + n) := fun o ho => by
    rw [← Fin.sum_univ_eq_sum_range (fun n => (fun n : ℕ => if h : n < 2048 then f ⟨n, h⟩ else 0) (o + n))]
    exact Finset.sum_congr rfl fun r _ => hg _
  rw [part, part, part, part, Finset.sum_congr rfl fun r _ => hg r,
    Fin.sum_univ_eq_sum_range (fun n : ℕ => if h : n < 2048 then f ⟨n, h⟩ else 0) 2048]
  generalize (fun n : ℕ => if h : n < 2048 then f ⟨n, h⟩ else 0) = g
  rw [show 2048 = 512 + 512 + 512 + 512 from rfl, Finset.sum_range_add, Finset.sum_range_add, Finset.sum_range_add]
  simp only [Nat.zero_add, ← add_assoc]

section Chains

variable (i0 : ∀ a, (![0, 0, 0] : Fin 3 → ℕ) a + (![1, 512, 256] : Fin 3 → ℕ) a ≤ S1x2048x256.size a)
  (i1 : ∀ a, (![0, 512, 0] : Fin 3 → ℕ) a + (![1, 512, 256] : Fin 3 → ℕ) a ≤ S1x2048x256.size a)
  (i2 : ∀ a, (![0, 1024, 0] : Fin 3 → ℕ) a + (![1, 512, 256] : Fin 3 → ℕ) a ≤ S1x2048x256.size a)
  (i3 : ∀ a, (![0, 1536, 0] : Fin 3 → ℕ) a + (![1, 512, 256] : Fin 3 → ℕ) a ≤ S1x2048x256.size a)
  (j0 : ∀ a, (![0, 0] : Fin 2 → ℕ) a + (![512, 128] : Fin 2 → ℕ) a ≤ S2048x128.size a)
  (j1 : ∀ a, (![512, 0] : Fin 2 → ℕ) a + (![512, 128] : Fin 2 → ℕ) a ≤ S2048x128.size a)
  (j2 : ∀ a, (![1024, 0] : Fin 2 → ℕ) a + (![512, 128] : Fin 2 → ℕ) a ≤ S2048x128.size a)
  (j3 : ∀ a, (![1536, 0] : Fin 2 → ℕ) a + (![512, 128] : Fin 2 → ℕ) a ≤ S2048x128.size a)

/-- What the point leaves in the key accumulator that held `k`. -/
def newK (k : Vec Ideal S1024x256 .f32) : Vec Ideal S1024x256 .f32 := fun j =>
  k j + ∑ r : Fin 2048, blockG x0 x1 x2 x3 x4 x5 r (j 0) * x0 (ix3 0 r (j 1))

/-- What the point leaves in the value accumulator that held `v`. -/
def newV (v : Vec Ideal S1024x128 .f32) : Vec Ideal S1024x128 .f32 := fun j =>
  v j + ∑ r : Fin 2048, blockP x0 x1 x4 r (j 0) * x3 (ix2 r (j 1))

theorem chainK (k : Vec Ideal S1024x256 .f32) :
    k0_pay37 (k0_pay9 x1) (k0_pay10 x2)
      (k0_pay30 (k0_pay9 x1) (k0_pay10 x2)
        (k0_pay17 k (k0_pay11 (rows3 x0 0 i0)) (k0_pay13 x1 (rows3 x0 0 i0) (rows2 x4 0 j0))
          (k0_pay14 x2 (rows2 x3 0 j0) (rows2 x5 0 j0)))
        (k0_pay19 (rows3 x0 512 i1))
        (k0_pay22 (k0_pay9 x1) (k0_pay10 x2) (rows3 x0 512 i1) (rows2 x3 512 j1) (rows2 x4 512 j1) (rows2 x5 512 j1))
        (rows3 x0 1024 i2) (rows2 x3 1024 j2) (rows2 x4 1024 j2) (rows2 x5 1024 j2))
      (rows3 x0 1536 i3) (rows2 x3 1536 j3) (rows2 x4 1536 j3) (rows2 x5 1536 j3) = newK x0 x1 x2 x3 x4 x5 k := by
  funext j
  obtain ⟨n, e, rfl⟩ : ∃ n e, j = ix2 n e := ⟨j 0, j 1, by funext a; fin_cases a <;> rfl⟩
  refine (k17 x1 x2 (rows3 x0 1536 i3) (rows2 x3 1536 j3) (rows2 x4 1536 j3) (rows2 x5 1536 j3) _ n e).trans ?_
  have h2 := k17 x1 x2 (rows3 x0 1024 i2) (rows2 x3 1024 j2) (rows2 x4 1024 j2) (rows2 x5 1024 j2)
    (k0_pay17 (k0_pay17 k (k0_pay11 (rows3 x0 0 i0)) (k0_pay13 x1 (rows3 x0 0 i0) (rows2 x4 0 j0)) (k0_pay14 x2 (rows2 x3 0 j0) (rows2 x5 0 j0)))
      (k0_pay11 (rows3 x0 512 i1)) (k0_pay13 x1 (rows3 x0 512 i1) (rows2 x4 512 j1)) (k0_pay14 x2 (rows2 x3 512 j1) (rows2 x5 512 j1))) n e
  refine (congrArg (· + _) h2).trans ?_
  rw [k17, k17]
  simp only [tileG_rows x0 x1 x2 x3 x4 x5 0 (by decide), tileG_rows x0 x1 x2 x3 x4 x5 512 (by decide),
    tileG_rows x0 x1 x2 x3 x4 x5 1024 (by decide), tileG_rows x0 x1 x2 x3 x4 x5 1536 (by decide)]
  simp only [rows3_apply x0 0 (by decide), rows3_apply x0 512 (by decide), rows3_apply x0 1024 (by decide), rows3_apply x0 1536 (by decide)]
  exact sum_tiles (fun r => blockG x0 x1 x2 x3 x4 x5 r n * x0 (ix3 0 r e)) (k (ix2 n e))

theorem chainV (v : Vec Ideal S1024x128 .f32) :
    k0_pay36 (k0_pay9 x1)
      (k0_pay29 (k0_pay9 x1)
        (k0_pay16 v (k0_pay12 (rows2 x3 0 j0)) (k0_pay13 x1 (rows3 x0 0 i0) (rows2 x4 0 j0)))
        (k0_pay23 (k0_pay9 x1) (rows3 x0 512 i1) (rows2 x3 512 j1) (rows2 x4 512 j1))
        (rows3 x0 1024 i2) (rows2 x3 1024 j2) (rows2 x4 1024 j2))
      (rows3 x0 1536 i3) (rows2 x3 1536 j3) (rows2 x4 1536 j3) = newV x0 x1 x3 x4 v := by
  funext j
  obtain ⟨n, e, rfl⟩ : ∃ n e, j = ix2 n e := ⟨j 0, j 1, by funext a; fin_cases a <;> rfl⟩
  refine (v16 x1 (rows3 x0 1536 i3) (rows2 x3 1536 j3) (rows2 x4 1536 j3) _ n e).trans ?_
  have h2 := v16 x1 (rows3 x0 1024 i2) (rows2 x3 1024 j2) (rows2 x4 1024 j2)
    (k0_pay16 (k0_pay16 v (k0_pay12 (rows2 x3 0 j0)) (k0_pay13 x1 (rows3 x0 0 i0) (rows2 x4 0 j0)))
      (k0_pay12 (rows2 x3 512 j1)) (k0_pay13 x1 (rows3 x0 512 i1) (rows2 x4 512 j1))) n e
  refine (congrArg (· + _) h2).trans ?_
  rw [v16, v16]
  simp only [tileP_rows x0 x1 x4 0 (by decide), tileP_rows x0 x1 x4 512 (by decide),
    tileP_rows x0 x1 x4 1024 (by decide), tileP_rows x0 x1 x4 1536 (by decide)]
  simp only [rows2_apply x3 0 (by decide), rows2_apply x3 512 (by decide), rows2_apply x3 1024 (by decide), rows2_apply x3 1536 (by decide)]
  exact sum_tiles (fun r => blockP x0 x1 x4 r n * x3 (ix2 r e)) (v (ix2 n e))

/-- A row of a tile of the query gradient: what was there, `z`, and the sum over the block's keys. -/
theorem tileQ (o : ℕ) (ho : o ≤ 1536) (inb) (inb') (z : Vec Ideal S1x512x256 .f32) (r : Fin 512) (e : Fin 256) :
    k0_pay18 (k0_pay9 x1) (k0_pay13 x1 (rows3 x0 o inb) (rows2 x4 o inb')) (k0_pay14 x2 (rows2 x3 o inb') (rows2 x5 o inb')) z (ix3 0 r e)
      = z (ix3 0 r e) + ∑ n : Fin 1024, blockG x0 x1 x2 x3 x4 x5 (rowOf o ho r) n * x1 (ix3 0 n e) := by
  rw [q18]
  simp only [tileG_rows x0 x1 x2 x3 x4 x5 o ho]

end Chains
end Block
end Cert.KernelIdeal.Grad

end
-- ==== Proof.Grad.Step.lean ====
/- What each kind of grid point leaves in the buffers it writes, as the sums of Terms.lean. -/
module

public import proofs.«01_k».proof.Proof.Grad.Body
public import proofs.«01_k».proof.Proof.Grad.Terms
public import Idealize.ShloMosaic.Lib.WritesUnit
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.Sem
open Idealize.ShloMosaic.Pipeline (Dat Cfg Window BodyObligation cellOf)

/-- The 2048 rows of the query gradient that the grid point adds to, each with its sum over the block's keys. -/
def newQ (j : ℕ) (x0 : Vec Ideal S1x2048x256 .bf16) (x1 : Vec Ideal S1x1024x256 .bf16) (x2 : Vec Ideal S1x1024x128 .bf16)
    (x3 : Vec Ideal S2048x128 .bf16) (x4 x5 : Vec Ideal S2048x128 .f32) (y : Vec Ideal S1x16384x256 .f32) :
    Vec Ideal S1x16384x256 .f32 := fun p =>
  if h : 2048 * j ≤ (p 1).val ∧ (p 1).val < 2048 * j + 2048 then
    y p + ∑ n : Fin 1024, blockG x0 x1 x2 x3 x4 x5 ⟨(p 1).val - 2048 * j, by omega⟩ n * x1 (ix3 0 n (p 2))
  else y p

section Rows

variable (i : grid0.Coords) (vw : View sig .tc .vmem S1x16384x256 .f32) (f : vw.ty.Contents (Elt Ideal))

/-- A row of the newest tile reads that tile. -/
theorem tile_hit (b : BitVec 32) (q : ℕ) (hb : k0_off1 i b = ![0, 2048 * (i 2).val + q, 0])
    (inb : ∀ a, k0_off1 i b a + S1x512x256.size a ≤ S1x16384x256.size a)
    (w : (Rect.unit (s := S1x16384x256) (k0_off1 i b) S1x512x256.size inb).shape.Idx → Elt Ideal .f32)
    (L : List (View.Piece (Elt Ideal) S1x16384x256 .f32)) (p : S1x16384x256.Idx) (r : Fin 512)
    (h : (p 1).val = 2048 * (i 2).val + q + r.val) :
    vw.read (Elt Ideal) (vw.writes (Elt Ideal) f (⟨Rect.unit (k0_off1 i b) S1x512x256.size inb, w⟩ :: L)) p
      = w (ix3 0 r (p 2)) :=
  View.read_writes_cons_unit_of_mem vw f inb w L p (ix3 0 r (p 2)) hb fun a => by
    have h0 : (p 0).val = 0 := Nat.lt_one_iff.mp (p 0).isLt
    fin_cases a
    · simpa using h0
    · simpa using h
    · simp

/-- A row outside the newest tile reads what was there before it. -/
theorem tile_miss (b : BitVec 32) (q : ℕ) (hb : k0_off1 i b = ![0, 2048 * (i 2).val + q, 0])
    (inb : ∀ a, k0_off1 i b a + S1x512x256.size a ≤ S1x16384x256.size a)
    (w : (Rect.unit (s := S1x16384x256) (k0_off1 i b) S1x512x256.size inb).shape.Idx → Elt Ideal .f32)
    (L : List (View.Piece (Elt Ideal) S1x16384x256 .f32)) (p : S1x16384x256.Idx)
    (h : (p 1).val < 2048 * (i 2).val + q ∨ 2048 * (i 2).val + q + 512 ≤ (p 1).val) :
    vw.read (Elt Ideal) (vw.writes (Elt Ideal) f (⟨Rect.unit (k0_off1 i b) S1x512x256.size inb, w⟩ :: L)) p
      = vw.read (Elt Ideal) (vw.writes (Elt Ideal) f L) p :=
  View.read_writes_cons_unit_of_not_mem vw f inb w L p hb 1 (by simpa using h)

theorem off_0 : k0_off1 i 0#32 = ![0, 2048 * (i 2).val + 0, 0] := k0_off1_eq i 0
theorem off_512 : k0_off1 i 512#32 = ![0, 2048 * (i 2).val + 512, 0] := k0_off1_eq i 1
theorem off_1024 : k0_off1 i 1024#32 = ![0, 2048 * (i 2).val + 1024, 0] := k0_off1_eq i 2
theorem off_1536 : k0_off1 i 1536#32 = ![0, 2048 * (i 2).val + 1536, 0] := k0_off1_eq i 3

/-- The rows of a tile loaded from contents `y`. -/
theorem tile_ld (b : BitVec 32) (q : ℕ) (hb : k0_off1 i b = ![0, 2048 * (i 2).val + q, 0])
    (inb : ∀ a, k0_off1 i b a + S1x512x256.size a ≤ S1x16384x256.size a) (y : Vec Ideal S1x16384x256 .f32)
    (p : S1x16384x256.Idx) (r : Fin 512) (h : (p 1).val = 2048 * (i 2).val + q + r.val) :
    View.ld (Val := Elt Ideal) y (Rect.unit (k0_off1 i b) S1x512x256.size inb) (ix3 0 r (p 2)) = y p :=
  View.ld_unit_apply_of _ _ _ _ _ _ fun a => by
    have h0 : (p 0).val = 0 := Nat.lt_one_iff.mp (p 0).isLt
    refine Eq.trans ?_ (congrArg (· + _) (congrFun hb a).symm)
    fin_cases a
    · simpa using h0
    · simpa using h
    · simp

variable (x0 : Vec Ideal S1x2048x256 .bf16) (x1 : Vec Ideal S1x1024x256 .bf16) (x2 : Vec Ideal S1x1024x128 .bf16)
  (x3 : Vec Ideal S2048x128 .bf16) (x4 x5 : Vec Ideal S2048x128 .f32)

/-- A tile's payload over loaded rows `z`. -/
abbrev payQ (o : ℕ) (inb : ∀ a, (![0, o, 0] : Fin 3 → ℕ) a + (![1, 512, 256] : Fin 3 → ℕ) a ≤ S1x2048x256.size a)
    (inb' : ∀ a, (![o, 0] : Fin 2 → ℕ) a + (![512, 128] : Fin 2 → ℕ) a ≤ S2048x128.size a) (z : Vec Ideal S1x512x256 .f32) : Vec Ideal S1x512x256 .f32 :=
  k0_pay18 (k0_pay9 x1) (k0_pay13 x1 (rows3 x0 o inb) (rows2 x4 o inb')) (k0_pay14 x2 (rows2 x3 o inb') (rows2 x5 o inb')) z

/-- A row of a tile's payload is that row of the new query gradient. -/
theorem payQ_new (y : Vec Ideal S1x16384x256 .f32) (o : ℕ) (ho : o ≤ 1536) (inb) (inb') (z : Vec Ideal S1x512x256 .f32)
    (hz : ∀ (p : S1x16384x256.Idx) (r : Fin 512), (p 1).val = 2048 * (i 2).val + o + r.val → z (ix3 0 r (p 2)) = y p)
    (p : S1x16384x256.Idx) (r : Fin 512) (h : (p 1).val = 2048 * (i 2).val + o + r.val) :
    payQ x0 x1 x2 x3 x4 x5 o inb inb' z (ix3 0 r (p 2)) = newQ (i 2).val x0 x1 x2 x3 x4 x5 y p := by
  refine (tileQ x0 x1 x2 x3 x4 x5 o ho inb inb' z r (p 2)).trans ?_
  unfold newQ
  rw [dif_pos ⟨by omega, by omega⟩, show rowOf o ho r = ⟨(p 1).val - 2048 * (i 2).val, by omega⟩ from Fin.ext (by simp only; omega)]
  exact congrArg (· + _) (hz p r h)

/-- The four tiles' stores over what was there, `y` where the rows are loaded. -/
theorem four_tiles (y : Vec Ideal S1x16384x256 .f32) (i0 i1 i2 i3) (j0 j1 j2 j3) (b0 b1 b2 b3)
    (z0 z1 z2 z3 : Vec Ideal S1x512x256 .f32)
    (hz0 : ∀ (p : S1x16384x256.Idx) (r : Fin 512), (p 1).val = 2048 * (i 2).val + 0 + r.val → z0 (ix3 0 r (p 2)) = y p)
    (hz1 : ∀ (p : S1x16384x256.Idx) (r : Fin 512), (p 1).val = 2048 * (i 2).val + 512 + r.val → z1 (ix3 0 r (p 2)) = y p)
    (hz2 : ∀ (p : S1x16384x256.Idx) (r : Fin 512), (p 1).val = 2048 * (i 2).val + 1024 + r.val → z2 (ix3 0 r (p 2)) = y p)
    (hz3 : ∀ (p : S1x16384x256.Idx) (r : Fin 512), (p 1).val = 2048 * (i 2).val + 1536 + r.val → z3 (ix3 0 r (p 2)) = y p)
    (L : List (View.Piece (Elt Ideal) S1x16384x256 .f32))
    (hL : ∀ p, vw.read (Elt Ideal) (vw.writes (Elt Ideal) f L) p = y p) (p : S1x16384x256.Idx) :
    vw.read (Elt Ideal) (vw.writes (Elt Ideal) f
      (⟨Rect.unit (s := S1x16384x256) (k0_off1 i 1536#32) S1x512x256.size b3, payQ x0 x1 x2 x3 x4 x5 1536 i3 j3 z3⟩
        :: ⟨Rect.unit (s := S1x16384x256) (k0_off1 i 1024#32) S1x512x256.size b2, payQ x0 x1 x2 x3 x4 x5 1024 i2 j2 z2⟩
        :: ⟨Rect.unit (s := S1x16384x256) (k0_off1 i 512#32) S1x512x256.size b1, payQ x0 x1 x2 x3 x4 x5 512 i1 j1 z1⟩
        :: ⟨Rect.unit (s := S1x16384x256) (k0_off1 i 0#32) S1x512x256.size b0, payQ x0 x1 x2 x3 x4 x5 0 i0 j0 z0⟩ :: L)) p
      = newQ (i 2).val x0 x1 x2 x3 x4 x5 y p := by
  by_cases h : 2048 * (i 2).val ≤ (p 1).val ∧ (p 1).val < 2048 * (i 2).val + 2048
  · by_cases c3 : 2048 * (i 2).val + 1536 ≤ (p 1).val
    · exact (tile_hit i vw f _ 1536 (off_1536 i) _ _ _ p ⟨(p 1).val - (2048 * (i 2).val + 1536), by omega⟩ (by simp only; omega)).trans
        (payQ_new i x0 x1 x2 x3 x4 x5 y 1536 (by decide) _ _ _ hz3 p _ (by simp only; omega))
    rw [tile_miss i vw f _ 1536 (off_1536 i) _ _ _ p (by omega)]
    by_cases c2 : 2048 * (i 2).val + 1024 ≤ (p 1).val
    · exact (tile_hit i vw f _ 1024 (off_1024 i) _ _ _ p ⟨(p 1).val - (2048 * (i 2).val + 1024), by omega⟩ (by simp only; omega)).trans
        (payQ_new i x0 x1 x2 x3 x4 x5 y 1024 (by decide) _ _ _ hz2 p _ (by simp only; omega))
    rw [tile_miss i vw f _ 1024 (off_1024 i) _ _ _ p (by omega)]
    by_cases c1 : 2048 * (i 2).val + 512 ≤ (p 1).val
    · exact (tile_hit i vw f _ 512 (off_512 i) _ _ _ p ⟨(p 1).val - (2048 * (i 2).val + 512), by omega⟩ (by simp only; omega)).trans
        (payQ_new i x0 x1 x2 x3 x4 x5 y 512 (by decide) _ _ _ hz1 p _ (by simp only; omega))
    rw [tile_miss i vw f _ 512 (off_512 i) _ _ _ p (by omega)]
    exact (tile_hit i vw f _ 0 (off_0 i) _ _ _ p ⟨(p 1).val - (2048 * (i 2).val + 0), by omega⟩ (by simp only; omega)).trans
      (payQ_new i x0 x1 x2 x3 x4 x5 y 0 (by decide) _ _ _ hz0 p _ (by simp only; omega))
  · unfold newQ
    rw [dif_neg h, tile_miss i vw f _ 1536 (off_1536 i) _ _ _ p (by omega), tile_miss i vw f _ 1024 (off_1024 i) _ _ _ p (by omega),
      tile_miss i vw f _ 512 (off_512 i) _ _ _ p (by omega), tile_miss i vw f _ 0 (off_0 i) _ _ _ p (by omega)]
    exact hL p

end Rows

theorem pay4_apply (k : Vec Ideal S1024x256 .f32) (j : S1x1024x256.Idx) : k0_pay4 (F := Ideal) k j = k (ix2 (j 1) (j 2)) := by
  unfold k0_pay4
  pointwise

theorem pay5_apply (v : Vec Ideal S1024x128 .f32) (j : S1x1024x128.Idx) : k0_pay5 (F := Ideal) v j = v (ix2 (j 1) (j 2)) := by
  unfold k0_pay5
  pointwise

theorem pay6_zero : (k0_pay6 (F := Ideal) : Vec Ideal S1x16384x256 .f32) = fun _ => (0 : EReal) := by
  funext j; unfold k0_pay6; pointwise

theorem pay7_zero : (k0_pay7 (F := Ideal) : Vec Ideal S1024x256 .f32) = fun _ => (0 : EReal) := by
  funext j; unfold k0_pay7; pointwise

theorem pay8_zero : (k0_pay8 (F := Ideal) : Vec Ideal S1024x128 .f32) = fun _ => (0 : EReal) := by
  funext j; unfold k0_pay8; pointwise

/-- The whole block of zeros, read. -/
theorem zero_hit (vw : View sig .tc .vmem S1x16384x256 .f32) (f : vw.ty.Contents (Elt Ideal))
    (inb : ∀ a, (![0, 0, 0] : Fin 3 → ℕ) a + S1x16384x256.size a ≤ S1x16384x256.size a)
    (p : S1x16384x256.Idx) :
    vw.read (Elt Ideal) (vw.writes (Elt Ideal) f [⟨Rect.unit (s := S1x16384x256) ![0, 0, 0] S1x16384x256.size inb, k0_pay6 (F := Ideal)⟩]) p
      = (0 : EReal) :=
  (View.read_writes_cons_unit_of_mem vw f inb _ [] p p rfl fun a => by fin_cases a <;> simp).trans (congrFun pay6_zero p)

/-- The rows of a tile loaded after stores that leave zero at them. -/
theorem tile_ld_zero (i : grid0.Coords) (b : BitVec 32) (q : ℕ) (hb : k0_off1 i b = ![0, 2048 * (i 2).val + q, 0])
    (inb : ∀ a, k0_off1 i b a + S1x512x256.size a ≤ S1x16384x256.size a) (vw : View sig .tc .vmem S1x16384x256 .f32)
    (L : List (View.Piece (Elt Ideal) S1x16384x256 .f32)) (p : S1x16384x256.Idx) (r : Fin 512)
    (h : (p 1).val = 2048 * (i 2).val + q + r.val)
    (hz : vw.read (Elt Ideal) (vw.writes (Elt Ideal) vw.junk L) p = (0 : EReal)) :
    View.ld (Val := Elt Ideal) (View.canon L) (Rect.unit (k0_off1 i b) S1x512x256.size inb) (ix3 0 r (p 2)) = (0 : EReal) :=
  (tile_ld i b q hb inb (View.canon L) p r h).trans ((congrFun (View.read_writes_junk_eq_canon vw L) p).symm.trans hz)

variable (c : Dev nD) (i : grid0.Coords)
  (arg3 : Memref sig .tc .vmem S1x2048x256 .bf16) (harg3 : arg3.IsWhole)
  (arg4 : Memref sig .tc .vmem S1x1024x256 .bf16) (harg4 : arg4.IsWhole)
  (arg5 : Memref sig .tc .vmem S1x1024x128 .bf16) (harg5 : arg5.IsWhole)
  (arg6 : Memref sig .tc .vmem S2048x128 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S1x16384x256 .f32) (harg9 : arg9.IsWhole)
  (arg10 : Memref sig .tc .vmem S1x1024x256 .f32) (harg10 : arg10.IsWhole)
  (arg11 : Memref sig .tc .vmem S1x1024x128 .f32) (harg11 : arg11.IsWhole)
  (arg12 : Memref sig .tc .vmem S1024x256 .f32) (harg12 : arg12.IsWhole)
  (arg13 : Memref sig .tc .vmem S1024x128 .f32) (harg13 : arg13.IsWhole)
  (x0 : Vec Ideal S1x2048x256 .bf16) (x1 : Vec Ideal S1x1024x256 .bf16) (x2 : Vec Ideal S1x1024x128 .bf16)
  (x3 : Vec Ideal S2048x128 .bf16) (x4 : Vec Ideal S2048x128 .f32) (x5 : Vec Ideal S2048x128 .f32)

/-- The query gradient's block after such a point. -/
theorem midQ (h0 : ¬atHead i) (h1 : ¬atFirst i) (h2 : ¬atLast i) (y : Vec Ideal S1x16384x256 .f32)(k : Vec Ideal S1024x256 .f32) (v : Vec Ideal S1024x128 .f32) :
    arg9.view.read (Elt Ideal) (arg9.view.writes (Elt Ideal) (harg9.unread y) (runMid c i arg3 harg3 arg4 harg4 arg5 harg5 arg6 harg6 arg7 harg7 arg8 harg8 arg9 harg9 arg10 harg10 arg11 harg11 arg12 harg12 arg13 harg13 x0 x1 x2 x3 x4 x5 h0 h1 h2 y k v).1)
      = newQ (i 2).val x0 x1 x2 x3 x4 x5 y := by
  frame_open
  frame_out
  funext p
  refine four_tiles i arg9.view _ x0 x1 x2 x3 x4 x5 y _ _ _ _ _ _ _ _ _ _ _ _ _ _ _ _
    (fun p r h => tile_ld i _ _ (off_0 i) _ y p r h) (fun p r h => tile_ld i _ _ (off_512 i) _ y p r h)
    (fun p r h => tile_ld i _ _ (off_1024 i) _ y p r h) (fun p r h => tile_ld i _ _ (off_1536 i) _ y p r h) [] (fun p => ?_) p
  exact congrFun (harg9.read_unread y) p

/-- The key accumulator after such a point. -/
theorem midK (h0 : ¬atHead i) (h1 : ¬atFirst i) (h2 : ¬atLast i) (y : Vec Ideal S1x16384x256 .f32)(k : Vec Ideal S1024x256 .f32) (v : Vec Ideal S1024x128 .f32) (f : arg12.view.ty.Contents (Elt Ideal)) :
    arg12.view.read (Elt Ideal) (arg12.view.writes (Elt Ideal) f (runMid c i arg3 harg3 arg4 harg4 arg5 harg5 arg6 harg6 arg7 harg7 arg8 harg8 arg9 harg9 arg10 harg10 arg11 harg11 arg12 harg12 arg13 harg13 x0 x1 x2 x3 x4 x5 h0 h1 h2 y k v).2.1)
      = newK x0 x1 x2 x3 x4 x5 k := by
  frame_open
  frame_out
  funext j
  refine (View.read_writes_cons_unit_of_mem arg12.view f _ _ _ j j rfl fun a => by fin_cases a <;> simp).trans ?_
  exact (congrFun (shapeCast_self _ _) j).trans (congrFun (chainK x0 x1 x2 x3 x4 x5 _ _ _ _ _ _ _ _ k) j)

/-- The value accumulator after such a point. -/
theorem midV (h0 : ¬atHead i) (h1 : ¬atFirst i) (h2 : ¬atLast i) (y : Vec Ideal S1x16384x256 .f32)(k : Vec Ideal S1024x256 .f32) (v : Vec Ideal S1024x128 .f32) (f : arg13.view.ty.Contents (Elt Ideal)) :
    arg13.view.read (Elt Ideal) (arg13.view.writes (Elt Ideal) f (runMid c i arg3 harg3 arg4 harg4 arg5 harg5 arg6 harg6 arg7 harg7 arg8 harg8 arg9 harg9 arg10 harg10 arg11 harg11 arg12 harg12 arg13 harg13 x0 x1 x2 x3 x4 x5 h0 h1 h2 y k v).2.2.1)
      = newV x0 x1 x3 x4 v := by
  frame_open
  frame_out
  funext j
  refine (View.read_writes_cons_unit_of_mem arg13.view f _ _ _ j j rfl fun a => by fin_cases a <;> simp).trans ?_
  exact (congrFun (shapeCast_self _ _) j).trans (congrFun (chainV x0 x1 x3 x4 _ _ _ _ _ _ _ _ v) j)

/-- The query gradient's block after such a point. -/
theorem firstQ (h0 : ¬atHead i) (h1 : atFirst i) (h2 : ¬atLast i) (y : Vec Ideal S1x16384x256 .f32) :
    arg9.view.read (Elt Ideal) (arg9.view.writes (Elt Ideal) (harg9.unread y) (runFirst c i arg3 harg3 arg4 harg4 arg5 harg5 arg6 harg6 arg7 harg7 arg8 harg8 arg9 harg9 arg10 harg10 arg11 harg11 arg12 harg12 arg13 harg13 x0 x1 x2 x3 x4 x5 h0 h1 h2 y).1)
      = newQ (i 2).val x0 x1 x2 x3 x4 x5 y := by
  frame_open
  frame_out
  funext p
  refine four_tiles i arg9.view _ x0 x1 x2 x3 x4 x5 y _ _ _ _ _ _ _ _ _ _ _ _ _ _ _ _
    (fun p r h => tile_ld i _ _ (off_0 i) _ y p r h) (fun p r h => tile_ld i _ _ (off_512 i) _ y p r h)
    (fun p r h => tile_ld i _ _ (off_1024 i) _ y p r h) (fun p r h => tile_ld i _ _ (off_1536 i) _ y p r h) [] (fun p => ?_) p
  exact congrFun (harg9.read_unread y) p

/-- The key accumulator after such a point. -/
theorem firstK (h0 : ¬atHead i) (h1 : atFirst i) (h2 : ¬atLast i) (y : Vec Ideal S1x16384x256 .f32) (f : arg12.view.ty.Contents (Elt Ideal)) :
    arg12.view.read (Elt Ideal) (arg12.view.writes (Elt Ideal) f (runFirst c i arg3 harg3 arg4 harg4 arg5 harg5 arg6 harg6 arg7 harg7 arg8 harg8 arg9 harg9 arg10 harg10 arg11 harg11 arg12 harg12 arg13 harg13 x0 x1 x2 x3 x4 x5 h0 h1 h2 y).2.1)
      = newK x0 x1 x2 x3 x4 x5 (k0_pay7 (F := Ideal)) := by
  frame_open
  frame_out
  funext j
  refine (View.read_writes_cons_unit_of_mem arg12.view f _ _ _ j j rfl fun a => by fin_cases a <;> simp).trans ?_
  exact (congrFun (shapeCast_self _ _) j).trans (congrFun (chainK x0 x1 x2 x3 x4 x5 _ _ _ _ _ _ _ _ (k0_pay7 (F := Ideal))) j)

/-- The value accumulator after such a point. -/
theorem firstV (h0 : ¬atHead i) (h1 : atFirst i) (h2 : ¬atLast i) (y : Vec Ideal S1x16384x256 .f32) (f : arg13.view.ty.Contents (Elt Ideal)) :
    arg13.view.read (Elt Ideal) (arg13.view.writes (Elt Ideal) f (runFirst c i arg3 harg3 arg4 harg4 arg5 harg5 arg6 harg6 arg7 harg7 arg8 harg8 arg9 harg9 arg10 harg10 arg11 harg11 arg12 harg12 arg13 harg13 x0 x1 x2 x3 x4 x5 h0 h1 h2 y).2.2.1)
      = newV x0 x1 x3 x4 (k0_pay8 (F := Ideal)) := by
  frame_open
  frame_out
  funext j
  refine (View.read_writes_cons_unit_of_mem arg13.view f _ _ _ j j rfl fun a => by fin_cases a <;> simp).trans ?_
  exact (congrFun (shapeCast_self _ _) j).trans (congrFun (chainV x0 x1 x3 x4 _ _ _ _ _ _ _ _ (k0_pay8 (F := Ideal))) j)

/-- The query gradient's block after such a point. -/
theorem lastQ (h0 : ¬atHead i) (h1 : ¬atFirst i) (h2 : atLast i) (y : Vec Ideal S1x16384x256 .f32)(k : Vec Ideal S1024x256 .f32) (v : Vec Ideal S1024x128 .f32) :
    arg9.view.read (Elt Ideal) (arg9.view.writes (Elt Ideal) (harg9.unread y) (runLast c i arg3 harg3 arg4 harg4 arg5 harg5 arg6 harg6 arg7 harg7 arg8 harg8 arg9 harg9 arg10 harg10 arg11 harg11 arg12 harg12 arg13 harg13 x0 x1 x2 x3 x4 x5 h0 h1 h2 y k v).1)
      = newQ (i 2).val x0 x1 x2 x3 x4 x5 y := by
  frame_open
  frame_out
  funext p
  refine four_tiles i arg9.view _ x0 x1 x2 x3 x4 x5 y _ _ _ _ _ _ _ _ _ _ _ _ _ _ _ _
    (fun p r h => tile_ld i _ _ (off_0 i) _ y p r h) (fun p r h => tile_ld i _ _ (off_512 i) _ y p r h)
    (fun p r h => tile_ld i _ _ (off_1024 i) _ y p r h) (fun p r h => tile_ld i _ _ (off_1536 i) _ y p r h) [] (fun p => ?_) p
  exact congrFun (harg9.read_unread y) p

/-- The key accumulator after such a point. -/
theorem lastK (h0 : ¬atHead i) (h1 : ¬atFirst i) (h2 : atLast i) (y : Vec Ideal S1x16384x256 .f32)(k : Vec Ideal S1024x256 .f32) (v : Vec Ideal S1024x128 .f32) (f : arg12.view.ty.Contents (Elt Ideal)) :
    arg12.view.read (Elt Ideal) (arg12.view.writes (Elt Ideal) f (runLast c i arg3 harg3 arg4 harg4 arg5 harg5 arg6 harg6 arg7 harg7 arg8 harg8 arg9 harg9 arg10 harg10 arg11 harg11 arg12 harg12 arg13 harg13 x0 x1 x2 x3 x4 x5 h0 h1 h2 y k v).2.1)
      = newK x0 x1 x2 x3 x4 x5 k := by
  frame_open
  frame_out
  funext j
  refine (View.read_writes_cons_unit_of_mem arg12.view f _ _ _ j j rfl fun a => by fin_cases a <;> simp).trans ?_
  exact (congrFun (shapeCast_self _ _) j).trans (congrFun (chainK x0 x1 x2 x3 x4 x5 _ _ _ _ _ _ _ _ k) j)

/-- The value accumulator after such a point. -/
theorem lastV (h0 : ¬atHead i) (h1 : ¬atFirst i) (h2 : atLast i) (y : Vec Ideal S1x16384x256 .f32)(k : Vec Ideal S1024x256 .f32) (v : Vec Ideal S1024x128 .f32) (f : arg13.view.ty.Contents (Elt Ideal)) :
    arg13.view.read (Elt Ideal) (arg13.view.writes (Elt Ideal) f (runLast c i arg3 harg3 arg4 harg4 arg5 harg5 arg6 harg6 arg7 harg7 arg8 harg8 arg9 harg9 arg10 harg10 arg11 harg11 arg12 harg12 arg13 harg13 x0 x1 x2 x3 x4 x5 h0 h1 h2 y k v).2.2.2.2.1)
      = newV x0 x1 x3 x4 v := by
  frame_open
  frame_out
  funext j
  refine (View.read_writes_cons_unit_of_mem arg13.view f _ _ _ j j rfl fun a => by fin_cases a <;> simp).trans ?_
  exact (congrFun (shapeCast_self _ _) j).trans (congrFun (chainV x0 x1 x3 x4 _ _ _ _ _ _ _ _ v) j)

/-- The key accumulator after such a point. -/
theorem headK (h0 : atHead i) (h1 : atFirst i) (h2 : ¬atLast i)  (f : arg12.view.ty.Contents (Elt Ideal)) :
    arg12.view.read (Elt Ideal) (arg12.view.writes (Elt Ideal) f (runHead c i arg3 harg3 arg4 harg4 arg5 harg5 arg6 harg6 arg7 harg7 arg8 harg8 arg9 harg9 arg10 harg10 arg11 harg11 arg12 harg12 arg13 harg13 x0 x1 x2 x3 x4 x5 h0 h1 h2 ).2.1)
      = newK x0 x1 x2 x3 x4 x5 (k0_pay7 (F := Ideal)) := by
  frame_open
  frame_out
  funext j
  refine (View.read_writes_cons_unit_of_mem arg12.view f _ _ _ j j rfl fun a => by fin_cases a <;> simp).trans ?_
  exact (congrFun (shapeCast_self _ _) j).trans (congrFun (chainK x0 x1 x2 x3 x4 x5 _ _ _ _ _ _ _ _ (k0_pay7 (F := Ideal))) j)

/-- The value accumulator after such a point. -/
theorem headV (h0 : atHead i) (h1 : atFirst i) (h2 : ¬atLast i)  (f : arg13.view.ty.Contents (Elt Ideal)) :
    arg13.view.read (Elt Ideal) (arg13.view.writes (Elt Ideal) f (runHead c i arg3 harg3 arg4 harg4 arg5 harg5 arg6 harg6 arg7 harg7 arg8 harg8 arg9 harg9 arg10 harg10 arg11 harg11 arg12 harg12 arg13 harg13 x0 x1 x2 x3 x4 x5 h0 h1 h2 ).2.2.1)
      = newV x0 x1 x3 x4 (k0_pay8 (F := Ideal)) := by
  frame_open
  frame_out
  funext j
  refine (View.read_writes_cons_unit_of_mem arg13.view f _ _ _ j j rfl fun a => by fin_cases a <;> simp).trans ?_
  exact (congrFun (shapeCast_self _ _) j).trans (congrFun (chainV x0 x1 x3 x4 _ _ _ _ _ _ _ _ (k0_pay8 (F := Ideal))) j)

/-- The block of the key gradient that is stored. -/
theorem lastKO (h0 : ¬atHead i) (h1 : ¬atFirst i) (h2 : atLast i) (y : Vec Ideal S1x16384x256 .f32)(k : Vec Ideal S1024x256 .f32) (v : Vec Ideal S1024x128 .f32) (f : arg10.view.ty.Contents (Elt Ideal)) :
    arg10.view.read (Elt Ideal) (arg10.view.writes (Elt Ideal) f (runLast c i arg3 harg3 arg4 harg4 arg5 harg5 arg6 harg6 arg7 harg7 arg8 harg8 arg9 harg9 arg10 harg10 arg11 harg11 arg12 harg12 arg13 harg13 x0 x1 x2 x3 x4 x5 h0 h1 h2 y k v).2.2.1)
      = fun p => newK x0 x1 x2 x3 x4 x5 k (ix2 (p 1) (p 2)) := by
  frame_open
  frame_out
  funext j
  refine (View.read_writes_cons_unit_of_mem arg10.view f _ _ _ j j rfl fun a => by fin_cases a <;> simp).trans ?_
  exact (pay4_apply _ j).trans (congrFun (chainK x0 x1 x2 x3 x4 x5 _ _ _ _ _ _ _ _ k) _)

/-- The block of the value gradient that is stored. -/
theorem lastVO (h0 : ¬atHead i) (h1 : ¬atFirst i) (h2 : atLast i) (y : Vec Ideal S1x16384x256 .f32)(k : Vec Ideal S1024x256 .f32) (v : Vec Ideal S1024x128 .f32) (f : arg11.view.ty.Contents (Elt Ideal)) :
    arg11.view.read (Elt Ideal) (arg11.view.writes (Elt Ideal) f (runLast c i arg3 harg3 arg4 harg4 arg5 harg5 arg6 harg6 arg7 harg7 arg8 harg8 arg9 harg9 arg10 harg10 arg11 harg11 arg12 harg12 arg13 harg13 x0 x1 x2 x3 x4 x5 h0 h1 h2 y k v).2.2.2.1)
      = fun p => newV x0 x1 x3 x4 v (ix2 (p 1) (p 2)) := by
  frame_open
  frame_out
  funext j
  refine (View.read_writes_cons_unit_of_mem arg11.view f _ _ _ j j rfl fun a => by fin_cases a <;> simp).trans ?_
  exact (pay5_apply _ j).trans (congrFun (chainV x0 x1 x3 x4 _ _ _ _ _ _ _ _ v) _)

/-- The query gradient's block after a head's first point. -/
theorem headQ (h0 : atHead i) (h1 : atFirst i) (h2 : ¬atLast i) (f : arg9.view.ty.Contents (Elt Ideal)) :
    arg9.view.read (Elt Ideal) (arg9.view.writes (Elt Ideal) f (runHead c i arg3 harg3 arg4 harg4 arg5 harg5 arg6 harg6 arg7 harg7 arg8 harg8 arg9 harg9 arg10 harg10 arg11 harg11 arg12 harg12 arg13 harg13 x0 x1 x2 x3 x4 x5 h0 h1 h2).1)
      = newQ (i 2).val x0 x1 x2 x3 x4 x5 (fun _ => (0 : EReal)) := by
  frame_open
  frame_out
  funext p
  refine four_tiles i arg9.view f x0 x1 x2 x3 x4 x5 (fun _ => (0 : EReal)) _ _ _ _ _ _ _ _ _ _ _ _ _ _ _ _ ?_ ?_ ?_ ?_ _
    (fun p => zero_hit arg9.view f _ p) p
  · intro p r h
    exact (tile_ld i _ _ (off_0 i) _ _ p r h).trans (congrFun pay6_zero p)
  · intro p r h
    refine tile_ld_zero i _ _ (off_512 i) _ arg9.view _ p r h ?_
    rw [tile_miss i _ _ _ 0 (off_0 i) _ _ _ p (by omega)]
    exact zero_hit arg9.view _ _ p
  · intro p r h
    refine tile_ld_zero i _ _ (off_1024 i) _ arg9.view _ p r h ?_
    rw [tile_miss i _ _ _ 512 (off_512 i) _ _ _ p (by omega), tile_miss i _ _ _ 0 (off_0 i) _ _ _ p (by omega)]
    exact zero_hit arg9.view _ _ p
  · intro p r h
    refine tile_ld_zero i _ _ (off_1536 i) _ arg9.view _ p r h ?_
    rw [tile_miss i _ _ _ 1024 (off_1024 i) _ _ _ p (by omega), tile_miss i _ _ _ 512 (off_512 i) _ _ _ p (by omega),
      tile_miss i _ _ _ 0 (off_0 i) _ _ _ p (by omega)]
    exact zero_hit arg9.view _ _ p

end Cert.KernelIdeal.Grad

end
-- ==== Proof.Grad.Left.lean ====
/- What every grid point of the attention gradient leaves, in closed form, in the extended reals: the three gradients
   grow by the point's sums; the blocks a point reads are places of the whole arrays. -/
module

public import proofs.«01_k».proof.Proof.Grad.Data
public import proofs.«01_k».proof.Proof.Grad.Step
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe Idealize.SL.Sem

variable (m : (ℓ : Loc nD τ sig) → Buf (Elt Ideal) ℓ) (c : Dev nD) (t : Fin cfg0.N)

/-! ## The blocks a point reads -/

abbrev bq : Vec Ideal S1x2048x256 .bf16 := iblk m c 0 t
abbrev bk : Vec Ideal S1x1024x256 .bf16 := iblk m c 1 t
abbrev bv : Vec Ideal S1x1024x128 .bf16 := iblk m c 2 t
abbrev bd : Vec Ideal S2048x128 .bf16 := iblk m c 3 t
abbrev bl : Vec Ideal S2048x128 .f32 := iblk m c 4 t
abbrev be : Vec Ideal S2048x128 .f32 := iblk m c 5 t

theorem query_at : (grid0.coords t 2).val = t.val % 8 := (query_val t).trans (by omega)

/-! ## What a point leaves -/

set_option maxHeartbeats 1000000 in
theorem left_q (p : Left Ideal) :
    (left m c t p).q = newQ (t.val % 8) (bq m c t) (bk m c t) (bv m c t) (bd m c t) (bl m c t) (be m c t)
      (if t.val % 128 = 0 then fun _ => (0 : EReal) else p.q) := by
  rw [← query_at]
  unfold left
  by_cases h0 : t.val % 128 = 0
  · rw [dif_pos h0, if_pos h0]; dsimp only; exact headQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      ((atHead_iff t).mpr h0) ((atFirst_iff t).mpr (by omega)) (fun h => by have := (atLast_iff t).mp h; omega) _
  rw [dif_neg h0, if_neg h0]
  by_cases h1 : t.val % 8 = 0
  · rw [dif_pos h1]; dsimp only; exact firstQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => h0 ((atHead_iff t).mp h)) ((atFirst_iff t).mpr h1) (fun h => by have := (atLast_iff t).mp h; omega) p.q
  rw [dif_neg h1]
  by_cases h2 : t.val % 8 = 7
  · rw [dif_pos h2]; dsimp only; exact lastQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => by have := (atFirst_iff t).mp h; omega) ((atLast_iff t).mpr h2) p.q p.k p.v
  rw [dif_neg h2]; dsimp only; exact midQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => h1 ((atFirst_iff t).mp h)) (fun h => h2 ((atLast_iff t).mp h)) p.q p.k p.v

set_option maxHeartbeats 1000000 in
theorem left_k (p : Left Ideal) :
    (left m c t p).k = newK (bq m c t) (bk m c t) (bv m c t) (bd m c t) (bl m c t) (be m c t)
      (if t.val % 8 = 0 then fun _ => (0 : EReal) else p.k) := by
  unfold left
  by_cases h0 : t.val % 128 = 0
  · rw [dif_pos h0, if_pos (by omega), ← pay7_zero]; dsimp only; exact headK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      ((atHead_iff t).mpr h0) ((atFirst_iff t).mpr (by omega)) (fun h => by have := (atLast_iff t).mp h; omega) _
  rw [dif_neg h0]
  by_cases h1 : t.val % 8 = 0
  · rw [dif_pos h1, if_pos h1, ← pay7_zero]; dsimp only; exact firstK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => h0 ((atHead_iff t).mp h)) ((atFirst_iff t).mpr h1) (fun h => by have := (atLast_iff t).mp h; omega) p.q _
  rw [dif_neg h1, if_neg h1]
  by_cases h2 : t.val % 8 = 7
  · rw [dif_pos h2]; dsimp only; exact lastK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => by have := (atFirst_iff t).mp h; omega) ((atLast_iff t).mpr h2) p.q p.k p.v _
  rw [dif_neg h2]; dsimp only; exact midK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => h1 ((atFirst_iff t).mp h)) (fun h => h2 ((atLast_iff t).mp h)) p.q p.k p.v _

set_option maxHeartbeats 1000000 in
theorem left_v (p : Left Ideal) :
    (left m c t p).v = newV (bq m c t) (bk m c t) (bd m c t) (bl m c t)
      (if t.val % 8 = 0 then fun _ => (0 : EReal) else p.v) := by
  unfold left
  by_cases h0 : t.val % 128 = 0
  · rw [dif_pos h0, if_pos (by omega), ← pay8_zero]; dsimp only; exact headV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      ((atHead_iff t).mpr h0) ((atFirst_iff t).mpr (by omega)) (fun h => by have := (atLast_iff t).mp h; omega) _
  rw [dif_neg h0]
  by_cases h1 : t.val % 8 = 0
  · rw [dif_pos h1, if_pos h1, ← pay8_zero]; dsimp only; exact firstV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => h0 ((atHead_iff t).mp h)) ((atFirst_iff t).mpr h1) (fun h => by have := (atLast_iff t).mp h; omega) p.q _
  rw [dif_neg h1, if_neg h1]
  by_cases h2 : t.val % 8 = 7
  · rw [dif_pos h2]; dsimp only; exact lastV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => by have := (atFirst_iff t).mp h; omega) ((atLast_iff t).mpr h2) p.q p.k p.v _
  rw [dif_neg h2]; dsimp only; exact midV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => h1 ((atFirst_iff t).mp h)) (fun h => h2 ((atLast_iff t).mp h)) p.q p.k p.v _

set_option maxHeartbeats 1000000 in
/-- The key gradient's block stored at a key block's last point: what the accumulator then holds. -/
theorem keyOut_eq (h2 : t.val % 8 = 7) (p : Left Ideal) :
    keyOut m c t p = fun j => (left m c t p).k (ix2 (j 1) (j 2)) := by
  rw [left_k, if_neg (by omega)]
  unfold keyOut
  rw [dif_pos h2]
  dsimp only; exact lastKO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => by have := (atFirst_iff t).mp h; omega) ((atLast_iff t).mpr h2) p.q p.k p.v _

set_option maxHeartbeats 1000000 in
/-- The value gradient's block stored at a key block's last point. -/
theorem valueOut_eq (h2 : t.val % 8 = 7) (p : Left Ideal) :
    valueOut m c t p = fun j => (left m c t p).v (ix2 (j 1) (j 2)) := by
  rw [left_v, if_neg (by omega)]
  unfold valueOut
  rw [dif_pos h2]
  dsimp only; exact lastVO c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t)
      (fun h => by have := (atHead_iff t).mp h; omega) (fun h => by have := (atFirst_iff t).mp h; omega) ((atLast_iff t).mpr h2) p.q p.k p.v _

end Cert.KernelIdeal.Grad

end
-- ==== Proof.Grad.Blocks.lean ====
/- The blocks a grid point of the attention gradient reads are places of the whole arrays. -/
module

public import proofs.«01_k».proof.Proof.Grad.Left
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe Idealize.SL.Sem

variable (m : (ℓ : Loc nD τ sig) → Buf (Elt Ideal) ℓ) (c : Dev nD) (t : Fin cfg0.N)

/-! ## The blocks' places in the arrays -/

theorem idx0 : ∀ t : Fin cfg0.N, win0_0.index t = ![t.val / 128, t.val % 8, 0] := by decide +kernel
theorem idx1 : ∀ t : Fin cfg0.N, win0_1.index t = ![t.val / 128, t.val / 8 % 16, 0] := by decide +kernel
theorem idx2 : ∀ t : Fin cfg0.N, win0_2.index t = ![t.val / 128, t.val / 8 % 16, 0] := by decide +kernel
theorem idx3 : ∀ t : Fin cfg0.N, win0_3.index t = ![t.val % 8, t.val / 128] := by decide +kernel
theorem idx4 : ∀ t : Fin cfg0.N, win0_4.index t = ![t.val % 8, t.val / 128] := by decide +kernel
theorem idx5 : ∀ t : Fin cfg0.N, win0_5.index t = ![t.val % 8, t.val / 128] := by decide +kernel
theorem idx6 : ∀ t : Fin cfg0.N, win0_6.index t = ![t.val / 128, 0, 0] := by decide +kernel
theorem idx7 : ∀ t : Fin cfg0.N, win0_7.index t = ![t.val / 128, t.val / 8 % 16, 0] := by decide +kernel
theorem idx8 : ∀ t : Fin cfg0.N, win0_8.index t = ![t.val / 128, t.val / 8 % 16, 0] := by decide +kernel

/-- The arrays the call reads, as it finds them. -/
def aq : Vec Ideal S8x16384x256 .bf16 := V m c main_v30
def ak : Vec Ideal S8x16384x256 .bf16 := V m c main_v34
def av : Vec Ideal S8x16384x256 .bf16 := V m c main_v38
def ad : Vec Ideal S16384x1024 .bf16 := V m c main_v40
def al : Vec Ideal S16384x1024 .f32 := V m c main_v22
def ae : Vec Ideal S16384x1024 .f32 := V m c main_v25

theorem lt_N : t.val < 1024 := Nat.lt_of_lt_of_eq t.isLt N_0

abbrev hd : Fin 8 := ⟨t.val / 128, by have := lt_N t; omega⟩
abbrev rowAt (r : Fin 2048) : Fin 16384 := ⟨2048 * (t.val % 8) + r.val, by omega⟩
abbrev keyAt (n : Fin 1024) : Fin 16384 := ⟨1024 * (t.val / 8 % 16) + n.val, by omega⟩
/-- Column `l` of head `h` where the heads lie side by side. -/
abbrev colOf (h : Fin 8) (l : Fin 128) : Fin 1024 := ⟨128 * h.val + l.val, by omega⟩

theorem bq_read (A : Vec Ideal S8x16384x256 .bf16) (r : Fin 2048) (d : Fin 256) : ((cfg0.win 0).blk t).view.read (Elt Ideal) A (ix3 0 r d) = A (ix3 (hd t) (rowAt t r) d) := by
  blk_ext [idx0]
theorem bq_apply (r : Fin 2048) (d : Fin 256) : bq m c t (ix3 0 r d) = aq m c (ix3 (hd t) (rowAt t r) d) := bq_read t (aq m c) r d
theorem bk_read (A : Vec Ideal S8x16384x256 .bf16) (n : Fin 1024) (d : Fin 256) : ((cfg0.win 1).blk t).view.read (Elt Ideal) A (ix3 0 n d) = A (ix3 (hd t) (keyAt t n) d) := by
  blk_ext [idx1]
theorem bk_apply (n : Fin 1024) (d : Fin 256) : bk m c t (ix3 0 n d) = ak m c (ix3 (hd t) (keyAt t n) d) := bk_read t (ak m c) n d
theorem bv_read (A : Vec Ideal S8x16384x256 .bf16) (n : Fin 1024) (d : Fin 128) : ((cfg0.win 2).blk t).view.read (Elt Ideal) A (ix3 0 n d) = A (ix3 (hd t) (keyAt t n) ⟨d.val, by omega⟩) := by
  blk_ext [idx2]
theorem bv_apply (n : Fin 1024) (d : Fin 128) : bv m c t (ix3 0 n d) = av m c (ix3 (hd t) (keyAt t n) ⟨d.val, by omega⟩) := bv_read t (av m c) n d
theorem bd_read (A : Vec Ideal S16384x1024 .bf16) (r : Fin 2048) (d : Fin 128) : ((cfg0.win 3).blk t).view.read (Elt Ideal) A (ix2 r d) = A (ix2 (rowAt t r) (colOf (hd t) d)) := by
  blk_ext [idx3]
theorem bd_apply (r : Fin 2048) (d : Fin 128) : bd m c t (ix2 r d) = ad m c (ix2 (rowAt t r) (colOf (hd t) d)) := bd_read t (ad m c) r d
theorem bl_read (A : Vec Ideal S16384x1024 .f32) (r : Fin 2048) (d : Fin 128) : ((cfg0.win 4).blk t).view.read (Elt Ideal) A (ix2 r d) = A (ix2 (rowAt t r) (colOf (hd t) d)) := by
  blk_ext [idx4]
theorem bl_apply (r : Fin 2048) (d : Fin 128) : bl m c t (ix2 r d) = al m c (ix2 (rowAt t r) (colOf (hd t) d)) := bl_read t (al m c) r d
theorem be_read (A : Vec Ideal S16384x1024 .f32) (r : Fin 2048) (d : Fin 128) : ((cfg0.win 5).blk t).view.read (Elt Ideal) A (ix2 r d) = A (ix2 (rowAt t r) (colOf (hd t) d)) := by
  blk_ext [idx5]
theorem be_apply (r : Fin 2048) (d : Fin 128) : be m c t (ix2 r d) = ae m c (ix2 (rowAt t r) (colOf (hd t) d)) := be_read t (ae m c) r d

end Cert.KernelIdeal.Grad

end
-- ==== Proof.Grad.Host.lean ====
/- What the host prepares for the attention gradient's call, as functions of the six arguments. -/
module

public import proofs.«01_k».proof.Proof.Grad.Blocks

@[expose] public section

set_option maxRecDepth 16384

noncomputable section

namespace Cert.KernelIdeal.Grad

open Cert.KernelIdeal.Gen
open Idealize.ShloMosaic Idealize.ShloMosaic.TcCoe Idealize.SL.Sem

section Prepare

variable (x0 : FVec Ideal S16384x8x128 .f32) (x1 : FVec Ideal S16384x8x64 .f32) (x2 : FVec Ideal S16384x8x128 .f32)
  (x3 : FVec Ideal S16384x64 .f32) (x4 x5 : FVec Ideal S16384x8x128 .f32)

/-- The scores and their row maximum. -/
def hS : FVec Ideal S8x16384x16384 .f32 :=
  addf (Host.dotGeneral dot_S16384x8x128_S16384x8x128_S8x16384x16384_2_2_0_0_1_1 none x0 x2)
    (transpose S8x16384x16384 [2, 1, 0] (Host.dotGeneral dot_S16384x64_S16384x8x64_S16384x16384x8_1_2_0_01_n_n none x3 x1) transposes_S16384x16384x8_S8x16384x16384_2_1_0)
def hM : FVec Ideal S8x16384 .f32 :=
  Host.reduce FloatOps.maximumf (hS x0 x1 x2 x3) (constant (F := Ideal) S_ .f32 0xFF800000#32) reducesTo_S8x16384x16384_S8x16384_d2 h_S_

variable (S : FVec Ideal S8x16384x16384 .f32) (M : FVec Ideal S8x16384 .f32)

/-- The unnormalised weights, their total, the weights. -/
def hE : FVec Ideal S8x16384x16384 .f32 :=
  Host.exp (subf S (broadcastInDim S8x16384x16384 ![0, 1, 2] bcast_S8x16384x1_S8x16384x16384_0_1_2 (broadcastInDim S8x16384x1 ![0, 1] bcast_S8x16384_S8x16384x1_0_1 M)))
def hL (E : FVec Ideal S8x16384x16384 .f32) : FVec Ideal S8x16384x1 .f32 :=
  broadcastInDim S8x16384x1 ![0, 1] bcast_S8x16384_S8x16384x1_0_1 (Host.reduceAdd E (constant (F := Ideal) S_ .f32 0x00000000#32) reducesTo_S8x16384x16384_S8x16384_d2 h_S_)
def hP (E : FVec Ideal S8x16384x16384 .f32) : FVec Ideal S8x16384x16384 .f32 :=
  Host.divf E (broadcastInDim S8x16384x16384 ![0, 1, 2] bcast_S8x16384x1_S8x16384x16384_0_1_2 (hL E))

/-- A value per head and row, repeated over the head's columns. -/
def hFlat (y : FVec Ideal S8x16384x1 .f32) : FVec Ideal S16384x1024 .f32 :=
  shapeCast S16384x1024 (broadcastInDim S16384x8x128 ![0, 1, 2] bcast_S16384x8x1_S16384x8x128_0_1_2 (transpose S16384x8x1 [1, 0, 2] y transposes_S8x16384x1_S16384x8x1_1_0_2)) shapeCasts_S16384x8x128_S16384x1024

/-- The logarithm of the total, and the product of the output with its gradient, before they are repeated. -/
def hLog (E : FVec Ideal S8x16384x16384 .f32) : FVec Ideal S8x16384x1 .f32 :=
  addf (broadcastInDim S8x16384x1 ![0, 1] bcast_S8x16384_S8x16384x1_0_1 M) (Host.log (hL E))
def hO (P : FVec Ideal S8x16384x16384 .f32) : FVec Ideal S8x16384x128 .f32 :=
  Host.dotGeneral dot_S8x16384x16384_S16384x8x128_S8x16384x128_2_0_1_2_0_1 none P x4
def hDot (O : FVec Ideal S8x16384x128 .f32) : FVec Ideal S8x16384x1 .f32 :=
  broadcastInDim S8x16384x1 ![0, 1] bcast_S8x16384_S8x16384x1_0_1
    (Host.reduceAdd (mulf O (transpose S8x16384x128 [1, 0, 2] x5 transposes_S16384x8x128_S8x16384x128_1_0_2)) (constant (F := Ideal) S_ .f32 0x00000000#32) reducesTo_S8x16384x128_S8x16384_d2 h_S_)

/-- The queries, the keys and the values, each in its lanes. -/
def hQ : FVec Ideal S8x16384x256 .bf16 :=
  truncf (F := Ideal) (φ := .f32) .bf16 (transpose S8x16384x256 [1, 0, 2] (concatenate S16384x8x256 2 [⟨S16384x8x128, x0⟩, ⟨S16384x8x64, x1⟩, ⟨S16384x8x64, x1⟩] concatenates_S16384x8x128_S16384x8x64_S16384x8x64_S16384x8x256_d2) transposes_S16384x8x256_S8x16384x256_1_0_2) bitsLt_bf16_f32
def hK : FVec Ideal S8x16384x256 .bf16 :=
  truncf (F := Ideal) (φ := .f32) .bf16 (transpose S8x16384x256 [1, 0, 2] (concatenate S16384x8x256 2 [⟨S16384x8x128, x2⟩, ⟨S16384x8x64, broadcastInDim S16384x8x64 ![0, 1, 2] bcast_S16384x1x64_S16384x8x64_0_1_2 (broadcastInDim S16384x1x64 ![0, 2] bcast_S16384x64_S16384x1x64_0_2 x3)⟩, ⟨S16384x8x64, broadcastInDim S16384x8x64 ![] bcast_S_S16384x8x64 (constant (F := Ideal) S_ .f32 0x00000000#32)⟩] concatenates_S16384x8x128_S16384x8x64_S16384x8x64_S16384x8x256_d2) transposes_S16384x8x256_S8x16384x256_1_0_2) bitsLt_bf16_f32
def hV : FVec Ideal S8x16384x256 .bf16 :=
  truncf (F := Ideal) (φ := .f32) .bf16 (transpose S8x16384x256 [1, 0, 2] (concatenate S16384x8x256 2 [⟨S16384x8x128, x4⟩, ⟨S16384x8x128, broadcastInDim S16384x8x128 ![] bcast_S_S16384x8x128 (constant (F := Ideal) S_ .f32 0x3F800000#32)⟩] concatenates_S16384x8x128_S16384x8x128_S16384x8x256_d2) transposes_S16384x8x256_S8x16384x256_1_0_2) bitsLt_bf16_f32
def hD : FVec Ideal S16384x1024 .bf16 :=
  truncf (F := Ideal) (φ := .f32) .bf16 (shapeCast S16384x1024 x5 shapeCasts_S16384x8x128_S16384x1024) bitsLt_bf16_f32

end Prepare

variable (m : (ℓ : Loc nD τ sig) → Buf (Elt Ideal) ℓ) (c : Dev nD)

/-- The arguments a device holds. -/
abbrev a0 : FVec Ideal S16384x8x128 .f32 := m ((c.tc : Thread nD τ).loc main_arg0)
abbrev a1 : FVec Ideal S16384x8x64 .f32 := m ((c.tc : Thread nD τ).loc main_arg1)
abbrev a2 : FVec Ideal S16384x8x128 .f32 := m ((c.tc : Thread nD τ).loc main_arg2)
abbrev a3 : FVec Ideal S16384x64 .f32 := m ((c.tc : Thread nD τ).loc main_arg3)
abbrev a4 : FVec Ideal S16384x8x128 .f32 := m ((c.tc : Thread nD τ).loc main_arg4)
abbrev a5 : FVec Ideal S16384x8x128 .f32 := m ((c.tc : Thread nD τ).loc main_arg5)

abbrev mS : FVec Ideal S8x16384x16384 .f32 := hS (a0 m c) (a1 m c) (a2 m c) (a3 m c)
abbrev mM : FVec Ideal S8x16384 .f32 := hM (a0 m c) (a1 m c) (a2 m c) (a3 m c)
abbrev mE : FVec Ideal S8x16384x16384 .f32 := hE (mS m c) (mM m c)

theorem aq_eq : aq m c = hQ (a0 m c) (a1 m c) := by
  show StableHlo.after hostOps0 _ _ = _
  after_results_simp <;> rfl
theorem ak_eq : ak m c = hK (a2 m c) (a3 m c) := by
  show StableHlo.after hostOps0 _ _ = _
  after_results_simp <;> rfl
theorem av_eq : av m c = hV (a4 m c) := by
  show StableHlo.after hostOps0 _ _ = _
  after_results_simp <;> rfl
theorem ad_eq : ad m c = hD (a5 m c) := by
  show StableHlo.after hostOps0 _ _ = _
  after_results_simp <;> rfl
theorem al_eq : al m c = hFlat (hLog (mM m c) (mE m c)) := by
  show StableHlo.after hostOps0 _ _ = _
  after_results_simp <;> rfl
theorem ae_eq : ae m c = hFlat (hDot (a5 m c) (hO (a4 m c) (hP (mE m c)))) := by
  show StableHlo.after hostOps0 _ _ = _
  after_results_simp <;> rfl

end Cert.KernelIdeal.Grad
-- ==== Proof.Grad.HostAt.lean ====
/- What the host prepares for the attention gradient's call, read at an index. -/
module

public import proofs.«01_k».proof.Proof.Grad.Host

@[expose] public section

set_option maxRecDepth 16384

noncomputable section

namespace Cert.KernelIdeal.Grad

open Cert.KernelIdeal.Gen
open Idealize.ShloMosaic Idealize.ShloMosaic.TcCoe Idealize.SL.Sem

variable (x0 : FVec Ideal S16384x8x128 .f32) (x1 : FVec Ideal S16384x8x64 .f32) (x2 : FVec Ideal S16384x8x128 .f32)
  (x3 : FVec Ideal S16384x64 .f32) (x4 x5 : FVec Ideal S16384x8x128 .f32)
  (S E P : FVec Ideal S8x16384x16384 .f32) (M : FVec Ideal S8x16384 .f32) (O : FVec Ideal S8x16384x128 .f32) (y : FVec Ideal S8x16384x1 .f32)
  (h : Fin 8) (r n : Fin 16384)

theorem hE_at : hE S M (ix3 h r n) = Ideal.exp (S (ix3 h r n) - M (ix2 h r)) := by
  pointwise [hE]
theorem hL_at : hL E (ix3 h r 0) = ∑ k : Fin 16384, E (ix3 h r k) := by
  pointwise [hL]
theorem hP_at : hP E (ix3 h r n) = Ideal.div (E (ix3 h r n)) (∑ k : Fin 16384, E (ix3 h r k)) := by
  pointwise [hP, hL]
theorem hLog_at : hLog M E (ix3 h r 0) = M (ix2 h r) + Ideal.log (∑ k : Fin 16384, E (ix3 h r k)) := by
  pointwise [hLog, hL]
theorem hO_at (x : Fin 128) : hO x4 P (ix3 h r x) = ∑ k : Fin 16384, P (ix3 h r k) * x4 (ix3 k h x) := by
  pointwise [hO]
theorem hDot_at : hDot x5 O (ix3 h r 0) = ∑ x : Fin 128, O (ix3 h r x) * x5 (ix3 r h x) := by
  pointwise [hDot]
theorem hFlat_at (l : Fin 128) : hFlat y (ix2 r (colOf h l)) = y (ix3 h r 0) := by
  pointwise [hFlat]
  exact congrArg (fun a => y (ix3 a r 0)) (Fin.ext (by show (128 * h.val + l.val) / 128 = h.val; omega))
theorem hD_at (x : Fin 128) : hD x5 (ix2 r (colOf h x)) = x5 (ix3 r h x) := by
  pointwise [hD]
  exact congrArg₂ (fun a b => x5 (ix3 r a b)) (Fin.ext (by show (128 * h.val + x.val) / 128 = h.val; omega)) (Fin.ext (by show (128 * h.val + x.val) % 128 = x.val; omega))
theorem hQ_at (x : Fin 256) : hQ x0 x1 (ix3 h r x) = if a : x.val < 128 then x0 (ix3 r h ⟨x.val, a⟩) else if b : x.val - 128 < 64 then x1 (ix3 r h ⟨x.val - 128, b⟩) else x1 (ix3 r h ⟨x.val - 128 - 64, by omega⟩) := by
  pointwise [hQ]
theorem hK_at (x : Fin 256) : hK x2 x3 (ix3 h n x) = if a : x.val < 128 then x2 (ix3 n h ⟨x.val, a⟩) else if b : x.val - 128 < 64 then x3 (ix2 n ⟨x.val - 128, b⟩) else 0 := by
  pointwise [hK]
theorem hV_at (x : Fin 128) : hV x4 (ix3 h n ⟨x.val, by omega⟩) = x4 (ix3 n h x) := by
  pointwise [hV]

end Cert.KernelIdeal.Grad
-- ==== Proof.Grad.Sums.lean ====
/- The three arrays the attention gradient's call writes, in the extended reals: each element a sum over all keys or over
   all queries of the head. -/
module

public import proofs.«01_k».proof.Proof.Grad.Blocks
public import Idealize.ShloMosaic.Lib.Pipeline.Covers
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe Idealize.SL.Sem

/-! ## The terms, over whole arrays -/

section Whole

variable (q k v : Vec Ideal S8x16384x256 .bf16) (d : Vec Ideal S16384x1024 .bf16) (l e : Vec Ideal S16384x1024 .f32)

/-- The probability of key `n` for query `r` in head `h`. -/
def wholeP (h : Fin 8) (r n : Fin 16384) : EReal :=
  Ideal.exp ((∑ x : Fin 256, q (ix3 h r x) * k (ix3 h n x)) - l (ix2 r (colOf h ⟨n.val % 128, Nat.mod_lt _ (by decide)⟩)))

/-- The gradient of the score of key `n` for query `r` in head `h`. -/
def wholeG (h : Fin 8) (r n : Fin 16384) : EReal :=
  wholeP q k l h r n * ((∑ x : Fin 128, d (ix2 r (colOf h x)) * v (ix3 h n ⟨x.val, by omega⟩))
    - e (ix2 r (colOf h ⟨n.val % 128, Nat.mod_lt _ (by decide)⟩)))

end Whole

/-- A sum over `A` parts of `B` each is one sum. -/
theorem sum_parts (A B N : ℕ) (hN : A * B = N) (bnd : ∀ a, a < A → ∀ b : Fin B, a * B + b.val < N) (f : Fin N → EReal) (T : ℕ → EReal)
    (hT : ∀ a (ha : a < A), T a = ∑ b : Fin B, f ⟨a * B + b.val, bnd a ha b⟩) : ∑ a ∈ Finset.range A, T a = ∑ r, f r := by
  subst hN
  have hf : ∀ n : Fin (A * B), f n = (fun n : ℕ => if h : n < A * B then f ⟨n, h⟩ else 0) n.val := fun n => by
    simp only [n.isLt, dif_pos]
  rw [Finset.sum_congr rfl fun r _ => hf r, Fin.sum_univ_eq_sum_range (fun n : ℕ => if h : n < A * B then f ⟨n, h⟩ else 0) (A * B),
    Finset.sum_range_mul_split]
  refine Finset.sum_congr rfl fun a ha => ?_
  have ha' := Finset.mem_range.mp ha
  rw [hT a ha', ← Fin.sum_univ_eq_sum_range (fun b : ℕ => if h : a * B + b < A * B then f ⟨a * B + b, h⟩ else 0) B]
  refine Finset.sum_congr rfl fun b _ => ?_
  rw [dif_pos (bnd a ha' b)]

variable (m : (ℓ : Loc nD τ sig) → Buf (Elt Ideal) ℓ) (c : Dev nD) (t : Fin cfg0.N)

/-- The call's probability and the call's gradient of a score. -/
def gP (h : Fin 8) (r n : Fin 16384) : EReal := wholeP (aq m c) (ak m c) (al m c) h r n
def gG (h : Fin 8) (r n : Fin 16384) : EReal := wholeG (aq m c) (ak m c) (av m c) (ad m c) (al m c) (ae m c) h r n

theorem lane_key (n : Fin 1024) : lane n = ⟨(keyAt t n).val % 128, Nat.mod_lt _ (by decide)⟩ := Fin.ext (by simp only; omega)

theorem blockP_at (r : Fin 2048) (n : Fin 1024) :
    blockP (bq m c t) (bk m c t) (bl m c t) r n = gP m c (hd t) (rowAt t r) (keyAt t n) := by
  unfold blockP gP wholeP
  simp only [bq_apply, bk_apply, bl_apply, lane_key t]

theorem blockG_at (r : Fin 2048) (n : Fin 1024) :
    blockG (bq m c t) (bk m c t) (bv m c t) (bd m c t) (bl m c t) (be m c t) r n = gG m c (hd t) (rowAt t r) (keyAt t n) := by
  unfold blockG gG wholeG
  rw [blockP_at]
  unfold gP
  simp only [bd_apply, bv_apply, be_apply, lane_key t]

/-! ## The key gradient -/

def termK (u : ℕ) (j : S1024x256.Idx) : EReal :=
  if h : u < cfg0.N then ∑ r : Fin 2048, gG m c (hd ⟨u, h⟩) (rowAt ⟨u, h⟩ r) (keyAt ⟨u, h⟩ (j 0)) * aq m c (ix3 (hd ⟨u, h⟩) (rowAt ⟨u, h⟩ r) (j 1))
  else 0

theorem newK_at (k : Vec Ideal S1024x256 .f32) (j : S1024x256.Idx) :
    newK (bq m c t) (bk m c t) (bv m c t) (bd m c t) (bl m c t) (be m c t) k j = k j + termK m c t.val j := by
  unfold newK termK
  rw [dif_pos t.isLt]
  exact congrArg (k j + ·) (Finset.sum_congr rfl fun r _ => congrArg₂ (· * ·) (blockG_at m c t r (j 0)) (bq_apply m c t r (j 1)))

theorem sumK (h7 : t.val % 8 = 7) (j : S1024x256.Idx) :
    (upTo m c (t.val + 1)).k j = ∑ r : Fin 16384, gG m c (hd t) r (keyAt t (j 0)) * aq m c (ix3 (hd t) r (j 1)) := by
  have ht := lt_N t
  refine (Pipeline.eq_sum_of_reset_step_apply_of_mod (N := cfg0.N) (fun n _ => (upTo m c (n + 1)).k) 8 (fun _ => (0 : EReal)) (termK m c)
    (fun u hu i => ?_) (fun u hu i => ?_) t h7 j).trans ?_
  · rw [upTo_succ, left_k, if_pos hu, newK_at]
  · rw [upTo_succ, left_k, if_neg hu, newK_at]
    congr 4
    omega
  · rw [zero_add]
    refine sum_parts 8 2048 16384 rfl (fun a ha b => by omega) _ _ fun a ha => ?_
    unfold termK
    rw [dif_pos (Nat.lt_of_lt_of_eq (show 8 * (t.val / 8) + a < 1024 by omega) N_0.symm)]
    refine Finset.sum_congr rfl fun b _ => ?_
    congr 2
    all_goals first
      | (refine congrArg₂ (fun x y => ix3 x y _) (Fin.ext ?_) (Fin.ext ?_) <;> simp only <;> omega)
      | (refine Fin.ext ?_; simp only; omega)

/-! ## The value gradient -/

def termV (u : ℕ) (j : S1024x128.Idx) : EReal :=
  if h : u < cfg0.N then ∑ r : Fin 2048, gP m c (hd ⟨u, h⟩) (rowAt ⟨u, h⟩ r) (keyAt ⟨u, h⟩ (j 0)) * ad m c (ix2 (rowAt ⟨u, h⟩ r) (colOf (hd ⟨u, h⟩) (j 1)))
  else 0

theorem newV_at (v : Vec Ideal S1024x128 .f32) (j : S1024x128.Idx) :
    newV (bq m c t) (bk m c t) (bd m c t) (bl m c t) v j = v j + termV m c t.val j := by
  unfold newV termV
  rw [dif_pos t.isLt]
  exact congrArg (v j + ·) (Finset.sum_congr rfl fun r _ => congrArg₂ (· * ·) (blockP_at m c t r (j 0)) (bd_apply m c t r (j 1)))

theorem sumV (h7 : t.val % 8 = 7) (j : S1024x128.Idx) :
    (upTo m c (t.val + 1)).v j = ∑ r : Fin 16384, gP m c (hd t) r (keyAt t (j 0)) * ad m c (ix2 r (colOf (hd t) (j 1))) := by
  have ht := lt_N t
  refine (Pipeline.eq_sum_of_reset_step_apply_of_mod (N := cfg0.N) (fun n _ => (upTo m c (n + 1)).v) 8 (fun _ => (0 : EReal)) (termV m c)
    (fun u hu i => ?_) (fun u hu i => ?_) t h7 j).trans ?_
  · rw [upTo_succ, left_v, if_pos hu, newV_at]
  · rw [upTo_succ, left_v, if_neg hu, newV_at]
    congr 4
    omega
  · rw [zero_add]
    refine sum_parts 8 2048 16384 rfl (fun a ha b => by omega) _ _ fun a ha => ?_
    unfold termV
    rw [dif_pos (Nat.lt_of_lt_of_eq (show 8 * (t.val / 8) + a < 1024 by omega) N_0.symm)]
    have e1 : hd (⟨8 * (t.val / 8) + a, Nat.lt_of_lt_of_eq (show 8 * (t.val / 8) + a < 1024 by omega) N_0.symm⟩ : Fin cfg0.N) = hd t :=
      Fin.ext (by simp only; omega)
    refine Finset.sum_congr rfl fun b _ => ?_
    rw [e1]
    congr 2
    all_goals first
      | (refine congrArg (fun x => ix2 x _) (Fin.ext ?_); simp only; omega)
      | (refine Fin.ext ?_; simp only; omega)

/-! ## The query gradient -/

def termQ (u : ℕ) (p : S1x16384x256.Idx) : EReal :=
  if h : u < cfg0.N then
    if 2048 * (u % 8) ≤ (p 1).val ∧ (p 1).val < 2048 * (u % 8) + 2048 then
      ∑ n : Fin 1024, gG m c (hd ⟨u, h⟩) (p 1) (keyAt ⟨u, h⟩ n) * ak m c (ix3 (hd ⟨u, h⟩) (keyAt ⟨u, h⟩ n) (p 2))
    else 0
  else 0

theorem newQ_at (y : Vec Ideal S1x16384x256 .f32) (p : S1x16384x256.Idx) :
    newQ (t.val % 8) (bq m c t) (bk m c t) (bv m c t) (bd m c t) (bl m c t) (be m c t) y p = y p + termQ m c t.val p := by
  unfold newQ termQ
  rw [dif_pos t.isLt]
  by_cases h : 2048 * (t.val % 8) ≤ (p 1).val ∧ (p 1).val < 2048 * (t.val % 8) + 2048
  · rw [dif_pos h, if_pos h]
    have e : rowAt t ⟨(p 1).val - 2048 * (t.val % 8), by omega⟩ = p 1 := Fin.ext (by simp only; omega)
    refine congrArg (y p + ·) (Finset.sum_congr rfl fun n _ => congrArg₂ (· * ·) ((blockG_at m c t _ n).trans ?_) (bk_apply m c t n (p 2)))
    rw [e]
  · rw [dif_neg h, if_neg h, add_zero]

theorem sumQ (h127 : t.val % 128 = 127) (p : S1x16384x256.Idx) :
    (upTo m c (t.val + 1)).q p = ∑ n : Fin 16384, gG m c (hd t) (p 1) n * ak m c (ix3 (hd t) n (p 2)) := by
  have ht := lt_N t
  have hp : (p 1).val < 16384 := (p 1).isLt
  refine (Pipeline.eq_sum_of_reset_step_apply_of_mod (N := cfg0.N) (fun n _ => (upTo m c (n + 1)).q) 128 (fun _ => (0 : EReal)) (termQ m c)
    (fun u hu i => ?_) (fun u hu i => ?_) t h127 p).trans ?_
  · rw [upTo_succ, left_q, if_pos hu, newQ_at]
  · rw [upTo_succ, left_q, if_neg hu, newQ_at]
    congr 4
    omega
  · rw [zero_add, show 127 + 1 = 16 * 8 from rfl, Finset.sum_range_mul_split]
    refine sum_parts 16 1024 16384 rfl (fun a ha b => by omega) _ _ fun a ha => ?_
    rw [Finset.sum_eq_single ((p 1).val / 2048)]
    · unfold termQ
      rw [dif_pos (Nat.lt_of_lt_of_eq (show 128 * (t.val / 128) + (a * 8 + (p 1).val / 2048) < 1024 by omega) N_0.symm), if_pos (by omega)]
      refine Finset.sum_congr rfl fun b _ => ?_
      have e1 : hd (⟨128 * (t.val / 128) + (a * 8 + (p 1).val / 2048), Nat.lt_of_lt_of_eq (show 128 * (t.val / 128) + (a * 8 + (p 1).val / 2048) < 1024 by omega) N_0.symm⟩ : Fin cfg0.N) = hd t :=
        Fin.ext (by simp only; omega)
      have e2 : keyAt (⟨128 * (t.val / 128) + (a * 8 + (p 1).val / 2048), Nat.lt_of_lt_of_eq (show 128 * (t.val / 128) + (a * 8 + (p 1).val / 2048) < 1024 by omega) N_0.symm⟩ : Fin cfg0.N) b
          = ⟨a * 1024 + b.val, by omega⟩ :=
        Fin.ext (by simp only; omega)
      rw [e1, e2]
    · intro b hb hne
      have hb' := Finset.mem_range.mp hb
      unfold termQ
      rw [dif_pos (Nat.lt_of_lt_of_eq (show 128 * (t.val / 128) + (a * 8 + b) < 1024 by omega) N_0.symm), if_neg (by omega)]
    · intro h
      exact absurd (Finset.mem_range.mpr (by omega)) h

/-! ## The arrays after the call -/

/-- The query gradient. -/
def arrQ : Vec Ideal S8x16384x256 .f32 := fun i => ∑ n : Fin 16384, gG m c (i 0) (i 1) n * ak m c (ix3 (i 0) n (i 2))
/-- The key gradient. -/
def arrK : Vec Ideal S8x16384x256 .f32 := fun i => ∑ r : Fin 16384, gG m c (i 0) r (i 1) * aq m c (ix3 (i 0) r (i 2))
/-- The value gradient. -/
def arrV : Vec Ideal S8x16384x128 .f32 := fun i => ∑ r : Fin 16384, gP m c (i 0) r (i 1) * ad m c (ix2 r (colOf (i 0) (i 2)))

theorem covers6 : (cfg0.win 6).Covers := by decide +kernel
theorem covers7 : (cfg0.win 7).Covers := by decide +kernel
theorem covers8 : (cfg0.win 8).Covers := by decide +kernel

theorem arr6 : (dats m 0 c).arrAt 6 cfg0.N = arrQ m c := by
  refine (dats m 0 c).arrAt_eq_of_covers 6 _ covers6 fun t hf y => ?_
  have h127 := (flush0_6 t).mp hf
  blk_simp
  rw [after0_6]
  refine (sumQ m c t h127 _).trans ?_
  unfold arrQ
  have y0 : (y 0).val = 0 := Nat.lt_one_iff.mp (y 0).isLt
  have e0 : (win0_6.blk t).view.emb y 0 = hd t := Fin.ext (by blk_simp [idx6])
  have e1 : (win0_6.blk t).view.emb y 1 = y 1 := Fin.ext (by blk_simp [idx6]; try omega)
  have e2 : (win0_6.blk t).view.emb y 2 = y 2 := Fin.ext (by blk_simp [idx6]; try omega)
  rw [e0, e1, e2]
  try rfl

theorem arr7 : (dats m 0 c).arrAt 7 cfg0.N = arrK m c := by
  refine (dats m 0 c).arrAt_eq_of_covers 7 _ covers7 fun t hf y => ?_
  have h7 := (flush0_7 t).mp hf
  blk_simp
  rw [after0_7, keyOut_eq m c t h7, ← upTo_succ]
  refine (sumK m c t h7 _).trans ?_
  unfold arrK
  have y0 : (y 0).val = 0 := Nat.lt_one_iff.mp (y 0).isLt
  have e0 : (win0_7.blk t).view.emb y 0 = hd t := Fin.ext (by blk_simp [idx7])
  have e1 : (win0_7.blk t).view.emb y 1 = keyAt t (y 1) := Fin.ext (by blk_simp [idx7]; exact congrArg (· + _) (Nat.mul_comm _ _))
  have e2 : (win0_7.blk t).view.emb y 2 = y 2 := Fin.ext (by blk_simp [idx7]; try omega)
  rw [e0, e1, e2]
  try rfl

theorem arr8 : (dats m 0 c).arrAt 8 cfg0.N = arrV m c := by
  refine (dats m 0 c).arrAt_eq_of_covers 8 _ covers8 fun t hf y => ?_
  have h7 := (flush0_8 t).mp hf
  blk_simp
  rw [after0_8, valueOut_eq m c t h7, ← upTo_succ]
  refine (sumV m c t h7 _).trans ?_
  unfold arrV
  have y0 : (y 0).val = 0 := Nat.lt_one_iff.mp (y 0).isLt
  have e0 : (win0_8.blk t).view.emb y 0 = hd t := Fin.ext (by blk_simp [idx8])
  have e1 : (win0_8.blk t).view.emb y 1 = keyAt t (y 1) := Fin.ext (by blk_simp [idx8]; exact congrArg (· + _) (Nat.mul_comm _ _))
  have e2 : (win0_8.blk t).view.emb y 2 = y 2 := Fin.ext (by blk_simp [idx8]; try omega)
  rw [e0, e1, e2]
  try rfl

end Cert.KernelIdeal.Grad

end
-- ==== Proof.Grad.Tail.lean ====
/- The five results as the host takes them from the three arrays the call writes. -/
module

public import proofs.«01_k».proof.Proof.Grad.Sums
public import Idealize.ShloMosaic.Lib.Claim

@[expose] public section

set_option maxRecDepth 16384

noncomputable section

namespace Cert.KernelIdeal.Grad

open Cert.KernelIdeal.Gen
open Idealize.ShloMosaic Idealize.ShloMosaic.TcCoe Idealize.SL.Sem

/-- A gradient by head and row, turned to row and head. -/
def turnQ (A : FVec Ideal S8x16384x256 .f32) : FVec Ideal S16384x8x256 .f32 := transpose S16384x8x256 [1, 0, 2] A transposes_S8x16384x256_S16384x8x256_1_0_2
/-- Its plain lanes, its rotary lanes, and these summed over the heads. -/
def outN (A : FVec Ideal S8x16384x256 .f32) : FVec Ideal S16384x8x128 .f32 := extractStridedSlice S16384x8x128 ![0, 0, 0] (turnQ A) slices_S16384x8x256_S16384x8x128_0_0_0
def outR (A : FVec Ideal S8x16384x256 .f32) : FVec Ideal S16384x8x64 .f32 := extractStridedSlice S16384x8x64 ![0, 0, 128] (turnQ A) slices_S16384x8x256_S16384x8x64_0_0_128
def outS (A : FVec Ideal S8x16384x256 .f32) : FVec Ideal S16384x64 .f32 := Host.reduceAdd (outR A) (constant (F := Ideal) S_ .f32 0x00000000#32) reducesTo_S16384x8x64_S16384x64_d1 h_S_
def outV (A : FVec Ideal S8x16384x128 .f32) : FVec Ideal S16384x8x128 .f32 := transpose S16384x8x128 [1, 0, 2] A transposes_S8x16384x128_S16384x8x128_1_0_2

section
variable (A : FVec Ideal S8x16384x256 .f32) (B : FVec Ideal S8x16384x128 .f32) (h : Fin 8) (r : Fin 16384)
theorem outN_at (x : Fin 128) : outN A (ix3 r h x) = A (ix3 h r ⟨x.val, by omega⟩) := by
  pointwise [outN, turnQ]
theorem outR_at (x : Fin 64) : outR A (ix3 r h x) = A (ix3 h r ⟨128 + x.val, by omega⟩) := by
  pointwise [outR, turnQ]
theorem outS_at (x : Fin 64) : outS A (ix2 r x) = ∑ h : Fin 8, A (ix3 h r ⟨128 + x.val, by omega⟩) := by
  pointwise [outS, outR, turnQ]
theorem outV_at (x : Fin 128) : outV B (ix3 r h x) = B (ix3 h r x) := by
  pointwise [outV]
end

variable (m : (ℓ : Loc nD τ sig) → Buf (Elt Ideal) ℓ) (c : Dev nD) (ρ : Dev nD → PrngReg)

/-- The call's arrays, as the host finds them after it. -/
theorem arr_inj : Function.Injective (Pipeline.arrRef spec0) := by decide
theorem Q_array : Pipeline.withArrays (cfgs 0).spec c (V0 m c) (fun w => (dats m 0 c).arrAt w (cfgs 0).N) (Proc.tc.devRef main_v41_0) = (dats m 0 c).arrAt 6 cfg0.N :=
  Pipeline.withArrays_arr (cfgs 0).spec arr_inj c (V0 m c) (fun w => (dats m 0 c).arrAt w (cfgs 0).N) 6
theorem K_array : Pipeline.withArrays (cfgs 0).spec c (V0 m c) (fun w => (dats m 0 c).arrAt w (cfgs 0).N) (Proc.tc.devRef main_v41_1) = (dats m 0 c).arrAt 7 cfg0.N :=
  Pipeline.withArrays_arr (cfgs 0).spec arr_inj c (V0 m c) (fun w => (dats m 0 c).arrAt w (cfgs 0).N) 7
theorem V_array : Pipeline.withArrays (cfgs 0).spec c (V0 m c) (fun w => (dats m 0 c).arrAt w (cfgs 0).N) (Proc.tc.devRef main_v41_2) = (dats m 0 c).arrAt 8 cfg0.N :=
  Pipeline.withArrays_arr (cfgs 0).spec arr_inj c (V0 m c) (fun w => (dats m 0 c).arrAt w (cfgs 0).N) 8

/-- The run's results: the host's turns and slices of the three gradients, the arguments as they were. -/
theorem run_results : θ_run defs (onTc (τ := τ) (main (F := Ideal))) ⟨m, fun _ => 0, ρ⟩ fun r => ∀ c : Dev nD,
    r.2.mem ((c.tc : Thread nD τ).loc main_v45) = outN (arrQ m c)
    ∧ r.2.mem ((c.tc : Thread nD τ).loc main_v46) = outR (arrQ m c)
    ∧ r.2.mem ((c.tc : Thread nD τ).loc main_v47) = outN (arrK m c)
    ∧ r.2.mem ((c.tc : Thread nD τ).loc main_v49) = outS (arrK m c)
    ∧ r.2.mem ((c.tc : Thread nD τ).loc main_v44) = outV (arrV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono ?_ (run_main m ρ)
  rintro r ⟨h, -⟩ c
  have h2 := (h c).2
  have q := arr6 m c
  have k := arr7 m c
  have v := arr8 m c
  refine ⟨(h2 main_v45 (Pipeline.mem_restRefs_of main_v45 (by decide) (by decide))).trans ?_,
    (h2 main_v46 (Pipeline.mem_restRefs_of main_v46 (by decide) (by decide))).trans ?_,
    (h2 main_v47 (Pipeline.mem_restRefs_of main_v47 (by decide) (by decide))).trans ?_,
    (h2 main_v49 (Pipeline.mem_restRefs_of main_v49 (by decide) (by decide))).trans ?_,
    (h2 main_v44 (Pipeline.mem_restRefs_of main_v44 (by decide) (by decide))).trans ?_,
    (h2 main_arg0 (Pipeline.mem_restRefs_of main_arg0 (by decide) (by decide))).trans (W_main_arg0 m (dats m) c),
    (h2 main_arg1 (Pipeline.mem_restRefs_of main_arg1 (by decide) (by decide))).trans (W_main_arg1 m (dats m) c),
    (h2 main_arg2 (Pipeline.mem_restRefs_of main_arg2 (by decide) (by decide))).trans (W_main_arg2 m (dats m) c),
    (h2 main_arg3 (Pipeline.mem_restRefs_of main_arg3 (by decide) (by decide))).trans (W_main_arg3 m (dats m) c),
    (h2 main_arg4 (Pipeline.mem_restRefs_of main_arg4 (by decide) (by decide))).trans (W_main_arg4 m (dats m) c),
    (h2 main_arg5 (Pipeline.mem_restRefs_of main_arg5 (by decide) (by decide))).trans (W_main_arg5 m (dats m) c)⟩
  · show StableHlo.after hostOps1 _ _ = _
    after_results_simp
    exact congrArg outN ((Q_array m c).trans q)
  · show StableHlo.after hostOps1 _ _ = _
    after_results_simp
    exact congrArg outR ((Q_array m c).trans q)
  · show StableHlo.after hostOps1 _ _ = _
    after_results_simp
    exact congrArg outN ((K_array m c).trans k)
  · show StableHlo.after hostOps1 _ _ = _
    after_results_simp
    exact congrArg outS ((K_array m c).trans k)
  · show StableHlo.after hostOps1 _ _ = _
    after_results_simp
    exact congrArg outV ((V_array m c).trans v)

end Cert.KernelIdeal.Grad
-- ==== Proof.Grad.Row.lean ====
/- One row of the attention's softmax and its gradient over the reals: the two ways of writing it agree. -/
module

public import Idealize.ShloMosaic.Lib.IdealHost

@[expose] public section

noncomputable section

namespace Cert.KernelIdeal.Grad

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N D : Nat} (s : Fin N → ℝ) (μ : ℝ) (v : Fin N → Fin D → ℝ) (ct : Fin D → ℝ) (n : Fin N)

/-- The unnormalised weight of a key, the row's total of them, a key's weight. -/
def rowE : ℝ := Real.exp (s n - μ)
def rowL : ℝ := ∑ k, rowE s μ k
def rowP : ℝ := rowE s μ n / rowL s μ
/-- The product of the incoming gradient with a key's value, and the gradient of a key's score. -/
def rowD : ℝ := ∑ x, ct x * v n x
def rowG : ℝ := rowP s μ n * (rowD v ct n - ∑ x, (∑ k, rowP s μ k * v k x) * ct x)

include n in
theorem rowL_pos : 0 < rowL s μ := Finset.sum_pos (fun k _ => Real.exp_pos _) ⟨n, Finset.mem_univ n⟩

theorem exp_row : Ideal.exp ((s n : EReal) - (μ : EReal)) = ((rowE s μ n : ℝ) : EReal) := by
  rw [← EReal.coe_sub, Ideal.exp_coe]; rfl

theorem total_row : (∑ k, Ideal.exp ((s k : EReal) - (μ : EReal))) = ((rowL s μ : ℝ) : EReal) := by
  rw [rowL, coe_sum]; exact Finset.sum_congr rfl fun k _ => exp_row s μ k

theorem div_real (x y : ℝ) (h : y ≠ 0) : Ideal.div (x : EReal) (y : EReal) = ((x / y : ℝ) : EReal) := by
  rw [Ideal.div_coe h, ← EReal.coe_mul]; congr 1; ring

/-- The weight as the quotient. -/
theorem quotient_row : Ideal.div (Ideal.exp ((s n : EReal) - (μ : EReal))) (∑ k, Ideal.exp ((s k : EReal) - (μ : EReal))) = ((rowP s μ n : ℝ) : EReal) := by
  rw [exp_row, total_row, div_real _ _ (rowL_pos s μ n).ne']; rfl

/-- The weight by the logarithm of the total. -/
theorem log_row : Ideal.exp ((s n : EReal) - ((μ : EReal) + Ideal.log (∑ k, Ideal.exp ((s k : EReal) - (μ : EReal))))) = ((rowP s μ n : ℝ) : EReal) := by
  have hL := rowL_pos s μ n
  rw [total_row, Ideal.log_coe, if_neg (not_le.mpr hL), ← EReal.coe_add, ← EReal.coe_sub, Ideal.exp_coe]
  congr 1
  rw [show s n - (μ + Real.log (rowL s μ)) = (s n - μ) - Real.log (rowL s μ) by ring, Real.exp_sub, Real.exp_log hL]
  rfl

theorem pair_row : (∑ x, (ct x : EReal) * (v n x : EReal)) = ((rowD v ct n : ℝ) : EReal) := by
  rw [rowD, coe_sum]; exact Finset.sum_congr rfl fun x _ => (EReal.coe_mul _ _).symm

/-- The two ways to write the gradient of a score, in the reals. -/
theorem grad_real : (rowD v ct n / rowL s μ + -(∑ k, rowD v ct k * (1 / (rowL s μ * rowL s μ)) * rowE s μ k)) * rowE s μ n = rowG s μ v ct n := by
  have hL := (rowL_pos s μ n).ne'
  have hx : (∑ x, (∑ k, rowP s μ k * v k x) * ct x) = ∑ k, rowP s μ k * rowD v ct k := by
    simp only [Finset.sum_mul]
    rw [Finset.sum_comm]
    refine Finset.sum_congr rfl fun k _ => ?_
    rw [rowD, Finset.mul_sum]
    exact Finset.sum_congr rfl fun x _ => by ring
  have hk : (∑ k, rowD v ct k * (1 / (rowL s μ * rowL s μ)) * rowE s μ k) = (∑ k, rowP s μ k * rowD v ct k) / rowL s μ := by
    rw [Finset.sum_div]
    refine Finset.sum_congr rfl fun k _ => ?_
    rw [rowP]; field_simp
  rw [rowG, hx, hk, rowP]
  field_simp
  ring

/-- The gradient of a score as the kernel computes it. -/
theorem kernel_row : ((rowP s μ n : ℝ) : EReal) * ((∑ x, (ct x : EReal) * (v n x : EReal)) - ∑ x, (∑ k, ((rowP s μ k : ℝ) : EReal) * (v k x : EReal)) * (ct x : EReal)) = ((rowG s μ v ct n : ℝ) : EReal) := by
  rw [pair_row, rowG, EReal.coe_mul, EReal.coe_sub, coe_sum]
  congr 2
  refine Finset.sum_congr rfl fun x _ => ?_
  rw [EReal.coe_mul, coe_sum]
  congr 1

/-- The gradient of a score as the reference computes it. -/
theorem reference_row : (Ideal.div ((rowD v ct n : ℝ) : EReal) ((rowL s μ : ℝ) : EReal) + -(∑ k, ((rowD v ct k : ℝ) : EReal) * Ideal.div 1 (((rowL s μ : ℝ) : EReal) * ((rowL s μ : ℝ) : EReal)) * ((rowE s μ k : ℝ) : EReal))) * ((rowE s μ n : ℝ) : EReal) = ((rowG s μ v ct n : ℝ) : EReal) := by
  have hL := (rowL_pos s μ n).ne'
  rw [div_real _ _ hL, ← EReal.coe_mul, ← EReal.coe_one, div_real _ _ (mul_ne_zero hL hL), ← grad_real, EReal.coe_mul, EReal.coe_add, EReal.coe_neg, coe_sum]
  congr 3

end Cert.KernelIdeal.Grad
-- ==== Proof.Grad.Ref.lean ====
/- The reference's attention gradient, read at an index: its scores, their maximum, the weights and the gradient of
   a score. -/
module

public import proofs.«01_k».proof.Proof.Gen.ReferenceIdeal.Read
public import proofs.«01_k».proof.Proof.Grad.Row
public import Idealize.ShloMosaic.Lib.Pipeline.ValueKit

@[expose] public section

set_option maxRecDepth 16384

noncomputable section

namespace Cert.ReferenceIdeal.Grad

open Cert.ReferenceIdeal.Gen Cert.ReferenceIdeal.Read
open Idealize.ShloMosaic Idealize.ShloMosaic.TcCoe Idealize.SL.Sem

/-- An index is the one of its coordinates. -/
theorem at2 {a b : Nat} (i : (⟨2, ![a, b]⟩ : Shape).Idx) (x : Fin a) (y : Fin b) (h0 : i 0 = x) (h1 : i 1 = y) : i = ix2 x y := by
  funext d; match d with | ⟨0, _⟩ => exact h0 | ⟨1, _⟩ => exact h1
theorem at3 {a b c : Nat} (i : (⟨3, ![a, b, c]⟩ : Shape).Idx) (x : Fin a) (y : Fin b) (z : Fin c) (h0 : i 0 = x) (h1 : i 1 = y) (h2 : i 2 = z) : i = ix3 x y z := by
  funext d; match d with | ⟨0, _⟩ => exact h0 | ⟨1, _⟩ => exact h1 | ⟨2, _⟩ => exact h2

/-- The maximum of a nonempty set of reals, from minus infinity, is a real. -/
theorem fold_real {ι : Type} (s : Finset ι) (f : ι → EReal) (hs : s.Nonempty) (hf : ∀ i, ∃ x : ℝ, f i = (x : EReal)) :
    ∃ x : ℝ, s.fold max ⊥ f = (x : EReal) := by
  classical
  induction hs using Finset.Nonempty.cons_induction with
  | singleton a => obtain ⟨x, hx⟩ := hf a; exact ⟨x, by rw [Finset.fold_singleton, hx, max_eq_left bot_le]⟩
  | cons a s ha hs ih =>
    obtain ⟨x, hx⟩ := hf a
    obtain ⟨y, hy⟩ := ih
    exact ⟨max x y, by rw [Finset.fold_cons, hx, hy]; exact (EReal.coe_strictMono.monotone.map_max).symm⟩

theorem lowest : Ideal.ofBits .f32 0xFF800000#32 = ⊥ := by simp [Ideal.ofBits, Ideal.ieee]

variable (x0 : Vec Ideal S16384x8x128 .f32) (x1 : Vec Ideal S16384x8x64 .f32) (x2 : Vec Ideal S16384x8x128 .f32)
  (x3 : Vec Ideal S16384x64 .f32) (x4 x5 : Vec Ideal S16384x8x128 .f32) (h : Fin 8) (r n : Fin 16384)

/-- The scores, their row maximum, the unnormalised weights, their total and the weights. -/
abbrev vS := val_main_v3 (F := Ideal) x0 x1 x2 x3
abbrev vM := val_main_v4 (F := Ideal) x0 x1 x2 x3
abbrev vE := val_main_v24 (F := Ideal) x0 x1 x2 x3
abbrev vL := val_main_v25 (F := Ideal) x0 x1 x2 x3
abbrev vP := val_main_v28 (F := Ideal) x0 x1 x2 x3
abbrev vD := val_main_v35 (F := Ideal) x4 x5
abbrev vG := val_main_v49 (F := Ideal) x0 x1 x2 x3 x4 x5

theorem score_at : vS x0 x1 x2 x3 (ix3 h r n)
    = (∑ x : Fin 128, x0 (ix3 r h x) * x2 (ix3 n h x)) + ∑ x : Fin 64, x3 (ix2 n x) * x1 (ix3 r h x) := by
  unfold vS
  rw [val_main_v3_apply, val_main_v0_apply, val_main_v2_apply, val_main_v1_apply]
  exact congrArg₂ (· + ·)
    (Finset.sum_congr rfl fun x _ => congrArg₂ (· * ·) (congrArg x0 (at3 _ _ _ _ rfl rfl rfl)) (congrArg x2 (at3 _ _ _ _ rfl rfl rfl)))
    (Finset.sum_congr rfl fun x _ => congrArg₂ (· * ·) (congrArg x3 (at2 _ _ _ rfl rfl)) (congrArg x1 (at3 _ _ _ _ rfl rfl rfl)))

theorem weight_at : vE x0 x1 x2 x3 (ix3 h r n) = Ideal.exp (vS x0 x1 x2 x3 (ix3 h r n) - vM x0 x1 x2 x3 (ix2 h r)) := by
  unfold vE
  rw [val_main_v24_apply, val_main_v23_apply, val_main_v22_apply, val_main_v21_apply, val_main_v11_apply, val_main_v10_apply, val_main_cst_1_apply]
  refine congrArg Ideal.exp (congrArg₂ (· - ·) rfl ?_)
  rw [show FloatOps.ofBits (F := Ideal) .f32 0xFF800000#32 = ⊥ from lowest]
  exact (max_eq_right bot_le).trans (congrArg (vM x0 x1 x2 x3) (at2 _ _ _ rfl rfl))

theorem total_at : vL x0 x1 x2 x3 (ix2 h r) = ∑ k : Fin 16384, vE x0 x1 x2 x3 (ix3 h r k) := by
  unfold vL
  rw [val_main_v25_apply, val_main_cst_7_apply, show FloatOps.ofBits (F := Ideal) .f32 0x00000000#32 = 0 from Ideal.ofBits_zero_f32, zero_add]
  exact Finset.sum_congr rfl fun k _ => congrArg (vE x0 x1 x2 x3) (at3 _ _ _ _ rfl rfl rfl)

theorem quot_at : vP x0 x1 x2 x3 (ix3 h r n) = Ideal.div (vE x0 x1 x2 x3 (ix3 h r n)) (vL x0 x1 x2 x3 (ix2 h r)) := by
  unfold vP
  rw [val_main_v28_apply, val_main_v27_apply, val_main_v26_apply]
  exact congrArg₂ Ideal.div rfl (congrArg (vL x0 x1 x2 x3) (at2 _ _ _ rfl rfl))

theorem pair_at : vD x4 x5 (ix3 h r n) = ∑ x : Fin 128, x5 (ix3 r h x) * x4 (ix3 n h x) := by
  unfold vD
  rw [val_main_v35_apply]
  refine Finset.sum_congr rfl fun x _ => congrArg₂ (· * ·) ?_ (congrArg x4 (at3 _ _ _ _ rfl rfl rfl))
  rw [val_main_v34_apply]
  exact congrArg x5 (at3 _ _ _ _ rfl rfl rfl)

/-- The sum the gradient of the total takes. -/
theorem inner_at : val_main_v41 (F := Ideal) x0 x1 x2 x3 x4 x5 (ix2 h r)
    = ∑ k : Fin 16384, vD x4 x5 (ix3 h r k) * Ideal.div 1 (vL x0 x1 x2 x3 (ix2 h r) * vL x0 x1 x2 x3 (ix2 h r)) * vE x0 x1 x2 x3 (ix3 h r k) := by
  rw [val_main_v41_apply, val_main_cst_9_apply, show FloatOps.ofBits (F := Ideal) .f32 0x00000000#32 = 0 from Ideal.ofBits_zero_f32, zero_add]
  refine Finset.sum_congr rfl fun k _ => ?_
  rw [show idx_main_v41 (ix2 h r) k = ix3 h r k from at3 _ _ _ _ rfl rfl rfl, val_main_v40_apply, val_main_v39_apply, val_main_v38_apply, val_main_v31_apply, val_main_v30_apply,
    val_main_cst_8_apply, val_main_v29_apply, val_main_v26_apply, show FloatOps.ofBits (F := Ideal) .f32 0x3F800000#32 = 1 from Ideal.ofBits_one_f32,
    show idx_main_v26 (idx_main_v38 (ix3 h r k)) = ix2 h r from at2 _ _ _ rfl rfl]
  rfl

theorem negated_at : val_main_v46 (F := Ideal) x0 x1 x2 x3 x4 x5 (ix2 h r) = -val_main_v41 (F := Ideal) x0 x1 x2 x3 x4 x5 (ix2 h r) := by
  rw [val_main_v46_apply, val_main_cst_10_apply, show FloatOps.ofBits (F := Ideal) .f32 0x00000000#32 = 0 from Ideal.ofBits_zero_f32, zero_add, Fin.sum_univ_one, val_main_v43_apply, val_main_v42_apply]
  refine congrArg (fun y : EReal => -y) (congrArg (val_main_v41 (F := Ideal) x0 x1 x2 x3 x4 x5) (at2 _ _ _ (Fin.ext ?_) (Fin.ext ?_)))
  · show ((h.val * 16384 + r.val) * 1 + 0) / 16384 = h.val
    omega
  · show ((h.val * 16384 + r.val) * 1 + 0) % 16384 = r.val
    omega

theorem grad_at : vG x0 x1 x2 x3 x4 x5 (ix3 h r n)
    = (Ideal.div (vD x4 x5 (ix3 h r n)) (vL x0 x1 x2 x3 (ix2 h r)) + -val_main_v41 (F := Ideal) x0 x1 x2 x3 x4 x5 (ix2 h r)) * vE x0 x1 x2 x3 (ix3 h r n) := by
  unfold vG
  rw [val_main_v49_apply, val_main_v48_apply, val_main_v45_apply, val_main_v44_apply, val_main_v26_apply, val_main_v47_apply,
    show idx_main_v26 (idx_main_v44 (ix3 h r n)) = ix2 h r from at2 _ _ _ rfl rfl, show idx_main_v47 (ix3 h r n) = ix2 h r from at2 _ _ _ rfl rfl, negated_at]
  rfl

/-- The maximum of a row of real scores is a real. -/
theorem max_real (hS : ∀ i, ∃ y : ℝ, vS x0 x1 x2 x3 i = (y : EReal)) : ∃ y : ℝ, vM x0 x1 x2 x3 (ix2 h r) = (y : EReal) := by
  unfold vM val_main_v4
  rw [show (FloatOps.maximumf : Ideal .f32 → Ideal .f32 → Ideal .f32) = (max : EReal → EReal → EReal) from rfl, Host.reduce_eq_fold, val_main_cst_apply, show FloatOps.ofBits (F := Ideal) .f32 0xFF800000#32 = ⊥ from lowest]
  refine fold_real _ _ ⟨ix3 h r 0, Finset.mem_filter.mpr ⟨Finset.mem_univ _, at2 _ _ _ rfl rfl⟩⟩ hS

end Cert.ReferenceIdeal.Grad
-- ==== Proof.Grad.RefOut.lean ====
/- The reference's five results, read at an index: sums of the scores' gradients and of the weights. -/
module

public import proofs.«01_k».proof.Proof.Grad.Ref
public import Idealize.ShloMosaic.Lib.TwoAxisContraction

@[expose] public section

set_option maxRecDepth 16384

noncomputable section

namespace Cert.ReferenceIdeal.Grad

open Cert.ReferenceIdeal.Gen Cert.ReferenceIdeal.Read
open Idealize.ShloMosaic Idealize.ShloMosaic.TcCoe Idealize.SL.Sem

variable (x0 : Vec Ideal S16384x8x128 .f32) (x1 : Vec Ideal S16384x8x64 .f32) (x2 : Vec Ideal S16384x8x128 .f32)
  (x3 : Vec Ideal S16384x64 .f32) (x4 x5 : Vec Ideal S16384x8x128 .f32) (h : Fin 8) (r n : Fin 16384)

theorem nope_query_at (x : Fin 128) : val_main_v56 (F := Ideal) x0 x1 x2 x3 x4 x5 (ix3 r h x) = ∑ n : Fin 16384, vG x0 x1 x2 x3 x4 x5 (ix3 h r n) * x2 (ix3 n h x) := by
  rw [val_main_v56_apply, val_main_v55_apply]
  exact Finset.sum_congr rfl fun n _ => congrArg₂ (· * ·) (congrArg (vG x0 x1 x2 x3 x4 x5) (at3 _ _ _ _ rfl rfl rfl)) (congrArg x2 (at3 _ _ _ _ rfl rfl rfl))

theorem grad_turned (i : S16384x16384x8.Idx) : val_main_v50 (F := Ideal) x0 x1 x2 x3 x4 x5 i = vG x0 x1 x2 x3 x4 x5 (ix3 (i 2) (i 1) (i 0)) := by
  rw [val_main_v50_apply]
  exact congrArg (vG x0 x1 x2 x3 x4 x5) (at3 _ _ _ _ rfl rfl rfl)

theorem rope_query_at (x : Fin 64) : val_main_v51 (F := Ideal) x0 x1 x2 x3 x4 x5 (ix3 r h x) = ∑ n : Fin 16384, vG x0 x1 x2 x3 x4 x5 (ix3 h r n) * x3 (ix2 n x) := by
  rw [val_main_v51_apply]
  exact Finset.sum_congr rfl fun n _ => congrArg₂ (· * ·) ((grad_turned x0 x1 x2 x3 x4 x5 _).trans (congrArg (vG x0 x1 x2 x3 x4 x5) (at3 _ _ _ _ rfl rfl rfl))) (congrArg x3 (at2 _ _ _ rfl rfl))

theorem nope_key_at (x : Fin 128) : val_main_v54 (F := Ideal) x0 x1 x2 x3 x4 x5 (ix3 n h x) = ∑ r : Fin 16384, vG x0 x1 x2 x3 x4 x5 (ix3 h r n) * x0 (ix3 r h x) := by
  rw [val_main_v54_apply, val_main_v53_apply]
  exact Finset.sum_congr rfl fun r _ => congrArg₂ (· * ·) (congrArg (vG x0 x1 x2 x3 x4 x5) (at3 _ _ _ _ rfl rfl rfl)) (congrArg x0 (at3 _ _ _ _ rfl rfl rfl))

theorem value_at (x : Fin 128) : val_main_v37 (F := Ideal) x0 x1 x2 x3 x5 (ix3 n h x) = ∑ r : Fin 16384, vP x0 x1 x2 x3 (ix3 h r n) * x5 (ix3 r h x) := by
  rw [val_main_v37_apply, val_main_v36_apply]
  refine Finset.sum_congr rfl fun r _ => (mul_comm _ _).trans (congrArg₂ (· * ·) (congrArg (vP x0 x1 x2 x3) (at3 _ _ _ _ rfl rfl rfl)) ?_)
  rw [val_main_v34_apply]
  exact congrArg x5 (at3 _ _ _ _ rfl rfl rfl)

/-- The gradient of the one rotary key all heads share: a sum over queries and heads. -/
theorem rope_key_at (x : Fin 64) : val_main_v52 (F := Ideal) x0 x1 x2 x3 x4 x5 (ix2 n x) = ∑ r : Fin 16384, ∑ h : Fin 8, vG x0 x1 x2 x3 x4 x5 (ix3 h r n) * x1 (ix3 r h x) := by
  unfold val_main_v52
  simp only [Host.dotGeneral]
  rw [Ideal.dotGeneral_apply, ValueIdx.sum_contr2 _ 16384 8 rfl rfl rfl]
  refine Finset.sum_congr rfl fun r _ => Finset.sum_congr rfl fun h _ => congrArg₂ (· * ·) ((grad_turned x0 x1 x2 x3 x4 x5 _).trans (congrArg (vG x0 x1 x2 x3 x4 x5) (at3 _ _ _ _ ?_ ?_ ?_))) (congrArg x1 (at3 _ _ _ _ ?_ ?_ ?_)) <;> rfl

end Cert.ReferenceIdeal.Grad
-- ==== Proof.Grad.Agree.lean ====
/- The kernel's weights and gradients of the scores are the reference's, for finite arguments; so its five results are. -/
module

public import proofs.«01_k».proof.Proof.Grad.HostAt
public import proofs.«01_k».proof.Proof.Grad.Tail
public import proofs.«01_k».proof.Proof.Grad.RefOut

@[expose] public section

set_option maxRecDepth 16384

noncomputable section

namespace Cert.KernelIdeal.Grad

open Cert.KernelIdeal.Gen
open Cert.ReferenceIdeal.Grad (vS vM vE vL vP vD vG score_at weight_at total_at quot_at pair_at inner_at grad_at max_real at2 at3)
open Idealize.ShloMosaic Idealize.ShloMosaic.TcCoe Idealize.SL.Sem

/-- Every element of an array is a real. -/
def AllReal {s : Shape} (x : FVec Ideal s .f32) : Prop := ∀ i, ∃ y : ℝ, x i = (y : EReal)

/-- A sum over the 256 lanes: 128 plain ones, 64 rotary ones and 64 of padding. -/
theorem sum_lanes (g : Fin 256 → EReal) : (∑ x, g x) = (∑ x : Fin 128, g ⟨x.val, by omega⟩) + ((∑ x : Fin 64, g ⟨128 + x.val, by omega⟩) + ∑ x : Fin 64, g ⟨192 + x.val, by omega⟩) := by
  refine (Fin.sum_univ_add (M := EReal) (a := 128) (b := 128) g).trans (congrArg₂ (· + ·) rfl ?_)
  refine (Fin.sum_univ_add (M := EReal) (a := 64) (b := 64) fun x => g (Fin.natAdd 128 x)).trans (congrArg₂ (· + ·) rfl ?_)
  exact Finset.sum_congr rfl fun x _ => congrArg g (Fin.ext (by show 128 + (64 + x.val) = 192 + x.val; omega))

section Lanes

variable (x0 : FVec Ideal S16384x8x128 .f32) (x1 : FVec Ideal S16384x8x64 .f32) (x2 : FVec Ideal S16384x8x128 .f32)
  (x3 : FVec Ideal S16384x64 .f32) (h : Fin 8) (r n : Fin 16384)

theorem hQ_plain (x : Fin 128) : hQ x0 x1 (ix3 h r ⟨x.val, by omega⟩) = x0 (ix3 r h x) := by
  rw [hQ_at, dif_pos x.isLt]
theorem hQ_rotary (x : Fin 64) : hQ x0 x1 (ix3 h r ⟨128 + x.val, by omega⟩) = x1 (ix3 r h x) := by
  rw [hQ_at, dif_neg (show ¬128 + x.val < 128 by omega), dif_pos (show 128 + x.val - 128 < 64 by omega)]
  exact congrArg (fun a => x1 (ix3 r h a)) (Fin.ext (by show 128 + x.val - 128 = x.val; omega))
theorem hK_plain (x : Fin 128) : hK x2 x3 (ix3 h n ⟨x.val, by omega⟩) = x2 (ix3 n h x) := by
  rw [hK_at, dif_pos x.isLt]
theorem hK_rotary (x : Fin 64) : hK x2 x3 (ix3 h n ⟨128 + x.val, by omega⟩) = x3 (ix2 n x) := by
  rw [hK_at, dif_neg (show ¬128 + x.val < 128 by omega), dif_pos (show 128 + x.val - 128 < 64 by omega)]
  exact congrArg (fun a => x3 (ix2 n a)) (Fin.ext (by show 128 + x.val - 128 = x.val; omega))
theorem hK_padding (x : Fin 64) : hK x2 x3 (ix3 h n ⟨192 + x.val, by omega⟩) = 0 := by
  rw [hK_at, dif_neg (show ¬192 + x.val < 128 by omega), dif_neg (show ¬192 + x.val - 128 < 64 by omega)]

/-- The product over the lanes is the score. -/
theorem score_lanes : (∑ x : Fin 256, hQ x0 x1 (ix3 h r x) * hK x2 x3 (ix3 h n x)) = vS x0 x1 x2 x3 (ix3 h r n) := by
  rw [sum_lanes, score_at]
  refine congrArg₂ (· + ·) (Finset.sum_congr rfl fun x _ => congrArg₂ (· * ·) (hQ_plain ..) (hK_plain ..)) ?_
  refine (congrArg₂ (· + ·) (Finset.sum_congr rfl fun x _ => (congrArg₂ (· * ·) (hQ_rotary ..) (hK_rotary ..)).trans (mul_comm _ _)) (Finset.sum_eq_zero fun x _ => ?_)).trans (add_zero _)
  exact (congrArg₂ (· * ·) rfl (hK_padding ..)).trans (mul_zero _)

end Lanes

section Rows

variable (x0 : FVec Ideal S16384x8x128 .f32) (x1 : FVec Ideal S16384x8x64 .f32) (x2 : FVec Ideal S16384x8x128 .f32)
  (x3 : FVec Ideal S16384x64 .f32) (x4 x5 : FVec Ideal S16384x8x128 .f32)

theorem hS_eq : hS x0 x1 x2 x3 = vS x0 x1 x2 x3 := rfl
theorem hM_eq : hM x0 x1 x2 x3 = vM x0 x1 x2 x3 := rfl

variable {x0 x1 x2 x3 x4 x5}

theorem real_scores (f0 : AllReal x0) (f1 : AllReal x1) (f2 : AllReal x2) (f3 : AllReal x3) (i : S8x16384x16384.Idx) : ∃ y : ℝ, vS x0 x1 x2 x3 i = (y : EReal) := by
  choose y0 h0 using f0
  choose y1 h1 using f1
  choose y2 h2 using f2
  choose y3 h3 using f3
  refine ⟨(∑ x : Fin 128, y0 (ix3 (i 1) (i 0) x) * y2 (ix3 (i 2) (i 0) x)) + ∑ x : Fin 64, y3 (ix2 (i 2) x) * y1 (ix3 (i 1) (i 0) x), ?_⟩
  rw [EReal.coe_add, coe_sum, coe_sum]
  refine (congrArg (vS x0 x1 x2 x3) (at3 i (i 0) (i 1) (i 2) rfl rfl rfl)).trans ((score_at x0 x1 x2 x3 (i 0) (i 1) (i 2)).trans ?_)
  refine congrArg₂ (· + ·) (Finset.sum_congr rfl fun x _ => ?_) (Finset.sum_congr rfl fun x _ => ?_)
  · rw [EReal.coe_mul]; exact congrArg₂ (· * ·) (h0 _) (h2 _)
  · rw [EReal.coe_mul]; exact congrArg₂ (· * ·) (h3 _) (h1 _)

variable (f0 : AllReal x0) (f1 : AllReal x1) (f2 : AllReal x2) (f3 : AllReal x3) (f4 : AllReal x4) (f5 : AllReal x5)
  (h : Fin 8) (r n : Fin 16384)

include f0 f1 f2 f3

/-- The kernel's weight is the reference's. -/
theorem weight_agree : wholeP (hQ x0 x1) (hK x2 x3) (hFlat (hLog (vM x0 x1 x2 x3) (hE (vS x0 x1 x2 x3) (vM x0 x1 x2 x3)))) h r n = vP x0 x1 x2 x3 (ix3 h r n) := by
  choose s hs using real_scores f0 f1 f2 f3
  obtain ⟨μ, hμ⟩ := max_real x0 x1 x2 x3 h r (real_scores f0 f1 f2 f3)
  have he : ∀ k, hE (vS x0 x1 x2 x3) (vM x0 x1 x2 x3) (ix3 h r k) = Ideal.exp ((s (ix3 h r k) : EReal) - (μ : EReal)) := fun k => by
    rw [hE_at, hs, hμ]
  unfold wholeP
  rw [score_lanes, hFlat_at, hLog_at, hs, hμ, Finset.sum_congr rfl fun k _ => he k, log_row (fun k => s (ix3 h r k)) μ n,
    quot_at, total_at, Finset.sum_congr rfl fun k _ => weight_at x0 x1 x2 x3 h r k, weight_at, hμ, hs, Finset.sum_congr rfl fun k _ => by rw [hs (ix3 h r k)]]
  exact (quotient_row (fun k => s (ix3 h r k)) μ n).symm

include f4 f5

/-- The kernel's gradient of a score is the reference's. -/
theorem grad_agree : wholeG (hQ x0 x1) (hK x2 x3) (hV x4) (hD x5) (hFlat (hLog (vM x0 x1 x2 x3) (hE (vS x0 x1 x2 x3) (vM x0 x1 x2 x3))))
    (hFlat (hDot x5 (hO x4 (hP (hE (vS x0 x1 x2 x3) (vM x0 x1 x2 x3)))))) h r n = vG x0 x1 x2 x3 x4 x5 (ix3 h r n) := by
  have hw := weight_agree f0 f1 f2 f3 h r n
  choose s hs using real_scores f0 f1 f2 f3
  obtain ⟨μ, hμ⟩ := max_real x0 x1 x2 x3 h r (real_scores f0 f1 f2 f3)
  choose y4 h4 using f4
  choose y5 h5 using f5
  have he : ∀ k, vE x0 x1 x2 x3 (ix3 h r k) = ((rowE (fun k => s (ix3 h r k)) μ k : ℝ) : EReal) := fun k => by
    rw [weight_at, hμ, hs]; exact exp_row (fun k => s (ix3 h r k)) μ k
  have hl : vL x0 x1 x2 x3 (ix2 h r) = ((rowL (fun k => s (ix3 h r k)) μ : ℝ) : EReal) := by
    rw [total_at, rowL, coe_sum]; exact Finset.sum_congr rfl fun k _ => he k
  have hp : ∀ k, vP x0 x1 x2 x3 (ix3 h r k) = ((rowP (fun k => s (ix3 h r k)) μ k : ℝ) : EReal) := fun k => by
    rw [quot_at, he, hl]; exact div_real _ _ (rowL_pos (fun k => s (ix3 h r k)) μ n).ne'
  have hd : ∀ k, vD x4 x5 (ix3 h r k) = ((rowD (fun k x => y4 (ix3 k h x)) (fun x => y5 (ix3 r h x)) k : ℝ) : EReal) := fun k => by
    rw [pair_at, ← pair_row]; exact Finset.sum_congr rfl fun x _ => congrArg₂ (· * ·) (h5 _) (h4 _)
  have hq : ∀ k, hP (hE (vS x0 x1 x2 x3) (vM x0 x1 x2 x3)) (ix3 h r k) = ((rowP (fun k => s (ix3 h r k)) μ k : ℝ) : EReal) := fun k => by
    rw [hP_at, Finset.sum_congr rfl fun k _ => hE_at (vS x0 x1 x2 x3) (vM x0 x1 x2 x3) h r k, hE_at, ← weight_at, Finset.sum_congr rfl fun k _ => (weight_at x0 x1 x2 x3 h r k).symm,
      ← total_at, he, hl]
    exact div_real _ _ (rowL_pos (fun k => s (ix3 h r k)) μ n).ne'
  have hx : (∑ x : Fin 128, hD x5 (ix2 r (colOf h x)) * hV x4 (ix3 h n ⟨x.val, by omega⟩)) = ∑ x : Fin 128, (y5 (ix3 r h x) : EReal) * (y4 (ix3 n h x) : EReal) :=
    Finset.sum_congr rfl fun x _ => by rw [hD_at, hV_at, h4, h5]
  have ho : hDot x5 (hO x4 (hP (hE (vS x0 x1 x2 x3) (vM x0 x1 x2 x3)))) (ix3 h r 0)
      = ∑ x : Fin 128, (∑ k : Fin 16384, ((rowP (fun k => s (ix3 h r k)) μ k : ℝ) : EReal) * (y4 (ix3 k h x) : EReal)) * (y5 (ix3 r h x) : EReal) := by
    rw [hDot_at]
    refine Finset.sum_congr rfl fun x _ => congrArg₂ (· * ·) ?_ (h5 _)
    rw [hO_at]
    exact Finset.sum_congr rfl fun k _ => congrArg₂ (· * ·) (hq k) (h4 _)
  unfold wholeG
  rw [hw, hp, hx, hFlat_at, ho, kernel_row (fun k => s (ix3 h r k)) μ (fun k x => y4 (ix3 k h x)) (fun x => y5 (ix3 r h x)) n,
    grad_at, inner_at, hd, hl, he, Finset.sum_congr rfl fun k _ => by rw [hd k, he k]]
  exact (reference_row (fun k => s (ix3 h r k)) μ (fun k x => y4 (ix3 k h x)) (fun x => y5 (ix3 r h x)) n).symm

end Rows

end Cert.KernelIdeal.Grad
-- ==== Proof.Grad.Equal.lean ====
/- The value claim: for finite arguments the kernel's five gradients are the reference's. -/
module

public import proofs.«01_k».proof.Proof.Grad.Agree
public import proofs.«01_k».proof.Defs

@[expose] public section

set_option maxRecDepth 16384

noncomputable section

namespace Cert.KernelIdeal.Grad

open Cert.KernelIdeal.Gen
open Cert.ReferenceIdeal.Grad (vS vM vP vG at2 at3 nope_query_at rope_query_at nope_key_at rope_key_at value_at)
open Cert.ReferenceIdeal.Read (val_main_v56 val_main_v51 val_main_v54 val_main_v52 val_main_v37)
open Idealize.ShloMosaic Idealize.ShloMosaic.TcCoe Idealize.SL.Sem

/-! ## The precondition -/

/-- The shapes the precondition broadcasts to. -/
theorem factsFinite : Cert.Pre_finite.Facts :=
  ⟨by decide, by decide, by decide⟩

theorem highest : Ideal.ofBits .f32 0x7F800000#32 = ⊤ := by simp [Ideal.ofBits, Ideal.ieee]

/-- A number whose absolute value is below infinity is a real. -/
theorem real_of_lt (x : EReal) (h : Ideal.cmp .olt (max x (-x)) (Ideal.ofBits .f32 0x7F800000#32) = 1#1) : ∃ y : ℝ, x = (y : EReal) := by
  rw [highest] at h
  induction x using EReal.rec with
  | bot => simp [Ideal.cmp] at h
  | coe y => exact ⟨y, rfl⟩
  | top => simp [Ideal.cmp] at h

variable (m : (ℓ : Loc nD τ sig) → Buf (Elt Ideal) ℓ) (c : Dev nD)

/-- Every argument of a device is an array of reals. -/
def Finite : Prop := AllReal (a0 m c) ∧ AllReal (a1 m c) ∧ AllReal (a2 m c) ∧ AllReal (a3 m c) ∧ AllReal (a4 m c) ∧ AllReal (a5 m c)

theorem finite_of_pre (hp : @Cert.Pre_KernelIdeal_finite factsFinite m) : Finite m c := by
  obtain ⟨h0, h1, h2, h3, h4, h5⟩ := hp c
  exact ⟨fun i => real_of_lt _ (congrFun h0 i), fun i => real_of_lt _ (congrFun h1 i), fun i => real_of_lt _ (congrFun h2 i),
    fun i => real_of_lt _ (congrFun h3 i), fun i => real_of_lt _ (congrFun h4 i), fun i => real_of_lt _ (congrFun h5 i)⟩

/-! ## The results -/

section
variable {m c}
variable (hf : Finite m c) (h : Fin 8) (r n : Fin 16384)
include hf

theorem gP_eq : gP m c h r n = vP (a0 m c) (a1 m c) (a2 m c) (a3 m c) (ix3 h r n) := by
  obtain ⟨f0, f1, f2, f3, -, -⟩ := hf
  unfold gP
  rw [aq_eq, ak_eq, al_eq]
  exact weight_agree f0 f1 f2 f3 h r n

theorem gG_eq : gG m c h r n = vG (a0 m c) (a1 m c) (a2 m c) (a3 m c) (a4 m c) (a5 m c) (ix3 h r n) := by
  obtain ⟨f0, f1, f2, f3, f4, f5⟩ := hf
  unfold gG
  rw [aq_eq, ak_eq, av_eq, ad_eq, al_eq, ae_eq]
  exact grad_agree f0 f1 f2 f3 f4 f5 h r n

theorem nope_query_eq : outN (arrQ m c) = val_main_v56 (F := Ideal) (a0 m c) (a1 m c) (a2 m c) (a3 m c) (a4 m c) (a5 m c) := by
  funext i
  obtain ⟨r, h, x, rfl⟩ : ∃ (r : Fin 16384) (h : Fin 8) (x : Fin 128), i = ix3 r h x := ⟨i 0, i 1, i 2, at3 i _ _ _ rfl rfl rfl⟩
  rw [outN_at, nope_query_at]
  refine Finset.sum_congr rfl fun n _ => congrArg₂ (· * ·) (gG_eq hf h r n) ?_
  rw [ak_eq]; exact hK_plain ..

theorem rope_query_eq : outR (arrQ m c) = val_main_v51 (F := Ideal) (a0 m c) (a1 m c) (a2 m c) (a3 m c) (a4 m c) (a5 m c) := by
  funext i
  obtain ⟨r, h, x, rfl⟩ : ∃ (r : Fin 16384) (h : Fin 8) (x : Fin 64), i = ix3 r h x := ⟨i 0, i 1, i 2, at3 i _ _ _ rfl rfl rfl⟩
  rw [outR_at, rope_query_at]
  refine Finset.sum_congr rfl fun n _ => congrArg₂ (· * ·) (gG_eq hf h r n) ?_
  rw [ak_eq]; exact hK_rotary ..

theorem nope_key_eq : outN (arrK m c) = val_main_v54 (F := Ideal) (a0 m c) (a1 m c) (a2 m c) (a3 m c) (a4 m c) (a5 m c) := by
  funext i
  obtain ⟨n, h, x, rfl⟩ : ∃ (n : Fin 16384) (h : Fin 8) (x : Fin 128), i = ix3 n h x := ⟨i 0, i 1, i 2, at3 i _ _ _ rfl rfl rfl⟩
  rw [outN_at, nope_key_at]
  refine Finset.sum_congr rfl fun r _ => congrArg₂ (· * ·) (gG_eq hf h r n) ?_
  rw [aq_eq]; exact hQ_plain ..

theorem rope_key_eq : outS (arrK m c) = val_main_v52 (F := Ideal) (a0 m c) (a1 m c) (a2 m c) (a3 m c) (a4 m c) (a5 m c) := by
  funext i
  obtain ⟨n, x, rfl⟩ : ∃ (n : Fin 16384) (x : Fin 64), i = ix2 n x := ⟨i 0, i 1, at2 i _ _ rfl rfl⟩
  rw [outS_at, rope_key_at, Finset.sum_comm]
  refine Finset.sum_congr rfl fun h _ => Finset.sum_congr rfl fun r _ => congrArg₂ (· * ·) (gG_eq hf h r n) ?_
  rw [aq_eq]; exact hQ_rotary ..

theorem value_eq : outV (arrV m c) = val_main_v37 (F := Ideal) (a0 m c) (a1 m c) (a2 m c) (a3 m c) (a5 m c) := by
  funext i
  obtain ⟨n, h, x, rfl⟩ : ∃ (n : Fin 16384) (h : Fin 8) (x : Fin 128), i = ix3 n h x := ⟨i 0, i 1, i 2, at3 i _ _ _ rfl rfl rfl⟩
  rw [outV_at, value_at]
  refine Finset.sum_congr rfl fun r _ => congrArg₂ (· * ·) (gP_eq hf h r n) ?_
  rw [ad_eq]; exact hD_at ..

end

/-- The two programs' results are the same, in the extended reals, for finite arguments. -/
theorem equal : @Cert.algebraic_KernelIdeal_ReferenceIdeal_pre_finite Cert.KernelIdeal.Gen.facts Cert.ReferenceIdeal.Gen.facts factsFinite := by
  intro m g m' g' hp hargs
  refine ⟨fun c => outN (arrQ m c), fun c => outR (arrQ m c), fun c => outN (arrK m c), fun c => outS (arrK m c), fun c => outV (arrV m c), run_results m g, ?_⟩
  refine (θ_run _ _ _).mono (fun r hr c => ?_) (Cert.ReferenceIdeal.Value.run (F := Ideal) m' g')
  have hf := finite_of_pre m c hp
  obtain ⟨e0, e1, e2, e3, e4, e5⟩ := hargs c
  obtain ⟨h56, h51, h54, h52, h37, hrest⟩ := hr c
  refine ⟨h56.trans ?_, h51.trans ?_, h54.trans ?_, h52.trans ?_, h37.trans ?_, hrest⟩
  · rw [Cert.ReferenceIdeal.Read.val_main_v56_eq, e0, e1, e2, e3, e4, e5]; exact (nope_query_eq hf).symm
  · rw [Cert.ReferenceIdeal.Read.val_main_v51_eq, e0, e1, e2, e3, e4, e5]; exact (rope_query_eq hf).symm
  · rw [Cert.ReferenceIdeal.Read.val_main_v54_eq, e0, e1, e2, e3, e4, e5]; exact (nope_key_eq hf).symm
  · rw [Cert.ReferenceIdeal.Read.val_main_v52_eq, e0, e1, e2, e3, e4, e5]; exact (rope_key_eq hf).symm
  · rw [Cert.ReferenceIdeal.Read.val_main_v37_eq, e0, e1, e2, e3, e5]; exact (value_eq hf).symm

end Cert.KernelIdeal.Grad
-- ==== Proof.Fwd.Frames.lean ====
/- The attention's frames: of the version's program at the machine's numbers, of its reading in the extended reals, and of
   the reference. The run is one over any reading of the floats, and the two printings are the same program. -/
module

public import proofs.«01_k».proof.Defs
public import proofs.«01_k».proof.Proof.Gen.Kernel2
public import proofs.«01_k».proof.Proof.Gen.Kernel2Ideal.Frame
public import proofs.«01_k».proof.Proof.Gen.Reference2Ideal
public import proofs.«01_k».proof.Proof.Gen.Reference2Ideal.Run

@[expose] public section

set_option maxRecDepth 16384

noncomputable section

namespace Cert.Kernel2Ideal.Fwd

open Idealize.ShloMosaic Idealize.SL.Sem

set_option smartUnfolding false in
theorem defs_same : Cert.Kernel2.defs (F := Bits) = Cert.Kernel2Ideal.defs (F := Bits) := rfl

set_option maxHeartbeats 0 in
theorem main_same : Cert.Kernel2.main (F := Bits) = Cert.Kernel2Ideal.main (F := Bits) := by
  unfold Cert.Kernel2.main Cert.Kernel2Ideal.main
  rfl

/-- The frame of the version's program at the machine's numbers. -/
theorem frame_kernel : @Cert.quiescent_Kernel2 Cert.Kernel2.Gen.facts := fun m ρ _ => by
  have h := Cert.Kernel2Ideal.Gen.frame (F := Bits) m ρ
  rw [← defs_same, ← main_same] at h
  exact h

/-- The frame of the version's program in the extended reals. -/
theorem frame_ideal : @Cert.quiescent_Kernel2Ideal Cert.Kernel2Ideal.Gen.facts := fun m ρ _ => Cert.Kernel2Ideal.Gen.frame m ρ

/-- The frame of the reference. -/
theorem frame_reference : @Cert.quiescent_Reference2Ideal Cert.Reference2Ideal.Gen.facts := fun m ρ _ =>
  (θ_run _ _ _).mono (fun r h => ⟨fun c => (h c).2.2, sem_eq_zero_of_no_sems (by decide) r.2⟩)
    (Cert.Reference2Ideal.Value.run (F := Ideal) m ρ)

end Cert.Kernel2Ideal.Fwd

end
-- ==== Proof.Fwd.Chunk.lean ====
/- What the attention's kernel computes from one chunk of 512 keys, element by element. -/
module

public import proofs.«01_k».proof.Proof.Gen.Kernel2Ideal
public import proofs.«01_k».proof.Proof.Gen.Kernel2Ideal.Skeleton
public import Idealize.ShloMosaic.Lib.Pipeline.ValueKit

@[expose] public section

set_option maxRecDepth 16384

noncomputable section

namespace Cert.Kernel2Ideal.Fwd

open Idealize.ShloMosaic Idealize.SL.Sem Cert.Kernel2Ideal.Gen

/-- The lane of a row's column that key `n` of a chunk, or a column of the accumulator, reads. -/
abbrev lane {b : ℕ} (n : Fin b) : Fin 128 := ⟨n.val % 128, Nat.mod_lt _ (by decide)⟩

variable {F : FTy → Type} [FloatOps F]

/-- The new maxima of the rows, from the old ones and the chunk's scores. -/
def newMax (m : FVec F S2048x128 .f32) (s : FVec F S2048x512 .f32) : FVec F S2048x128 .f32 :=
  maximumf m (broadcastTo S2048x128 (shapeCast S2048x1 (multiReduction .maximumf [1] S2048 s 0xFF800000#32 reduces_S2048x512_S2048 (.inl rfl) rfl) shapeCasts_S2048_S2048x1) broadcasts_S2048x1_S2048x128)

/-- The new accumulator, from the old and the new maxima, the old accumulator, the chunk's scores and its values. -/
def newAcc (m m' : FVec F S2048x128 .f32) (a : FVec F S2048x256 .f32) (s : FVec F S2048x512 .f32) (v : FVec F S512x256 .bf16) : FVec F S2048x256 .f32 :=
  addf (mulf (concatenate S2048x256 1 [⟨S2048x128, exp (subf m m')⟩, ⟨S2048x128, exp (subf m m')⟩] concatenates_S2048x128_S2048x128_S2048x256_d1) a)
    (matmul dot_S2048x512_S512x256_S2048x256_1_0_0_1_n_n none
      (truncf .bf16 (exp (subf s (concatenate S2048x512 1 [⟨S2048x128, m'⟩, ⟨S2048x128, m'⟩, ⟨S2048x128, m'⟩, ⟨S2048x128, m'⟩] concatenates_S2048x128_S2048x128_S2048x128_S2048x128_S2048x512_d1))) bitsLt_bf16_f32)
      v (constant S2048x256 .f32 0x00000000#32))

/-- The scores of a chunk of keys. -/
def scores (q : Vec F S1x2048x256 .bf16) (k : Vec F S1x512x256 .bf16) : FVec F S2048x512 .f32 :=
  matmul dot_S2048x256_S512x256_S2048x512_1_1_0_0_n_n none (shapeCast S2048x256 q shapeCasts_S1x2048x256_S2048x256)
    (shapeCast S512x256 k shapeCasts_S1x512x256_S512x256) (constant S2048x512 .f32 0x00000000#32)

/-- A chunk of values. -/
def values (v : Vec F S1x512x256 .bf16) : FVec F S512x256 .bf16 := shapeCast S512x256 v shapeCasts_S1x512x256_S512x256

section Payloads

variable (q : Vec F S1x2048x256 .bf16) (k v : Vec F S1x512x256 .bf16) (m : FVec F S2048x128 .f32) (a : FVec F S2048x256 .f32)
  (s : FVec F S2048x512 .f32) (w : FVec F S512x256 .bf16)

theorem pay1_eq : k0_pay1 m (k0_pay22 (k0_pay10 q) k) = newMax m (scores q k) := rfl
theorem pay2_eq : k0_pay2 m a w (k0_pay21 (k0_pay10 q) k) (k0_pay22 (k0_pay10 q) k) = newAcc m (newMax m (scores q k)) a (scores q k) w := rfl
theorem pay12_eq : k0_pay12 q m k = newMax m (scores q k) := rfl
theorem pay13_eq : k0_pay13 q m a k v = newAcc m (newMax m (scores q k)) a (scores q k) (values v) := rfl
theorem pay15_eq : k0_pay15 q k = scores q k := rfl
theorem pay16_eq : k0_pay16 m s = newMax m s := rfl
theorem pay18_eq : k0_pay18 (k0_pay10 q) m s k = newMax (newMax m s) (scores q k) := rfl
theorem pay19_eq : k0_pay19 (k0_pay10 q) m a w s k v
    = newAcc (newMax m s) (newMax (newMax m s) (scores q k)) (newAcc m (newMax m s) a s w) (scores q k) (values v) := rfl

end Payloads

section Read

variable (q : Vec Ideal S1x2048x256 .bf16) (k v : Vec Ideal S1x512x256 .bf16) (m m' : FVec Ideal S2048x128 .f32) (a : FVec Ideal S2048x256 .f32)
  (s : FVec Ideal S2048x512 .f32) (w : FVec Ideal S512x256 .bf16) (r : Fin 2048)

theorem lowest : Ideal.ofBits .f32 0xFF800000#32 = ⊥ := by simp [Ideal.ofBits, Ideal.ieee]

theorem scores_at (j : Fin 512) : scores q k (ix2 r j) = ∑ d : Fin 256, q (ix3 0 r d) * k (ix3 0 j d) := by
  pointwise [scores]
theorem values_at (j : Fin 512) (x : Fin 256) : values v (ix2 j x) = v (ix3 0 j x) := by
  pointwise [values]
theorem newMax_at (l : Fin 128) : newMax m s (ix2 r l) = max (m (ix2 r l)) (Finset.univ.fold max ⊥ fun j : Fin 512 => s (ix2 r j)) := by
  rw [← lowest]
  pointwise [newMax]

/-- Four copies, or two, of a row's 128 lanes side by side read the lane of the column. -/
theorem four_lanes {α : Type} (g : Fin 128 → α) (k : Fin 512) :
    (if h : k.val < 128 then g ⟨k.val, h⟩
      else if h : k.val - 128 < 128 then g ⟨k.val - 128, h⟩
      else if h : k.val - 128 - 128 < 128 then g ⟨k.val - 128 - 128, h⟩
      else g ⟨k.val - 128 - 128 - 128, by omega⟩) = g (lane k) := by
  split_ifs <;> exact congrArg g (Fin.ext (by simp only; omega))
theorem two_lanes {α : Type} (g : Fin 128 → α) (k : Fin 256) :
    (if h : k.val < 128 then g ⟨k.val, h⟩ else g ⟨k.val - 128, by omega⟩) = g (lane k) := by
  split_ifs <;> exact congrArg g (Fin.ext (by simp only; omega))

theorem newAcc_at (x : Fin 256) : newAcc m m' a s w (ix2 r x)
    = Ideal.exp (m (ix2 r (lane x)) - m' (ix2 r (lane x))) * a (ix2 r x) + ∑ j : Fin 512, Ideal.exp (s (ix2 r j) - m' (ix2 r (lane j))) * w (ix2 j x) := by
  pointwise [newAcc]
  refine congrArg₂ (· + ·) (congrArg (· * _) ?_) (Finset.sum_congr rfl fun j _ => congrArg (fun z => Ideal.exp (_ - z) * _) ?_)
  · exact two_lanes (fun l => Ideal.exp (m (ix2 r l) - m' (ix2 r l))) x
  · exact four_lanes (fun l => m' (ix2 r l)) j

end Read

end Cert.Kernel2Ideal.Fwd

end
-- ==== Proof.Fwd.Point.lean ====
/- The maxima and the accumulator the attention's kernel keeps, after each grid point, and what its last point of a block
   of queries writes. -/
module

public import proofs.«01_k».proof.Proof.Gen.Kernel2Ideal.Value
public import proofs.«01_k».proof.Proof.Fwd.Chunk
public import Idealize.ShloMosaic.Lib.Pipeline.ValueKit.Acc

@[expose] public section

set_option maxRecDepth 16384

noncomputable section

namespace Cert.Kernel2Ideal.Fwd

open Idealize.ShloMosaic Idealize.ShloMosaic.TcCoe Idealize.SL.Sem Cert.Kernel2Ideal.Gen

variable {F : FTy → Type} [FloatOps F]

/-- The maxima and the accumulator after the four chunks of a grid point. -/
structure Kept (F : FTy → Type) where
  max : FVec F S2048x128 .f32
  acc : FVec F S2048x256 .f32

/-- After one chunk. -/
def Kept.next (z : Kept F) (q : Vec F S1x2048x256 .bf16) (k v : Vec F S1x512x256 .bf16) : Kept F :=
  ⟨newMax z.max (scores q k), newAcc z.max (newMax z.max (scores q k)) z.acc (scores q k) (values v)⟩

/-- The 512 keys, or values, from `o` on of a block. -/
abbrev part (x : Vec F S1x2048x256 .bf16) (o : ℕ) (inb : ∀ a, (![0, o, 0] : Fin 3 → ℕ) a + (![1, 512, 256] : Fin 3 → ℕ) a ≤ S1x2048x256.size a) : Vec F S1x512x256 .bf16 :=
  View.ld (Val := Elt F) x (Rect.unit ![0, o, 0] ![1, 512, 256] inb)

/-- After the four chunks of a grid point. -/
def Kept.point (z : Kept F) (q k v : Vec F S1x2048x256 .bf16) : Kept F :=
  (((z.next q (part k 0 inb_S1x2048x256_S1x512x256_0_0_0) (part v 0 inb_S1x2048x256_S1x512x256_0_0_0)).next
      q (part k 512 inb_S1x2048x256_S1x512x256_0_512_0) (part v 512 inb_S1x2048x256_S1x512x256_0_512_0)).next
      q (part k 1024 inb_S1x2048x256_S1x512x256_0_1024_0) (part v 1024 inb_S1x2048x256_S1x512x256_0_1024_0)).next
      q (part k 1536 inb_S1x2048x256_S1x512x256_0_1536_0) (part v 1536 inb_S1x2048x256_S1x512x256_0_1536_0)

/-- Before the first chunk. -/
def Kept.start : Kept F := ⟨k0_pay8, k0_pay9⟩

/-- The kernel's own words for the four chunks of a point are these. -/
theorem point_max (z : Kept F) (q k v : Vec F S1x2048x256 .bf16) :
    k0_pay3 (k0_pay18 (k0_pay10 q) (k0_pay12 q z.max (part k 0 inb_S1x2048x256_S1x512x256_0_0_0)) (k0_pay15 q (part k 512 inb_S1x2048x256_S1x512x256_0_512_0))
        (part k 1024 inb_S1x2048x256_S1x512x256_0_1024_0)) (k0_pay22 (k0_pay10 q) (part k 1536 inb_S1x2048x256_S1x512x256_0_1536_0))
      = (z.point q k v).max := by
  unfold k0_pay3
  rw [shapeCast_self]
  rfl
theorem point_acc (z : Kept F) (q k v : Vec F S1x2048x256 .bf16) :
    k0_pay4
        (k0_pay18 (k0_pay10 q) (k0_pay12 q z.max (part k 0 inb_S1x2048x256_S1x512x256_0_0_0)) (k0_pay15 q (part k 512 inb_S1x2048x256_S1x512x256_0_512_0))
          (part k 1024 inb_S1x2048x256_S1x512x256_0_1024_0))
        (k0_pay19 (k0_pay10 q) (k0_pay12 q z.max (part k 0 inb_S1x2048x256_S1x512x256_0_0_0))
          (k0_pay13 q z.max z.acc (part k 0 inb_S1x2048x256_S1x512x256_0_0_0) (part v 0 inb_S1x2048x256_S1x512x256_0_0_0))
          (k0_pay14 (part v 512 inb_S1x2048x256_S1x512x256_0_512_0)) (k0_pay15 q (part k 512 inb_S1x2048x256_S1x512x256_0_512_0))
          (part k 1024 inb_S1x2048x256_S1x512x256_0_1024_0) (part v 1024 inb_S1x2048x256_S1x512x256_0_1024_0))
        (k0_pay20 (part v 1536 inb_S1x2048x256_S1x512x256_0_1536_0))
        (k0_pay21 (k0_pay10 q) (part k 1536 inb_S1x2048x256_S1x512x256_0_1536_0))
        (k0_pay22 (k0_pay10 q) (part k 1536 inb_S1x2048x256_S1x512x256_0_1536_0))
      = (z.point q k v).acc := by
  unfold k0_pay4
  rw [shapeCast_self]
  rfl

/-- What the last point of a block of queries writes from what is kept: the weighted mean of the values, and the log of the
    sum of the exponentials. -/
def Kept.total (z : Kept F) : FVec F S2048x128 .f32 := extractStridedSlice S2048x128 ![0, 128] z.acc slices_S2048x256_o0_128_S2048x128
def Kept.mean (z : Kept F) : FVec F S2048x128 .f32 := divf (extractStridedSlice S2048x128 ![0, 0] z.acc slices_S2048x256_o0_0_S2048x128) z.total
def Kept.logSum (z : Kept F) : FVec F S2048x128 .f32 := addf z.max (log z.total)

theorem point_mean (z : Kept F) (q k v : Vec F S1x2048x256 .bf16) :
    k0_pay6
        (k0_pay18 (k0_pay10 q) (k0_pay12 q z.max (part k 0 inb_S1x2048x256_S1x512x256_0_0_0)) (k0_pay15 q (part k 512 inb_S1x2048x256_S1x512x256_0_512_0))
          (part k 1024 inb_S1x2048x256_S1x512x256_0_1024_0))
        (k0_pay19 (k0_pay10 q) (k0_pay12 q z.max (part k 0 inb_S1x2048x256_S1x512x256_0_0_0))
          (k0_pay13 q z.max z.acc (part k 0 inb_S1x2048x256_S1x512x256_0_0_0) (part v 0 inb_S1x2048x256_S1x512x256_0_0_0))
          (k0_pay14 (part v 512 inb_S1x2048x256_S1x512x256_0_512_0)) (k0_pay15 q (part k 512 inb_S1x2048x256_S1x512x256_0_512_0))
          (part k 1024 inb_S1x2048x256_S1x512x256_0_1024_0) (part v 1024 inb_S1x2048x256_S1x512x256_0_1024_0))
        (k0_pay20 (part v 1536 inb_S1x2048x256_S1x512x256_0_1536_0))
        (k0_pay21 (k0_pay10 q) (part k 1536 inb_S1x2048x256_S1x512x256_0_1536_0))
        (k0_pay22 (k0_pay10 q) (part k 1536 inb_S1x2048x256_S1x512x256_0_1536_0))
      = (z.point q k v).mean := rfl
theorem point_logSum (z : Kept F) (q k v : Vec F S1x2048x256 .bf16) :
    k0_pay7
        (k0_pay18 (k0_pay10 q) (k0_pay12 q z.max (part k 0 inb_S1x2048x256_S1x512x256_0_0_0)) (k0_pay15 q (part k 512 inb_S1x2048x256_S1x512x256_0_512_0))
          (part k 1024 inb_S1x2048x256_S1x512x256_0_1024_0))
        (k0_pay19 (k0_pay10 q) (k0_pay12 q z.max (part k 0 inb_S1x2048x256_S1x512x256_0_0_0))
          (k0_pay13 q z.max z.acc (part k 0 inb_S1x2048x256_S1x512x256_0_0_0) (part v 0 inb_S1x2048x256_S1x512x256_0_0_0))
          (k0_pay14 (part v 512 inb_S1x2048x256_S1x512x256_0_512_0)) (k0_pay15 q (part k 512 inb_S1x2048x256_S1x512x256_0_512_0))
          (part k 1024 inb_S1x2048x256_S1x512x256_0_1024_0) (part v 1024 inb_S1x2048x256_S1x512x256_0_1024_0))
        (k0_pay20 (part v 1536 inb_S1x2048x256_S1x512x256_0_1536_0))
        (k0_pay21 (k0_pay10 q) (part k 1536 inb_S1x2048x256_S1x512x256_0_1536_0))
        (k0_pay22 (k0_pay10 q) (part k 1536 inb_S1x2048x256_S1x512x256_0_1536_0))
      = (z.point q k v).logSum := rfl

theorem read_max (x : FVec F S2048x128 .f32) : View.read (Elt F) (View.whole cc0_scratch0) ((Memref.isWhole_whole cc0_scratch0).unread x) = x :=
  Memref.IsWhole.read_unread (Val := Elt F) (Memref.isWhole_whole cc0_scratch0) x
theorem read_acc (x : FVec F S2048x256 .f32) : View.read (Elt F) (View.whole cc0_scratch1) ((Memref.isWhole_whole cc0_scratch1).unread x) = x :=
  Memref.IsWhole.read_unread (Val := Elt F) (Memref.isWhole_whole cc0_scratch1) x

variable (m : (ℓ : Loc nD τ sig) → Buf (Elt F) ℓ) (c : Dev nD)

/-- The blocks a grid point reads. -/
abbrev bq (t : Fin cfg0.N) : Vec F S1x2048x256 .bf16 := iblk m c 0 t
abbrev bk (t : Fin cfg0.N) : Vec F S1x2048x256 .bf16 := iblk m c 1 t
abbrev bv (t : Fin cfg0.N) : Vec F S1x2048x256 .bf16 := iblk m c 2 t

/-- What is kept after grid point `n`. -/
def kept (n : ℕ) (hn : n < cfg0.N) : Kept F := ⟨(outsAt0 m c n hn).2.2.1, (outsAt0 m c n hn).2.2.2⟩

theorem kept_first (t : Fin cfg0.N) (h0 : t.val % 8 = 0) : kept m c t.val t.isLt = Kept.start.point (bq m c t) (bk m c t) (bv m c t) := by
  unfold kept
  rw [outsAt0_A m c t h0 (by omega)]
  dsimp only
  frame_out
  exact congrArg₂ Kept.mk (point_max Kept.start _ _ (bv m c t)) (point_acc Kept.start _ _ _)

theorem kept_mid (t : Fin cfg0.N) (h0 : ¬t.val % 8 = 0) (h1 : ¬t.val % 8 = 7) :
    kept m c t.val t.isLt = (kept m c (t.val - 1) (by omega)).point (bq m c t) (bk m c t) (bv m c t) := by
  unfold kept
  rw [outsAt0_B m c t h0 h1]
  dsimp only
  frame_out
  rw [read_max, read_acc]
  exact congrArg₂ Kept.mk (point_max (kept m c (t.val - 1) _) _ _ (bv m c t)) (point_acc (kept m c (t.val - 1) _) _ _ _)

theorem kept_last (t : Fin cfg0.N) (h1 : t.val % 8 = 7) :
    kept m c t.val t.isLt = (kept m c (t.val - 1) (by omega)).point (bq m c t) (bk m c t) (bv m c t) := by
  unfold kept
  rw [outsAt0_C m c t (by omega) h1]
  dsimp only
  frame_out
  rw [read_max, read_acc]
  exact congrArg₂ Kept.mk (point_max (kept m c (t.val - 1) _) _ _ (bv m c t)) (point_acc (kept m c (t.val - 1) _) _ _ _)

theorem written (t : Fin cfg0.N) (h1 : t.val % 8 = 7) :
    ((outsAt0 m c t.val t.isLt).1, (outsAt0 m c t.val t.isLt).2.1) = ((kept m c t.val t.isLt).mean, (kept m c t.val t.isLt).logSum) := by
  rw [kept_last m c t h1, outsAt0_C m c t (by omega) h1]
  dsimp only
  frame_out
  rw [read_max, read_acc]
  exact congrArg₂ Prod.mk (point_mean (kept m c (t.val - 1) _) _ _ _) (point_logSum (kept m c (t.val - 1) _) _ _ _)

end Cert.Kernel2Ideal.Fwd

end
-- ==== Proof.Fwd.Blocks.lean ====
/- The blocks a grid point of the attention reads are places of the arrays that the host prepares, and these are places of
   the five arguments. -/
module

public import proofs.«01_k».proof.Proof.Fwd.Point

@[expose] public section

set_option maxRecDepth 16384

noncomputable section

namespace Cert.Kernel2Ideal.Fwd

open Idealize.ShloMosaic Idealize.ShloMosaic.TcCoe Idealize.SL.Sem Cert.Kernel2Ideal.Gen

/-! ## The arrays the call reads -/

section Prepare

variable (x0 : FVec Ideal S16384x8x128 .f32) (x1 : FVec Ideal S16384x8x64 .f32) (x2 : FVec Ideal S16384x8x128 .f32)
  (x3 : FVec Ideal S16384x64 .f32) (x4 : FVec Ideal S16384x8x128 .f32) (h : Fin 8) (n : Fin 16384)

/-- The queries: the part without positions, then the part with positions twice. -/
def lanesQ : FVec Ideal S8x16384x256 .bf16 :=
  truncf (F := Ideal) (φ := .f32) .bf16
    (transpose S8x16384x256 [1, 0, 2] (concatenate S16384x8x256 2 [⟨S16384x8x128, x0⟩, ⟨S16384x8x64, x1⟩, ⟨S16384x8x64, x1⟩]
      concatenates_S16384x8x128_S16384x8x64_S16384x8x64_S16384x8x256_d2) transposes_S16384x8x256_S8x16384x256_1_0_2) bitsLt_bf16_f32
/-- The keys: the part without positions, then the part with positions, which all heads share, then zeros. -/
def lanesK : FVec Ideal S8x16384x256 .bf16 :=
  truncf (F := Ideal) (φ := .f32) .bf16
    (transpose S8x16384x256 [1, 0, 2] (concatenate S16384x8x256 2 [⟨S16384x8x128, x2⟩,
        ⟨S16384x8x64, broadcastInDim S16384x8x64 ![0, 1, 2] bcast_S16384x1x64_S16384x8x64_0_1_2 (broadcastInDim S16384x1x64 ![0, 2] bcast_S16384x64_S16384x1x64_0_2 x3)⟩,
        ⟨S16384x8x64, broadcastInDim S16384x8x64 ![] bcast_S_S16384x8x64 (constant (F := Ideal) S_ .f32 0x00000000#32)⟩]
      concatenates_S16384x8x128_S16384x8x64_S16384x8x64_S16384x8x256_d2) transposes_S16384x8x256_S8x16384x256_1_0_2) bitsLt_bf16_f32
/-- The values, then ones. -/
def lanesV : FVec Ideal S8x16384x256 .bf16 :=
  truncf (F := Ideal) (φ := .f32) .bf16
    (transpose S8x16384x256 [1, 0, 2] (concatenate S16384x8x256 2 [⟨S16384x8x128, x4⟩,
        ⟨S16384x8x128, broadcastInDim S16384x8x128 ![] bcast_S_S16384x8x128 (constant (F := Ideal) S_ .f32 0x3F800000#32)⟩]
      concatenates_S16384x8x128_S16384x8x128_S16384x8x256_d2) transposes_S16384x8x256_S8x16384x256_1_0_2) bitsLt_bf16_f32

theorem lanesQ_at (x : Fin 256) : lanesQ x0 x1 (ix3 h n x) = if a : x.val < 128 then x0 (ix3 n h ⟨x.val, a⟩)
    else if b : x.val - 128 < 64 then x1 (ix3 n h ⟨x.val - 128, b⟩) else x1 (ix3 n h ⟨x.val - 128 - 64, by omega⟩) := by
  pointwise [lanesQ]
theorem lanesK_at (x : Fin 256) : lanesK x2 x3 (ix3 h n x) = if a : x.val < 128 then x2 (ix3 n h ⟨x.val, a⟩)
    else if b : x.val - 128 < 64 then x3 (ix2 n ⟨x.val - 128, b⟩) else 0 := by
  pointwise [lanesK]
theorem lanesV_at (x : Fin 256) : lanesV x4 (ix3 h n x) = if a : x.val < 128 then x4 (ix3 n h ⟨x.val, a⟩) else 1 := by
  pointwise [lanesV]

end Prepare

variable (m : (ℓ : Loc nD τ sig) → Buf (Elt Ideal) ℓ) (c : Dev nD)

/-- The arguments a device holds. -/
abbrev a0 : FVec Ideal S16384x8x128 .f32 := m ((c.tc : Thread nD τ).loc main_arg0)
abbrev a1 : FVec Ideal S16384x8x64 .f32 := m ((c.tc : Thread nD τ).loc main_arg1)
abbrev a2 : FVec Ideal S16384x8x128 .f32 := m ((c.tc : Thread nD τ).loc main_arg2)
abbrev a3 : FVec Ideal S16384x64 .f32 := m ((c.tc : Thread nD τ).loc main_arg3)
abbrev a4 : FVec Ideal S16384x8x128 .f32 := m ((c.tc : Thread nD τ).loc main_arg4)

/-- The arrays the call reads, as it finds them. -/
def aq : Vec Ideal S8x16384x256 .bf16 := V m c main_v4
def ak : Vec Ideal S8x16384x256 .bf16 := V m c main_v8
def av : Vec Ideal S8x16384x256 .bf16 := V m c main_v12

theorem aq_eq : aq m c = lanesQ (a0 m c) (a1 m c) := by
  show StableHlo.after hostOps0 _ _ = _
  after_results_simp <;> rfl
theorem ak_eq : ak m c = lanesK (a2 m c) (a3 m c) := by
  show StableHlo.after hostOps0 _ _ = _
  after_results_simp <;> rfl
theorem av_eq : av m c = lanesV (a4 m c) := by
  show StableHlo.after hostOps0 _ _ = _
  after_results_simp <;> rfl

/-! ## The blocks' places in them -/

variable (t : Fin cfg0.N)

theorem lt_N : t.val < 512 := Nat.lt_of_lt_of_eq t.isLt N_0

abbrev hd : Fin 8 := ⟨t.val / 64, by have := lt_N t; omega⟩
abbrev rowAt (r : Fin 2048) : Fin 16384 := ⟨2048 * (t.val / 8 % 8) + r.val, by omega⟩
abbrev keyAt (n : Fin 2048) : Fin 16384 := ⟨2048 * (t.val % 8) + n.val, by omega⟩

theorem place0 : ∀ t : Fin cfg0.N, win0_0.index t = ![t.val / 64, t.val / 8 % 8, 0] := by decide +kernel
theorem place1 : ∀ t : Fin cfg0.N, win0_1.index t = ![t.val / 64, t.val % 8, 0] := by decide +kernel
theorem place2 : ∀ t : Fin cfg0.N, win0_2.index t = ![t.val / 64, t.val % 8, 0] := by decide +kernel

theorem read0 (A : Vec Ideal S8x16384x256 .bf16) (r : Fin 2048) (d : Fin 256) :
    ((cfg0.win 0).blk t).view.read (Elt Ideal) A (ix3 0 r d) = A (ix3 (hd t) (rowAt t r) d) := by
  blk_ext [place0]
theorem read1 (A : Vec Ideal S8x16384x256 .bf16) (n : Fin 2048) (d : Fin 256) :
    ((cfg0.win 1).blk t).view.read (Elt Ideal) A (ix3 0 n d) = A (ix3 (hd t) (keyAt t n) d) := by
  blk_ext [place1]
theorem read2 (A : Vec Ideal S8x16384x256 .bf16) (n : Fin 2048) (d : Fin 256) :
    ((cfg0.win 2).blk t).view.read (Elt Ideal) A (ix3 0 n d) = A (ix3 (hd t) (keyAt t n) d) := by
  blk_ext [place2]

theorem bq_at (r : Fin 2048) (d : Fin 256) : bq m c t (ix3 0 r d) = aq m c (ix3 (hd t) (rowAt t r) d) := read0 t (aq m c) r d
theorem bk_at (n : Fin 2048) (d : Fin 256) : bk m c t (ix3 0 n d) = ak m c (ix3 (hd t) (keyAt t n) d) := read1 t (ak m c) n d
theorem bv_at (n : Fin 2048) (d : Fin 256) : bv m c t (ix3 0 n d) = av m c (ix3 (hd t) (keyAt t n) d) := read2 t (av m c) n d

/-- The keys, or values, from `o` on of a block. -/
theorem part_at (x : Vec Ideal S1x2048x256 .bf16) (o : ℕ) (inb) (j : Fin 512) (d : Fin 256) (hj : o + j.val < 2048) :
    part x o inb (ix3 0 j d) = x (ix3 0 ⟨o + j.val, hj⟩ d) :=
  View.ld_unit_apply_of _ _ _ _ _ _ fun a => by fin_cases a <;> simp

end Cert.Kernel2Ideal.Fwd

end
-- ==== Proof.Fwd.Row.lean ====
/- One row of an attention over reals as scores and any extended reals as values: the greatest score and the weighted sum
   over the keys seen so far, and how they change when more keys are seen. -/
module

public import Idealize.ShloMosaic.Lib.IdealHost

@[expose] public section

noncomputable section

namespace Cert.Kernel2Ideal.Fwd

open Idealize.ShloMosaic

/-- A finite sum of reals, read in the extended reals. -/
theorem sum_coe {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, EReal.coe_add, ih]

/-- A nonnegative real factor goes into a sum of any extended reals. -/
theorem mul_sum_real {ι : Type} (S : Finset ι) (f : ι → EReal) {c : ℝ} (hc : 0 ≤ c) : (c : EReal) * (∑ i ∈ S, f i) = ∑ i ∈ S, (c : EReal) * f i := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

section Row

variable {ι : Type} (s : ι → EReal) (w : ι → EReal) (S T : Finset ι)

/-- The greatest score among the keys of a set, minus infinity if there are none. -/
def greatest : EReal := S.sup s
/-- The values of the keys of a set, each times the exponential of how far its score is above `μ`. -/
def weighted (μ : EReal) : EReal := ∑ n ∈ S, Ideal.exp (s n - μ) * w n

variable {s S T}

theorem greatest_real (hs : ∀ n, ∃ x : ℝ, s n = (x : EReal)) (hS : S.Nonempty) : ∃ x : ℝ, greatest s S = (x : EReal) := by
  obtain ⟨n, -, h⟩ := Finset.exists_mem_eq_sup S hS s
  obtain ⟨x, hx⟩ := hs n
  exact ⟨x, h.trans hx⟩

/-- Seeing more keys: what was summed is scaled to the new greatest score. -/
theorem weighted_more [DecidableEq ι] (hs : ∀ n, ∃ x : ℝ, s n = (x : EReal)) (hd : Disjoint S T) {μ : EReal} (hμ : ∃ x : ℝ, μ = (x : EReal)) :
    Ideal.exp (greatest s S - μ) * weighted s w S (greatest s S) + weighted s w T μ = weighted s w (S ∪ T) μ := by
  unfold weighted
  rw [Finset.sum_union hd]
  congr 1
  obtain ⟨y, rfl⟩ := hμ
  rcases S.eq_empty_or_nonempty with rfl | hS
  · simp
  · obtain ⟨x, hx⟩ := greatest_real hs hS
    rw [hx, ← EReal.coe_sub, Ideal.exp_coe, mul_sum_real _ _ (Real.exp_pos _).le]
    refine Finset.sum_congr rfl fun n _ => ?_
    obtain ⟨z, hz⟩ := hs n
    rw [hz, ← EReal.coe_sub, ← EReal.coe_sub, Ideal.exp_coe, Ideal.exp_coe, ← mul_assoc, ← EReal.coe_mul, ← Real.exp_add]
    congr 3
    ring

/-- The weighted sum over the total of the weights is the sum of the values, each times its weight's share. -/
theorem weighted_div [Fintype ι] [Nonempty ι] (hs : ∀ n, ∃ x : ℝ, s n = (x : EReal)) {μ : EReal} (hμ : ∃ x : ℝ, μ = (x : EReal)) :
    Ideal.div (weighted s w Finset.univ μ) (weighted s (fun _ => 1) Finset.univ μ)
      = ∑ n, w n * Ideal.div (Ideal.exp (s n - μ)) (∑ k, Ideal.exp (s k - μ)) := by
  obtain ⟨y, rfl⟩ := hμ
  choose x hx using hs
  have he : ∀ n, Ideal.exp (s n - (y : EReal)) = ((Real.exp (x n - y) : ℝ) : EReal) := fun n => by
    rw [hx, ← EReal.coe_sub, Ideal.exp_coe]
  have hL : (∑ k, Ideal.exp (s k - (y : EReal))) = ((∑ k, Real.exp (x k - y) : ℝ) : EReal) := by
    rw [← sum_coe]; exact Finset.sum_congr rfl fun k _ => he k
  have hp : (0 : ℝ) < ∑ k, Real.exp (x k - y) := Finset.sum_pos (fun k _ => Real.exp_pos _) Finset.univ_nonempty
  unfold weighted
  simp only [mul_one, hL]
  rw [Ideal.div_coe hp.ne', mul_comm, mul_sum_real _ _ (by positivity)]
  refine Finset.sum_congr rfl fun n _ => ?_
  rw [Ideal.div_coe hp.ne', mul_comm _ (w n), ← mul_assoc, mul_comm _ (w n), mul_assoc, mul_comm (Ideal.exp _)]

/-- The total of the weights. -/
theorem weighted_one [Fintype ι] (μ : EReal) : weighted s (fun _ => 1) Finset.univ μ = ∑ n, Ideal.exp (s n - μ) := by
  unfold weighted; simp only [mul_one]

end Row

/-! ## The keys in chunks of 512 -/

/-- The keys of the first `a` chunks, and those of chunk `a`. -/
def seen (a : ℕ) : Finset (Fin 16384) := Finset.univ.filter fun n => n.val < 512 * a
def keyEmb (a : ℕ) (ha : a < 32) : Fin 512 ↪ Fin 16384 := ⟨fun j => ⟨512 * a + j.val, by omega⟩, fun i j h => Fin.ext (by have := congrArg Fin.val h; simp only at this; omega)⟩
theorem keyEmb_val (a : ℕ) (ha : a < 32) (j : Fin 512) : (keyEmb a ha j).val = 512 * a + j.val := rfl
def chunk (a : ℕ) (ha : a < 32) : Finset (Fin 16384) := Finset.univ.map (keyEmb a ha)

theorem seen_zero : seen 0 = ∅ := by
  unfold seen; simp
theorem seen_all : seen 32 = Finset.univ := by
  unfold seen; ext n; simp only [Finset.mem_filter, Finset.mem_univ, true_and, iff_true]; omega
theorem mem_chunk (a : ℕ) (ha : a < 32) (n : Fin 16384) : n ∈ chunk a ha ↔ 512 * a ≤ n.val ∧ n.val < 512 * a + 512 := by
  unfold chunk
  simp only [Finset.mem_map, Finset.mem_univ, true_and]
  constructor
  · rintro ⟨j, rfl⟩; rw [keyEmb_val]; omega
  · rintro ⟨h0, h1⟩; exact ⟨⟨n.val - 512 * a, by omega⟩, Fin.ext (by rw [keyEmb_val]; simp only; omega)⟩
theorem seen_succ (a : ℕ) (ha : a < 32) : seen (a + 1) = seen a ∪ chunk a ha := by
  ext n
  rw [Finset.mem_union, mem_chunk]
  unfold seen
  simp only [Finset.mem_filter, Finset.mem_univ, true_and]
  omega
theorem seen_chunk (a : ℕ) (ha : a < 32) : Disjoint (seen a) (chunk a ha) := by
  rw [Finset.disjoint_left]
  intro n h
  rw [mem_chunk]
  unfold seen at h
  simp only [Finset.mem_filter, Finset.mem_univ, true_and] at h
  omega

section Chunk

variable (s w : Fin 16384 → EReal) (a : ℕ) (ha : a < 32)

theorem sum_chunk (f : Fin 16384 → EReal) : (∑ n ∈ chunk a ha, f n) = ∑ j : Fin 512, f (keyEmb a ha j) := by
  unfold chunk
  rw [Finset.sum_map]

theorem greatest_zero : greatest s (seen 0) = ⊥ := by rw [seen_zero]; rfl
theorem weighted_zero (μ : EReal) : weighted s w (seen 0) μ = 0 := by rw [seen_zero]; rfl

/-- The greatest score after one more chunk, from the scores of the chunk alone. -/
theorem greatest_step : max (greatest s (seen a)) (Finset.univ.fold max ⊥ fun j => s (keyEmb a ha j)) = greatest s (seen (a + 1)) := by
  rw [seen_succ a ha]
  unfold greatest chunk
  rw [Finset.sup_union, Finset.sup_map]
  rfl

/-- The weighted sum after one more chunk, from the scores and the values of the chunk alone. -/
theorem weighted_step (hs : ∀ n, ∃ x : ℝ, s n = (x : EReal)) :
    Ideal.exp (greatest s (seen a) - greatest s (seen (a + 1))) * weighted s w (seen a) (greatest s (seen a))
        + ∑ j : Fin 512, Ideal.exp (s (keyEmb a ha j) - greatest s (seen (a + 1))) * w (keyEmb a ha j)
      = weighted s w (seen (a + 1)) (greatest s (seen (a + 1))) := by
  have hne : (seen (a + 1)).Nonempty := ⟨⟨0, by decide⟩, by unfold seen; simp⟩
  have h := weighted_more w hs (seen_chunk a ha) (greatest_real hs hne)
  rw [← seen_succ a ha] at h
  rw [← h]
  unfold weighted
  rw [sum_chunk]

end Chunk

end Cert.Kernel2Ideal.Fwd

end
-- ==== Proof.Fwd.Holds.lean ====
/- What the attention's kernel keeps after some chunks of keys: each row's greatest score so far, and its weighted sums. -/
module

public import proofs.«01_k».proof.Proof.Fwd.Blocks
public import proofs.«01_k».proof.Proof.Fwd.Row

@[expose] public section

set_option maxRecDepth 16384

noncomputable section

namespace Cert.Kernel2Ideal.Fwd

open Idealize.ShloMosaic Idealize.ShloMosaic.TcCoe Idealize.SL.Sem Cert.Kernel2Ideal.Gen

section Rows

variable (s : Fin 2048 → Fin 16384 → EReal) (w : Fin 256 → Fin 16384 → EReal)

/-- What is kept stands for the first `a` chunks of the keys, where `s` has the rows' scores and `w` the lanes' values. -/
structure Holds (z : Kept Ideal) (a : ℕ) : Prop where
  max_at : ∀ (r : Fin 2048) (l : Fin 128), z.max (ix2 r l) = greatest (s r) (seen a)
  acc_at : ∀ (r : Fin 2048) (x : Fin 256), z.acc (ix2 r x) = weighted (s r) (w x) (seen a) (greatest (s r) (seen a))

theorem start_max (r : Fin 2048) (l : Fin 128) : (Kept.start (F := Ideal)).max (ix2 r l) = ⊥ := by
  unfold Kept.start
  dsimp only
  rw [← lowest]
  pointwise [k0_pay8]
theorem start_acc (r : Fin 2048) (x : Fin 256) : (Kept.start (F := Ideal)).acc (ix2 r x) = 0 := by
  unfold Kept.start
  dsimp only
  pointwise [k0_pay9]

theorem holds_start : Holds s w Kept.start 0 :=
  ⟨fun r l => (start_max r l).trans (greatest_zero _).symm, fun r x => (start_acc r x).trans (weighted_zero _ _ _).symm⟩

variable {s w}

theorem next_max (z : Kept Ideal) (q : Vec Ideal S1x2048x256 .bf16) (k v : Vec Ideal S1x512x256 .bf16) :
    (z.next q k v).max = newMax z.max (scores q k) := rfl
theorem next_acc (z : Kept Ideal) (q : Vec Ideal S1x2048x256 .bf16) (k v : Vec Ideal S1x512x256 .bf16) :
    (z.next q k v).acc = newAcc z.max (newMax z.max (scores q k)) z.acc (scores q k) (values v) := rfl

/-- One chunk. -/
theorem Holds.next (hs : ∀ r n, ∃ y : ℝ, s r n = (y : EReal)) {z : Kept Ideal} {a : ℕ} (ha : a < 32) (H : Holds s w z a)
    {q : Vec Ideal S1x2048x256 .bf16} {k v : Vec Ideal S1x512x256 .bf16}
    (hk : ∀ r j, scores q k (ix2 r j) = s r (keyEmb a ha j)) (hv : ∀ j x, values v (ix2 j x) = w x (keyEmb a ha j)) :
    Holds s w (z.next q k v) (a + 1) := by
  have hm : ∀ (r : Fin 2048) (l : Fin 128), newMax z.max (scores q k) (ix2 r l) = greatest (s r) (seen (a + 1)) := fun r l => by
    rw [newMax_at, H.max_at, ← greatest_step (s r) a ha]
    simp only [hk]
  refine ⟨fun r l => ?_, fun r x => ?_⟩
  · rw [next_max]; exact hm r l
  rw [next_acc, newAcc_at, H.max_at, H.acc_at, hm, ← weighted_step (s r) (w x) a ha (hs r)]
  simp only [hk, hv, hm]

/-- The four chunks of a grid point. -/
theorem Holds.point (hs : ∀ r n, ∃ y : ℝ, s r n = (y : EReal)) {z : Kept Ideal} {b : ℕ} (hb : b < 8) (H : Holds s w z (4 * b))
    {q k v : Vec Ideal S1x2048x256 .bf16}
    (hk : ∀ (r n : Fin 2048), (∑ d : Fin 256, q (ix3 0 r d) * k (ix3 0 n d)) = s r ⟨2048 * b + n.val, by omega⟩)
    (hv : ∀ (n : Fin 2048) (x : Fin 256), v (ix3 0 n x) = w x ⟨2048 * b + n.val, by omega⟩) :
    Holds s w (z.point q k v) (4 * (b + 1)) := by
  have sk : ∀ (o i : ℕ) (inb) (ho : o = 512 * i) (hi : i < 4) (ha : 4 * b + i < 32) (r : Fin 2048) (j : Fin 512),
      scores q (part k o inb) (ix2 r j) = s r (keyEmb (4 * b + i) ha j) := fun o i inb ho hi ha r j => by
    rw [scores_at]
    simp only [part_at k o inb j _ (by omega)]
    rw [hk]
    exact congrArg (s r) (Fin.ext (by show 2048 * b + (o + j.val) = 512 * (4 * b + i) + j.val; omega))
  have sv : ∀ (o i : ℕ) (inb) (ho : o = 512 * i) (hi : i < 4) (ha : 4 * b + i < 32) (j : Fin 512) (x : Fin 256),
      values (part v o inb) (ix2 j x) = w x (keyEmb (4 * b + i) ha j) := fun o i inb ho hi ha j x => by
    rw [values_at, part_at v o inb j _ (by omega), hv]
    exact congrArg (w x) (Fin.ext (by show 2048 * b + (o + j.val) = 512 * (4 * b + i) + j.val; omega))
  exact (((H.next hs (by omega) (sk 0 0 _ rfl (by omega) _) (sv 0 0 _ rfl (by omega) _)).next hs (by omega)
      (sk 512 1 _ rfl (by omega) _) (sv 512 1 _ rfl (by omega) _)).next hs (by omega)
      (sk 1024 2 _ rfl (by omega) _) (sv 1024 2 _ rfl (by omega) _)).next hs (by omega)
      (sk 1536 3 _ rfl (by omega) _) (sv 1536 3 _ rfl (by omega) _)

end Rows

end Cert.Kernel2Ideal.Fwd

end
-- ==== Proof.Fwd.Sweep.lean ====
/- What the attention's call writes: along the sweep over the keys each row's greatest score and weighted sums build up, and
   the last point of each block of queries divides them. -/
module

public import proofs.«01_k».proof.Proof.Fwd.Holds

@[expose] public section

set_option maxRecDepth 16384

noncomputable section

namespace Cert.Kernel2Ideal.Fwd

open Idealize.ShloMosaic Idealize.ShloMosaic.TcCoe Idealize.SL.Sem Cert.Kernel2Ideal.Gen Cert.Kernel2Ideal.Value

section Read

variable (z : Kept Ideal) (r : Fin 2048) (l : Fin 128)

theorem total_at : z.total (ix2 r l) = z.acc (ix2 r ⟨128 + l.val, by omega⟩) := by
  pointwise [Kept.total]
theorem mean_at : z.mean (ix2 r l) = Ideal.div (z.acc (ix2 r ⟨l.val, by omega⟩)) (z.acc (ix2 r ⟨128 + l.val, by omega⟩)) := by
  pointwise [Kept.mean, Kept.total]
theorem logSum_at : z.logSum (ix2 r l) = z.max (ix2 r l) + Ideal.log (z.acc (ix2 r ⟨128 + l.val, by omega⟩)) := by
  pointwise [Kept.logSum, Kept.total]

end Read

variable (m : (ℓ : Loc nD τ sig) → Buf (Elt Ideal) ℓ) (c : Dev nD)

/-- The score of key `n` for query `r` of head `h`, and what lane `x` of its value holds. -/
def score (h : Fin 8) (r n : Fin 16384) : EReal := ∑ d : Fin 256, aq m c (ix3 h r d) * ak m c (ix3 h n d)
def valueOf (h : Fin 8) (x : Fin 256) (n : Fin 16384) : EReal := av m c (ix3 h n x)

variable (hs : ∀ h r n, ∃ y : ℝ, score m c h r n = (y : EReal))

/-- A grid point's rows' scores, and its lanes' values. -/
abbrev pScore (t : Fin cfg0.N) : Fin 2048 → Fin 16384 → EReal := fun r => score m c (hd t) (rowAt t r)
abbrev pValue (t : Fin cfg0.N) : Fin 256 → Fin 16384 → EReal := valueOf m c (hd t)

theorem block_score (t : Fin cfg0.N) (r n : Fin 2048) :
    (∑ d : Fin 256, bq m c t (ix3 0 r d) * bk m c t (ix3 0 n d)) = pScore m c t r ⟨2048 * (t.val % 8) + n.val, by omega⟩ :=
  Finset.sum_congr rfl fun d _ => congrArg₂ (· * ·) (bq_at m c t r d) (bk_at m c t n d)

include hs in
/-- A point's step. -/
theorem holds_step (t : Fin cfg0.N) {z : Kept Ideal} (H : Holds (pScore m c t) (pValue m c t) z (4 * (t.val % 8))) :
    Holds (pScore m c t) (pValue m c t) (z.point (bq m c t) (bk m c t) (bv m c t)) (4 * (t.val % 8 + 1)) :=
  H.point (fun r n => hs _ _ _) (Nat.mod_lt _ (by decide)) (block_score m c t) (bv_at m c t)

include hs in
/-- After grid point `n`: the keys of the blocks so far are seen. -/
theorem holds_kept : ∀ (n : ℕ) (hn : n < cfg0.N), Holds (pScore m c ⟨n, hn⟩) (pValue m c ⟨n, hn⟩) (kept m c n hn) (4 * (n % 8 + 1)) := by
  intro n
  induction n with
  | zero =>
    intro hn
    have h := holds_step m c hs ⟨0, hn⟩ (holds_start _ _)
    rwa [← kept_first m c ⟨0, hn⟩ rfl] at h
  | succ k ih =>
    intro hn
    by_cases h0 : (k + 1) % 8 = 0
    · have h := holds_step m c hs ⟨k + 1, hn⟩ (z := Kept.start) (by simp only [h0]; exact holds_start _ _)
      rwa [← kept_first m c ⟨k + 1, hn⟩ h0] at h
    · have H := ih (by omega)
      have eh : hd ⟨k, by omega⟩ = hd ⟨k + 1, hn⟩ := Fin.ext (by show k / 64 = (k + 1) / 64; omega)
      have er : rowAt ⟨k, by omega⟩ = rowAt ⟨k + 1, hn⟩ := funext fun r => Fin.ext (by show 2048 * (k / 8 % 8) + r.val = 2048 * ((k + 1) / 8 % 8) + r.val; omega)
      have H' : Holds (pScore m c ⟨k + 1, hn⟩) (pValue m c ⟨k + 1, hn⟩) (kept m c k (by omega)) (4 * ((k + 1) % 8)) := by
        have e : k % 8 + 1 = (k + 1) % 8 := by omega
        rw [← e]
        unfold pScore pValue at H ⊢
        rw [← eh, ← er]
        exact H
      have h := holds_step m c hs ⟨k + 1, hn⟩ H'
      by_cases h1 : (k + 1) % 8 = 7
      · have e := kept_last m c ⟨k + 1, hn⟩ h1
        simp only [Nat.add_sub_cancel] at e
        rwa [← e] at h
      · have e := kept_mid m c ⟨k + 1, hn⟩ h0 h1
        simp only [Nat.add_sub_cancel] at e
        rwa [← e] at h

/-! ## The arrays -/

/-- The point that writes row `r` of head `h`, and the row's place in its block. -/
abbrev ptOf (h : Fin 8) (r : Fin 16384) : Fin cfg0.N := ⟨64 * h.val + 8 * (r.val / 2048) + 7, lt_of_lt_of_eq (show 64 * h.val + 8 * (r.val / 2048) + 7 < 512 by omega) N_0.symm⟩
abbrev colOf (h : Fin 8) (l : Fin 128) : Fin 1024 := ⟨128 * h.val + l.val, by omega⟩
abbrev rowIn (r : Fin 16384) : Fin 2048 := ⟨r.val % 2048, Nat.mod_lt _ (by decide)⟩

theorem fold_kept (n : ℕ) (hn : 0 + n < cfg0.N) : Pipeline.accAt (fun n h => stAt0 m c n h junk0) (stAt0 m c) 0 n hn = outsAt0 m c n (by omega) :=
  (outsAt0_sweep m c n (by omega)).symm

theorem G3_at (h : Fin 8) (r : Fin 16384) (l : Fin 128) :
    G3 m c (ix2 r (colOf h l)) = (kept m c (ptOf h r).val (ptOf h r).isLt).mean (ix2 (rowIn r) l) := by
  have hN : (cfg0.N) = 512 := N_0
  have e : pt3Of (ix2 r (colOf h l)) = (ptOf h r).val := by
    show 8 * (1 * (r.val / 2048 - 0) + 8 * ((128 * h.val + l.val) / 128 - 0)) + 7 = 64 * h.val + 8 * (r.val / 2048) + 7
    omega
  have el : loc3Of (ix2 r (colOf h l)) = ix2 (rowIn r) l := by
    funext a
    fin_cases a
    · rfl
    · exact Fin.ext (by show (128 * h.val + l.val) % 128 = l.val; omega)
  have w := congrArg Prod.fst (written m c (ptOf h r) (by show (64 * h.val + 8 * (r.val / 2048) + 7) % 8 = 7; omega))
  dsimp only at w
  unfold G3
  rw [dif_pos (by rw [e]; exact (ptOf h r).isLt), el, fold_kept, ← w]
  simp only [e]

theorem G4_at (h : Fin 8) (r : Fin 16384) (l : Fin 128) :
    G4 m c (ix2 r (colOf h l)) = (kept m c (ptOf h r).val (ptOf h r).isLt).logSum (ix2 (rowIn r) l) := by
  have hN : (cfg0.N) = 512 := N_0
  have e : pt4Of (ix2 r (colOf h l)) = (ptOf h r).val := by
    show 8 * (1 * (r.val / 2048 - 0) + 8 * ((128 * h.val + l.val) / 128 - 0)) + 7 = 64 * h.val + 8 * (r.val / 2048) + 7
    omega
  have el : loc4Of (ix2 r (colOf h l)) = ix2 (rowIn r) l := by
    funext a
    fin_cases a
    · rfl
    · exact Fin.ext (by show (128 * h.val + l.val) % 128 = l.val; omega)
  have w := congrArg Prod.snd (written m c (ptOf h r) (by show (64 * h.val + 8 * (r.val / 2048) + 7) % 8 = 7; omega))
  dsimp only at w
  unfold G4
  rw [dif_pos (by rw [e]; exact (ptOf h r).isLt), el, fold_kept, ← w]
  simp only [e]

include hs in
/-- What is kept at the last point of a block of queries: all keys are seen. -/
theorem kept_all (h : Fin 8) (r : Fin 16384) :
    (∀ l : Fin 128, (kept m c (ptOf h r).val (ptOf h r).isLt).max (ix2 (rowIn r) l) = greatest (score m c h r) Finset.univ)
    ∧ ∀ x : Fin 256, (kept m c (ptOf h r).val (ptOf h r).isLt).acc (ix2 (rowIn r) x)
      = weighted (score m c h r) (valueOf m c h x) Finset.univ (greatest (score m c h r) Finset.univ) := by
  have H := holds_kept m c hs (ptOf h r).val (ptOf h r).isLt
  have e32 : 4 * ((ptOf h r).val % 8 + 1) = 32 := by show 4 * ((64 * h.val + 8 * (r.val / 2048) + 7) % 8 + 1) = 32; omega
  have eh : hd (ptOf h r) = h := Fin.ext (by show (64 * h.val + 8 * (r.val / 2048) + 7) / 64 = h.val; omega)
  have er : rowAt (ptOf h r) (rowIn r) = r := Fin.ext (by
    show 2048 * ((64 * h.val + 8 * (r.val / 2048) + 7) / 8 % 8) + r.val % 2048 = r.val; omega)
  rw [e32] at H
  refine ⟨fun l => ?_, fun x => ?_⟩
  · have a := H.max_at (rowIn r) l
    rw [seen_all] at a
    exact a.trans (congrArg₂ (fun h' r' => greatest (score m c h' r') Finset.univ) eh er)
  · have a := H.acc_at (rowIn r) x
    rw [seen_all] at a
    exact a.trans (congrArg₂ (fun h' r' => weighted (score m c h' r') (valueOf m c h' x) Finset.univ (greatest (score m c h' r') Finset.univ)) eh er)

end Cert.Kernel2Ideal.Fwd

end
-- ==== Proof.Fwd.Ref.lean ====
/- The reference's attention, read at an index. -/
module

public import proofs.«01_k».proof.Proof.Gen.Reference2Ideal.Read
public import proofs.«01_k».proof.Proof.Fwd.Row
public import Idealize.ShloMosaic.Lib.Pipeline.ValueKit

@[expose] public section

set_option maxRecDepth 16384

noncomputable section

namespace Cert.Reference2Ideal.Fwd

open Cert.Reference2Ideal.Gen Cert.Reference2Ideal.Read
open Cert.Kernel2Ideal.Fwd (greatest)
open Idealize.ShloMosaic Idealize.ShloMosaic.TcCoe Idealize.SL.Sem

/-- Two indices with the same coordinates are one. -/
theorem same2 {a b : Nat} {i j : (⟨2, ![a, b]⟩ : Shape).Idx} (h0 : i 0 = j 0) (h1 : i 1 = j 1) : i = j := by
  funext d; match d with | ⟨0, _⟩ => exact h0 | ⟨1, _⟩ => exact h1
theorem same3 {a b c : Nat} {i j : (⟨3, ![a, b, c]⟩ : Shape).Idx} (h0 : i 0 = j 0) (h1 : i 1 = j 1) (h2 : i 2 = j 2) : i = j := by
  funext d; match d with | ⟨0, _⟩ => exact h0 | ⟨1, _⟩ => exact h1 | ⟨2, _⟩ => exact h2

theorem least : FloatOps.ofBits (F := Ideal) .f32 0xFF800000#32 = (⊥ : EReal) := by
  show Ideal.ofBits .f32 0xFF800000#32 = ⊥
  simp [Ideal.ofBits, Ideal.ieee]
theorem nought : FloatOps.ofBits (F := Ideal) .f32 0x00000000#32 = (0 : EReal) := Ideal.ofBits_zero_f32

variable (x0 : Vec Ideal S16384x8x128 .f32) (x1 : Vec Ideal S16384x8x64 .f32) (x2 : Vec Ideal S16384x8x128 .f32)
  (x3 : Vec Ideal S16384x64 .f32) (x4 : Vec Ideal S16384x8x128 .f32) (h : Fin 8) (r n : Fin 16384)

/-- The score of key `n` for query `r` of head `h`, and a row's greatest score. -/
def rScore (h : Fin 8) (r n : Fin 16384) : EReal :=
  (∑ x : Fin 128, x0 (ix3 r h x) * x2 (ix3 n h x)) + ∑ x : Fin 64, x3 (ix2 n x) * x1 (ix3 r h x)
abbrev rTop (h : Fin 8) (r : Fin 16384) : EReal := greatest (rScore x0 x1 x2 x3 h r) Finset.univ

theorem scores_read : val_main_v3 (F := Ideal) x0 x1 x2 x3 (ix3 h r n) = rScore x0 x1 x2 x3 h r n := by
  rw [val_main_v3_apply, val_main_v0_apply, val_main_v2_apply, val_main_v1_apply]
  exact congrArg₂ (· + ·)
    (Finset.sum_congr rfl fun x _ => congrArg₂ (· * ·) (congrArg x0 (same3 rfl rfl rfl)) (congrArg x2 (same3 rfl rfl rfl)))
    (Finset.sum_congr rfl fun x _ => congrArg₂ (· * ·) (congrArg x3 (same2 rfl rfl)) (congrArg x1 (same3 rfl rfl rfl)))

/-- The greatest element of each row of an array. -/
def rowMax (S : FVec Ideal S8x16384x16384 .f32) : FVec Ideal S8x16384 .f32 :=
  Host.reduce FloatOps.maximumf S (constant (F := Ideal) S_ .f32 0xFF800000#32) reducesTo_S8x16384x16384_S8x16384_d2 h_S_
theorem rowMax_at (S : FVec Ideal S8x16384x16384 .f32) : rowMax S (ix2 h r) = greatest (fun n => S (ix3 h r n)) Finset.univ := by
  show _ = Finset.univ.fold max ⊥ fun n => S (ix3 h r n)
  rw [← least]
  pointwise [rowMax]

theorem top_read : val_main_v4 (F := Ideal) x0 x1 x2 x3 (ix2 h r) = rTop x0 x1 x2 x3 h r :=
  (rowMax_at h r (val_main_v3 (F := Ideal) x0 x1 x2 x3)).trans (congrArg (greatest · Finset.univ) (funext fun n => scores_read x0 x1 x2 x3 h r n))
theorem top_again : val_main_v15 (F := Ideal) x0 x1 x2 x3 (ix2 h r) = rTop x0 x1 x2 x3 h r := by
  rw [val_main_v15_apply, val_main_v14_apply, val_main_cst_2_apply, least]
  exact (max_eq_right bot_le).trans (top_read x0 x1 x2 x3 h r)

theorem weight_read : val_main_v8 (F := Ideal) x0 x1 x2 x3 (ix3 h r n) = Ideal.exp (rScore x0 x1 x2 x3 h r n - rTop x0 x1 x2 x3 h r) := by
  rw [val_main_v8_apply, val_main_v7_apply, val_main_v6_apply, val_main_v5_apply, scores_read,
    show idx_main_v5 (idx_main_v6 (ix3 h r n)) = ix2 h r from same2 rfl rfl, top_read]
  rfl
theorem weight_again : val_main_v19 (F := Ideal) x0 x1 x2 x3 (ix3 h r n) = Ideal.exp (rScore x0 x1 x2 x3 h r n - rTop x0 x1 x2 x3 h r) := by
  rw [val_main_v19_apply, val_main_v18_apply, val_main_v17_apply, val_main_v16_apply, scores_read,
    show idx_main_v16 (idx_main_v17 (ix3 h r n)) = ix2 h r from same2 rfl rfl, top_again]
  rfl

/-- The log of the sum of the exponentials of a row's scores. -/
theorem logSum_read : val_main_v12 (F := Ideal) x0 x1 x2 x3 (ix3 h r 0)
    = rTop x0 x1 x2 x3 h r + Ideal.log (∑ n, Ideal.exp (rScore x0 x1 x2 x3 h r n - rTop x0 x1 x2 x3 h r)) := by
  rw [val_main_v12_apply, val_main_v11_apply, val_main_v10_apply, val_main_v5_apply,
    show idx_main_v5 (ix3 h r (0 : Fin 1)) = ix2 h r from same2 rfl rfl, show idx_main_v10 (ix3 h r (0 : Fin 1)) = ix2 h r from same2 rfl rfl,
    top_read, val_main_v9_apply, val_main_cst_0_apply, nought, zero_add]
  simp only [show ∀ k, idx_main_v9 (ix2 h r) k = ix3 h r k from fun k => same3 rfl rfl rfl, weight_read]
  generalize (∑ n, Ideal.exp (rScore x0 x1 x2 x3 h r n - rTop x0 x1 x2 x3 h r)) = z
  generalize rTop x0 x1 x2 x3 h r = y
  rfl

/-- The share of key `n` in the weights of a row. -/
theorem share_read : val_main_v23 (F := Ideal) x0 x1 x2 x3 (ix3 h r n)
    = Ideal.div (Ideal.exp (rScore x0 x1 x2 x3 h r n - rTop x0 x1 x2 x3 h r)) (∑ k, Ideal.exp (rScore x0 x1 x2 x3 h r k - rTop x0 x1 x2 x3 h r)) := by
  rw [val_main_v23_apply, val_main_v22_apply, val_main_v21_apply, weight_again,
    show idx_main_v21 (idx_main_v22 (ix3 h r n)) = ix2 h r from same2 rfl rfl, val_main_v20_apply, val_main_cst_3_apply, nought, zero_add]
  simp only [show ∀ k, idx_main_v20 (ix2 h r) k = ix3 h r k from fun k => same3 rfl rfl rfl, weight_again]
  generalize (∑ n, Ideal.exp (rScore x0 x1 x2 x3 h r n - rTop x0 x1 x2 x3 h r)) = z
  generalize Ideal.exp (rScore x0 x1 x2 x3 h r n - rTop x0 x1 x2 x3 h r) = y
  rfl

/-- Column `l` of head `h` where the heads lie side by side. -/
abbrev colAt (h : Fin 8) (l : Fin 128) : Fin 1024 := ⟨128 * h.val + l.val, by omega⟩

theorem mean_read (l : Fin 128) : val_main_v28 (F := Ideal) x0 x1 x2 x3 x4 (ix2 r (colAt h l))
    = ∑ n, x4 (ix3 n h l) * Ideal.div (Ideal.exp (rScore x0 x1 x2 x3 h r n - rTop x0 x1 x2 x3 h r)) (∑ k, Ideal.exp (rScore x0 x1 x2 x3 h r k - rTop x0 x1 x2 x3 h r)) := by
  have e : idx_main_v28 (ix2 r (colAt h l)) = ix3 r h l := same3
    (Fin.ext (by show _ = r.val; simp; omega))
    (Fin.ext (by show _ = h.val; simp; omega))
    (Fin.ext (by show _ = l.val; simp; omega))
  rw [val_main_v28_apply, e, val_main_v25_apply, val_main_v24_apply]
  refine Finset.sum_congr rfl fun n _ => congrArg₂ (· * ·) (congrArg x4 (same3 rfl rfl rfl)) ?_
  rw [← share_read]
  exact congrArg _ (same3 rfl rfl rfl)

theorem logs_read (l : Fin 128) : val_main_v29 (F := Ideal) x0 x1 x2 x3 (ix2 r (colAt h l))
    = rTop x0 x1 x2 x3 h r + Ideal.log (∑ n, Ideal.exp (rScore x0 x1 x2 x3 h r n - rTop x0 x1 x2 x3 h r)) := by
  have e : idx_main_v29 (ix2 r (colAt h l)) = ix3 r h l := same3
    (Fin.ext (by show _ = r.val; simp; omega))
    (Fin.ext (by show _ = h.val; simp; omega))
    (Fin.ext (by show _ = l.val; simp; omega))
  rw [val_main_v29_apply, e, val_main_v27_apply, val_main_v26_apply, ← logSum_read]
  exact congrArg _ (same3 rfl rfl rfl)

end Cert.Reference2Ideal.Fwd

end
-- ==== Proof.Fwd.Equal.lean ====
/- The attention's value claim: where the queries and the keys are numbers, the kernel's two results are the reference's. -/
module

public import proofs.«01_k».proof.Proof.Fwd.Sweep
public import proofs.«01_k».proof.Proof.Fwd.Ref
public import proofs.«01_k».proof.Proof.Gen.Reference2Ideal.Run
public import proofs.«01_k».proof.Defs

@[expose] public section

set_option maxRecDepth 16384

noncomputable section

namespace Cert.Kernel2Ideal.Fwd

open Idealize.ShloMosaic Idealize.ShloMosaic.TcCoe Idealize.SL.Sem Cert.Kernel2Ideal.Gen Cert.Kernel2Ideal.Value
open Cert.Reference2Ideal.Fwd (rScore same2 mean_read logs_read)
open Cert.Reference2Ideal.Read (val_main_v28 val_main_v29 val_main_v28_eq val_main_v29_eq)

/-! ## The product over the lanes is the score -/

/-- A sum over the lanes in three parts: 128, 64 and 64. -/
theorem lanes_split (g : Fin 256 → EReal) : (∑ x, g x)
    = ((∑ x : Fin 128, g ⟨x.val, by omega⟩) + ∑ x : Fin 64, g ⟨128 + x.val, by omega⟩) + ∑ x : Fin 64, g ⟨192 + x.val, by omega⟩ := by
  have a := Fin.sum_univ_add (M := EReal) (a := 192) (b := 64) g
  have b := Fin.sum_univ_add (M := EReal) (a := 128) (b := 64) fun x => g (Fin.castAdd 64 x)
  exact a.trans (congrArg (· + _) b)

variable (m : (ℓ : Loc nD τ sig) → Buf (Elt Ideal) ℓ) (c : Dev nD)

theorem score_eq (h : Fin 8) (r n : Fin 16384) : score m c h r n = rScore (a0 m c) (a1 m c) (a2 m c) (a3 m c) h r n := by
  unfold score rScore
  rw [aq_eq, ak_eq, lanes_split]
  simp only [lanesQ_at, lanesK_at]
  have z : ∀ x : Fin 64, ¬192 + x.val < 128 ∧ ¬192 + x.val - 128 < 64 := fun x => by omega
  have p : ∀ x : Fin 64, ¬128 + x.val < 128 ∧ 128 + x.val - 128 < 64 := fun x => by omega
  simp only [z, p, Fin.isLt, dite_true, dite_false, mul_zero, zero_mul, Finset.sum_const_zero, add_zero, Nat.add_sub_cancel_left, Fin.eta, mul_comm (a1 m c _)]

theorem value_eq (h : Fin 8) (l : Fin 128) (n : Fin 16384) : valueOf m c h ⟨l.val, by omega⟩ n = a4 m c (ix3 n h l) := by
  unfold valueOf
  rw [av_eq, lanesV_at, dif_pos l.isLt]
theorem ones_eq (h : Fin 8) (l : Fin 128) : valueOf m c h ⟨128 + l.val, by omega⟩ = fun _ => 1 := by
  funext n
  unfold valueOf
  rw [av_eq, lanesV_at, dif_neg (by simp)]

/-! ## The precondition -/

/-- Every element of an array is a real number. -/
def Numbers {s : Shape} (x : FVec Ideal s .f32) : Prop := ∀ i, ∃ y : ℝ, x i = (y : EReal)

theorem factsScores : Cert.Pre_finite_scores.Facts := ⟨by decide, by decide, by decide⟩

theorem number_of_lt (x : EReal) (h : Ideal.cmp .olt (max x (-x)) (Ideal.ofBits .f32 0x7F800000#32) = 1#1) : ∃ y : ℝ, x = (y : EReal) := by
  rw [show Ideal.ofBits .f32 0x7F800000#32 = ⊤ by simp [Ideal.ofBits, Ideal.ieee]] at h
  have ht : x ≠ ⊤ := by rintro rfl; simp [Ideal.cmp] at h
  have hb : x ≠ ⊥ := by rintro rfl; simp [Ideal.cmp] at h
  exact ⟨x.toReal, (EReal.coe_toReal ht hb).symm⟩

theorem numbers_of_pre (hp : @Cert.Pre_Kernel2Ideal_finite_scores factsScores m) :
    Numbers (a0 m c) ∧ Numbers (a1 m c) ∧ Numbers (a2 m c) ∧ Numbers (a3 m c) := by
  obtain ⟨h0, h1, h2, h3⟩ := hp c
  exact ⟨fun i => number_of_lt _ (congrFun h0 i), fun i => number_of_lt _ (congrFun h1 i), fun i => number_of_lt _ (congrFun h2 i),
    fun i => number_of_lt _ (congrFun h3 i)⟩

/-- A sum of products of numbers is a number. -/
theorem sum_number {ι : Type} [Fintype ι] {f g : ι → EReal} (hf : ∀ i, ∃ y : ℝ, f i = (y : EReal)) (hg : ∀ i, ∃ y : ℝ, g i = (y : EReal)) :
    ∃ y : ℝ, (∑ i, f i * g i) = (y : EReal) := by
  choose a ha using hf
  choose b hb using hg
  refine ⟨∑ i, a i * b i, ?_⟩
  rw [← sum_coe]
  exact Finset.sum_congr rfl fun i _ => by rw [ha, hb, EReal.coe_mul]

theorem score_number (hp : @Cert.Pre_Kernel2Ideal_finite_scores factsScores m) (h : Fin 8) (r n : Fin 16384) :
    ∃ y : ℝ, score m c h r n = (y : EReal) := by
  obtain ⟨f0, f1, f2, f3⟩ := numbers_of_pre m c hp
  obtain ⟨y, hy⟩ := sum_number (fun x : Fin 128 => f0 (ix3 r h x)) (fun x => f2 (ix3 n h x))
  obtain ⟨z, hz⟩ := sum_number (fun x : Fin 64 => f3 (ix2 n x)) (fun x => f1 (ix3 r h x))
  refine ⟨y + z, ?_⟩
  rw [score_eq, EReal.coe_add, ← hy, ← hz]
  rfl

/-! ## The results -/

section
variable (hp : @Cert.Pre_Kernel2Ideal_finite_scores factsScores m)
include hp

theorem mean_eq : G3 m c = val_main_v28 (F := Ideal) (a0 m c) (a1 m c) (a2 m c) (a3 m c) (a4 m c) := by
  funext i
  obtain ⟨r, h, l, rfl⟩ : ∃ (r : Fin 16384) (h : Fin 8) (l : Fin 128), i = ix2 r (colOf h l) :=
    ⟨i 0, ⟨(i 1).val / 128, by have : (i 1).val < 1024 := (i 1).isLt; omega⟩, ⟨(i 1).val % 128, by omega⟩,
      same2 rfl (Fin.ext (by show (i 1).val = 128 * ((i 1).val / 128) + (i 1).val % 128; omega))⟩
  have hs := score_number m c hp
  obtain ⟨-, ha⟩ := kept_all m c hs h r
  rw [G3_at, mean_at, ha, ha, ones_eq, weighted_div _ (hs h r) (greatest_real (hs h r) Finset.univ_nonempty), mean_read]
  simp only [value_eq, funext (score_eq m c h r)]

theorem logSum_eq : G4 m c = val_main_v29 (F := Ideal) (a0 m c) (a1 m c) (a2 m c) (a3 m c) := by
  funext i
  obtain ⟨r, h, l, rfl⟩ : ∃ (r : Fin 16384) (h : Fin 8) (l : Fin 128), i = ix2 r (colOf h l) :=
    ⟨i 0, ⟨(i 1).val / 128, by have : (i 1).val < 1024 := (i 1).isLt; omega⟩, ⟨(i 1).val % 128, by omega⟩,
      same2 rfl (Fin.ext (by show (i 1).val = 128 * ((i 1).val / 128) + (i 1).val % 128; omega))⟩
  obtain ⟨hm, ha⟩ := kept_all m c (score_number m c hp) h r
  rw [G4_at, logSum_at, hm, ha, ones_eq, weighted_one, logs_read]
  simp only [funext (score_eq m c h r)]

end

/-- The two programs' results are the same, in the extended reals, where the queries and the keys are numbers. -/
theorem equal : @Cert.algebraic_Kernel2Ideal_Reference2Ideal_pre_finite_scores Cert.Kernel2Ideal.Gen.facts Cert.Reference2Ideal.Gen.facts factsScores := by
  intro m g m' g' hp hargs
  refine ⟨fun c => G3 m c, fun c => G4 m c, Cert.Kernel2Ideal.Value.run m g, ?_⟩
  refine (θ_run _ _ _).mono (fun r hr c => ?_) (Cert.Reference2Ideal.Value.run (F := Ideal) m' g')
  obtain ⟨e0, e1, e2, e3, e4⟩ := hargs c
  obtain ⟨h28, h29, hrest⟩ := hr c
  refine ⟨h28.trans ?_, h29.trans ?_, hrest⟩
  · rw [val_main_v28_eq, e0, e1, e2, e3, e4]; exact (mean_eq m c hp).symm
  · rw [val_main_v29_eq, e0, e1, e2, e3]; exact (logSum_eq m c hp).symm

end Cert.Kernel2Ideal.Fwd

end
-- ==== Proof.Ffn.Frames.lean ====
/- The frames of the calls of a SwiGLU layer: each version's program at the machine's numbers, its reading in the extended
   reals, and its reference. The two readings are of one program, whose frame holds for any reading of the floats. -/
module

public import proofs.«01_k».proof.Defs
public import proofs.«01_k».proof.Proof.Gen.Kernel3
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal
public import proofs.«01_k».proof.Proof.Gen.Reference9Ideal.Run

@[expose] public section

set_option maxRecDepth 16384
set_option smartUnfolding false
set_option maxHeartbeats 0

noncomputable section

open Idealize.ShloMosaic Idealize.SL.Sem

/-! ## Of the gradient of the layer's input -/

namespace Cert.Kernel3Ideal.Ffn

theorem frame_kernel : @Cert.quiescent_Kernel3 Cert.Kernel3.Gen.facts := fun m ρ _ => Cert.Kernel3Ideal.Gen.frame (F := Bits) m ρ
theorem frame_ideal : @Cert.quiescent_Kernel3Ideal Cert.Kernel3Ideal.Gen.facts := fun m ρ _ => Cert.Kernel3Ideal.Gen.frame m ρ
theorem frame_reference : @Cert.quiescent_Reference3Ideal Cert.Reference3Ideal.Gen.facts := fun m ρ _ =>
  (θ_run _ _ _).mono (fun r h => ⟨fun c => (h c).2, sem_eq_zero_of_no_sems (by decide) r.2⟩) (Cert.Reference3Ideal.Value.run m ρ)

end Cert.Kernel3Ideal.Ffn

/-! ## Of the gradient of half of the first weights -/

namespace Cert.Kernel4Ideal.Ffn

theorem frame_kernel : @Cert.quiescent_Kernel4 Cert.Kernel4.Gen.facts := fun m ρ _ => Cert.Kernel4Ideal.Gen.frame (F := Bits) m ρ
theorem frame_ideal : @Cert.quiescent_Kernel4Ideal Cert.Kernel4Ideal.Gen.facts := fun m ρ _ => Cert.Kernel4Ideal.Gen.frame m ρ
theorem frame_reference : @Cert.quiescent_Reference4Ideal Cert.Reference4Ideal.Gen.facts := fun m ρ _ =>
  (θ_run _ _ _).mono (fun r h => ⟨fun c => (h c).2, sem_eq_zero_of_no_sems (by decide) r.2⟩) (Cert.Reference4Ideal.Value.run m ρ)

end Cert.Kernel4Ideal.Ffn

/-! ## Of the gradient of the last weights -/

namespace Cert.Kernel5Ideal.Ffn

theorem frame_kernel : @Cert.quiescent_Kernel5 Cert.Kernel5.Gen.facts := fun m ρ _ => Cert.Kernel5Ideal.Gen.frame (F := Bits) m ρ
theorem frame_ideal : @Cert.quiescent_Kernel5Ideal Cert.Kernel5Ideal.Gen.facts := fun m ρ _ => Cert.Kernel5Ideal.Gen.frame m ρ
theorem frame_reference : @Cert.quiescent_Reference5Ideal Cert.Reference5Ideal.Gen.facts := fun m ρ _ =>
  (θ_run _ _ _).mono (fun r h => ⟨fun c => (h c).2, sem_eq_zero_of_no_sems (by decide) r.2⟩) (Cert.Reference5Ideal.Value.run m ρ)

end Cert.Kernel5Ideal.Ffn

/-! ## Of the first product and its gate: three results -/

namespace Cert.Kernel6Ideal.Ffn

theorem frame_kernel : @Cert.quiescent_Kernel6 Cert.Kernel6.Gen.facts := fun m ρ _ => Cert.Kernel6Ideal.Gen.frame (F := Bits) m ρ
theorem frame_ideal : @Cert.quiescent_Kernel6Ideal Cert.Kernel6Ideal.Gen.facts := fun m ρ _ => Cert.Kernel6Ideal.Gen.frame m ρ
theorem frame_reference : @Cert.quiescent_Reference6Ideal Cert.Reference6Ideal.Gen.facts := fun m ρ _ =>
  (θ_run _ _ _).mono (fun r h => ⟨fun c => (h c).2.2.2, sem_eq_zero_of_no_sems (by decide) r.2⟩) (Cert.Reference6Ideal.Value.run m ρ)

end Cert.Kernel6Ideal.Ffn

/-! ## Of the gradients of the gate and of what it gates: two results -/

namespace Cert.Kernel7Ideal.Ffn

theorem frame_kernel : @Cert.quiescent_Kernel7 Cert.Kernel7.Gen.facts := fun m ρ _ => Cert.Kernel7Ideal.Gen.frame (F := Bits) m ρ
theorem frame_ideal : @Cert.quiescent_Kernel7Ideal Cert.Kernel7Ideal.Gen.facts := fun m ρ _ => Cert.Kernel7Ideal.Gen.frame m ρ
theorem frame_reference : @Cert.quiescent_Reference7Ideal Cert.Reference7Ideal.Gen.facts := fun m ρ _ =>
  (θ_run _ _ _).mono (fun r h => ⟨fun c => (h c).2.2, sem_eq_zero_of_no_sems (by decide) r.2⟩) (Cert.Reference7Ideal.Value.run m ρ)

end Cert.Kernel7Ideal.Ffn

/-! ## Of the last product and the norm after it: two results -/

namespace Cert.Kernel8Ideal.Ffn

theorem frame_kernel : @Cert.quiescent_Kernel8 Cert.Kernel8.Gen.facts := fun m ρ _ => Cert.Kernel8Ideal.Gen.frame (F := Bits) m ρ
theorem frame_ideal : @Cert.quiescent_Kernel8Ideal Cert.Kernel8Ideal.Gen.facts := fun m ρ _ => Cert.Kernel8Ideal.Gen.frame m ρ
theorem frame_reference : @Cert.quiescent_Reference8Ideal Cert.Reference8Ideal.Gen.facts := fun m ρ _ =>
  (θ_run _ _ _).mono (fun r h => ⟨fun c => (h c).2.2, sem_eq_zero_of_no_sems (by decide) r.2⟩) (Cert.Reference8Ideal.Value.run m ρ)

end Cert.Kernel8Ideal.Ffn

/-! ## Of the gradient of the norm: three results -/

namespace Cert.Kernel9Ideal.Ffn

theorem frame_kernel : @Cert.quiescent_Kernel9 Cert.Kernel9.Gen.facts := fun m ρ _ => Cert.Kernel9Ideal.Gen.frame (F := Bits) m ρ
theorem frame_ideal : @Cert.quiescent_Kernel9Ideal Cert.Kernel9Ideal.Gen.facts := fun m ρ _ => Cert.Kernel9Ideal.Gen.frame m ρ
theorem frame_reference : @Cert.quiescent_Reference9Ideal Cert.Reference9Ideal.Gen.facts := fun m ρ _ =>
  (θ_run _ _ _).mono (fun r h => ⟨fun c => (h c).2.2.2, sem_eq_zero_of_no_sems (by decide) r.2⟩) (Cert.Reference9Ideal.Value.run m ρ)

end Cert.Kernel9Ideal.Ffn

end
-- ==== Proof.Ffn.Sums.lean ====
/- Sums taken in parts: in two halves, or in blocks of 512 one after another. -/
module

public import Idealize.ShloMosaic.Lib.Pipeline.ValueKit

@[expose] public section

noncomputable section

namespace Cert.Ffn

open Idealize.ShloMosaic

/-- Two places of an array with the same row and column are one. -/
theorem same {a b : Nat} {i j : (⟨2, ![a, b]⟩ : Shape).Idx} (h0 : i 0 = j 0) (h1 : i 1 = j 1) : i = j := by
  funext d; match d with | ⟨0, _⟩ => exact h0 | ⟨1, _⟩ => exact h1

/-- A sum over 5632 columns is the sum over the first half and the sum over the second. -/
theorem halves (g : Fin 5632 → EReal) :
    (∑ k, g k) = (∑ k : Fin 2816, g ⟨k.val, by omega⟩) + ∑ k : Fin 2816, g ⟨2816 + k.val, by omega⟩ :=
  Fin.sum_univ_add (M := EReal) (a := 2816) (b := 2816) g

/-- A sum of products, the factors the other way round. -/
theorem swapped {n : ℕ} (a b : Fin n → EReal) : (∑ k, a k * b k) = ∑ k, b k * a k := Finset.sum_congr rfl fun k _ => mul_comm (a k) (b k)

/-- The sum over the first `512 * n` of 16384 rows. -/
def upTo (g : Fin 16384 → EReal) (n : ℕ) : EReal := ∑ k ∈ Finset.range (512 * n), if h : k < 16384 then g ⟨k, h⟩ else 0

theorem upTo_zero (g : Fin 16384 → EReal) : upTo g 0 = 0 := rfl

/-- One more block of 512 rows. -/
theorem upTo_succ (g : Fin 16384 → EReal) {n : ℕ} (hn : n < 32) :
    upTo g (n + 1) = upTo g n + ∑ k : Fin 512, g ⟨512 * n + k.val, by omega⟩ := by
  unfold upTo
  rw [Nat.mul_succ, Finset.sum_range_add, Finset.sum_range (n := 512)]
  refine congrArg₂ (· + ·) rfl (Finset.sum_congr rfl fun k _ => dif_pos _)

/-- All 32 blocks are all rows. -/
theorem upTo_all (g : Fin 16384 → EReal) : upTo g 32 = ∑ k, g k := by
  unfold upTo
  rw [Finset.sum_range (n := 512 * 32)]
  exact Finset.sum_congr rfl fun k _ => dif_pos _

/-- What is kept over the points of a grid, when every 32nd point starts from nothing and each point adds its block of 512 rows: after
    a point, the sum over the blocks so far. -/
theorem sweep {N : ℕ} (a : ∀ n, n < N → EReal) (g : ℕ → Fin 16384 → EReal)
    (first : ∀ n (hn : n < N), n % 32 = 0 → a n hn = 0 + ∑ k : Fin 512, g (n / 32) ⟨512 * (n % 32) + k.val, by omega⟩)
    (next : ∀ n (hn : n < N), ¬n % 32 = 0 → a n hn = a (n - 1) (by omega) + ∑ k : Fin 512, g (n / 32) ⟨512 * (n % 32) + k.val, by omega⟩) :
    ∀ n (hn : n < N), a n hn = upTo (g (n / 32)) (n % 32 + 1) := by
  intro n
  induction n with
  | zero => exact fun hn => (first 0 hn rfl).trans (upTo_succ (g 0) (n := 0) (by decide)).symm
  | succ k ih =>
    intro hn
    by_cases h0 : (k + 1) % 32 = 0
    · rw [first _ hn h0, upTo_succ _ (by omega), ← upTo_zero (g ((k + 1) / 32))]
      exact congrArg (upTo (g ((k + 1) / 32)) · + _) h0.symm
    · rw [next _ hn h0, upTo_succ _ (by omega)]
      refine congrArg (· + _) ((ih (by omega)).trans ?_)
      rw [show k / 32 = (k + 1) / 32 by omega, show k % 32 + 1 = (k + 1) % 32 by omega]

/-- After the last point of a block of columns, what is kept is the sum over all rows. -/
theorem swept {N : ℕ} (a : ∀ n, n < N → EReal) (g : ℕ → Fin 16384 → EReal)
    (first : ∀ n (hn : n < N), n % 32 = 0 → a n hn = 0 + ∑ k : Fin 512, g (n / 32) ⟨512 * (n % 32) + k.val, by omega⟩)
    (next : ∀ n (hn : n < N), ¬n % 32 = 0 → a n hn = a (n - 1) (by omega) + ∑ k : Fin 512, g (n / 32) ⟨512 * (n % 32) + k.val, by omega⟩)
    (b : ℕ) (hb : 32 * b + 31 < N) : a (32 * b + 31) hb = ∑ r, g b r := by
  rw [sweep a g first next, show (32 * b + 31) / 32 = b by omega, show (32 * b + 31) % 32 + 1 = 32 by omega, upTo_all]

end Cert.Ffn

end
-- ==== Proof.Ffn.Input.lean ====
/- The gradient of a SwiGLU layer's input: what the call writes, what the reference computes, and that they are the same. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Ffn.Sums
public import proofs.«01_k».proof.Defs
public import Idealize.ShloMosaic.Lib.Pipeline.ValueKit.Acc

@[expose] public section

set_option maxRecDepth 16384

noncomputable section

/-! ## The kernel -/

namespace Cert.Kernel3Ideal.Ffn

open Idealize.ShloMosaic Idealize.ShloMosaic.TcCoe Idealize.SL.Sem Cert.Kernel3Ideal.Gen Cert.Kernel3Ideal.Value Cert.Ffn

/-- The constant by which the gradient of the sum is scaled on its way past the layer. -/
def alpha : EReal := Ideal.ofBits .f32 0x3FD744FD#32

/-- One element of what a point writes: the two products, and the scaled gradient of the sum. -/
theorem element (g u : Vec Ideal S256x2816 .bf16) (wg wu : Vec Ideal S1024x2816 .bf16) (z : Vec Ideal S256x1024 .f32) (r : Fin 256) (d : Fin 1024) :
    k0_pay4 (k0_pay3 u wu (k0_pay2 g wg (k0_pay1 (F := Ideal)))) z (ix2 r d)
      = (0 + ∑ k : Fin 2816, g (ix2 r k) * wg (ix2 d k)) + (∑ k : Fin 2816, u (ix2 r k) * wu (ix2 d k)) + alpha * z (ix2 r d) := by
  pointwise [k0_pay4, k0_pay3, k0_pay2, k0_pay1, alpha]

variable (m : (ℓ : Loc nD τ sig) → Buf (Elt Ideal) ℓ) (c : Dev nD)

/-- The four arguments. -/
abbrev dz : FVec Ideal S16384x1024 .f32 := m ((c.tc : Thread nD τ).loc main_arg0)
abbrev dg : FVec Ideal S16384x2816 .bf16 := m ((c.tc : Thread nD τ).loc main_arg1)
abbrev du : FVec Ideal S16384x2816 .bf16 := m ((c.tc : Thread nD τ).loc main_arg2)
abbrev w : FVec Ideal S1024x5632 .bf16 := m ((c.tc : Thread nD τ).loc main_arg3)

variable (t : Fin cfg0.N)

theorem lt_N : t.val < 64 := Nat.lt_of_lt_of_eq t.isLt N_0

/-- What a point writes, from its five blocks. -/
theorem writes : outsAt0 m c t = k0_pay4 (k0_pay3 (iblk m c 1 t) (iblk m c 3 t) (k0_pay2 (iblk m c 0 t) (iblk m c 2 t) (k0_pay1 (F := Ideal)))) (iblk m c 4 t) := by
  unfold outsAt0
  frame_out

abbrev rowAt (r : Fin 256) : Fin 16384 := ⟨256 * t.val + r.val, by have := lt_N t; omega⟩

theorem place0 : ∀ t : Fin cfg0.N, win0_0.index t = ![t.val, 0] := by decide +kernel
theorem place1 : ∀ t : Fin cfg0.N, win0_1.index t = ![t.val, 0] := by decide +kernel
theorem place2 : ∀ t : Fin cfg0.N, win0_2.index t = ![0, 0] := by decide +kernel
theorem place3 : ∀ t : Fin cfg0.N, win0_3.index t = ![0, 1] := by decide +kernel
theorem place4 : ∀ t : Fin cfg0.N, win0_4.index t = ![t.val, 0] := by decide +kernel
theorem place5 : ∀ t : Fin cfg0.N, win0_5.index t = ![t.val, 0] := by decide +kernel

theorem read0 (A : Vec Ideal S16384x2816 .bf16) (r : Fin 256) (k : Fin 2816) :
    ((cfg0.win 0).blk t).view.read (Elt Ideal) A (ix2 r k) = A (ix2 (rowAt t r) k) := by
  blk_ext [place0]
theorem read1 (A : Vec Ideal S16384x2816 .bf16) (r : Fin 256) (k : Fin 2816) :
    ((cfg0.win 1).blk t).view.read (Elt Ideal) A (ix2 r k) = A (ix2 (rowAt t r) k) := by
  blk_ext [place1]
theorem read2 (A : Vec Ideal S1024x5632 .bf16) (d : Fin 1024) (k : Fin 2816) :
    ((cfg0.win 2).blk t).view.read (Elt Ideal) A (ix2 d k) = A (ix2 d ⟨k.val, by omega⟩) := by
  blk_ext [place2]
theorem read3 (A : Vec Ideal S1024x5632 .bf16) (d : Fin 1024) (k : Fin 2816) :
    ((cfg0.win 3).blk t).view.read (Elt Ideal) A (ix2 d k) = A (ix2 d ⟨2816 + k.val, by omega⟩) := by
  blk_ext [place3]
theorem read4 (A : Vec Ideal S16384x1024 .f32) (r : Fin 256) (d : Fin 1024) :
    ((cfg0.win 4).blk t).view.read (Elt Ideal) A (ix2 r d) = A (ix2 (rowAt t r) d) := by
  blk_ext [place4]
theorem read5 (A : Vec Ideal S16384x1024 .f32) (r : Fin 256) (d : Fin 1024) :
    ((cfg0.win 5).blk t).view.read (Elt Ideal) A (ix2 r d) = A (ix2 (rowAt t r) d) := by
  blk_ext [place5]

/-- One element of the gradient. -/
def value (r : Fin 16384) (d : Fin 1024) : EReal :=
  (0 + ∑ k : Fin 2816, dg m c (ix2 r k) * w m c (ix2 d ⟨k.val, by omega⟩)) + (∑ k : Fin 2816, du m c (ix2 r k) * w m c (ix2 d ⟨2816 + k.val, by omega⟩))
    + alpha * dz m c (ix2 r d)

theorem writes_at (r : Fin 256) (d : Fin 1024) : outsAt0 m c t (ix2 r d) = value m c (rowAt t r) d := by
  rw [writes, element]
  exact congrArg₂ (· + ·)
    (congrArg₂ (· + ·)
      (congrArg (0 + ·) (Finset.sum_congr rfl fun k _ => congrArg₂ (· * ·) (read0 t (dg m c) r k) (read2 t (w m c) d k)))
      (Finset.sum_congr rfl fun k _ => congrArg₂ (· * ·) (read1 t (du m c) r k) (read3 t (w m c) d k)))
    (congrArg (alpha * ·) (read4 t (dz m c) r d))

/-- The array after the run, element by element. -/
theorem left_at (r : Fin 16384) (d : Fin 1024) : (dats m 0 c).arrAt 5 cfg0.N (ix2 r d) = value m c r d := by
  have hN : cfg0.N = 64 := N_0
  let t : Fin cfg0.N := ⟨r.val / 256, by omega⟩
  let y : Fin 256 := ⟨r.val % 256, Nat.mod_lt _ (by decide)⟩
  have e : rowAt t y = r := Fin.ext (by show 256 * (r.val / 256) + r.val % 256 = r.val; omega)
  have h := congrFun (blocks5 m c t (flush0_5 t)) (ix2 y d)
  rw [read5 t, e, flushed5] at h
  exact h.trans ((writes_at m c t y d).trans (by rw [e]))

end Cert.Kernel3Ideal.Ffn

/-! ## The reference -/

namespace Cert.Reference3Ideal.Ffn

open Cert.Reference3Ideal.Gen Cert.Reference3Ideal.Read Cert.Ffn
open Idealize.ShloMosaic Idealize.ShloMosaic.TcCoe Idealize.SL.Sem

variable (x0 : Vec Ideal S16384x1024 .f32) (x1 x2 : Vec Ideal S16384x2816 .bf16) (x3 : Vec Ideal S1024x5632 .bf16) (r : Fin 16384) (d : Fin 1024)

/-- The two gradients side by side. -/
theorem joined (k : Fin 5632) : val_main_v11 (F := Ideal) x1 x2 (ix2 r k) = if h : k.val < 2816 then x1 (ix2 r ⟨k.val, h⟩) else x2 (ix2 r ⟨k.val - 2816, by omega⟩) := by
  pointwise [val_main_v11, val_main_v7, val_main_v8]

theorem read_at : val_main_v13 (F := Ideal) x0 x1 x2 x3 (ix2 r d)
    = Cert.Kernel3Ideal.Ffn.alpha * x0 (ix2 r d)
      + ((∑ k : Fin 2816, x1 (ix2 r k) * x3 (ix2 d ⟨k.val, by omega⟩)) + ∑ k : Fin 2816, x2 (ix2 r k) * x3 (ix2 d ⟨2816 + k.val, by omega⟩)) := by
  rw [val_main_v13_apply, val_main_v10_apply, val_main_v9_apply, val_main_cst_1_apply, val_main_v12_apply, halves]
  refine congrArg₂ (· + ·) rfl (congrArg₂ (· + ·) (Finset.sum_congr rfl fun k _ => ?_) (Finset.sum_congr rfl fun k _ => ?_))
  · rw [show lidx_main_v12 (ix2 r d) ⟨k.val, by omega⟩ = ix2 r ⟨k.val, by omega⟩ from same rfl rfl, joined, dif_pos k.isLt, val_main_v1_apply]
    exact congrArg (_ * x3 ·) (same rfl rfl)
  · rw [show lidx_main_v12 (ix2 r d) ⟨2816 + k.val, by omega⟩ = ix2 r ⟨2816 + k.val, by omega⟩ from same rfl rfl, joined, dif_neg (by simp), val_main_v1_apply]
    exact congrArg₂ (· * ·) (congrArg x2 (same rfl (Fin.ext (by show 2816 + k.val - 2816 = k.val; omega)))) (congrArg x3 (same rfl rfl))

end Cert.Reference3Ideal.Ffn

/-! ## The two are the same -/

namespace Cert.Kernel3Ideal.Ffn

open Idealize.ShloMosaic Idealize.ShloMosaic.TcCoe Idealize.SL.Sem Cert.Kernel3Ideal.Gen Cert.Kernel3Ideal.Value Cert.Ffn
open Cert.Reference3Ideal.Read (val_main_v13 val_main_v13_eq)

variable (m : (ℓ : Loc nD τ sig) → Buf (Elt Ideal) ℓ) (c : Dev nD)

theorem gradient_eq : (dats m 0 c).arrAt 5 cfg0.N = val_main_v13 (F := Ideal) (dz m c) (dg m c) (du m c) (w m c) := by
  funext i
  obtain ⟨r, d, rfl⟩ : ∃ (r : Fin 16384) (d : Fin 1024), i = ix2 r d := ⟨i 0, i 1, same rfl rfl⟩
  rw [left_at, Cert.Reference3Ideal.Ffn.read_at, value, zero_add, add_comm]

/-- The two programs' results are the same, in the extended reals. -/
theorem equal : @Cert.algebraic_Kernel3Ideal_Reference3Ideal Cert.Kernel3Ideal.Gen.facts Cert.Reference3Ideal.Gen.facts := by
  intro m g m' g' hp hargs
  refine ⟨fun c => (dats m 0 c).arrAt 5 cfg0.N, run_blocks m g, ?_⟩
  refine (θ_run _ _ _).mono (fun r hr c => ?_) (Cert.Reference3Ideal.Value.run (F := Ideal) m' g')
  obtain ⟨e0, e1, e2, e3⟩ := hargs c
  obtain ⟨h13, hrest⟩ := hr c
  refine ⟨h13.trans ?_, hrest⟩
  rw [val_main_v13_eq, e0, e1, e2, e3]
  exact (gradient_eq m c).symm

end Cert.Kernel3Ideal.Ffn

end
-- ==== Proof.Ffn.WeightIn.lean ====
/- The gradient of a SwiGLU layer's input weights: the sums the call keeps over the rows, what it writes of them, and that the
   reference's gradient is the same. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel4Ideal.Ffn

open Idealize.ShloMosaic Idealize.ShloMosaic.TcCoe Idealize.SL.Sem Cert.Kernel4Ideal.Gen Cert.Kernel4Ideal.Value Cert.Ffn
open Cert.Reference4Ideal.Read

/-! ## What one point does -/

theorem start_at (i : Fin 1024) (j : Fin 1408) : k0_pay1 (F := Ideal) (ix3 0 i j) = 0 := by
  pointwise [k0_pay1]
theorem add_at (x : Vec Ideal S512x1024 .f32) (y : Vec Ideal S512x1408 .bf16) (z : Vec Ideal S1x1024x1408 .f32) (i : Fin 1024) (j : Fin 1408) :
    k0_pay2 x y z (ix3 0 i j) = z (ix3 0 i j) + ∑ k : Fin 512, x (ix2 k i) * y (ix2 k j) := by
  pointwise [k0_pay2]
theorem out_at (z : Vec Ideal S1x1024x1408 .f32) (i : Fin 1024) (j : Fin 1408) : k0_pay3 z (ix2 i j) = z (ix3 0 i j) := by
  pointwise [k0_pay3]

theorem read_sum (x : FVec Ideal S1x1024x1408 .f32) : View.read (Elt Ideal) (View.whole cc0_scratch0) ((Memref.isWhole_whole cc0_scratch0).unread x) = x :=
  Memref.IsWhole.read_unread (Val := Elt Ideal) (Memref.isWhole_whole cc0_scratch0) x

variable (m : (ℓ : Loc nD τ sig) → Buf (Elt Ideal) ℓ) (c : Dev nD)

/-- The two arguments. -/
abbrev ax : FVec Ideal S16384x1024 .f32 := m ((c.tc : Thread nD τ).loc main_arg0)
abbrev ay : FVec Ideal S16384x2816 .bf16 := m ((c.tc : Thread nD τ).loc main_arg1)

/-- The blocks of a point, and the sums kept after it. -/
abbrev bx (t : Fin cfg0.N) : Vec Ideal S512x1024 .f32 := iblk m c 0 t
abbrev by' (t : Fin cfg0.N) : Vec Ideal S512x1408 .bf16 := iblk m c 1 t
abbrev kept (n : ℕ) (hn : n < cfg0.N) : FVec Ideal S1x1024x1408 .f32 := (outsAt0 m c n hn).2

theorem kept_first (t : Fin cfg0.N) (h0 : t.val % 32 = 0) : kept m c t.val t.isLt = k0_pay2 (bx m c t) (by' m c t) (k0_pay1 (F := Ideal)) := by
  unfold kept
  rw [outsAt0_A m c t h0 (by omega)]
  dsimp only
  frame_out

theorem kept_next (t : Fin cfg0.N) (h0 : ¬t.val % 32 = 0) :
    kept m c t.val t.isLt = k0_pay2 (bx m c t) (by' m c t) (kept m c (t.val - 1) (by omega)) := by
  unfold kept
  by_cases h1 : t.val % 32 = 31
  · rw [outsAt0_C m c t h0 h1]
    dsimp only
    frame_out
    rw [read_sum]
  · rw [outsAt0_B m c t h0 h1]
    dsimp only
    frame_out
    rw [read_sum]

theorem written (t : Fin cfg0.N) (h1 : t.val % 32 = 31) : (outsAt0 m c t.val t.isLt).1 = k0_pay3 (F := Ideal) (kept m c t.val t.isLt) := by
  rw [kept_next m c t (by omega), outsAt0_C m c t (by omega) h1]
  dsimp only
  frame_out
  rw [read_sum]

/-! ## The blocks, as parts of the arguments -/

theorem lt_N (t : Fin cfg0.N) : t.val < 64 := Nat.lt_of_lt_of_eq t.isLt N_0

/-- Row `k` of a point's blocks, and column `i` of its half. -/
abbrev rowAt (n : ℕ) (k : Fin 512) : Fin 16384 := ⟨512 * (n % 32) + k.val, by omega⟩
abbrev half (n : ℕ) (hn : n < 64) (i : Fin 1408) : Fin 2816 := ⟨1408 * (n / 32) + i.val, by omega⟩

theorem place0 : ∀ t : Fin cfg0.N, win0_0.index t = ![t.val % 32, 0] := by decide +kernel
theorem place1 : ∀ t : Fin cfg0.N, win0_1.index t = ![t.val % 32, t.val / 32] := by decide +kernel

theorem read0 (t : Fin cfg0.N) (A : Vec Ideal S16384x1024 .f32) (k : Fin 512) (i : Fin 1024) :
    ((cfg0.win 0).blk t).view.read (Elt Ideal) A (ix2 k i) = A (ix2 (rowAt t.val k) i) := by
  blk_ext [place0]
theorem read1 (t : Fin cfg0.N) (A : Vec Ideal S16384x2816 .bf16) (k : Fin 512) (j : Fin 1408) :
    ((cfg0.win 1).blk t).view.read (Elt Ideal) A (ix2 k j) = A (ix2 (rowAt t.val k) (half t.val (lt_N t) j)) := by
  blk_ext [place1]

/-! ## The sums -/

/-- The product in one row of the column the gradient's row `i` stands for and the one its column `j` stands for. -/
def term (i : Fin 1024) (j : Fin 2816) (r : Fin 16384) : EReal := ax m c (ix2 r i) * ay m c (ix2 r j)

/-- Half `h`'s column `i`. -/
abbrev col (h : ℕ) (i : Fin 1408) : Fin 2816 := ⟨(1408 * h + i.val) % 2816, Nat.mod_lt _ (by decide)⟩

theorem block_sum (t : Fin cfg0.N) (i : Fin 1024) (j : Fin 1408) :
    (∑ k : Fin 512, bx m c t (ix2 k i) * by' m c t (ix2 k j)) = ∑ k : Fin 512, term m c i (col (t.val / 32) j) ⟨512 * (t.val % 32) + k.val, by omega⟩ := by
  have ht := lt_N t
  have e : half t.val ht j = col (t.val / 32) j := Fin.ext (by show 1408 * (t.val / 32) + j.val = (1408 * (t.val / 32) + j.val) % 2816; omega)
  rw [← e]
  exact Finset.sum_congr rfl fun k _ => congrArg₂ (· * ·) (read0 t (ax m c) k i) (read1 t (ay m c) k j)

/-- What is kept after the last point of a half. -/
theorem kept_last (i : Fin 1024) (j : Fin 1408) (b : ℕ) (hb : 32 * b + 31 < 64) :
    kept m c (32 * b + 31) (lt_of_lt_of_eq hb N_0.symm) (ix3 0 i j) = ∑ r, term m c i (col b j) r := by
  refine swept (fun n hn => kept m c n (lt_of_lt_of_eq hn N_0.symm) (ix3 0 i j)) (fun h => term m c i (col h j)) (fun n hn h0 => ?_) (fun n hn h0 => ?_) b hb
  · have h := kept_first m c ⟨n, lt_of_lt_of_eq hn N_0.symm⟩ h0
    dsimp only at h ⊢
    rw [h, add_at, start_at, block_sum]
  · have h := kept_next m c ⟨n, lt_of_lt_of_eq hn N_0.symm⟩ h0
    dsimp only at h ⊢
    rw [h, add_at, block_sum]

theorem fold_kept (n : ℕ) (hn : 0 + n < cfg0.N) : Pipeline.accAt (fun n h => stAt0 m c n h junk0) (stAt0 m c) 0 n hn = outsAt0 m c n (by omega) :=
  (outsAt0_sweep m c n (by omega)).symm

/-- The array after the run, element by element. -/
theorem left_at (i : Fin 1024) (j : Fin 2816) : G2 m c (ix2 i j) = ∑ r, term m c i j r := by
  have hN : cfg0.N = 64 := N_0
  let n : ℕ := 32 * (j.val / 1408) + 31
  have hn : n < 64 := by show 32 * (j.val / 1408) + 31 < 64; omega
  let y : Fin 1408 := ⟨j.val % 1408, Nat.mod_lt _ (by decide)⟩
  have e : pt2Of (ix2 i j) = n := by show 32 * (2 * (i.val / 1024 - 0) + 1 * (j.val / 1408 - 0)) + 31 = 32 * (j.val / 1408) + 31; omega
  have el : loc2Of (ix2 i j) = ix2 i y := by
    funext a
    fin_cases a
    · exact Fin.ext (by show i.val % 1024 = i.val; omega)
    · exact Fin.ext (by show j.val % 1408 = j.val % 1408; rfl)
  have ey : col (j.val / 1408) y = j := Fin.ext (by show (1408 * (j.val / 1408) + j.val % 1408) % 2816 = j.val; omega)
  have w := written m c ⟨n, lt_of_lt_of_eq hn N_0.symm⟩ (by show (32 * (j.val / 1408) + 31) % 32 = 31; omega)
  dsimp only at w
  have k := kept_last m c i y _ hn
  rw [ey] at k
  unfold G2
  rw [dif_pos (by rw [e]; omega), el, fold_kept]
  simp only [e]
  rw [w, out_at, k]

/-! ## The reference, and that the two are the same -/

theorem reference_at (x : Vec Ideal S16384x1024 .f32) (y : Vec Ideal S16384x2816 .bf16) (i : Fin 1024) (j : Fin 2816) :
    val_main_v5 (F := Ideal) x y (ix2 i j) = ∑ r : Fin 16384, y (ix2 r j) * x (ix2 r i) := by
  rw [val_main_v5_apply, val_main_v4_apply, val_main_v3_apply]
  refine Finset.sum_congr rfl fun r _ => ?_
  rw [val_main_v2_apply]
  exact congrArg₂ (· * ·) (congrArg y (same rfl rfl)) (congrArg x (same rfl rfl))

theorem total (i : Fin 1024) (j : Fin 2816) : (∑ r, term m c i j r) = ∑ r : Fin 16384, ay m c (ix2 r j) * ax m c (ix2 r i) :=
  swapped (fun r => ax m c (ix2 r i)) (fun r => ay m c (ix2 r j))

theorem gradient_eq : G2 m c = val_main_v5 (F := Ideal) (ax m c) (ay m c) := by
  funext q
  obtain ⟨i, j, rfl⟩ : ∃ (i : Fin 1024) (j : Fin 2816), q = ix2 i j := ⟨q 0, q 1, same rfl rfl⟩
  exact (left_at m c i j).trans ((total m c i j).trans (reference_at (ax m c) (ay m c) i j).symm)

/-- The two programs' results are the same, in the extended reals. -/
theorem equal : @Cert.algebraic_Kernel4Ideal_Reference4Ideal Cert.Kernel4Ideal.Gen.facts Cert.Reference4Ideal.Gen.facts := by
  intro m g m' g' hp hargs
  refine ⟨fun c => G2 m c, Value.run m g, ?_⟩
  refine (θ_run _ _ _).mono (fun r hr c => ?_) (Cert.Reference4Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel4Ideal.Ffn

end
-- ==== Proof.Ffn.WeightOut.lean ====
/- The gradient of a SwiGLU layer's output weights: the sums the call keeps over the rows, what it writes of them, and that the
   reference's gradient is the same. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel5Ideal.Ffn

open Idealize.ShloMosaic Idealize.ShloMosaic.TcCoe Idealize.SL.Sem Cert.Kernel5Ideal.Gen Cert.Kernel5Ideal.Value Cert.Ffn
open Cert.Reference5Ideal.Read

/-! ## What one point does -/

theorem start_at (i : Fin 1408) (j : Fin 1024) : k0_pay1 (F := Ideal) (ix3 0 i j) = 0 := by
  pointwise [k0_pay1]
theorem add_at (x : Vec Ideal S512x1408 .bf16) (y : Vec Ideal S512x1024 .f32) (z : Vec Ideal S1x1408x1024 .f32) (i : Fin 1408) (j : Fin 1024) :
    k0_pay2 x y z (ix3 0 i j) = z (ix3 0 i j) + ∑ k : Fin 512, x (ix2 k i) * y (ix2 k j) := by
  pointwise [k0_pay2]
theorem out_at (z : Vec Ideal S1x1408x1024 .f32) (i : Fin 1408) (j : Fin 1024) : k0_pay3 z (ix2 i j) = z (ix3 0 i j) := by
  pointwise [k0_pay3]

theorem read_sum (x : FVec Ideal S1x1408x1024 .f32) : View.read (Elt Ideal) (View.whole cc0_scratch0) ((Memref.isWhole_whole cc0_scratch0).unread x) = x :=
  Memref.IsWhole.read_unread (Val := Elt Ideal) (Memref.isWhole_whole cc0_scratch0) x

variable (m : (ℓ : Loc nD τ sig) → Buf (Elt Ideal) ℓ) (c : Dev nD)

/-- The two arguments. -/
abbrev ax : FVec Ideal S16384x2816 .bf16 := m ((c.tc : Thread nD τ).loc main_arg0)
abbrev ay : FVec Ideal S16384x1024 .f32 := m ((c.tc : Thread nD τ).loc main_arg1)

/-- The blocks of a point, and the sums kept after it. -/
abbrev bx (t : Fin cfg0.N) : Vec Ideal S512x1408 .bf16 := iblk m c 0 t
abbrev by' (t : Fin cfg0.N) : Vec Ideal S512x1024 .f32 := iblk m c 1 t
abbrev kept (n : ℕ) (hn : n < cfg0.N) : FVec Ideal S1x1408x1024 .f32 := (outsAt0 m c n hn).2

theorem kept_first (t : Fin cfg0.N) (h0 : t.val % 32 = 0) : kept m c t.val t.isLt = k0_pay2 (bx m c t) (by' m c t) (k0_pay1 (F := Ideal)) := by
  unfold kept
  rw [outsAt0_A m c t h0 (by omega)]
  dsimp only
  frame_out

theorem kept_next (t : Fin cfg0.N) (h0 : ¬t.val % 32 = 0) :
    kept m c t.val t.isLt = k0_pay2 (bx m c t) (by' m c t) (kept m c (t.val - 1) (by omega)) := by
  unfold kept
  by_cases h1 : t.val % 32 = 31
  · rw [outsAt0_C m c t h0 h1]
    dsimp only
    frame_out
    rw [read_sum]
  · rw [outsAt0_B m c t h0 h1]
    dsimp only
    frame_out
    rw [read_sum]

theorem written (t : Fin cfg0.N) (h1 : t.val % 32 = 31) : (outsAt0 m c t.val t.isLt).1 = k0_pay3 (F := Ideal) (kept m c t.val t.isLt) := by
  rw [kept_next m c t (by omega), outsAt0_C m c t (by omega) h1]
  dsimp only
  frame_out
  rw [read_sum]

/-! ## The blocks, as parts of the arguments -/

theorem lt_N (t : Fin cfg0.N) : t.val < 64 := Nat.lt_of_lt_of_eq t.isLt N_0

/-- Row `k` of a point's blocks, and column `i` of its half. -/
abbrev rowAt (n : ℕ) (k : Fin 512) : Fin 16384 := ⟨512 * (n % 32) + k.val, by omega⟩
abbrev half (n : ℕ) (hn : n < 64) (i : Fin 1408) : Fin 2816 := ⟨1408 * (n / 32) + i.val, by omega⟩

theorem place0 : ∀ t : Fin cfg0.N, win0_0.index t = ![t.val % 32, t.val / 32] := by decide +kernel
theorem place1 : ∀ t : Fin cfg0.N, win0_1.index t = ![t.val % 32, 0] := by decide +kernel

theorem read0 (t : Fin cfg0.N) (A : Vec Ideal S16384x2816 .bf16) (k : Fin 512) (i : Fin 1408) :
    ((cfg0.win 0).blk t).view.read (Elt Ideal) A (ix2 k i) = A (ix2 (rowAt t.val k) (half t.val (lt_N t) i)) := by
  blk_ext [place0]
theorem read1 (t : Fin cfg0.N) (A : Vec Ideal S16384x1024 .f32) (k : Fin 512) (j : Fin 1024) :
    ((cfg0.win 1).blk t).view.read (Elt Ideal) A (ix2 k j) = A (ix2 (rowAt t.val k) j) := by
  blk_ext [place1]

/-! ## The sums -/

/-- The product in one row of the column the gradient's row `i` stands for and the one its column `j` stands for. -/
def term (i : Fin 2816) (j : Fin 1024) (r : Fin 16384) : EReal := ax m c (ix2 r i) * ay m c (ix2 r j)

/-- Half `h`'s column `i`. -/
abbrev col (h : ℕ) (i : Fin 1408) : Fin 2816 := ⟨(1408 * h + i.val) % 2816, Nat.mod_lt _ (by decide)⟩

theorem block_sum (t : Fin cfg0.N) (i : Fin 1408) (j : Fin 1024) :
    (∑ k : Fin 512, bx m c t (ix2 k i) * by' m c t (ix2 k j)) = ∑ k : Fin 512, term m c (col (t.val / 32) i) j ⟨512 * (t.val % 32) + k.val, by omega⟩ := by
  have ht := lt_N t
  have e : half t.val ht i = col (t.val / 32) i := Fin.ext (by show 1408 * (t.val / 32) + i.val = (1408 * (t.val / 32) + i.val) % 2816; omega)
  rw [← e]
  exact Finset.sum_congr rfl fun k _ => congrArg₂ (· * ·) (read0 t (ax m c) k i) (read1 t (ay m c) k j)

/-- What is kept after the last point of a half. -/
theorem kept_last (i : Fin 1408) (j : Fin 1024) (b : ℕ) (hb : 32 * b + 31 < 64) :
    kept m c (32 * b + 31) (lt_of_lt_of_eq hb N_0.symm) (ix3 0 i j) = ∑ r, term m c (col b i) j r := by
  refine swept (fun n hn => kept m c n (lt_of_lt_of_eq hn N_0.symm) (ix3 0 i j)) (fun h => term m c (col h i) j) (fun n hn h0 => ?_) (fun n hn h0 => ?_) b hb
  · have h := kept_first m c ⟨n, lt_of_lt_of_eq hn N_0.symm⟩ h0
    dsimp only at h ⊢
    rw [h, add_at, start_at, block_sum]
  · have h := kept_next m c ⟨n, lt_of_lt_of_eq hn N_0.symm⟩ h0
    dsimp only at h ⊢
    rw [h, add_at, block_sum]

theorem fold_kept (n : ℕ) (hn : 0 + n < cfg0.N) : Pipeline.accAt (fun n h => stAt0 m c n h junk0) (stAt0 m c) 0 n hn = outsAt0 m c n (by omega) :=
  (outsAt0_sweep m c n (by omega)).symm

/-- The array after the run, element by element. -/
theorem left_at (i : Fin 2816) (j : Fin 1024) : G2 m c (ix2 i j) = ∑ r, term m c i j r := by
  have hN : cfg0.N = 64 := N_0
  let n : ℕ := 32 * (i.val / 1408) + 31
  have hn : n < 64 := by show 32 * (i.val / 1408) + 31 < 64; omega
  let y : Fin 1408 := ⟨i.val % 1408, Nat.mod_lt _ (by decide)⟩
  have e : pt2Of (ix2 i j) = n := by show 32 * (1 * (i.val / 1408 - 0) + 1 * (j.val / 1024 - 0)) + 31 = 32 * (i.val / 1408) + 31; omega
  have el : loc2Of (ix2 i j) = ix2 y j := by
    funext a
    fin_cases a
    · exact Fin.ext (by show i.val % 1408 = i.val % 1408; rfl)
    · exact Fin.ext (by show j.val % 1024 = j.val; omega)
  have ey : col (i.val / 1408) y = i := Fin.ext (by show (1408 * (i.val / 1408) + i.val % 1408) % 2816 = i.val; omega)
  have w := written m c ⟨n, lt_of_lt_of_eq hn N_0.symm⟩ (by show (32 * (i.val / 1408) + 31) % 32 = 31; omega)
  dsimp only at w
  have k := kept_last m c y j _ hn
  rw [ey] at k
  unfold G2
  rw [dif_pos (by rw [e]; omega), el, fold_kept]
  simp only [e]
  rw [w, out_at, k]

/-! ## The reference, and that the two are the same -/

theorem reference_at (x : Vec Ideal S16384x2816 .bf16) (y : Vec Ideal S16384x1024 .f32) (i : Fin 2816) (j : Fin 1024) :
    val_main_v5 (F := Ideal) x y (ix2 i j) = ∑ r : Fin 16384, y (ix2 r j) * x (ix2 r i) := by
  rw [val_main_v5_apply, val_main_v4_apply, val_main_v3_apply]
  refine Finset.sum_congr rfl fun r _ => ?_
  rw [val_main_v1_apply]
  exact congrArg₂ (· * ·) (congrArg y (same rfl rfl)) (congrArg x (same rfl rfl))

theorem total (i : Fin 2816) (j : Fin 1024) : (∑ r, term m c i j r) = ∑ r : Fin 16384, ay m c (ix2 r j) * ax m c (ix2 r i) :=
  swapped (fun r => ax m c (ix2 r i)) (fun r => ay m c (ix2 r j))

theorem gradient_eq : G2 m c = val_main_v5 (F := Ideal) (ax m c) (ay m c) := by
  funext q
  obtain ⟨i, j, rfl⟩ : ∃ (i : Fin 2816) (j : Fin 1024), q = ix2 i j := ⟨q 0, q 1, same rfl rfl⟩
  exact (left_at m c i j).trans ((total m c i j).trans (reference_at (ax m c) (ay m c) i j).symm)

/-- The two programs' results are the same, in the extended reals. -/
theorem equal : @Cert.algebraic_Kernel5Ideal_Reference5Ideal Cert.Kernel5Ideal.Gen.facts Cert.Reference5Ideal.Gen.facts := by
  intro m g m' g' hp hargs
  refine ⟨fun c => G2 m c, Value.run m g, ?_⟩
  refine (θ_run _ _ _).mono (fun r hr c => ?_) (Cert.Reference5Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel5Ideal.Ffn

end
-- ==== Proof.Ffn.Sigmoid.lean ====
/- The SwiGLU layers' logistic function, in the extended reals, and the slope of a number times it. -/
module

public import Idealize.ShloMosaic.PureOps.Ideal.Laws
public import Idealize.ShloMosaic.Lib.IdealHost

@[expose] public section

noncomputable section

namespace Cert.Ffn

open Idealize.ShloMosaic

theorem ofBits_one : Ideal.ofBits .f32 0x3F800000#32 = 1 := Ideal.ofBits_one_f32

/-- The logistic function. -/
def logistic (x : EReal) : EReal := Ideal.div 1 (1 + Ideal.exp (-x))

/-- The same, as the calls compute it: `1 / (1 + exp (0 - x))`. -/
theorem logistic_call (x : EReal) : Ideal.div (Ideal.ofBits .f32 0x3F800000#32) (Ideal.ofBits .f32 0x3F800000#32 + Ideal.exp (Ideal.ofBits .f32 0x00000000#32 - x)) = logistic x := by
  rw [ofBits_one, Ideal.ofBits_zero_f32, zero_sub, logistic]

theorem logistic_top : logistic ⊤ = 1 := by
  have h : Ideal.div 1 (1 : ℝ) = 1 * ((1 / 1 : ℝ) : EReal) := Ideal.div_coe one_ne_zero 1
  rw [logistic, EReal.neg_top, Ideal.exp_bot, add_zero]
  simpa using h
theorem logistic_bot : logistic ⊥ = 0 := by
  rw [logistic, EReal.neg_bot, Ideal.exp_top, EReal.add_top_of_ne_bot (by decide)]
  simp [Ideal.div]
theorem logistic_coe (r : ℝ) : logistic (r : EReal) = ((1 / (1 + Real.exp (-r)) : ℝ) : EReal) := by
  have h : (1 + Real.exp (-r)) ≠ 0 := (by positivity : (0 : ℝ) < 1 + Real.exp (-r)).ne'
  rw [logistic, ← EReal.coe_neg, Ideal.exp_coe, ← EReal.coe_one, ← EReal.coe_add, Ideal.div_coe h, ← EReal.coe_mul, one_mul]

/-- A number times the slope of `x * logistic x`: the product rule's two terms. -/
theorem slope (c : ℝ) (x : EReal) : (c : EReal) * (logistic x * (1 + x * (1 - logistic x))) = (c : EReal) * logistic x + x * c * (logistic x * (1 - logistic x)) := by
  have one_sub : (1 : EReal) - 1 = 0 := EReal.sub_self (by decide) (by decide)
  induction x using EReal.rec with
  | bot => simp only [logistic_bot, zero_mul, mul_zero, add_zero]
  | top => simp only [logistic_top, one_sub, mul_zero, add_zero, mul_one]
  | coe r =>
    rw [logistic_coe]
    generalize 1 / (1 + Real.exp (-r)) = s
    have e : (1 : EReal) = ((1 : ℝ) : EReal) := rfl
    simp only [e, ← EReal.coe_mul, ← EReal.coe_add, ← EReal.coe_sub]
    exact congrArg _ (by ring)

end Cert.Ffn

end
-- ==== Proof.Ffn.Hidden.lean ====
/- A SwiGLU layer's gate, its second half and their product: what the call writes, what the reference computes, and that they
   are the same. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Ffn.Sums
public import proofs.«01_k».proof.Proof.Ffn.Sigmoid
public import proofs.«01_k».proof.Defs
public import Idealize.ShloMosaic.Lib.Pipeline.ValueKit.Acc
public import Idealize.ShloMosaic.Lib.Pipeline.ReadBack

@[expose] public section

set_option maxRecDepth 16384

noncomputable section

namespace Cert.Kernel6Ideal.Ffn

open Idealize.ShloMosaic Idealize.ShloMosaic.TcCoe Idealize.SL.Sem Cert.Kernel6Ideal.Gen Cert.Kernel6Ideal.Value Cert.Ffn
open Cert.Reference6Ideal.Read

/-! ## What one point writes -/

theorem start_at (p : Fin 2) (r : Fin 512) (j : Fin 1408) : k0_pay1 (F := Ideal) (ix3 p r j) = 0 := by
  pointwise [k0_pay1]

/-- The two planes of sums a point starts from. -/
abbrev plane0 : Rect S2x512x1408 := Rect.unit ![0, 0, 0] ![1, 512, 1408] inb_S2x512x1408_S1x512x1408_0_0_0
abbrev plane1 : Rect S2x512x1408 := Rect.unit ![1, 0, 0] ![1, 512, 1408] inb_S2x512x1408_S1x512x1408_1_0_0
abbrev first : Vec Ideal S1x512x1408 .f32 := View.ld (Val := Elt Ideal) (e' := .f32) (k0_pay1 (F := Ideal)) plane0
abbrev second : Vec Ideal S1x512x1408 .f32 := View.ld (Val := Elt Ideal) (e' := .f32) (k0_pay1 (F := Ideal)) plane1

theorem start_all (i : S2x512x1408.Idx) : k0_pay1 (F := Ideal) i = 0 := by
  rw [show i = ix3 (i 0) (i 1) (i 2) from funext fun a => by match a with | ⟨0, _⟩ => rfl | ⟨1, _⟩ => rfl | ⟨2, _⟩ => rfl]
  exact start_at _ _ _

theorem gate_at (h : Vec Ideal S512x1024 .f32) (w : Vec Ideal S1024x1408 .bf16) (z : Vec Ideal S1x512x1408 .f32) (r : Fin 512) (j : Fin 1408) :
    k0_pay2 h w z (ix3 0 r j) = z (ix3 0 r j) + ∑ k : Fin 1024, h (ix2 r k) * w (ix2 k j) := by
  pointwise [k0_pay2]
theorem up_at (h : Vec Ideal S512x1024 .f32) (w : Vec Ideal S1024x1408 .bf16) (z : Vec Ideal S1x512x1408 .f32) (r : Fin 512) (j : Fin 1408) :
    k0_pay3 h w z (ix3 0 r j) = z (ix3 0 r j) + ∑ k : Fin 1024, h (ix2 r k) * w (ix2 k j) := by
  pointwise [k0_pay3]
theorem plane_at (z : Vec Ideal S1x512x1408 .f32) (r : Fin 512) (j : Fin 1408) : k0_pay4 z (ix2 r j) = z (ix3 0 r j) := by
  pointwise [k0_pay4]
theorem plane_at' (z : Vec Ideal S1x512x1408 .f32) (r : Fin 512) (j : Fin 1408) : k0_pay5 z (ix2 r j) = z (ix3 0 r j) := by
  pointwise [k0_pay5]
theorem product_at (g u : Vec Ideal S1x512x1408 .f32) (r : Fin 512) (j : Fin 1408) :
    k0_pay6 g u (ix2 r j) = g (ix3 0 r j) * logistic (g (ix3 0 r j)) * u (ix3 0 r j) := by
  rw [← plane_at g r j, ← plane_at' u r j, ← logistic_call]
  rfl

variable (m : (ℓ : Loc nD τ sig) → Buf (Elt Ideal) ℓ) (c : Dev nD)

/-- The two arguments. -/
abbrev ah : FVec Ideal S16384x1024 .f32 := m ((c.tc : Thread nD τ).loc main_arg0)
abbrev aw : FVec Ideal S1024x5632 .bf16 := m ((c.tc : Thread nD τ).loc main_arg1)

variable (t : Fin cfg0.N)

/-- A point's two planes of sums. -/
abbrev gate : FVec Ideal S1x512x1408 .f32 := k0_pay2 (iblk m c 0 t) (iblk m c 1 t) first
abbrev up : FVec Ideal S1x512x1408 .f32 := k0_pay3 (iblk m c 0 t) (iblk m c 2 t) second

theorem writes : outsAt0 m c t = (k0_pay4 (F := Ideal) (gate m c t), k0_pay5 (F := Ideal) (up m c t), k0_pay6 (F := Ideal) (gate m c t) (up m c t)) := by
  unfold outsAt0
  frame_out
  simp (disch := decide) only [↓View.readCov_skip, View.readCov_fill, View.readCov_cons_toLoadRect]

/-! ## The blocks, as parts of the arrays -/

theorem lt_N : t.val < 64 := Nat.lt_of_lt_of_eq t.isLt N_0

abbrev rowAt (r : Fin 512) : Fin 16384 := ⟨512 * (t.val % 32) + r.val, by omega⟩
abbrev colAt (j : Fin 1408) : Fin 2816 := ⟨1408 * (t.val / 32) + j.val, by have := lt_N t; omega⟩

theorem place0 : ∀ t : Fin cfg0.N, win0_0.index t = ![t.val % 32, 0] := by decide +kernel
theorem place1 : ∀ t : Fin cfg0.N, win0_1.index t = ![0, t.val / 32] := by decide +kernel
theorem place2 : ∀ t : Fin cfg0.N, win0_2.index t = ![0, t.val / 32 + 2] := by decide +kernel
theorem place3 : ∀ t : Fin cfg0.N, win0_3.index t = ![t.val % 32, t.val / 32] := by decide +kernel
theorem place4 : ∀ t : Fin cfg0.N, win0_4.index t = ![t.val % 32, t.val / 32] := by decide +kernel
theorem place5 : ∀ t : Fin cfg0.N, win0_5.index t = ![t.val % 32, t.val / 32] := by decide +kernel

theorem read0 (A : Vec Ideal S16384x1024 .f32) (r : Fin 512) (k : Fin 1024) :
    ((cfg0.win 0).blk t).view.read (Elt Ideal) A (ix2 r k) = A (ix2 (rowAt t r) k) := by
  blk_ext [place0]
theorem read1 (A : Vec Ideal S1024x5632 .bf16) (k : Fin 1024) (j : Fin 1408) :
    ((cfg0.win 1).blk t).view.read (Elt Ideal) A (ix2 k j) = A (ix2 k ⟨(colAt t j).val, by omega⟩) := by
  blk_ext [place1]
theorem read2 (A : Vec Ideal S1024x5632 .bf16) (k : Fin 1024) (j : Fin 1408) :
    ((cfg0.win 2).blk t).view.read (Elt Ideal) A (ix2 k j) = A (ix2 k ⟨2816 + (colAt t j).val, by omega⟩) := by
  blk_ext [place2]
theorem read3 (A : Vec Ideal S16384x2816 .f32) (r : Fin 512) (j : Fin 1408) :
    ((cfg0.win 3).blk t).view.read (Elt Ideal) A (ix2 r j) = A (ix2 (rowAt t r) (colAt t j)) := by
  blk_ext [place3]
theorem read4 (A : Vec Ideal S16384x2816 .f32) (r : Fin 512) (j : Fin 1408) :
    ((cfg0.win 4).blk t).view.read (Elt Ideal) A (ix2 r j) = A (ix2 (rowAt t r) (colAt t j)) := by
  blk_ext [place4]
theorem read5 (A : Vec Ideal S16384x2816 .bf16) (r : Fin 512) (j : Fin 1408) :
    ((cfg0.win 5).blk t).view.read (Elt Ideal) A (ix2 r j) = A (ix2 (rowAt t r) (colAt t j)) := by
  blk_ext [place5]

/-! ## The three arrays after the run, element by element -/

/-- Column `j` of the first half of the product with the weights, and of the second. -/
def gateOf (r : Fin 16384) (j : Fin 2816) : EReal := ∑ k : Fin 1024, ah m c (ix2 r k) * aw m c (ix2 k ⟨j.val, by omega⟩)
def upOf (r : Fin 16384) (j : Fin 2816) : EReal := ∑ k : Fin 1024, ah m c (ix2 r k) * aw m c (ix2 k ⟨2816 + j.val, by omega⟩)

theorem point_gate (r : Fin 512) (j : Fin 1408) : gate m c t (ix3 0 r j) = gateOf m c (rowAt t r) (colAt t j) := by
  have z : first (ix3 0 r j) = 0 := start_all _
  rw [gate, gate_at, z, zero_add]
  exact Finset.sum_congr rfl fun k _ => congrArg₂ (· * ·) (read0 t (ah m c) r k) (read1 t (aw m c) k j)
theorem point_up (r : Fin 512) (j : Fin 1408) : up m c t (ix3 0 r j) = upOf m c (rowAt t r) (colAt t j) := by
  have z : second (ix3 0 r j) = 0 := start_all _
  rw [up, up_at, z, zero_add]
  exact Finset.sum_congr rfl fun k _ => congrArg₂ (· * ·) (read0 t (ah m c) r k) (read2 t (aw m c) k j)

/-- The point that writes a row and a column, and their place in its block. -/
abbrev ptOf (r : Fin 16384) (j : Fin 2816) : Fin cfg0.N := ⟨32 * (j.val / 1408) + r.val / 512, lt_of_lt_of_eq (show 32 * (j.val / 1408) + r.val / 512 < 64 by omega) N_0.symm⟩
abbrev rowIn (r : Fin 16384) : Fin 512 := ⟨r.val % 512, Nat.mod_lt _ (by decide)⟩
abbrev colIn (j : Fin 2816) : Fin 1408 := ⟨j.val % 1408, Nat.mod_lt _ (by decide)⟩
theorem row_back (r : Fin 16384) (j : Fin 2816) : rowAt (ptOf r j) (rowIn r) = r :=
  Fin.ext (by show 512 * ((32 * (j.val / 1408) + r.val / 512) % 32) + r.val % 512 = r.val; omega)
theorem col_back (r : Fin 16384) (j : Fin 2816) : colAt (ptOf r j) (colIn j) = j :=
  Fin.ext (by show 1408 * ((32 * (j.val / 1408) + r.val / 512) / 32) + j.val % 1408 = j.val; omega)

variable (r : Fin 16384) (j : Fin 2816)

theorem left3 : (dats m 0 c).arrAt 3 cfg0.N (ix2 r j) = gateOf m c r j := by
  have h := congrFun (blocks3 m c (ptOf r j) (flush0_3 _)) (ix2 (rowIn r) (colIn j))
  rw [read3, row_back, col_back, flushed3, writes] at h
  exact h.trans ((plane_at _ (rowIn r) (colIn j)).trans ((point_gate m c _ _ _).trans (by rw [row_back, col_back])))
theorem left4 : (dats m 0 c).arrAt 4 cfg0.N (ix2 r j) = upOf m c r j := by
  have h := congrFun (blocks4 m c (ptOf r j) (flush0_4 _)) (ix2 (rowIn r) (colIn j))
  rw [read4, row_back, col_back, flushed4, writes] at h
  exact h.trans ((plane_at' _ (rowIn r) (colIn j)).trans ((point_up m c _ _ _).trans (by rw [row_back, col_back])))
theorem left5 : (dats m 0 c).arrAt 5 cfg0.N (ix2 r j) = gateOf m c r j * logistic (gateOf m c r j) * upOf m c r j := by
  have h := congrFun (blocks5 m c (ptOf r j) (flush0_5 _)) (ix2 (rowIn r) (colIn j))
  rw [read5, row_back, col_back, flushed5, writes] at h
  exact h.trans ((product_at _ _ (rowIn r) (colIn j)).trans (by rw [point_gate, point_up, row_back, col_back]))

/-! ## The reference, and that the two are the same -/

theorem reference_gate : val_main_v2 (F := Ideal) (ah m c) (aw m c) (ix2 r j) = gateOf m c r j := by
  rw [val_main_v2_apply, val_main_v1_apply]
  exact Finset.sum_congr rfl fun k _ => congrArg₂ (· * ·) (congrArg (ah m c) (same rfl rfl)) (congrArg (aw m c) (same rfl rfl))
theorem reference_up : val_main_v3 (F := Ideal) (ah m c) (aw m c) (ix2 r j) = upOf m c r j := by
  rw [val_main_v3_apply, val_main_v1_apply]
  exact Finset.sum_congr rfl fun k _ => congrArg₂ (· * ·) (congrArg (ah m c) (same rfl rfl)) (congrArg (aw m c) (same rfl rfl))
theorem reference_product : val_main_v6 (F := Ideal) (ah m c) (aw m c) (ix2 r j) = gateOf m c r j * logistic (gateOf m c r j) * upOf m c r j := by
  rw [val_main_v6_apply, val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply, reference_gate, reference_up,
    show FloatOps.ofBits (F := Ideal) .f32 0x3F800000#32 = 1 from ofBits_one]
  rfl

theorem place_of (q : S16384x2816.Idx) : ∃ (r : Fin 16384) (j : Fin 2816), q = ix2 r j := ⟨q 0, q 1, same rfl rfl⟩

theorem gate_eq : (dats m 0 c).arrAt 3 cfg0.N = val_main_v2 (F := Ideal) (ah m c) (aw m c) := by
  funext q
  obtain ⟨r, j, rfl⟩ := place_of q
  exact (left3 m c r j).trans (reference_gate m c r j).symm
theorem up_eq : (dats m 0 c).arrAt 4 cfg0.N = val_main_v3 (F := Ideal) (ah m c) (aw m c) := by
  funext q
  obtain ⟨r, j, rfl⟩ := place_of q
  exact (left4 m c r j).trans (reference_up m c r j).symm
theorem product_eq : (dats m 0 c).arrAt 5 cfg0.N = val_main_v6 (F := Ideal) (ah m c) (aw m c) := by
  funext q
  obtain ⟨r, j, rfl⟩ := place_of q
  exact (left5 m c r j).trans (reference_product m c r j).symm

/-- The two programs' results are the same, in the extended reals. -/
theorem equal : @Cert.algebraic_Kernel6Ideal_Reference6Ideal Cert.Kernel6Ideal.Gen.facts Cert.Reference6Ideal.Gen.facts := by
  intro m g m' g' hp hargs
  refine ⟨fun c => (dats m 0 c).arrAt 3 cfg0.N, fun c => (dats m 0 c).arrAt 4 cfg0.N, fun c => (dats m 0 c).arrAt 5 cfg0.N, run_blocks m g, ?_⟩
  refine (θ_run _ _ _).mono (fun r hr c => ?_) (Cert.Reference6Ideal.Value.run (F := Ideal) m' g')
  obtain ⟨e0, e1⟩ := hargs c
  obtain ⟨h2, h3, h6, hrest⟩ := hr c
  refine ⟨h2.trans ?_, h3.trans ?_, h6.trans ?_, hrest⟩
  · rw [val_main_v2_eq, e0, e1]
    exact (gate_eq m c).symm
  · rw [val_main_v3_eq, e0, e1]
    exact (up_eq m c).symm
  · rw [val_main_v6_eq, e0, e1]
    exact (product_eq m c).symm

end Cert.Kernel6Ideal.Ffn

end
-- ==== Proof.Ffn.HiddenGrad.lean ====
/- A SwiGLU layer's gradients of its gate and of its second half: what the call writes, what the reference computes, and that
   they are the same where the gradient that comes in, the output weights and the second half are numbers. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Ffn.Sums
public import proofs.«01_k».proof.Proof.Ffn.Sigmoid
public import proofs.«01_k».proof.Proof.Fwd.Equal
public import proofs.«01_k».proof.Defs
public import Idealize.ShloMosaic.Lib.Pipeline.ValueKit.Acc

@[expose] public section

set_option maxRecDepth 16384

noncomputable section

namespace Cert.Kernel7Ideal.Ffn

open Idealize.ShloMosaic Idealize.ShloMosaic.TcCoe Idealize.SL.Sem Cert.Kernel7Ideal.Gen Cert.Kernel7Ideal.Value Cert.Ffn
open Cert.Reference7Ideal.Read
open Cert.Kernel2Ideal.Fwd (Numbers number_of_lt sum_number)

/-! ## What one point writes -/

theorem start_at (p : Fin 1) (r : Fin 512) (j : Fin 1408) : k0_pay1 (F := Ideal) (ix3 p r j) = 0 := by
  pointwise [k0_pay1]
theorem back_at (x : Vec Ideal S512x1024 .f32) (w : Vec Ideal S1408x1024 .bf16) (z : Vec Ideal S1x512x1408 .f32) (r : Fin 512) (j : Fin 1408) :
    k0_pay2 x w z (ix3 0 r j) = z (ix3 0 r j) + ∑ k : Fin 1024, x (ix2 r k) * w (ix2 j k) := by
  pointwise [k0_pay2]
theorem plane_at (z : Vec Ideal S1x512x1408 .f32) (r : Fin 512) (j : Fin 1408) : k0_pay3 z (ix2 r j) = z (ix3 0 r j) := by
  pointwise [k0_pay3]
theorem gate_at (a : Vec Ideal S1x512x1408 .f32) (g u : Vec Ideal S512x1408 .f32) (r : Fin 512) (j : Fin 1408) :
    k0_pay4 a g u (ix2 r j) = a (ix3 0 r j) * u (ix2 r j)
      * (logistic (g (ix2 r j)) * (1 + g (ix2 r j) * (1 - logistic (g (ix2 r j))))) := by
  rw [← plane_at a r j, ← logistic_call, ← ofBits_one]
  rfl
theorem up_at (a : Vec Ideal S1x512x1408 .f32) (g : Vec Ideal S512x1408 .f32) (r : Fin 512) (j : Fin 1408) :
    k0_pay5 a g (ix2 r j) = a (ix3 0 r j) * (g (ix2 r j) * logistic (g (ix2 r j))) := by
  rw [← plane_at a r j, ← logistic_call]
  rfl

variable (m : (ℓ : Loc nD τ sig) → Buf (Elt Ideal) ℓ) (c : Dev nD)

/-- The four arguments: the gradient that comes in, the output weights, the gate, the second half. -/
abbrev adz : FVec Ideal S16384x1024 .f32 := m ((c.tc : Thread nD τ).loc main_arg0)
abbrev aw : FVec Ideal S2816x1024 .bf16 := m ((c.tc : Thread nD τ).loc main_arg1)
abbrev ag : FVec Ideal S16384x2816 .f32 := m ((c.tc : Thread nD τ).loc main_arg2)
abbrev au : FVec Ideal S16384x2816 .f32 := m ((c.tc : Thread nD τ).loc main_arg3)

variable (t : Fin cfg0.N)

/-- A point's gradient of the product. -/
abbrev back : FVec Ideal S1x512x1408 .f32 := k0_pay2 (iblk m c 0 t) (iblk m c 1 t) (k0_pay1 (F := Ideal))

theorem writes : outsAt0 m c t = (k0_pay4 (F := Ideal) (back m c t) (iblk m c 2 t) (iblk m c 3 t), k0_pay5 (F := Ideal) (back m c t) (iblk m c 2 t)) := by
  unfold outsAt0
  frame_out

/-! ## The blocks, as parts of the arrays -/

theorem lt_N : t.val < 64 := Nat.lt_of_lt_of_eq t.isLt N_0

abbrev rowAt (r : Fin 512) : Fin 16384 := ⟨512 * (t.val % 32) + r.val, by omega⟩
abbrev colAt (j : Fin 1408) : Fin 2816 := ⟨1408 * (t.val / 32) + j.val, by have := lt_N t; omega⟩

theorem place0 : ∀ t : Fin cfg0.N, win0_0.index t = ![t.val % 32, 0] := by decide +kernel
theorem place1 : ∀ t : Fin cfg0.N, win0_1.index t = ![t.val / 32, 0] := by decide +kernel
theorem place2 : ∀ t : Fin cfg0.N, win0_2.index t = ![t.val % 32, t.val / 32] := by decide +kernel
theorem place3 : ∀ t : Fin cfg0.N, win0_3.index t = ![t.val % 32, t.val / 32] := by decide +kernel
theorem place4 : ∀ t : Fin cfg0.N, win0_4.index t = ![t.val % 32, t.val / 32] := by decide +kernel
theorem place5 : ∀ t : Fin cfg0.N, win0_5.index t = ![t.val % 32, t.val / 32] := by decide +kernel

theorem read0 (A : Vec Ideal S16384x1024 .f32) (r : Fin 512) (k : Fin 1024) :
    ((cfg0.win 0).blk t).view.read (Elt Ideal) A (ix2 r k) = A (ix2 (rowAt t r) k) := by
  blk_ext [place0]
theorem read1 (A : Vec Ideal S2816x1024 .bf16) (j : Fin 1408) (k : Fin 1024) :
    ((cfg0.win 1).blk t).view.read (Elt Ideal) A (ix2 j k) = A (ix2 (colAt t j) k) := by
  blk_ext [place1]
theorem read2 (A : Vec Ideal S16384x2816 .f32) (r : Fin 512) (j : Fin 1408) :
    ((cfg0.win 2).blk t).view.read (Elt Ideal) A (ix2 r j) = A (ix2 (rowAt t r) (colAt t j)) := by
  blk_ext [place2]
theorem read3 (A : Vec Ideal S16384x2816 .f32) (r : Fin 512) (j : Fin 1408) :
    ((cfg0.win 3).blk t).view.read (Elt Ideal) A (ix2 r j) = A (ix2 (rowAt t r) (colAt t j)) := by
  blk_ext [place3]
theorem read4 (A : Vec Ideal S16384x2816 .bf16) (r : Fin 512) (j : Fin 1408) :
    ((cfg0.win 4).blk t).view.read (Elt Ideal) A (ix2 r j) = A (ix2 (rowAt t r) (colAt t j)) := by
  blk_ext [place4]
theorem read5 (A : Vec Ideal S16384x2816 .bf16) (r : Fin 512) (j : Fin 1408) :
    ((cfg0.win 5).blk t).view.read (Elt Ideal) A (ix2 r j) = A (ix2 (rowAt t r) (colAt t j)) := by
  blk_ext [place5]

/-! ## The two arrays after the run, element by element -/

/-- The gradient of the product of the two halves. -/
def backOf (r : Fin 16384) (j : Fin 2816) : EReal := ∑ k : Fin 1024, adz m c (ix2 r k) * aw m c (ix2 j k)

theorem point_back (r : Fin 512) (j : Fin 1408) : back m c t (ix3 0 r j) = backOf m c (rowAt t r) (colAt t j) := by
  rw [back, back_at, start_at, zero_add]
  exact Finset.sum_congr rfl fun k _ => congrArg₂ (· * ·) (read0 t (adz m c) r k) (read1 t (aw m c) j k)
theorem point_gate (r : Fin 512) (j : Fin 1408) : iblk m c 2 t (ix2 r j) = ag m c (ix2 (rowAt t r) (colAt t j)) := read2 t (ag m c) r j
theorem point_up (r : Fin 512) (j : Fin 1408) : iblk m c 3 t (ix2 r j) = au m c (ix2 (rowAt t r) (colAt t j)) := read3 t (au m c) r j

/-- The point that writes a row and a column, and their place in its block. -/
abbrev ptOf (r : Fin 16384) (j : Fin 2816) : Fin cfg0.N := ⟨32 * (j.val / 1408) + r.val / 512, lt_of_lt_of_eq (show 32 * (j.val / 1408) + r.val / 512 < 64 by omega) N_0.symm⟩
abbrev rowIn (r : Fin 16384) : Fin 512 := ⟨r.val % 512, Nat.mod_lt _ (by decide)⟩
abbrev colIn (j : Fin 2816) : Fin 1408 := ⟨j.val % 1408, Nat.mod_lt _ (by decide)⟩
theorem row_back (r : Fin 16384) (j : Fin 2816) : rowAt (ptOf r j) (rowIn r) = r :=
  Fin.ext (by show 512 * ((32 * (j.val / 1408) + r.val / 512) % 32) + r.val % 512 = r.val; omega)
theorem col_back (r : Fin 16384) (j : Fin 2816) : colAt (ptOf r j) (colIn j) = j :=
  Fin.ext (by show 1408 * ((32 * (j.val / 1408) + r.val / 512) / 32) + j.val % 1408 = j.val; omega)

variable (r : Fin 16384) (j : Fin 2816)

theorem left4 : (dats m 0 c).arrAt 4 cfg0.N (ix2 r j) = backOf m c r j * au m c (ix2 r j)
    * (logistic (ag m c (ix2 r j)) * (1 + ag m c (ix2 r j) * (1 - logistic (ag m c (ix2 r j))))) := by
  have h := congrFun (blocks4 m c (ptOf r j) (flush0_4 _)) (ix2 (rowIn r) (colIn j))
  rw [read4, row_back, col_back, flushed4, writes] at h
  exact h.trans ((gate_at _ _ _ (rowIn r) (colIn j)).trans (by rw [point_back, point_gate, point_up, row_back, col_back]))
theorem left5 : (dats m 0 c).arrAt 5 cfg0.N (ix2 r j) = backOf m c r j * (ag m c (ix2 r j) * logistic (ag m c (ix2 r j))) := by
  have h := congrFun (blocks5 m c (ptOf r j) (flush0_5 _)) (ix2 (rowIn r) (colIn j))
  rw [read5, row_back, col_back, flushed5, writes] at h
  exact h.trans ((up_at _ _ (rowIn r) (colIn j)).trans (by rw [point_back, point_gate, row_back, col_back]))

/-! ## The reference -/

theorem reference_back : val_main_v4 (F := Ideal) (adz m c) (aw m c) (ix2 r j) = backOf m c r j := by
  rw [val_main_v4_apply]
  exact Finset.sum_congr rfl fun k _ => congrArg₂ (· * ·) (congrArg (adz m c) (same rfl rfl)) (congrArg (aw m c) (same rfl rfl))
theorem reference_logistic (g : FVec Ideal S16384x2816 .f32) (q : S16384x2816.Idx) : val_main_v0_2 (F := Ideal) g q = logistic (g q) := by
  rw [val_main_v0_2_apply, val_main_call0_v4_apply, val_main_call0_cst_0_apply, val_main_call0_v3_apply, val_main_call0_v2_apply, val_main_call0_cst_apply,
    val_main_call0_v1_apply, val_main_call0_v0_apply, show FloatOps.ofBits (F := Ideal) .f32 0x3F800000#32 = 1 from ofBits_one]
  rfl
theorem reference_rest (g : FVec Ideal S16384x2816 .f32) (q : S16384x2816.Idx) : val_main_v0_1 (F := Ideal) g q = logistic (g q) * (1 - logistic (g q)) := by
  rw [val_main_v0_1_apply, val_main_call0_v7_apply, val_main_call0_v6_apply, val_main_call0_cst_1_apply, reference_logistic,
    show FloatOps.ofBits (F := Ideal) .f32 0x3F800000#32 = 1 from ofBits_one]
  rfl
theorem reference_gate : val_main_v8 (F := Ideal) (adz m c) (aw m c) (ag m c) (au m c) (ix2 r j)
    = backOf m c r j * au m c (ix2 r j) * logistic (ag m c (ix2 r j))
      + ag m c (ix2 r j) * (backOf m c r j * au m c (ix2 r j)) * (logistic (ag m c (ix2 r j)) * (1 - logistic (ag m c (ix2 r j)))) := by
  rw [val_main_v8_apply, val_main_v7_apply, val_main_call1_v1_apply, val_main_call1_v2_apply, val_main_call1_v0_apply, val_main_v6_apply,
    reference_back, reference_logistic, reference_rest]
  rfl
theorem reference_up : val_main_v9 (F := Ideal) (adz m c) (aw m c) (ag m c) (ix2 r j) = ag m c (ix2 r j) * logistic (ag m c (ix2 r j)) * backOf m c r j := by
  rw [val_main_v9_apply, val_main_v5_apply, val_main_v0_0_apply, reference_back, reference_logistic]
  rfl

/-! ## That the two are the same -/

theorem factsGate : Cert.Pre_finite_gate.Facts := ⟨by decide, by decide, by decide⟩

theorem infinity : Ideal.ofBits .bf16 0x7F80#16 = Ideal.ofBits .f32 0x7F800000#32 := by
  rw [show Ideal.ofBits .bf16 0x7F80#16 = ⊤ by simp [Ideal.ofBits, Ideal.ieee], show Ideal.ofBits .f32 0x7F800000#32 = ⊤ by simp [Ideal.ofBits, Ideal.ieee]]

/-- Where the precondition holds, the gradient of the product times the second half is a number. -/
theorem number (hp : @Cert.Pre_Kernel7Ideal_finite_gate factsGate m) : ∃ y : ℝ, backOf m c r j * au m c (ix2 r j) = (y : EReal) := by
  obtain ⟨h0, h1, h3⟩ := hp c
  have n0 : ∀ q, ∃ y : ℝ, adz m c q = (y : EReal) := fun q => number_of_lt _ (congrFun h0 q)
  have n1 : ∀ q, ∃ y : ℝ, aw m c q = (y : EReal) := fun q => number_of_lt _ (infinity ▸ congrFun h1 q)
  obtain ⟨a, ha⟩ := sum_number (fun k : Fin 1024 => n0 (ix2 r k)) (fun k => n1 (ix2 j k))
  obtain ⟨b, hb⟩ := number_of_lt _ (congrFun h3 (ix2 r j))
  have hb' : au m c (ix2 r j) = (b : EReal) := hb
  exact ⟨a * b, by rw [backOf, ha, hb', EReal.coe_mul]⟩

theorem gate_eq (hp : @Cert.Pre_Kernel7Ideal_finite_gate factsGate m) :
    (dats m 0 c).arrAt 4 cfg0.N = val_main_v8 (F := Ideal) (adz m c) (aw m c) (ag m c) (au m c) := by
  funext q
  obtain ⟨r, j, rfl⟩ : ∃ (r : Fin 16384) (j : Fin 2816), q = ix2 r j := ⟨q 0, q 1, same rfl rfl⟩
  obtain ⟨y, hy⟩ := number m c r j hp
  refine (left4 m c r j).trans (Eq.trans ?_ (reference_gate m c r j).symm)
  rw [hy]
  exact slope y _
theorem up_eq : (dats m 0 c).arrAt 5 cfg0.N = val_main_v9 (F := Ideal) (adz m c) (aw m c) (ag m c) := by
  funext q
  obtain ⟨r, j, rfl⟩ : ∃ (r : Fin 16384) (j : Fin 2816), q = ix2 r j := ⟨q 0, q 1, same rfl rfl⟩
  exact (left5 m c r j).trans ((mul_comm _ _).trans (reference_up m c r j).symm)

/-- The two programs' results are the same, in the extended reals. -/
theorem equal : @Cert.algebraic_Kernel7Ideal_Reference7Ideal_pre_finite_gate Cert.Kernel7Ideal.Gen.facts Cert.Reference7Ideal.Gen.facts factsGate := by
  intro m g m' g' hp hargs
  refine ⟨fun c => (dats m 0 c).arrAt 4 cfg0.N, fun c => (dats m 0 c).arrAt 5 cfg0.N, run_blocks m g, ?_⟩
  refine (θ_run _ _ _).mono (fun r hr c => ?_) (Cert.Reference7Ideal.Value.run (F := Ideal) m' g')
  obtain ⟨e0, e1, e2, e3⟩ := hargs c
  obtain ⟨h8, h9, hrest⟩ := hr c
  refine ⟨h8.trans ?_, h9.trans ?_, hrest⟩
  · rw [val_main_v8_eq, e0, e1, e2, e3]
    exact (gate_eq m c hp).symm
  · rw [val_main_v9_eq, e0, e1, e2]
    exact (up_eq m c).symm

end Cert.Kernel7Ideal.Ffn

end
-- ==== Proof.Ffn.Norm.lean ====
/- The norm of a row of 1024 numbers: the row less its mean, over its standard deviation. -/
module

public import proofs.«01_k».proof.Proof.Ffn.Sums
public import proofs.«01_k».proof.Proof.Fwd.Row
public import Idealize.ShloMosaic.PureOps.Ideal.Laws

@[expose] public section

noncomputable section

namespace Cert.Ffn

open Idealize.ShloMosaic Cert.Kernel2Ideal.Fwd

/-- A row's mean. -/
def mean (x : Fin 1024 → EReal) : EReal := Ideal.div (∑ k, x k) (Ideal.ofBits .f32 0x44800000#32)

/-- A row less its mean. -/
def centred (z : Fin 1024 → EReal) (j : Fin 1024) : EReal := z j - mean z

/-- One over a row's standard deviation, a small number added to the variance. -/
def scale (z : Fin 1024 → EReal) : EReal := Ideal.rsqrt (mean (fun k => centred z k * centred z k) + Ideal.ofBits .f32 0x3727C5AC#32)

/-! ## The gradient of the norm -/

/-- The gradient with respect to a row `z`, from the gradient `x` with respect to the row's norm: as the call computes it. -/
def gradient (x z : Fin 1024 → EReal) (j : Fin 1024) : EReal :=
  scale z * (x j - mean x - centred z j * scale z * mean fun k => x k * (centred z k * scale z))

/-- The part of the chain rule that goes through the variance. -/
def through (x z : Fin 1024 → EReal) (j : Fin 1024) : EReal :=
  Ideal.div ((∑ k, centred z k * x k) * (Ideal.ofBits .f32 0xBF000000#32
    * Ideal.div (scale z) (mean (fun k => centred z k * centred z k) + Ideal.ofBits .f32 0x3727C5AC#32))) (Ideal.ofBits .f32 0x44800000#32)
    * (Ideal.ofBits .f32 0x40000000#32 * centred z j)

/-- The same gradient by the chain rule: straight, through the variance, and through the mean. -/
def chain (x z : Fin 1024 → EReal) (j : Fin 1024) : EReal :=
  x j * scale z + through x z j + Ideal.div ((∑ k, -(x k * scale z)) + ∑ k, -through x z k) (Ideal.ofBits .f32 0x44800000#32)

theorem length : Ideal.ofBits .f32 0x44800000#32 = ((1024 : ℝ) : EReal) := by
  simp [Ideal.ofBits, Ideal.ieee]
  rw [← EReal.coe_mul]
  norm_num
theorem minus_half : Ideal.ofBits .f32 0xBF000000#32 = ((-1 / 2 : ℝ) : EReal) := by
  simp [Ideal.ofBits, Ideal.ieee]
  rw [← EReal.coe_mul, ← EReal.coe_neg]
  norm_num
theorem two : Ideal.ofBits .f32 0x40000000#32 = ((2 : ℝ) : EReal) := by
  simp [Ideal.ofBits, Ideal.ieee]
  rw [← EReal.coe_mul]
  norm_num
theorem small : ∃ e : ℝ, 0 < e ∧ Ideal.ofBits .f32 0x3727C5AC#32 = (e : EReal) := by
  refine ⟨1 * (2 ^ 23 + 2606508 : ℕ) * 2 ^ ((110 : ℤ) - 127 - 23), by positivity, ?_⟩
  simp [Ideal.ofBits, Ideal.ieee]

theorem div_number (a : ℝ) {b : ℝ} (h : b ≠ 0) : Ideal.div (a : EReal) (b : EReal) = ((a / b : ℝ) : EReal) := by
  rw [Ideal.div_coe h, ← EReal.coe_mul, mul_one_div]
theorem mean_number (x : Fin 1024 → ℝ) : mean (fun k => (x k : EReal)) = (((∑ k, x k) / 1024 : ℝ) : EReal) := by
  rw [mean, sum_coe, length, div_number _ (by norm_num)]
theorem centred_number (z : Fin 1024 → ℝ) (j : Fin 1024) : centred (fun k => (z k : EReal)) j = ((z j - (∑ k, z k) / 1024 : ℝ) : EReal) := by
  rw [centred, mean_number, ← EReal.coe_sub]

/-- One over the standard deviation is a number, and so is the variance it is taken of. -/
theorem scale_number (z : Fin 1024 → ℝ) : ∃ s d : ℝ, 0 < s ∧ d * d * s = 1 ∧ scale (fun k => (z k : EReal)) = (d : EReal)
    ∧ mean (fun k => centred (fun i => (z i : EReal)) k * centred (fun i => (z i : EReal)) k) + Ideal.ofBits .f32 0x3727C5AC#32 = (s : EReal) := by
  obtain ⟨e, he, e'⟩ := small
  have v : mean (fun k => centred (fun i => (z i : EReal)) k * centred (fun i => (z i : EReal)) k) + Ideal.ofBits .f32 0x3727C5AC#32
      = (((∑ k, (z k - (∑ i, z i) / 1024) * (z k - (∑ i, z i) / 1024)) / 1024 + e : ℝ) : EReal) := by
    simp only [centred_number, ← EReal.coe_mul]
    rw [mean_number, e', ← EReal.coe_add]
  have p : 0 < (∑ k, (z k - (∑ i, z i) / 1024) * (z k - (∑ i, z i) / 1024)) / 1024 + e :=
    add_pos_of_nonneg_of_pos (div_nonneg (Finset.sum_nonneg fun k _ => mul_self_nonneg _) (by norm_num)) he
  generalize (∑ k, (z k - (∑ i, z i) / 1024) * (z k - (∑ i, z i) / 1024)) / 1024 + e = s at v p
  refine ⟨s, (Real.sqrt s)⁻¹, p, ?_, ?_, v⟩
  · rw [← mul_inv, Real.mul_self_sqrt p.le, inv_mul_cancel₀ p.ne']
  · rw [scale, v, Ideal.rsqrt_coe, if_neg (not_lt.mpr p.le), if_neg p.ne']

/-- A row less its mean sums to nothing. -/
theorem centred_sum (z : Fin 1024 → ℝ) : (∑ j, (z j - (∑ k, z k) / 1024)) = 0 := by
  rw [Finset.sum_sub_distrib, Finset.sum_const, Finset.card_univ, Fintype.card_fin, nsmul_eq_mul]
  ring

/-- The two gradients, in real numbers. -/
theorem gradient_real (x c : Fin 1024 → ℝ) (s d : ℝ) (hs : 0 < s) (hd : d * d * s = 1) (hc : (∑ k, c k) = 0) (j : Fin 1024) :
    d * (x j - (∑ k, x k) / 1024 - c j * d * ((∑ k, x k * (c k * d)) / 1024))
      = x j * d + (∑ k, c k * x k) * (-1 / 2 * (d / s)) / 1024 * (2 * c j)
        + ((∑ k, -(x k * d)) + ∑ k, -((∑ k, c k * x k) * (-1 / 2 * (d / s)) / 1024 * (2 * c k))) / 1024 := by
  have h1 : (∑ k, x k * (c k * d)) = (∑ k, c k * x k) * d := by
    rw [Finset.sum_mul]
    exact Finset.sum_congr rfl fun k _ => by ring
  have h2 : (∑ k, -((∑ k, c k * x k) * (-1 / 2 * (d / s)) / 1024 * (2 * c k))) = 0 := by
    rw [Finset.sum_neg_distrib, ← Finset.mul_sum, ← Finset.mul_sum, hc]
    ring
  have h3 : (∑ k, -(x k * d)) = -((∑ k, x k) * d) := by rw [Finset.sum_neg_distrib, Finset.sum_mul]
  have h4 : d / s = d * (d * d) := by
    rw [div_eq_iff hs.ne', mul_assoc, hd, mul_one]
  rw [h1, h2, h3, h4]
  ring

/-- Of rows of numbers, the two gradients are one. -/
theorem gradient_number (x z : Fin 1024 → ℝ) (j : Fin 1024) :
    gradient (fun k => (x k : EReal)) (fun k => (z k : EReal)) j = chain (fun k => (x k : EReal)) (fun k => (z k : EReal)) j := by
  obtain ⟨s, d, hs, hd, e, v⟩ := scale_number z
  have h := gradient_real x (fun k => z k - (∑ k, z k) / 1024) s d hs hd (centred_sum z) j
  simp only [gradient, chain, through, v, e]
  simp only [centred_number, minus_half, two, length, div_number _ hs.ne', div_number _ (show (1024 : ℝ) ≠ 0 by norm_num),
    ← EReal.coe_mul, ← EReal.coe_add, ← EReal.coe_sub, ← EReal.coe_neg, sum_coe, mean_number]
  exact congrArg _ h

/-- The sum of a row with an infinity is an infinity. -/
theorem sum_infinite {z : Fin 1024 → EReal} (h : ∃ k, z k = ⊤ ∨ z k = ⊥) : (∑ k, z k) = ⊤ ∨ (∑ k, z k) = ⊥ := by
  by_cases hb : ∃ k, z k = ⊥
  · obtain ⟨k, hk⟩ := hb
    right
    rw [← Finset.add_sum_erase _ _ (Finset.mem_univ k), hk, EReal.bot_add]
  · have hn : ∀ k, z k ≠ ⊥ := fun k hk => hb ⟨k, hk⟩
    obtain ⟨k, hk⟩ := h
    left
    rw [← Finset.add_sum_erase _ _ (Finset.mem_univ k), hk.resolve_right (hn k)]
    exact EReal.top_add_of_ne_bot fun e => by
      generalize Finset.univ.erase k = S at e
      induction S using Finset.induction_on with
      | empty => simp at e
      | insert a S ha ih =>
        rw [Finset.sum_insert ha] at e
        exact (EReal.add_eq_bot_iff.mp e).elim (hn a) ih

theorem div_length (x : EReal) (h : x = ⊤ ∨ x = ⊥) : Ideal.div x (Ideal.ofBits .f32 0x44800000#32) = x := by
  have p : (0 : ℝ) < 1 / 1024 := by norm_num
  rw [length, Ideal.div_coe (by norm_num)]
  rcases h with rfl | rfl
  · exact EReal.top_mul_coe_of_pos p
  · exact EReal.bot_mul_coe_of_pos p

/-- A row with an infinity has an infinite variance. -/
theorem variance_infinite {z : Fin 1024 → EReal} (h : ∃ k, z k = ⊤ ∨ z k = ⊥) :
    mean (fun k => centred z k * centred z k) + Ideal.ofBits .f32 0x3727C5AC#32 = ⊤ := by
  have m : mean z = ⊤ ∨ mean z = ⊥ := by rw [mean, div_length _ (sum_infinite h)]; exact sum_infinite h
  have q : ∀ k, centred z k * centred z k = ⊤ := fun k => by
    rw [centred]
    generalize z k = a
    rcases m with e | e <;> rw [e]
    · rw [sub_eq_add_neg, EReal.neg_top, EReal.add_bot]
      rfl
    · induction a using EReal.rec <;> rfl
  have s : (∑ k, centred z k * centred z k) = ⊤ := (sum_infinite (z := fun k => centred z k * centred z k) ⟨0, .inl (q 0)⟩).resolve_right fun e => by
    have := Finset.sum_nonneg (s := Finset.univ) fun (k : Fin 1024) _ => le_top.trans_eq (q k).symm
    rw [e] at this
    exact absurd this (by decide)
  obtain ⟨e, -, he⟩ := small
  rw [mean, s, div_length _ (.inl rfl), he]
  rfl

/-- Of a row of numbers as the incoming gradient, the two gradients are one. -/
theorem gradient_eq (x : Fin 1024 → ℝ) (z : Fin 1024 → EReal) (j : Fin 1024) :
    gradient (fun k => (x k : EReal)) z j = chain (fun k => (x k : EReal)) z j := by
  by_cases h : ∃ k, z k = ⊤ ∨ z k = ⊥
  · have v := variance_infinite h
    have e : scale z = 0 := by rw [scale, v, Ideal.rsqrt_top]
    have t : ∀ k, through (fun k => (x k : EReal)) z k = 0 := fun k => by
      rw [through, v, e, show Ideal.div 0 ⊤ = 0 by simp [Ideal.div], mul_zero, mul_zero, length, Ideal.div_coe (by norm_num), zero_mul, zero_mul]
    simp only [gradient, chain, e, t, zero_mul, mul_zero, neg_zero, Finset.sum_const_zero, add_zero, length, Ideal.div_coe (show (1024 : ℝ) ≠ 0 by norm_num)]
  · have n : z = fun k => ((z k).toReal : EReal) := funext fun k =>
      (EReal.coe_toReal (fun e => h ⟨k, .inl e⟩) (fun e => h ⟨k, .inr e⟩)).symm
    rw [n]
    exact gradient_number x _ j

end Cert.Ffn

end
-- ==== Proof.Ffn.NormRows.lean ====
/- The norm of every row of an array, as the references compute it, and its elements. -/
module

public import proofs.«01_k».proof.Proof.Gen.Reference8Ideal
public import proofs.«01_k».proof.Proof.Ffn.Norm
public import Idealize.ShloMosaic.Lib.Pipeline.Value
public import Idealize.ShloMosaic.Lib.ValueIdx

@[expose] public section

set_option maxRecDepth 16384

noncomputable section

namespace Cert.Ffn

open Idealize.ShloMosaic Idealize.ShloMosaic.TcCoe Idealize.ShloMosaic.StableHlo Cert.Reference8Ideal Cert.Reference8Ideal.Gen

variable (z : FVec Ideal S16384x1024 .f32) (g b : FVec Ideal S1x1024 .f32)

/-- Every row's mean. -/
def means : FVec Ideal S16384x1 .f32 :=
  Host.divf (broadcastInDim S16384x1 ![0] bcast_S16384_S16384x1_0
      (Host.reduceAdd z (constant (F := Ideal) S_ .f32 0x00000000#32) reducesTo_S16384x1024_S16384_d1 h_S_))
    (broadcastInDim S16384x1 ![] bcast_S_S16384x1 (constant (F := Ideal) S_ .f32 0x44800000#32))
/-- Every row less its mean. -/
def lessMeans : FVec Ideal S16384x1024 .f32 := subf z (broadcastInDim S16384x1024 ![0, 1] bcast_S16384x1_S16384x1024_0_1 (means z))
/-- One over every row's standard deviation. -/
def scales : FVec Ideal S16384x1 .f32 :=
  Host.rsqrt (addf (means (mulf (lessMeans z) (lessMeans z))) (broadcastInDim S16384x1 ![] bcast_S_S16384x1 (constant (F := Ideal) S_ .f32 0x3727C5AC#32)))
/-- Every row's norm, times a gain, plus an offset. -/
def norms : FVec Ideal S16384x1024 .f32 :=
  addf (mulf (mulf (lessMeans z) (broadcastInDim S16384x1024 ![0, 1] bcast_S16384x1_S16384x1024_0_1 (scales z)))
    (broadcastInDim S16384x1024 ![0, 1] bcast_S1x1024_S16384x1024_0_1 g)) (broadcastInDim S16384x1024 ![0, 1] bcast_S1x1024_S16384x1024_0_1 b)

variable (r : Fin 16384) (j : Fin 1024)

/-- A row of the array. -/
abbrev row (k : Fin 1024) : EReal := z (ix2 r k)

theorem sums_at (i : S16384.Idx) (h : i 0 = r) :
    Host.reduceAdd z (constant (F := Ideal) S_ .f32 0x00000000#32) reducesTo_S16384x1024_S16384_d1 h_S_ i = ∑ k, z (ix2 r k) := by
  simp only [Host.reduceAdd, Ideal.hostReduceAdd_def]
  rw [Ideal.hostReduceAdd_single reducesTo_S16384x1024_S16384_d1 (by decide)]
  refine (congrArg (· + _) (show constant (F := Ideal) S_ .f32 0x00000000#32 _ = (0 : EReal) from Ideal.ofBits_zero_f32)).trans
    ((zero_add _).trans (Finset.sum_congr rfl fun k _ => ?_))
  exact congrArg z (same h rfl)
theorem means_at : means z (ix2 r 0) = mean (row z r) := by
  unfold means
  have e := sums_at z r
  generalize Host.reduceAdd z (constant (F := Ideal) S_ .f32 0x00000000#32) reducesTo_S16384x1024_S16384_d1 h_S_ = y at e
  pointwise []
  rw [e _ rfl]
  rfl
theorem lessMeans_at : lessMeans z (ix2 r j) = centred (row z r) j := by
  unfold lessMeans
  have e := means_at z r
  generalize means z = y at e
  pointwise []
  rw [e]
  rfl
theorem scales_at : scales z (ix2 r 0) = scale (row z r) := by
  unfold scales
  have e := means_at (mulf (lessMeans z) (lessMeans z)) r
  generalize means (mulf (lessMeans z) (lessMeans z)) = y at e
  pointwise []
  rw [e, show row (mulf (lessMeans z) (lessMeans z)) r = fun k => centred (row z r) k * centred (row z r) k from
    funext fun k => congrArg₂ (· * ·) (lessMeans_at z r k) (lessMeans_at z r k)]
  rfl
theorem norms_at : norms z g b (ix2 r j) = centred (row z r) j * scale (row z r) * g (ix2 0 j) + b (ix2 0 j) := by
  unfold norms
  rw [← lessMeans_at, ← scales_at]
  generalize lessMeans z = x
  generalize scales z = s
  pointwise []

end Cert.Ffn

end
-- ==== Proof.Ffn.Output.lean ====
/- A SwiGLU layer's last product, its sum with the layer's input, and the norm: what the call writes, what the reference computes, and
   that they are the same. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Ffn.NormRows
public import proofs.«01_k».proof.Defs
public import Idealize.ShloMosaic.Lib.Pipeline.ValueKit.Acc

@[expose] public section

set_option maxRecDepth 16384

noncomputable section

namespace Cert.Kernel8Ideal.Ffn

open Idealize.ShloMosaic Idealize.ShloMosaic.TcCoe Idealize.SL.Sem Cert.Kernel8Ideal.Gen Cert.Kernel8Ideal.Value Cert.Ffn
open Cert.Reference8Ideal.Read

/-! ## What one point writes -/

theorem start_at (r : Fin 512) (j : Fin 1024) : k0_pay1 (F := Ideal) (ix3 0 r j) = 0 := by
  pointwise [k0_pay1]
theorem product_at (x : Vec Ideal S512x2816 .bf16) (w : Vec Ideal S2816x1024 .bf16) (z : Vec Ideal S1x512x1024 .f32) (r : Fin 512) (j : Fin 1024) :
    k0_pay2 x w z (ix3 0 r j) = z (ix3 0 r j) + ∑ k : Fin 2816, x (ix2 r k) * w (ix2 k j) := by
  pointwise [k0_pay2]
theorem sum_at (z : Vec Ideal S1x512x1024 .f32) (h : Vec Ideal S512x1024 .f32) (r : Fin 512) (j : Fin 1024) :
    k0_pay3 z h (ix2 r j) = Ideal.ofBits .f32 0x3FD744FD#32 * h (ix2 r j) + z (ix3 0 r j) := by
  pointwise [k0_pay3]
theorem norm_at (z : Vec Ideal S1x512x1024 .f32) (h : Vec Ideal S512x1024 .f32) (g b : Vec Ideal S1x1024 .f32) (r : Fin 512) (j : Fin 1024) :
    k0_pay4 z h g b (ix2 r j)
      = centred (fun k => k0_pay3 z h (ix2 r k)) j * scale (fun k => k0_pay3 z h (ix2 r k)) * g (ix2 0 j) + b (ix2 0 j) := by
  unfold k0_pay4
  generalize k0_pay3 z h = x
  pointwise []
  rfl

variable (m : (ℓ : Loc nD τ sig) → Buf (Elt Ideal) ℓ) (c : Dev nD)

/-- The five arguments. -/
abbrev aa : FVec Ideal S16384x2816 .bf16 := m ((c.tc : Thread nD τ).loc main_arg0)
abbrev aw : FVec Ideal S2816x1024 .bf16 := m ((c.tc : Thread nD τ).loc main_arg1)
abbrev ah : FVec Ideal S16384x1024 .f32 := m ((c.tc : Thread nD τ).loc main_arg2)
abbrev ag : FVec Ideal S1x1024 .f32 := m ((c.tc : Thread nD τ).loc main_arg3)
abbrev ab : FVec Ideal S1x1024 .f32 := m ((c.tc : Thread nD τ).loc main_arg4)

variable (t : Fin cfg0.N)

/-- A point's block of the product. -/
abbrev product : FVec Ideal S1x512x1024 .f32 := k0_pay2 (iblk m c 0 t) (iblk m c 1 t) (k0_pay1 (F := Ideal))

theorem writes : outsAt0 m c t = (k0_pay3 (F := Ideal) (product m c t) (iblk m c 2 t), k0_pay4 (F := Ideal) (product m c t) (iblk m c 2 t) (iblk m c 3 t) (iblk m c 4 t)) := by
  unfold outsAt0
  frame_out

/-! ## The blocks, as parts of the arrays -/

theorem lt_N : t.val < 32 := Nat.lt_of_lt_of_eq t.isLt N_0

abbrev rowAt (r : Fin 512) : Fin 16384 := ⟨512 * t.val + r.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![0, 0] := by decide +kernel
theorem place4 : ∀ t : Fin cfg0.N, win0_4.index t = ![0, 0] := by decide +kernel
theorem place5 : ∀ t : Fin cfg0.N, win0_5.index t = ![t.val, 0] := by decide +kernel
theorem place6 : ∀ t : Fin cfg0.N, win0_6.index t = ![t.val, 0] := by decide +kernel

theorem read0 (A : Vec Ideal S16384x2816 .bf16) (r : Fin 512) (k : Fin 2816) :
    ((cfg0.win 0).blk t).view.read (Elt Ideal) A (ix2 r k) = A (ix2 (rowAt t r) k) := by
  blk_ext [place0]
theorem read1 (A : Vec Ideal S2816x1024 .bf16) (k : Fin 2816) (j : Fin 1024) :
    ((cfg0.win 1).blk t).view.read (Elt Ideal) A (ix2 k j) = A (ix2 k j) := by
  blk_ext [place1]
theorem read2 (A : Vec Ideal S16384x1024 .f32) (r : Fin 512) (j : Fin 1024) :
    ((cfg0.win 2).blk t).view.read (Elt Ideal) A (ix2 r j) = A (ix2 (rowAt t r) j) := by
  blk_ext [place2]
theorem read3 (A : Vec Ideal S1x1024 .f32) (j : Fin 1024) :
    ((cfg0.win 3).blk t).view.read (Elt Ideal) A (ix2 0 j) = A (ix2 0 j) := by
  blk_ext [place3]
theorem read4 (A : Vec Ideal S1x1024 .f32) (j : Fin 1024) :
    ((cfg0.win 4).blk t).view.read (Elt Ideal) A (ix2 0 j) = A (ix2 0 j) := by
  blk_ext [place4]
theorem read5 (A : Vec Ideal S16384x1024 .f32) (r : Fin 512) (j : Fin 1024) :
    ((cfg0.win 5).blk t).view.read (Elt Ideal) A (ix2 r j) = A (ix2 (rowAt t r) j) := by
  blk_ext [place5]
theorem read6 (A : Vec Ideal S16384x1024 .f32) (r : Fin 512) (j : Fin 1024) :
    ((cfg0.win 6).blk t).view.read (Elt Ideal) A (ix2 r j) = A (ix2 (rowAt t r) j) := by
  blk_ext [place6]

/-! ## The two arrays after the run, element by element -/

/-- A row of the layer's input times a constant, plus the product. -/
def rowOf (r : Fin 16384) (j : Fin 1024) : EReal :=
  Ideal.ofBits .f32 0x3FD744FD#32 * ah m c (ix2 r j) + ∑ k : Fin 2816, aa m c (ix2 r k) * aw m c (ix2 k j)

/-- The norm of that row. -/
def normOf (r : Fin 16384) (j : Fin 1024) : EReal :=
  centred (rowOf m c r) j * scale (rowOf m c r) * ag m c (ix2 0 j) + ab m c (ix2 0 j)

theorem point_row (r : Fin 512) (j : Fin 1024) : k0_pay3 (F := Ideal) (product m c t) (iblk m c 2 t) (ix2 r j) = rowOf m c (rowAt t r) j := by
  rw [sum_at, product, product_at, start_at, zero_add]
  exact congrArg₂ (fun a b => Ideal.ofBits .f32 0x3FD744FD#32 * a + b) (read2 t (ah m c) r j)
    (Finset.sum_congr rfl fun k _ => congrArg₂ (· * ·) (read0 t (aa m c) r k) (read1 t (aw m c) k j))
theorem point_norm (r : Fin 512) (j : Fin 1024) :
    k0_pay4 (F := Ideal) (product m c t) (iblk m c 2 t) (iblk m c 3 t) (iblk m c 4 t) (ix2 r j) = normOf m c (rowAt t r) j := by
  rw [norm_at, show (fun k => k0_pay3 (F := Ideal) (product m c t) (iblk m c 2 t) (ix2 r k)) = rowOf m c (rowAt t r) from funext fun k => point_row m c t r k]
  exact congrArg₂ (fun a b => centred (rowOf m c (rowAt t r)) j * scale (rowOf m c (rowAt t r)) * a + b) (read3 t (ag m c) j) (read4 t (ab m c) j)

/-- The point that writes a row, and the row's place in its block. -/
abbrev ptOf (r : Fin 16384) : Fin cfg0.N := ⟨r.val / 512, lt_of_lt_of_eq (show r.val / 512 < 32 by omega) N_0.symm⟩
abbrev rowIn (r : Fin 16384) : Fin 512 := ⟨r.val % 512, Nat.mod_lt _ (by decide)⟩
theorem row_back (r : Fin 16384) : rowAt (ptOf r) (rowIn r) = r :=
  Fin.ext (by show 512 * (r.val / 512) + r.val % 512 = r.val; omega)

variable (r : Fin 16384) (j : Fin 1024)

theorem left5 : (dats m 0 c).arrAt 5 cfg0.N (ix2 r j) = rowOf m c r j := by
  have h := congrFun (blocks5 m c (ptOf r) (flush0_5 _)) (ix2 (rowIn r) j)
  rw [read5, row_back, flushed5, writes] at h
  exact h.trans ((point_row m c _ (rowIn r) j).trans (by rw [row_back]))
theorem left6 : (dats m 0 c).arrAt 6 cfg0.N (ix2 r j) = normOf m c r j := by
  have h := congrFun (blocks6 m c (ptOf r) (flush0_6 _)) (ix2 (rowIn r) j)
  rw [read6, row_back, flushed6, writes] at h
  exact h.trans ((point_norm m c _ (rowIn r) j).trans (by rw [row_back]))

/-! ## The reference, and that the two are the same -/

theorem reference_row : val_main_v5 (F := Ideal) (aa m c) (aw m c) (ah m c) (ix2 r j) = rowOf m c r j := by
  rw [val_main_v5_apply, val_main_v1_apply, val_main_v0_apply, val_main_cst_apply, val_main_v4_apply]
  exact congrArg (Ideal.ofBits .f32 0x3FD744FD#32 * ah m c (ix2 r j) + ·)
    (Finset.sum_congr rfl fun k _ => congrArg₂ (· * ·) (congrArg (aa m c) (same rfl rfl)) (congrArg (aw m c) (same rfl rfl)))

/-- The reference's second result is the norm of its first one's rows. -/
theorem reference_norm : val_main_v27 (F := Ideal) (aa m c) (aw m c) (ah m c) (ag m c) (ab m c) (ix2 r j) = normOf m c r j := by
  rw [show val_main_v27 (F := Ideal) (aa m c) (aw m c) (ah m c) (ag m c) (ab m c)
      = norms (val_main_v5 (F := Ideal) (aa m c) (aw m c) (ah m c)) (ag m c) (ab m c) from rfl, norms_at,
    show row (val_main_v5 (F := Ideal) (aa m c) (aw m c) (ah m c)) r = rowOf m c r from funext fun k => reference_row m c r k]
  rfl

theorem row_eq : (dats m 0 c).arrAt 5 cfg0.N = val_main_v5 (F := Ideal) (aa m c) (aw m c) (ah m c) := by
  funext q
  obtain ⟨r, j, rfl⟩ : ∃ (r : Fin 16384) (j : Fin 1024), q = ix2 r j := ⟨q 0, q 1, same rfl rfl⟩
  exact (left5 m c r j).trans (reference_row m c r j).symm
theorem norm_eq : (dats m 0 c).arrAt 6 cfg0.N = val_main_v27 (F := Ideal) (aa m c) (aw m c) (ah m c) (ag m c) (ab m c) := by
  funext q
  obtain ⟨r, j, rfl⟩ : ∃ (r : Fin 16384) (j : Fin 1024), q = ix2 r j := ⟨q 0, q 1, same rfl rfl⟩
  exact (left6 m c r j).trans (reference_norm m c r j).symm

/-- The two programs' results are the same, in the extended reals. -/
theorem equal : @Cert.algebraic_Kernel8Ideal_Reference8Ideal Cert.Kernel8Ideal.Gen.facts Cert.Reference8Ideal.Gen.facts := by
  intro m g m' g' hp hargs
  refine ⟨fun c => (dats m 0 c).arrAt 5 cfg0.N, fun c => (dats m 0 c).arrAt 6 cfg0.N, run_blocks m g, ?_⟩
  refine (θ_run _ _ _).mono (fun r hr c => ?_) (Cert.Reference8Ideal.Value.run (F := Ideal) m' g')
  obtain ⟨e0, e1, e2, e3, e4⟩ := hargs c
  obtain ⟨h5, h27, hrest⟩ := hr c
  refine ⟨h5.trans ?_, h27.trans ?_, hrest⟩
  · rw [val_main_v5_eq, e0, e1, e2]
    exact (row_eq m c).symm
  · rw [val_main_v27_eq, e0, e1, e2, e3, e4]
    exact (norm_eq m c).symm

end Cert.Kernel8Ideal.Ffn

end
-- ==== Proof.Ffn.NormGrad.lean ====
/- The gradient of a layer's norm: what the call writes, what the reference computes, and that they are the same. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Ffn.Norm
public import proofs.«01_k».proof.Proof.Fwd.Equal
public import proofs.«01_k».proof.Defs
public import Idealize.ShloMosaic.Lib.Pipeline.ValueKit.Acc

@[expose] public section

set_option maxRecDepth 16384

noncomputable section

namespace Cert.Kernel9Ideal.Ffn

open Idealize.ShloMosaic Idealize.ShloMosaic.TcCoe Idealize.SL.Sem Cert.Kernel9Ideal.Gen Cert.Kernel9Ideal.Value Cert.Ffn
open Cert.Kernel2Ideal.Fwd (number_of_lt)
open Cert.Reference9Ideal.Read

/-! ## What one point writes -/

theorem centred_at (z : Vec Ideal S512x1024 .f32) (r : Fin 512) (j : Fin 1024) : k0_pay2 z (ix2 r j) = centred (fun k => z (ix2 r k)) j := by
  pointwise [k0_pay2]
  rfl
theorem scale_at (z : Vec Ideal S512x1024 .f32) (r : Fin 512) : k0_pay3 z (ix2 r 0) = scale fun k => z (ix2 r k) := by
  have e : ∀ k, k0_pay2 z (ix2 r k) = centred (fun k => z (ix2 r k)) k := centred_at z r
  unfold k0_pay3
  generalize k0_pay2 z = y at e
  pointwise []
  simp only [e]
  rfl
theorem normed_at (z : Vec Ideal S512x1024 .f32) (r : Fin 512) (j : Fin 1024) :
    k0_pay4 z (ix2 r j) = centred (fun k => z (ix2 r k)) j * scale fun k => z (ix2 r k) := by
  rw [← centred_at, ← scale_at]
  unfold k0_pay4
  generalize k0_pay2 z = y
  generalize k0_pay3 z = s
  pointwise []
theorem gradient_at (d z : Vec Ideal S512x1024 .f32) (g : Vec Ideal S1x1024 .f32) (r : Fin 512) (j : Fin 1024) :
    k0_pay5 d z g (ix2 r j) = gradient (fun k => d (ix2 r k) * g (ix2 0 k)) (fun k => z (ix2 r k)) j := by
  have e : ∀ k, k0_pay4 z (ix2 r k) = centred (fun k => z (ix2 r k)) k * scale fun k => z (ix2 r k) := normed_at z r
  have s := scale_at z r
  unfold k0_pay5
  generalize k0_pay4 z = y at e
  generalize k0_pay3 z = v at s
  pointwise []
  simp only [e, s]
  rfl
theorem gain_at (d z : Vec Ideal S512x1024 .f32) (r : Fin 8) (j : Fin 1024) :
    k0_pay6 d z (ix2 r j) = ∑ i : Fin 512, d (ix2 i j) * (centred (fun k => z (ix2 i k)) j * scale fun k => z (ix2 i k)) := by
  have e : ∀ i, k0_pay4 z (ix2 i j) = centred (fun k => z (ix2 i k)) j * scale fun k => z (ix2 i k) := fun i => normed_at z i j
  unfold k0_pay6
  generalize k0_pay4 z = y at e
  pointwise []
  simp only [e]
theorem offset_at (d : Vec Ideal S512x1024 .f32) (r : Fin 8) (j : Fin 1024) : k0_pay1 d (ix2 r j) = ∑ i : Fin 512, d (ix2 i j) := by
  pointwise [k0_pay1]

variable (m : (ℓ : Loc nD τ sig) → Buf (Elt Ideal) ℓ) (c : Dev nD)

/-- The three arguments. -/
abbrev ad : FVec Ideal S16384x1024 .f32 := m ((c.tc : Thread nD τ).loc main_arg0)
abbrev az : FVec Ideal S16384x1024 .f32 := m ((c.tc : Thread nD τ).loc main_arg1)
abbrev ag : FVec Ideal S1x1024 .f32 := m ((c.tc : Thread nD τ).loc main_arg2)

variable (t : Fin cfg0.N)

/-! ## The blocks, as parts of the arrays -/

theorem lt_N : t.val < 32 := Nat.lt_of_lt_of_eq t.isLt N_0

abbrev rowAt (r : Fin 512) : Fin 16384 := ⟨512 * t.val + r.val, by have := lt_N t; omega⟩
abbrev partAt (r : Fin 8) : Fin 256 := ⟨8 * t.val + r.val, by have := lt_N t; omega⟩

theorem place0 : ∀ t : Fin cfg0.N, win0_0.index t = ![t.val, 0] := by decide +kernel
theorem place1 : ∀ t : Fin cfg0.N, win0_1.index t = ![t.val, 0] := by decide +kernel
theorem place2 : ∀ t : Fin cfg0.N, win0_2.index t = ![0, 0] := by decide +kernel
theorem place3 : ∀ t : Fin cfg0.N, win0_3.index t = ![t.val, 0] := by decide +kernel
theorem place4 : ∀ t : Fin cfg0.N, win0_4.index t = ![t.val, 0] := by decide +kernel
theorem place5 : ∀ t : Fin cfg0.N, win0_5.index t = ![t.val, 0] := by decide +kernel

theorem read0 (A : Vec Ideal S16384x1024 .f32) (r : Fin 512) (j : Fin 1024) :
    ((cfg0.win 0).blk t).view.read (Elt Ideal) A (ix2 r j) = A (ix2 (rowAt t r) j) := by
  blk_ext [place0]
theorem read1 (A : Vec Ideal S16384x1024 .f32) (r : Fin 512) (j : Fin 1024) :
    ((cfg0.win 1).blk t).view.read (Elt Ideal) A (ix2 r j) = A (ix2 (rowAt t r) j) := by
  blk_ext [place1]
theorem read2 (A : Vec Ideal S1x1024 .f32) (j : Fin 1024) :
    ((cfg0.win 2).blk t).view.read (Elt Ideal) A (ix2 0 j) = A (ix2 0 j) := by
  blk_ext [place2]
theorem read3 (A : Vec Ideal S16384x1024 .f32) (r : Fin 512) (j : Fin 1024) :
    ((cfg0.win 3).blk t).view.read (Elt Ideal) A (ix2 r j) = A (ix2 (rowAt t r) j) := by
  blk_ext [place3]
theorem read4 (A : Vec Ideal S256x1024 .f32) (r : Fin 8) (j : Fin 1024) :
    ((cfg0.win 4).blk t).view.read (Elt Ideal) A (ix2 r j) = A (ix2 (partAt t r) j) := by
  blk_ext [place4]
theorem read5 (A : Vec Ideal S256x1024 .f32) (r : Fin 8) (j : Fin 1024) :
    ((cfg0.win 5).blk t).view.read (Elt Ideal) A (ix2 r j) = A (ix2 (partAt t r) j) := by
  blk_ext [place5]

theorem writes3 (d z : Vec Ideal S512x1024 .f32) (g : Vec Ideal S1x1024 .f32) : out0_3 d z g = k0_pay5 d z g := by
  unfold out0_3
  frame_out
theorem writes4 (d z : Vec Ideal S512x1024 .f32) (g : Vec Ideal S1x1024 .f32) : out0_4 d z g = k0_pay6 d z := by
  unfold out0_4
  frame_out
theorem writes5 (d z : Vec Ideal S512x1024 .f32) (g : Vec Ideal S1x1024 .f32) : out0_5 d z g = k0_pay1 d := by
  unfold out0_5
  frame_out

/-! ## The three arrays after the run, element by element -/

/-- A row of the norm's input, and of the gradient with respect to its norm before the gain. -/
def rowOf (r : Fin 16384) (k : Fin 1024) : EReal := az m c (ix2 r k)
def gradOf (r : Fin 16384) (k : Fin 1024) : EReal := ad m c (ix2 r k) * ag m c (ix2 0 k)

/-- A row's place among the 512 rows of block `b`. -/
abbrev rowIn (b : Fin 32) (i : Fin 512) : Fin 16384 := ⟨512 * b.val + i.val, by omega⟩

/-- A block's part of the gradient of the gain, and of the offset. -/
def gainOf (b : Fin 32) (j : Fin 1024) : EReal := ∑ i : Fin 512, ad m c (ix2 (rowIn b i) j) * (centred (rowOf m c (rowIn b i)) j * scale (rowOf m c (rowIn b i)))
def offsetOf (b : Fin 32) (j : Fin 1024) : EReal := ∑ i : Fin 512, ad m c (ix2 (rowIn b i) j)

theorem row_point (r : Fin 512) : (fun k : Fin 1024 => (iblk m c 1 t : Vec Ideal S512x1024 .f32) (ix2 r k)) = rowOf m c (rowAt t r) := funext fun k => read1 t (az m c) r k

theorem point_gradient (r : Fin 512) (j : Fin 1024) :
    k0_pay5 (F := Ideal) (iblk m c 0 t) (iblk m c 1 t) (iblk m c 2 t) (ix2 r j) = gradient (gradOf m c (rowAt t r)) (rowOf m c (rowAt t r)) j := by
  rw [gradient_at, row_point]
  exact congrArg (gradient · _ j) (funext fun k => congrArg₂ (· * ·) (read0 t (ad m c) r k) (read2 t (ag m c) k))
theorem point_gain (r : Fin 8) (j : Fin 1024) :
    k0_pay6 (F := Ideal) (iblk m c 0 t) (iblk m c 1 t) (ix2 r j) = gainOf m c ⟨t.val, lt_N t⟩ j := by
  rw [gain_at]
  refine Finset.sum_congr rfl fun i _ => ?_
  rw [row_point]
  exact congrArg (· * _) (read0 t (ad m c) i j)
theorem point_offset (r : Fin 8) (j : Fin 1024) : k0_pay1 (F := Ideal) (iblk m c 0 t) (ix2 r j) = offsetOf m c ⟨t.val, lt_N t⟩ j := by
  rw [offset_at]
  exact Finset.sum_congr rfl fun i _ => read0 t (ad m c) i j

/-- The point that writes a row, and the row's place in its block; the same of the parts' rows, eight a block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowAt (ptOf r) (inOf r) = r :=
  Fin.ext (by show 512 * (r.val / 512) + r.val % 512 = r.val; omega)
abbrev ptOf' (q : Fin 256) : Fin cfg0.N := ⟨q.val / 8, lt_of_lt_of_eq (show q.val / 8 < 32 by omega) N_0.symm⟩
abbrev inOf' (q : Fin 256) : Fin 8 := ⟨q.val % 8, Nat.mod_lt _ (by decide)⟩
theorem part_back (q : Fin 256) : partAt (ptOf' q) (inOf' q) = q :=
  Fin.ext (by show 8 * (q.val / 8) + q.val % 8 = q.val; omega)
abbrev blockOf (q : Fin 256) : Fin 32 := ⟨q.val / 8, by omega⟩

variable (r : Fin 16384) (q : Fin 256) (j : Fin 1024)

theorem left3 : (dats m 0 c).arrAt 3 cfg0.N (ix2 r j) = gradient (gradOf m c r) (rowOf m c r) j := by
  have h := congrFun (blocks3 m c (ptOf r) (flush0_3 _)) (ix2 (inOf r) j)
  rw [read3, row_back, flushed3, writes3] at h
  exact h.trans ((point_gradient m c _ (inOf r) j).trans (by rw [row_back]))
theorem left4 : (dats m 0 c).arrAt 4 cfg0.N (ix2 q j) = gainOf m c (blockOf q) j := by
  have h := congrFun (blocks4 m c (ptOf' q) (flush0_4 _)) (ix2 (inOf' q) j)
  rw [read4, part_back, flushed4, writes4] at h
  exact h.trans (point_gain m c _ (inOf' q) j)
theorem left5 : (dats m 0 c).arrAt 5 cfg0.N (ix2 q j) = offsetOf m c (blockOf q) j := by
  have h := congrFun (blocks5 m c (ptOf' q) (flush0_5 _)) (ix2 (inOf' q) j)
  rw [read5, part_back, flushed5, writes5] at h
  exact h.trans (point_offset m c _ (inOf' q) j)

/-! ## The reference -/

theorem nought : FloatOps.ofBits (F := Ideal) .f32 0x00000000#32 = (0 : EReal) := Ideal.ofBits_zero_f32

section Reference

/-- A column of one row or one row of a column: a place with its row. -/
abbrev Column : Type := Cert.Reference9Ideal.S16384x1.Idx

theorem one_column (r : Fin 16384) : (⟨r.val * 1 + 0, by omega⟩ : Fin 16384) = r := Fin.ext (by show r.val * 1 + 0 = r.val; omega)

theorem reference_mean (p : Column) (h : p 0 = r) : val_main_v3 (F := Ideal) (az m c) p = mean (rowOf m c r) := by
  rw [val_main_v3_apply, val_main_v1_apply, val_main_v0_apply, val_main_cst_apply, nought, zero_add, val_main_v2_apply, val_main_cst_0_apply]
  exact congrArg (Ideal.div · (Ideal.ofBits .f32 0x44800000#32)) (Finset.sum_congr rfl fun k _ => congrArg (az m c) (same h rfl))
theorem reference_centred : val_main_v5 (F := Ideal) (az m c) (ix2 r j) = centred (rowOf m c r) j := by
  rw [val_main_v5_apply, val_main_v4_apply, reference_mean m c r _ rfl]
  rfl
theorem reference_centred' : val_main_v14 (F := Ideal) (az m c) (ix2 r j) = centred (rowOf m c r) j := by
  rw [val_main_v14_apply, val_main_v13_apply, reference_mean m c r _ rfl]
  rfl
theorem reference_variance (p : Column) (h : p 0 = r) :
    val_main_v16 (F := Ideal) (az m c) p = mean (fun k => centred (rowOf m c r) k * centred (rowOf m c r) k) + Ideal.ofBits .f32 0x3727C5AC#32 := by
  rw [val_main_v16_apply, val_main_v15_apply, val_main_cst_4_apply, val_main_v12_apply, val_main_v11_apply, val_main_cst_3_apply,
    val_main_v10_apply, val_main_v9_apply, val_main_cst_2_apply, nought, zero_add]
  refine congrArg (fun s => Ideal.div s (Ideal.ofBits .f32 0x44800000#32) + Ideal.ofBits .f32 0x3727C5AC#32) (Finset.sum_congr rfl fun k _ => ?_)
  rw [show idx_main_v9 (idx_main_v10 p) k = ix2 r k from same h rfl, val_main_v6_apply, reference_centred]
  rfl
theorem reference_scale (p : Column) (h : p 0 = r) : val_main_v17 (F := Ideal) (az m c) p = scale (rowOf m c r) := by
  rw [val_main_v17_apply, reference_variance m c r p h]
  rfl
theorem reference_grad : val_main_v28 (F := Ideal) (ad m c) (ag m c) (ix2 r j) = gradOf m c r j := by
  rw [val_main_v28_apply, val_main_v27_apply]
  exact congrArg (ad m c (ix2 r j) * ·) (congrArg (ag m c) (same rfl rfl))
theorem reference_straight : val_main_v33 (F := Ideal) (ad m c) (az m c) (ag m c) (ix2 r j) = gradOf m c r j * scale (rowOf m c r) := by
  rw [val_main_v33_apply, val_main_v32_apply, reference_grad, reference_scale m c r _ rfl]
  rfl
theorem reference_through : val_main_v42 (F := Ideal) (ad m c) (az m c) (ag m c) (ix2 r j) = through (gradOf m c r) (rowOf m c r) j := by
  rw [val_main_v42_apply, val_main_v41_apply, val_main_v40_apply, val_main_cst_10_apply, nought, zero_add, Fin.sum_univ_one, val_main_v39_apply,
    val_main_v38_apply, val_main_cst_9_apply, val_main_v34_apply, val_main_v20_apply, val_main_v19_apply, val_main_cst_5_apply, val_main_v18_apply,
    reference_scale m c r _ rfl, reference_variance m c r _ rfl, val_main_v31_apply, val_main_v30_apply, val_main_cst_7_apply, nought, zero_add,
    val_main_v8_apply, val_main_v7_apply, val_main_cst_1_apply, reference_centred]
  refine congrArg (fun s => Ideal.div (s * (Ideal.ofBits .f32 0xBF000000#32 * Ideal.div (scale (rowOf m c r)) (mean (fun k => centred (rowOf m c r) k * centred (rowOf m c r) k)
    + Ideal.ofBits .f32 0x3727C5AC#32))) (Ideal.ofBits .f32 0x44800000#32) * (Ideal.ofBits .f32 0x40000000#32 * centred (rowOf m c r) j)) (Finset.sum_congr rfl fun k _ => ?_)
  rw [show idx_main_v30 (idx_main_v31 (idx_main_v40 (idx_main_v41 (ix2 r j)) 0)) k = ix2 r k from same (one_column r) rfl, val_main_v29_apply, reference_centred', reference_grad]
  rfl
theorem reference_gradient : val_main_v52 (F := Ideal) (ad m c) (az m c) (ag m c) (ix2 r j) = chain (gradOf m c r) (rowOf m c r) j := by
  rw [val_main_v52_apply, val_main_v46_apply, reference_straight, reference_through, val_main_v51_apply, val_main_v50_apply, val_main_cst_13_apply, nought, zero_add,
    Fin.sum_univ_one, val_main_v49_apply, val_main_v48_apply, val_main_cst_12_apply, val_main_v47_apply, val_main_v37_apply, val_main_v36_apply, val_main_cst_8_apply,
    nought, zero_add, val_main_v45_apply, val_main_v44_apply, val_main_cst_11_apply, nought, zero_add]
  refine congrArg₂ (fun a b => gradOf m c r j * scale (rowOf m c r) + through (gradOf m c r) (rowOf m c r) j + Ideal.div (a + b) (Ideal.ofBits .f32 0x44800000#32))
    (Finset.sum_congr rfl fun k _ => ?_) (Finset.sum_congr rfl fun k _ => ?_)
  · rw [val_main_v35_apply]
    rw [show idx_main_v36 (idx_main_v37 (idx_main_v50 (idx_main_v51 (ix2 r j)) 0)) k = ix2 r k from same (one_column r) rfl, reference_straight]
    rfl
  · rw [val_main_v43_apply]
    rw [show idx_main_v44 (idx_main_v45 (idx_main_v50 (idx_main_v51 (ix2 r j)) 0)) k = ix2 r k from same (one_column r) rfl, reference_through]
    rfl

/-! The gain's and the offset's parts: the mean and the variance are taken anew there. -/

theorem again_mean (p : Column) (h : p 0 = r) : val_main_v56 (F := Ideal) (az m c) p = mean (rowOf m c r) := by
  rw [val_main_v56_apply, val_main_v54_apply, val_main_v53_apply, val_main_cst_14_apply, nought, zero_add, val_main_v55_apply, val_main_cst_15_apply]
  exact congrArg (Ideal.div · (Ideal.ofBits .f32 0x44800000#32)) (Finset.sum_congr rfl fun k _ => congrArg (az m c) (same h rfl))
theorem again_centred : val_main_v58 (F := Ideal) (az m c) (ix2 r j) = centred (rowOf m c r) j := by
  rw [val_main_v58_apply, val_main_v57_apply, again_mean m c r _ rfl]
  rfl
theorem again_centred' : val_main_v65 (F := Ideal) (az m c) (ix2 r j) = centred (rowOf m c r) j := by
  rw [val_main_v65_apply, val_main_v64_apply, again_mean m c r _ rfl]
  rfl
theorem again_scale (p : Column) (h : p 0 = r) : val_main_v69 (F := Ideal) (az m c) p = scale (rowOf m c r) := by
  rw [val_main_v69_apply, val_main_v68_apply, val_main_v67_apply, val_main_cst_18_apply, val_main_v63_apply, val_main_v62_apply, val_main_cst_17_apply,
    val_main_v61_apply, val_main_v60_apply, val_main_cst_16_apply, nought, zero_add]
  refine congrArg (fun s => Ideal.rsqrt (Ideal.div s (Ideal.ofBits .f32 0x44800000#32) + Ideal.ofBits .f32 0x3727C5AC#32)) (Finset.sum_congr rfl fun k _ => ?_)
  rw [show idx_main_v60 (idx_main_v61 p) k = ix2 r k from same h rfl, val_main_v59_apply, again_centred]
  rfl

/-- Row `k` of the block that the part of row `q` belongs to. -/
theorem place_in (q : Fin 256) (j : Fin 1024) (k : Fin 512) :
    idx_main_v72 (idx_main_v73 (idx_main_v76 (idx_main_v77 (ix2 q j))) k) = ix2 (rowIn (blockOf q) k) j :=
  same (Fin.ext (by
    show ((((q.val * 1024 + j.val) / 8192 * 1 + 0) * 512 + k.val) * 1024 + (q.val * 1024 + j.val) % 1024) / 1024 = 512 * (q.val / 8) + k.val
    omega)) (Fin.ext (by
    show ((((q.val * 1024 + j.val) / 8192 * 1 + 0) * 512 + k.val) * 1024 + (q.val * 1024 + j.val) % 1024) % 1024 = j.val
    omega))

theorem reference_gain : val_main_v77 (F := Ideal) (ad m c) (az m c) (ix2 q j) = gainOf m c (blockOf q) j := by
  rw [val_main_v77_apply, val_main_v76_apply, val_main_v73_apply, val_main_cst_19_apply, nought, zero_add]
  refine Finset.sum_congr rfl fun k _ => ?_
  rw [val_main_v72_apply, place_in, val_main_v71_apply, val_main_v70_apply, val_main_v66_apply, again_centred', again_scale m c (rowIn (blockOf q) k) _ rfl]
  exact mul_assoc _ _ _
theorem reference_offset : val_main_v79 (F := Ideal) (ad m c) (ix2 q j) = offsetOf m c (blockOf q) j := by
  rw [val_main_v79_apply, val_main_v78_apply, val_main_v75_apply, val_main_cst_20_apply, nought, zero_add]
  refine Finset.sum_congr rfl fun k _ => ?_
  rw [val_main_v74_apply]
  exact congrArg (ad m c) (place_in q j k)

end Reference

/-! ## That the two are the same -/

theorem factsNorm : Cert.Pre_finite_norm.Facts := ⟨by decide, by decide⟩

/-- Where the precondition holds, the gradient before the gain is a row of numbers. -/
theorem number (hp : @Cert.Pre_Kernel9Ideal_finite_norm factsNorm m) : ∃ x : Fin 1024 → ℝ, gradOf m c r = fun k => (x k : EReal) := by
  obtain ⟨h0, h2⟩ := hp c
  have n : ∀ k, ∃ y : ℝ, gradOf m c r k = (y : EReal) := fun k => by
    obtain ⟨a, ha⟩ := number_of_lt _ (congrFun h0 (ix2 r k))
    obtain ⟨b, hb⟩ := number_of_lt _ (congrFun h2 (ix2 0 k))
    exact ⟨a * b, (congrArg₂ (· * ·) ha hb).trans (EReal.coe_mul a b).symm⟩
  exact ⟨fun k => (n k).choose, funext fun k => (n k).choose_spec⟩

theorem gradient_eq (hp : @Cert.Pre_Kernel9Ideal_finite_norm factsNorm m) :
    (dats m 0 c).arrAt 3 cfg0.N = val_main_v52 (F := Ideal) (ad m c) (az m c) (ag m c) := by
  funext p
  obtain ⟨r, j, rfl⟩ : ∃ (r : Fin 16384) (j : Fin 1024), p = ix2 r j := ⟨p 0, p 1, same rfl rfl⟩
  obtain ⟨x, hx⟩ := number m c r hp
  refine (left3 m c r j).trans (Eq.trans ?_ (reference_gradient m c r j).symm)
  rw [hx]
  exact Cert.Ffn.gradient_eq x _ j
theorem gain_eq : (dats m 0 c).arrAt 4 cfg0.N = val_main_v77 (F := Ideal) (ad m c) (az m c) := by
  funext p
  obtain ⟨q, j, rfl⟩ : ∃ (q : Fin 256) (j : Fin 1024), p = ix2 q j := ⟨p 0, p 1, same rfl rfl⟩
  exact (left4 m c q j).trans (reference_gain m c q j).symm
theorem offset_eq : (dats m 0 c).arrAt 5 cfg0.N = val_main_v79 (F := Ideal) (ad m c) := by
  funext p
  obtain ⟨q, j, rfl⟩ : ∃ (q : Fin 256) (j : Fin 1024), p = ix2 q j := ⟨p 0, p 1, same rfl rfl⟩
  exact (left5 m c q j).trans (reference_offset m c q j).symm

/-- The two programs' results are the same, in the extended reals. -/
theorem equal : @Cert.algebraic_Kernel9Ideal_Reference9Ideal_pre_finite_norm Cert.Kernel9Ideal.Gen.facts Cert.Reference9Ideal.Gen.facts factsNorm := by
  intro m g m' g' hp hargs
  refine ⟨fun c => (dats m 0 c).arrAt 3 cfg0.N, fun c => (dats m 0 c).arrAt 4 cfg0.N, fun c => (dats m 0 c).arrAt 5 cfg0.N, run_blocks m g, ?_⟩
  refine (θ_run _ _ _).mono (fun r hr c => ?_) (Cert.Reference9Ideal.Value.run (F := Ideal) m' g')
  obtain ⟨e0, e1, e2⟩ := hargs c
  obtain ⟨h52, h77, h79, hrest⟩ := hr c
  refine ⟨h52.trans ?_, h77.trans ?_, h79.trans ?_, hrest⟩
  · rw [val_main_v52_eq, e0, e1, e2]
    exact (gradient_eq m c hp).symm
  · rw [val_main_v77_eq, e0, e1]
    exact (gain_eq m c).symm
  · rw [val_main_v79_eq, e0]
    exact (offset_eq m c).symm

end Cert.Kernel9Ideal.Ffn

end
-- ==== Proof.Mixers.Frames.lean ====
/- The frames of the calls of the HGRN2 layer, of the S5 layers and of the attention's layer: each program at the machine's numbers, its reading in the extended reals, and its
   reference. The two readings are of one program, whose frame holds for any reading of the floats. -/
module

public import proofs.«01_k».proof.Defs
public import proofs.«01_k».proof.Proof.Gen.Kernel10
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27Ideal.Frame
public import proofs.«01_k».proof.Proof.Gen.Reference27Ideal
public import proofs.«01_k».proof.Proof.Gen.Reference27Ideal.Run

@[expose] public section

set_option maxRecDepth 16384
set_option smartUnfolding false
set_option maxHeartbeats 0

noncomputable section

open Idealize.ShloMosaic Idealize.SL.Sem

/-! ## Of the first product -/

namespace Cert.Kernel10Ideal.Mixers

theorem frame_kernel : @Cert.quiescent_Kernel10 Cert.Kernel10.Gen.facts := fun m ρ _ => Cert.Kernel10Ideal.Gen.frame (F := Bits) m ρ
theorem frame_ideal : @Cert.quiescent_Kernel10Ideal Cert.Kernel10Ideal.Gen.facts := fun m ρ _ => Cert.Kernel10Ideal.Gen.frame m ρ
theorem frame_reference : @Cert.quiescent_Reference10Ideal Cert.Reference10Ideal.Gen.facts := fun m ρ _ =>
  (θ_run _ _ _).mono (fun r h => ⟨fun c => (h c).2, sem_eq_zero_of_no_sems (by decide) r.2⟩) (Cert.Reference10Ideal.Value.run m ρ)

end Cert.Kernel10Ideal.Mixers

/-! ## Of the gradient of the layer's input -/

namespace Cert.Kernel11Ideal.Mixers

theorem frame_kernel : @Cert.quiescent_Kernel11 Cert.Kernel11.Gen.facts := fun m ρ _ => Cert.Kernel11Ideal.Gen.frame (F := Bits) m ρ
theorem frame_ideal : @Cert.quiescent_Kernel11Ideal Cert.Kernel11Ideal.Gen.facts := fun m ρ _ => Cert.Kernel11Ideal.Gen.frame m ρ
theorem frame_reference : @Cert.quiescent_Reference11Ideal Cert.Reference11Ideal.Gen.facts := fun m ρ _ =>
  (θ_run _ _ _).mono (fun r h => ⟨fun c => (h c).2, sem_eq_zero_of_no_sems (by decide) r.2⟩) (Cert.Reference11Ideal.Value.run m ρ)

end Cert.Kernel11Ideal.Mixers

/-! ## Of the gradient of the first weights -/

namespace Cert.Kernel12Ideal.Mixers

theorem frame_kernel : @Cert.quiescent_Kernel12 Cert.Kernel12.Gen.facts := fun m ρ _ => Cert.Kernel12Ideal.Gen.frame (F := Bits) m ρ
theorem frame_ideal : @Cert.quiescent_Kernel12Ideal Cert.Kernel12Ideal.Gen.facts := fun m ρ _ => Cert.Kernel12Ideal.Gen.frame m ρ
theorem frame_reference : @Cert.quiescent_Reference12Ideal Cert.Reference12Ideal.Gen.facts := fun m ρ _ =>
  (θ_run _ _ _).mono (fun r h => ⟨fun c => (h c).2, sem_eq_zero_of_no_sems (by decide) r.2⟩) (Cert.Reference12Ideal.Value.run m ρ)

end Cert.Kernel12Ideal.Mixers

/-! ## Of an S5 layer's gate -/

namespace Cert.Kernel13Ideal.Mixers

theorem frame_kernel : @Cert.quiescent_Kernel13 Cert.Kernel13.Gen.facts := fun m ρ _ => Cert.Kernel13Ideal.Gen.frame (F := Bits) m ρ
theorem frame_ideal : @Cert.quiescent_Kernel13Ideal Cert.Kernel13Ideal.Gen.facts := fun m ρ _ => Cert.Kernel13Ideal.Gen.frame m ρ
theorem frame_reference : @Cert.quiescent_Reference13Ideal Cert.Reference13Ideal.Gen.facts := fun m ρ _ =>
  (θ_run _ _ _).mono (fun r h => ⟨fun c => (h c).2.2, sem_eq_zero_of_no_sems (by decide) r.2⟩) (Cert.Reference13Ideal.Value.run m ρ)

end Cert.Kernel13Ideal.Mixers

/-! ## Of the gradients at that gate -/

namespace Cert.Kernel14Ideal.Mixers

theorem frame_kernel : @Cert.quiescent_Kernel14 Cert.Kernel14.Gen.facts := fun m ρ _ => Cert.Kernel14Ideal.Gen.frame (F := Bits) m ρ
theorem frame_ideal : @Cert.quiescent_Kernel14Ideal Cert.Kernel14Ideal.Gen.facts := fun m ρ _ => Cert.Kernel14Ideal.Gen.frame m ρ
theorem frame_reference : @Cert.quiescent_Reference14Ideal Cert.Reference14Ideal.Gen.facts := fun m ρ _ =>
  (θ_run _ _ _).mono (fun r h => ⟨fun c => (h c).2.2.2, sem_eq_zero_of_no_sems (by decide) r.2⟩) (Cert.Reference14Ideal.Value.run m ρ)

end Cert.Kernel14Ideal.Mixers

/-! ## Of the gradient of an S5 layer's input -/

namespace Cert.Kernel15Ideal.Mixers

theorem frame_kernel : @Cert.quiescent_Kernel15 Cert.Kernel15.Gen.facts := fun m ρ _ => Cert.Kernel15Ideal.Gen.frame (F := Bits) m ρ
theorem frame_ideal : @Cert.quiescent_Kernel15Ideal Cert.Kernel15Ideal.Gen.facts := fun m ρ _ => Cert.Kernel15Ideal.Gen.frame m ρ
theorem frame_reference : @Cert.quiescent_Reference15Ideal Cert.Reference15Ideal.Gen.facts := fun m ρ _ =>
  (θ_run _ _ _).mono (fun r h => ⟨fun c => (h c).2, sem_eq_zero_of_no_sems (by decide) r.2⟩) (Cert.Reference15Ideal.Value.run m ρ)

end Cert.Kernel15Ideal.Mixers

/-! ## Of the gradient of a mixer's output weights -/

namespace Cert.Kernel16Ideal.Mixers

theorem frame_kernel : @Cert.quiescent_Kernel16 Cert.Kernel16.Gen.facts := fun m ρ _ => Cert.Kernel16Ideal.Gen.frame (F := Bits) m ρ
theorem frame_ideal : @Cert.quiescent_Kernel16Ideal Cert.Kernel16Ideal.Gen.facts := fun m ρ _ => Cert.Kernel16Ideal.Gen.frame m ρ
theorem frame_reference : @Cert.quiescent_Reference16Ideal Cert.Reference16Ideal.Gen.facts := fun m ρ _ =>
  (θ_run _ _ _).mono (fun r h => ⟨fun c => (h c).2, sem_eq_zero_of_no_sems (by decide) r.2⟩) (Cert.Reference16Ideal.Value.run m ρ)

end Cert.Kernel16Ideal.Mixers

/-! ## Of a mixer's last product and the norm after it -/

namespace Cert.Kernel17Ideal.Mixers

theorem frame_kernel : @Cert.quiescent_Kernel17 Cert.Kernel17.Gen.facts := fun m ρ _ => Cert.Kernel17Ideal.Gen.frame (F := Bits) m ρ
theorem frame_ideal : @Cert.quiescent_Kernel17Ideal Cert.Kernel17Ideal.Gen.facts := fun m ρ _ => Cert.Kernel17Ideal.Gen.frame m ρ
theorem frame_reference : @Cert.quiescent_Reference17Ideal Cert.Reference17Ideal.Gen.facts := fun m ρ _ =>
  (θ_run _ _ _).mono (fun r h => ⟨fun c => (h c).2.2, sem_eq_zero_of_no_sems (by decide) r.2⟩) (Cert.Reference17Ideal.Value.run m ρ)

end Cert.Kernel17Ideal.Mixers

/-! ## Of an S5 layer's first product -/

namespace Cert.Kernel18Ideal.Mixers

theorem frame_kernel : @Cert.quiescent_Kernel18 Cert.Kernel18.Gen.facts := fun m ρ _ => Cert.Kernel18Ideal.Gen.frame (F := Bits) m ρ
theorem frame_ideal : @Cert.quiescent_Kernel18Ideal Cert.Kernel18Ideal.Gen.facts := fun m ρ _ => Cert.Kernel18Ideal.Gen.frame m ρ
theorem frame_reference : @Cert.quiescent_Reference18Ideal Cert.Reference18Ideal.Gen.facts := fun m ρ _ =>
  (θ_run _ _ _).mono (fun r h => ⟨fun c => (h c).2, sem_eq_zero_of_no_sems (by decide) r.2⟩) (Cert.Reference18Ideal.Value.run m ρ)

end Cert.Kernel18Ideal.Mixers

/-! ## Of the gradient of an S5 layer's first weights -/

namespace Cert.Kernel19Ideal.Mixers

theorem frame_kernel : @Cert.quiescent_Kernel19 Cert.Kernel19.Gen.facts := fun m ρ _ => Cert.Kernel19Ideal.Gen.frame (F := Bits) m ρ
theorem frame_ideal : @Cert.quiescent_Kernel19Ideal Cert.Kernel19Ideal.Gen.facts := fun m ρ _ => Cert.Kernel19Ideal.Gen.frame m ρ
theorem frame_reference : @Cert.quiescent_Reference19Ideal Cert.Reference19Ideal.Gen.facts := fun m ρ _ =>
  (θ_run _ _ _).mono (fun r h => ⟨fun c => (h c).2, sem_eq_zero_of_no_sems (by decide) r.2⟩) (Cert.Reference19Ideal.Value.run m ρ)

end Cert.Kernel19Ideal.Mixers

/-! ## Of the gradient of the weights of its gate -/

namespace Cert.Kernel20Ideal.Mixers

theorem frame_kernel : @Cert.quiescent_Kernel20 Cert.Kernel20.Gen.facts := fun m ρ _ => Cert.Kernel20Ideal.Gen.frame (F := Bits) m ρ
theorem frame_ideal : @Cert.quiescent_Kernel20Ideal Cert.Kernel20Ideal.Gen.facts := fun m ρ _ => Cert.Kernel20Ideal.Gen.frame m ρ
theorem frame_reference : @Cert.quiescent_Reference20Ideal Cert.Reference20Ideal.Gen.facts := fun m ρ _ =>
  (θ_run _ _ _).mono (fun r h => ⟨fun c => (h c).2, sem_eq_zero_of_no_sems (by decide) r.2⟩) (Cert.Reference20Ideal.Value.run m ρ)

end Cert.Kernel20Ideal.Mixers

/-! ## Of the gradients at the norm and the gate before an HGRN2 layer's last product -/

namespace Cert.Kernel21Ideal.Mixers

theorem frame_kernel : @Cert.quiescent_Kernel21 Cert.Kernel21.Gen.facts := fun m ρ _ => Cert.Kernel21Ideal.Gen.frame (F := Bits) m ρ
theorem frame_ideal : @Cert.quiescent_Kernel21Ideal Cert.Kernel21Ideal.Gen.facts := fun m ρ _ => Cert.Kernel21Ideal.Gen.frame m ρ
theorem frame_reference : @Cert.quiescent_Reference21Ideal Cert.Reference21Ideal.Gen.facts := fun m ρ _ =>
  (θ_run _ _ _).mono (fun r h => ⟨fun c => (h c).2.2.2, sem_eq_zero_of_no_sems (by decide) r.2⟩) (Cert.Reference21Ideal.Value.run m ρ)

end Cert.Kernel21Ideal.Mixers

/-! ## Of the gradient through an S5 layer's GELU -/

namespace Cert.Kernel22Ideal.Mixers

theorem frame_kernel : @Cert.quiescent_Kernel22 Cert.Kernel22.Gen.facts := fun m ρ _ => Cert.Kernel22Ideal.Gen.frame (F := Bits) m ρ
theorem frame_ideal : @Cert.quiescent_Kernel22Ideal Cert.Kernel22Ideal.Gen.facts := fun m ρ _ => Cert.Kernel22Ideal.Gen.frame m ρ
theorem frame_reference : @Cert.quiescent_Reference22Ideal Cert.Reference22Ideal.Gen.facts := fun m ρ _ =>
  (θ_run _ _ _).mono (fun r h => ⟨fun c => (h c).2.2.2, sem_eq_zero_of_no_sems (by decide) r.2⟩) (Cert.Reference22Ideal.Value.run m ρ)

end Cert.Kernel22Ideal.Mixers

/-! ## Of the gradient of the attention's result -/

namespace Cert.Kernel23Ideal.Mixers

theorem frame_kernel : @Cert.quiescent_Kernel23 Cert.Kernel23.Gen.facts := fun m ρ _ => Cert.Kernel23Ideal.Gen.frame (F := Bits) m ρ
theorem frame_ideal : @Cert.quiescent_Kernel23Ideal Cert.Kernel23Ideal.Gen.facts := fun m ρ _ => Cert.Kernel23Ideal.Gen.frame m ρ
theorem frame_reference : @Cert.quiescent_Reference23Ideal Cert.Reference23Ideal.Gen.facts := fun m ρ _ =>
  (θ_run _ _ _).mono (fun r h => ⟨fun c => (h c).2.2, sem_eq_zero_of_no_sems (by decide) r.2⟩) (Cert.Reference23Ideal.Value.run m ρ)

end Cert.Kernel23Ideal.Mixers

/-! ## Of the norm and the gate on the way forward -/

namespace Cert.Kernel24Ideal.Mixers

theorem frame_kernel : @Cert.quiescent_Kernel24 Cert.Kernel24.Gen.facts := fun m ρ _ => Cert.Kernel24Ideal.Gen.frame (F := Bits) m ρ
theorem frame_ideal : @Cert.quiescent_Kernel24Ideal Cert.Kernel24Ideal.Gen.facts := fun m ρ _ => Cert.Kernel24Ideal.Gen.frame m ρ
theorem frame_reference : @Cert.quiescent_Reference24Ideal Cert.Reference24Ideal.Gen.facts := fun m ρ _ =>
  (θ_run _ _ _).mono (fun r h => ⟨fun c => (h c).2, sem_eq_zero_of_no_sems (by decide) r.2⟩) (Cert.Reference24Ideal.Value.run m ρ)

end Cert.Kernel24Ideal.Mixers

/-! ## Of the attention layer's first product -/

namespace Cert.Kernel25Ideal.Mixers

theorem frame_kernel : @Cert.quiescent_Kernel25 Cert.Kernel25.Gen.facts := fun m ρ _ => Cert.Kernel25Ideal.Gen.frame (F := Bits) m ρ
theorem frame_ideal : @Cert.quiescent_Kernel25Ideal Cert.Kernel25Ideal.Gen.facts := fun m ρ _ => Cert.Kernel25Ideal.Gen.frame m ρ
theorem frame_reference : @Cert.quiescent_Reference25Ideal Cert.Reference25Ideal.Gen.facts := fun m ρ _ =>
  (θ_run _ _ _).mono (fun r h => ⟨fun c => (h c).2.2.2.2.2, sem_eq_zero_of_no_sems (by decide) r.2⟩) (Cert.Reference25Ideal.Value.run m ρ)

end Cert.Kernel25Ideal.Mixers

/-! ## Of the gradient of the input of the attention's layer -/

namespace Cert.Kernel26Ideal.Mixers

theorem frame_kernel : @Cert.quiescent_Kernel26 Cert.Kernel26.Gen.facts := fun m ρ _ => Cert.Kernel26Ideal.Gen.frame (F := Bits) m ρ
theorem frame_ideal : @Cert.quiescent_Kernel26Ideal Cert.Kernel26Ideal.Gen.facts := fun m ρ _ => Cert.Kernel26Ideal.Gen.frame m ρ
theorem frame_reference : @Cert.quiescent_Reference26Ideal Cert.Reference26Ideal.Gen.facts := fun m ρ _ =>
  (θ_run _ _ _).mono (fun r h => ⟨fun c => (h c).2, sem_eq_zero_of_no_sems (by decide) r.2⟩) (Cert.Reference26Ideal.Value.run m ρ)

end Cert.Kernel26Ideal.Mixers

/-! ## Of the gradient of its first weights -/

namespace Cert.Kernel27Ideal.Mixers

theorem frame_kernel : @Cert.quiescent_Kernel27 Cert.Kernel27.Gen.facts := fun m ρ _ => Cert.Kernel27Ideal.Gen.frame (F := Bits) m ρ
theorem frame_ideal : @Cert.quiescent_Kernel27Ideal Cert.Kernel27Ideal.Gen.facts := fun m ρ _ => Cert.Kernel27Ideal.Gen.frame m ρ
theorem frame_reference : @Cert.quiescent_Reference27Ideal Cert.Reference27Ideal.Gen.facts := fun m ρ _ =>
  (θ_run _ _ _).mono (fun r h => ⟨fun c => (h c).2, sem_eq_zero_of_no_sems (by decide) r.2⟩) (Cert.Reference27Ideal.Value.run m ρ)

end Cert.Kernel27Ideal.Mixers

end
-- ==== Proof.Mixers.HgIn.lean ====
/- The HGRN2 layer's first product: what the call writes, and that it is the reference's product. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel10Ideal.Mixers

open Idealize.ShloMosaic Idealize.ShloMosaic.TcCoe Idealize.SL.Sem Cert.Kernel10Ideal.Gen Cert.Kernel10Ideal.Value Cert.Ffn
open Cert.Reference10Ideal.Read

/-- One element of what a point writes. -/
theorem element (x : Vec Ideal S512x1024 .f32) (y : Vec Ideal S1024x1280 .bf16) (r : Fin 512) (j : Fin 1280) :
    k0_pay3 (k0_pay2 x y (k0_pay1 (F := Ideal))) (ix2 r j) = 0 + ∑ k : Fin 1024, x (ix2 r k) * y (ix2 k j) := by
  pointwise [k0_pay3, k0_pay2, k0_pay1]

variable (m : (ℓ : Loc nD τ sig) → Buf (Elt Ideal) ℓ) (c : Dev nD)

/-- The two arguments. -/
abbrev h : FVec Ideal S16384x1024 .f32 := m ((c.tc : Thread nD τ).loc main_arg0)
abbrev w : FVec Ideal S1024x5120 .bf16 := m ((c.tc : Thread nD τ).loc main_arg1)

/-- One element of the product. -/
def value (r : Fin 16384) (j : Fin 5120) : EReal := ∑ k : Fin 1024, h m c (ix2 r k) * w m c (ix2 k j)

variable (t : Fin cfg0.N)

theorem lt_N : t.val < 128 := Nat.lt_of_lt_of_eq t.isLt N_0

theorem writes : outsAt0 m c t = k0_pay3 (F := Ideal) (k0_pay2 (iblk m c 0 t) (iblk m c 1 t) (k0_pay1 (F := Ideal))) := by
  unfold outsAt0
  frame_out

/-- A point's rows, and its columns. -/
abbrev rowAt (r : Fin 512) : Fin 16384 := ⟨512 * (t.val % 32) + r.val, by omega⟩
abbrev colAt (j : Fin 1280) : Fin 5120 := ⟨1280 * (t.val / 32) + j.val, by have := lt_N t; omega⟩

theorem place0 : ∀ t : Fin cfg0.N, win0_0.index t = ![t.val % 32, 0] := by decide +kernel
theorem place1 : ∀ t : Fin cfg0.N, win0_1.index t = ![0, t.val / 32] := by decide +kernel
theorem place2 : ∀ t : Fin cfg0.N, win0_2.index t = ![t.val % 32, t.val / 32] := by decide +kernel

theorem read0 (A : Vec Ideal S16384x1024 .f32) (r : Fin 512) (k : Fin 1024) :
    ((cfg0.win 0).blk t).view.read (Elt Ideal) A (ix2 r k) = A (ix2 (rowAt t r) k) := by
  blk_ext [place0]
theorem read1 (A : Vec Ideal S1024x5120 .bf16) (k : Fin 1024) (j : Fin 1280) :
    ((cfg0.win 1).blk t).view.read (Elt Ideal) A (ix2 k j) = A (ix2 k (colAt t j)) := by
  blk_ext [place1]
theorem read2 (A : Vec Ideal S16384x5120 .f32) (r : Fin 512) (j : Fin 1280) :
    ((cfg0.win 2).blk t).view.read (Elt Ideal) A (ix2 r j) = A (ix2 (rowAt t r) (colAt t j)) := by
  blk_ext [place2]

theorem writes_at (r : Fin 512) (j : Fin 1280) : outsAt0 m c t (ix2 r j) = value m c (rowAt t r) (colAt t j) := by
  rw [writes, element, zero_add]
  exact Finset.sum_congr rfl fun k _ => congrArg₂ (· * ·) (read0 t (h m c) r k) (read1 t (w m c) k j)

/-- The array after the run, element by element. -/
theorem left_at (r : Fin 16384) (j : Fin 5120) : (dats m 0 c).arrAt 2 cfg0.N (ix2 r j) = value m c r j := by
  have hN : cfg0.N = 128 := N_0
  let t : Fin cfg0.N := ⟨32 * (j.val / 1280) + r.val / 512, by omega⟩
  let x : Fin 512 := ⟨r.val % 512, Nat.mod_lt _ (by decide)⟩
  let y : Fin 1280 := ⟨j.val % 1280, Nat.mod_lt _ (by decide)⟩
  have er : rowAt t x = r := Fin.ext (by show 512 * ((32 * (j.val / 1280) + r.val / 512) % 32) + r.val % 512 = r.val; omega)
  have ej : colAt t y = j := Fin.ext (by show 1280 * ((32 * (j.val / 1280) + r.val / 512) / 32) + j.val % 1280 = j.val; omega)
  have b := congrFun (blocks2 m c t (flush0_2 t)) (ix2 x y)
  rw [read2 t, er, ej, flushed2] at b
  exact b.trans ((writes_at m c t x y).trans (by rw [er, ej]))

theorem reference_at (r : Fin 16384) (j : Fin 5120) : val_main_v1 (F := Ideal) (h m c) (w m c) (ix2 r j) = value m c r j := by
  rw [val_main_v1_apply]
  refine Finset.sum_congr rfl fun k _ => ?_
  rw [val_main_v0_apply]
  exact congrArg₂ (· * ·) (congrArg (h m c) (same rfl rfl)) (congrArg (w m c) (same rfl rfl))

theorem product_eq : (dats m 0 c).arrAt 2 cfg0.N = val_main_v1 (F := Ideal) (h m c) (w m c) := by
  funext i
  obtain ⟨r, j, rfl⟩ : ∃ (r : Fin 16384) (j : Fin 5120), i = ix2 r j := ⟨i 0, i 1, same rfl rfl⟩
  exact (left_at m c r j).trans (reference_at m c r j).symm

/-- The two programs' results are the same, in the extended reals. -/
theorem equal : @Cert.algebraic_Kernel10Ideal_Reference10Ideal Cert.Kernel10Ideal.Gen.facts Cert.Reference10Ideal.Gen.facts := by
  intro m g m' g' hp hargs
  refine ⟨fun c => (dats m 0 c).arrAt 2 cfg0.N, run_blocks m g, ?_⟩
  refine (θ_run _ _ _).mono (fun r hr c => ?_) (Cert.Reference10Ideal.Value.run (F := Ideal) m' g')
  obtain ⟨e0, e1⟩ := hargs c
  obtain ⟨h1, hrest⟩ := hr c
  refine ⟨h1.trans ?_, hrest⟩
  rw [val_main_v1_eq, e0, e1]
  exact (product_eq m c).symm

end Cert.Kernel10Ideal.Mixers

end
-- ==== Proof.Mixers.HgInput.lean ====
/- The gradient of the HGRN2 layer's input: what the call writes, and that it is the reference's gradient. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel11Ideal.Mixers

open Idealize.ShloMosaic Idealize.ShloMosaic.TcCoe Idealize.SL.Sem Cert.Kernel11Ideal.Gen Cert.Kernel11Ideal.Value Cert.Ffn
open Cert.Reference11Ideal.Read

/-- One element of what a point writes: the product with the weights' columns, and the scaled gradient of the sum. -/
theorem element (x : Vec Ideal S256x5120 .bf16) (y : Vec Ideal S1024x5120 .bf16) (z : Vec Ideal S256x1024 .f32) (r : Fin 256) (d : Fin 1024) :
    k0_pay3 (k0_pay2 x y (k0_pay1 (F := Ideal))) z (ix2 r d)
      = 0 + (∑ k : Fin 5120, x (ix2 r k) * y (ix2 d k)) + Ideal.ofBits .f32 0x3FD744FD#32 * z (ix2 r d) := by
  pointwise [k0_pay3, k0_pay2, k0_pay1]

variable (m : (ℓ : Loc nD τ sig) → Buf (Elt Ideal) ℓ) (c : Dev nD)

/-- The three arguments. -/
abbrev dp : FVec Ideal S16384x5120 .bf16 := m ((c.tc : Thread nD τ).loc main_arg0)
abbrev w : FVec Ideal S1024x5120 .bf16 := m ((c.tc : Thread nD τ).loc main_arg1)
abbrev dz : FVec Ideal S16384x1024 .f32 := m ((c.tc : Thread nD τ).loc main_arg2)

/-- One element of the gradient. -/
def value (r : Fin 16384) (d : Fin 1024) : EReal :=
  (∑ k : Fin 5120, dp m c (ix2 r k) * w m c (ix2 d k)) + Ideal.ofBits .f32 0x3FD744FD#32 * dz m c (ix2 r d)

variable (t : Fin cfg0.N)

theorem lt_N : t.val < 64 := Nat.lt_of_lt_of_eq t.isLt N_0

theorem writes : outsAt0 m c t = k0_pay3 (F := Ideal) (k0_pay2 (iblk m c 0 t) (iblk m c 1 t) (k0_pay1 (F := Ideal))) (iblk m c 2 t) := by
  unfold outsAt0
  frame_out

abbrev rowAt (r : Fin 256) : Fin 16384 := ⟨256 * t.val + r.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel

theorem read0 (A : Vec Ideal S16384x5120 .bf16) (r : Fin 256) (k : Fin 5120) :
    ((cfg0.win 0).blk t).view.read (Elt Ideal) A (ix2 r k) = A (ix2 (rowAt t r) k) := by
  blk_ext [place0]
theorem read1 (A : Vec Ideal S1024x5120 .bf16) (d : Fin 1024) (k : Fin 5120) :
    ((cfg0.win 1).blk t).view.read (Elt Ideal) A (ix2 d k) = A (ix2 d k) := by
  blk_ext [place1]
theorem read2 (A : Vec Ideal S16384x1024 .f32) (r : Fin 256) (d : Fin 1024) :
    ((cfg0.win 2).blk t).view.read (Elt Ideal) A (ix2 r d) = A (ix2 (rowAt t r) d) := by
  blk_ext [place2]
theorem read3 (A : Vec Ideal S16384x1024 .f32) (r : Fin 256) (d : Fin 1024) :
    ((cfg0.win 3).blk t).view.read (Elt Ideal) A (ix2 r d) = A (ix2 (rowAt t r) d) := by
  blk_ext [place3]

theorem writes_at (r : Fin 256) (d : Fin 1024) : outsAt0 m c t (ix2 r d) = value m c (rowAt t r) d := by
  rw [writes, element, zero_add]
  exact congrArg₂ (· + ·) (Finset.sum_congr rfl fun k _ => congrArg₂ (· * ·) (read0 t (dp m c) r k) (read1 t (w m c) d k))
    (congrArg (Ideal.ofBits .f32 0x3FD744FD#32 * ·) (read2 t (dz m c) r d))

/-- The array after the run, element by element. -/
theorem left_at (r : Fin 16384) (d : Fin 1024) : (dats m 0 c).arrAt 3 cfg0.N (ix2 r d) = value m c r d := by
  have hN : cfg0.N = 64 := N_0
  let t : Fin cfg0.N := ⟨r.val / 256, by omega⟩
  let x : Fin 256 := ⟨r.val % 256, Nat.mod_lt _ (by decide)⟩
  have e : rowAt t x = r := Fin.ext (by show 256 * (r.val / 256) + r.val % 256 = r.val; omega)
  have b := congrFun (blocks3 m c t (flush0_3 t)) (ix2 x d)
  rw [read3 t, e, flushed3] at b
  exact b.trans ((writes_at m c t x d).trans (by rw [e]))

theorem gradient_eq : (dats m 0 c).arrAt 3 cfg0.N = val_main_v9 (F := Ideal) (dp m c) (w m c) (dz m c) := by
  funext i
  obtain ⟨r, d, rfl⟩ : ∃ (r : Fin 16384) (d : Fin 1024), i = ix2 r d := ⟨i 0, i 1, same rfl rfl⟩
  rw [left_at, val_main_v9_apply, val_main_v6_apply, val_main_v8_apply, val_main_v7_apply, val_main_cst_1_apply]
  refine congrArg₂ (· + ·) (Finset.sum_congr rfl fun k _ => ?_) rfl
  rw [val_main_v5_apply, val_main_v3_apply]
  exact congrArg₂ (· * ·) (congrArg (dp m c) (same rfl rfl)) (congrArg (w m c) (same rfl rfl))

/-- The two programs' results are the same, in the extended reals. -/
theorem equal : @Cert.algebraic_Kernel11Ideal_Reference11Ideal Cert.Kernel11Ideal.Gen.facts Cert.Reference11Ideal.Gen.facts := by
  intro m g m' g' hp hargs
  refine ⟨fun c => (dats m 0 c).arrAt 3 cfg0.N, run_blocks m g, ?_⟩
  refine (θ_run _ _ _).mono (fun r hr c => ?_) (Cert.Reference11Ideal.Value.run (F := Ideal) m' g')
  obtain ⟨e0, e1, e2⟩ := hargs c
  obtain ⟨h9, hrest⟩ := hr c
  refine ⟨h9.trans ?_, hrest⟩
  rw [val_main_v9_eq, e0, e1, e2]
  exact (gradient_eq m c).symm

end Cert.Kernel11Ideal.Mixers

end
-- ==== Proof.Mixers.HgWeightIn.lean ====
/- The gradient of the HGRN2 layer's first weights: the sums the call keeps over the rows, and that the reference's gradient is the same. -/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel12Ideal.Mixers

open Idealize.ShloMosaic Idealize.ShloMosaic.TcCoe Idealize.SL.Sem Cert.Kernel12Ideal.Gen Cert.Kernel12Ideal.Value Cert.Ffn
open Cert.Reference12Ideal.Read

variable (m : (ℓ : Loc nD τ sig) → Buf (Elt Ideal) ℓ) (c : Dev nD)

/-- The layer's input and the gradient of the product. -/
abbrev h : FVec Ideal S16384x1024 .f32 := m ((c.tc : Thread nD τ).loc main_arg0)
abbrev dp : FVec Ideal S16384x5120 .bf16 := m ((c.tc : Thread nD τ).loc main_arg1)

/-- One row's part of an element of the gradient. -/
def term (i : Fin 1024) (j : Fin 5120) (r : Fin 16384) : EReal := h m c (ix2 r i) * dp m c (ix2 r j)

/-- Column `j` of block `b` of 1280 columns. -/
abbrev col (b : ℕ) (j : Fin 1280) : Fin 5120 := ⟨(1280 * b + j.val) % 5120, Nat.mod_lt _ (by decide)⟩

/-! ## What one point adds -/

variable (t : Fin cfg0.N) (i : Fin 1024) (j : Fin 1280)

theorem place0 : ∀ t : Fin cfg0.N, win0_0.index t = ![t.val % 32, 0] := by decide +kernel
theorem place1 : ∀ t : Fin cfg0.N, win0_1.index t = ![t.val % 32, t.val / 32] := by decide +kernel

theorem read0 (A : Vec Ideal S16384x1024 .f32) (k : Fin 512) :
    ((cfg0.win 0).blk t).view.read (Elt Ideal) A (ix2 k i) = A (ix2 ⟨512 * (t.val % 32) + k.val, by omega⟩ i) := by
  blk_ext [place0]
theorem read1 (A : Vec Ideal S16384x5120 .bf16) (k : Fin 512) :
    ((cfg0.win 1).blk t).view.read (Elt Ideal) A (ix2 k j) = A (ix2 ⟨512 * (t.val % 32) + k.val, by omega⟩ (col (t.val / 32) j)) := by
  have ht : t.val < 128 := Nat.lt_of_lt_of_eq t.isLt N_0
  have e : (⟨1280 * (t.val / 32) + j.val, by omega⟩ : Fin 5120) = col (t.val / 32) j :=
    Fin.ext (by show 1280 * (t.val / 32) + j.val = (1280 * (t.val / 32) + j.val) % 5120; omega)
  rw [← e]
  blk_ext [place1]

theorem product_at (x : Vec Ideal S512x1024 .f32) (y : Vec Ideal S512x1280 .bf16) (z : Vec Ideal S1x1024x1280 .f32) :
    k0_pay2 x y z (ix3 0 i j) = z (ix3 0 i j) + ∑ k : Fin 512, x (ix2 k i) * y (ix2 k j) := by
  pointwise [k0_pay2]

theorem adds (z : Vec Ideal S1x1024x1280 .f32) : k0_pay2 (iblk m c 0 t) (iblk m c 1 t) z (ix3 0 i j)
    = z (ix3 0 i j) + ∑ k : Fin 512, term m c i (col (t.val / 32) j) ⟨512 * (t.val % 32) + k.val, by omega⟩ :=
  (product_at i j _ _ z).trans (congrArg (z (ix3 0 i j) + ·)
    (Finset.sum_congr rfl fun k _ => congrArg₂ (· * ·) (read0 t i (h m c) k) (read1 t j (dp m c) k)))

/-! ## What is kept -/

theorem read_sum (x : FVec Ideal S1x1024x1280 .f32) : View.read (Elt Ideal) (View.whole cc0_scratch0) ((Memref.isWhole_whole cc0_scratch0).unread x) = x :=
  Memref.IsWhole.read_unread (Val := Elt Ideal) (Memref.isWhole_whole cc0_scratch0) x

/-- The sums kept after a point. -/
abbrev kept (n : ℕ) (hn : n < cfg0.N) : FVec Ideal S1x1024x1280 .f32 := (outsAt0 m c n hn).2

theorem first (h0 : t.val % 32 = 0) : kept m c t.val t.isLt = k0_pay2 (iblk m c 0 t) (iblk m c 1 t) (k0_pay1 (F := Ideal)) := by
  unfold kept
  rw [outsAt0_A m c t h0 (by omega)]
  dsimp only
  frame_out
theorem next (h0 : ¬t.val % 32 = 0) :
    kept m c t.val t.isLt = k0_pay2 (iblk m c 0 t) (iblk m c 1 t) (kept m c (t.val - 1) (by omega)) := by
  unfold kept
  by_cases h1 : t.val % 32 = 31
  · rw [outsAt0_C m c t h0 h1]
    dsimp only
    frame_out
    rw [read_sum]
  · rw [outsAt0_B m c t h0 h1]
    dsimp only
    frame_out
    rw [read_sum]
theorem written (h1 : t.val % 32 = 31) : (outsAt0 m c t.val t.isLt).1 = k0_pay3 (F := Ideal) (kept m c t.val t.isLt) := by
  rw [next m c t (by omega), outsAt0_C m c t (by omega) h1]
  dsimp only
  frame_out
  rw [read_sum]

/-- What is kept after the last point of a block of columns. -/
theorem kept_last (b : ℕ) (hb : 32 * b + 31 < 128) :
    kept m c (32 * b + 31) (lt_of_lt_of_eq hb N_0.symm) (ix3 0 i j) = ∑ r, term m c i (col b j) r :=
  swept (fun n hn => kept m c n (lt_of_lt_of_eq hn N_0.symm) (ix3 0 i j)) (fun b => term m c i (col b j))
    (fun n hn h0 => (congrFun (first m c ⟨n, lt_of_lt_of_eq hn N_0.symm⟩ h0) _).trans
      ((adds m c ⟨n, lt_of_lt_of_eq hn N_0.symm⟩ i j _).trans (congrArg (· + _) (by pointwise [k0_pay1]))))
    (fun n hn h0 => (congrFun (next m c ⟨n, lt_of_lt_of_eq hn N_0.symm⟩ h0) _).trans (adds m c ⟨n, lt_of_lt_of_eq hn N_0.symm⟩ i j _)) b hb

/-! ## What is written -/

theorem out_at (z : Vec Ideal S1x1024x1280 .f32) : k0_pay3 z (ix2 i j) = z (ix3 0 i j) := by
  pointwise [k0_pay3]

theorem fold_kept (n : ℕ) (hn : 0 + n < cfg0.N) : Pipeline.accAt (fun n h => stAt0 m c n h junk0) (stAt0 m c) 0 n hn = outsAt0 m c n (by omega) :=
  (outsAt0_sweep m c n (by omega)).symm

/-- The array after the run, element by element. -/
theorem left_at (q : Fin 5120) : G2 m c (ix2 i q) = ∑ r, term m c i q r := by
  have hN : cfg0.N = 128 := N_0
  have hb : 32 * (q.val / 1280) + 31 < 128 := by omega
  let y : Fin 1280 := ⟨q.val % 1280, Nat.mod_lt _ (by decide)⟩
  have e : pt2Of (ix2 i q) = 32 * (q.val / 1280) + 31 := by
    show 32 * (4 * (i.val / 1024 - 0) + 1 * (q.val / 1280 - 0)) + 31 = 32 * (q.val / 1280) + 31; omega
  have el : loc2Of (ix2 i q) = ix2 i y := by
    funext a
    fin_cases a
    · exact Fin.ext (by show i.val % 1024 = i.val; omega)
    · rfl
  have ey : col (q.val / 1280) y = q := Fin.ext (by show (1280 * (q.val / 1280) + q.val % 1280) % 5120 = q.val; omega)
  have w := written m c ⟨32 * (q.val / 1280) + 31, lt_of_lt_of_eq hb N_0.symm⟩ (by show (32 * (q.val / 1280) + 31) % 32 = 31; omega)
  dsimp only at w
  unfold G2
  rw [dif_pos (by rw [e]; omega), el, fold_kept]
  simp only [e]
  rw [w, out_at, kept_last m c i y _ hb, ey]

/-! ## That the reference's gradient is the same -/

theorem reference_at (q : Fin 5120) : val_main_v5 (F := Ideal) (h m c) (dp m c) (ix2 i q) = ∑ r, term m c i q r := by
  rw [val_main_v5_apply, val_main_v4_apply, val_main_v3_apply]
  refine Finset.sum_congr rfl fun r _ => (mul_comm _ _).trans ?_
  rw [val_main_v2_apply]
  exact congrArg₂ (· * ·) (congrArg (h m c) (same rfl rfl)) (congrArg (dp m c) (same rfl rfl))

theorem gradient_eq : G2 m c = val_main_v5 (F := Ideal) (h m c) (dp m c) := by
  funext p
  obtain ⟨i, q, rfl⟩ : ∃ (i : Fin 1024) (q : Fin 5120), p = ix2 i q := ⟨p 0, p 1, same rfl rfl⟩
  exact (left_at m c i q).trans (reference_at m c i q).symm

/-- The two programs' results are the same, in the extended reals. -/
theorem equal : @Cert.algebraic_Kernel12Ideal_Reference12Ideal Cert.Kernel12Ideal.Gen.facts Cert.Reference12Ideal.Gen.facts := by
  intro m g m' g' hp hargs
  refine ⟨fun c => G2 m c, Value.run m g, ?_⟩
  refine (θ_run _ _ _).mono (fun r hr c => ?_) (Cert.Reference12Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel12Ideal.Mixers

end
-- ==== Proof.Mixers.S5Gate.lean ====
/- The gate of an S5 layer: the logistic function of a product and a bias, and the layer's values times it. What the call writes, and that
   the reference has the same. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Ffn.Sums
public import proofs.«01_k».proof.Proof.Ffn.Sigmoid
public import proofs.«01_k».proof.Defs
public import Idealize.ShloMosaic.Lib.Pipeline.ValueKit.Acc

@[expose] public section

set_option maxRecDepth 16384

noncomputable section

namespace Cert.Kernel13Ideal.Mixers

open Idealize.ShloMosaic Idealize.ShloMosaic.TcCoe Idealize.SL.Sem Cert.Kernel13Ideal.Gen Cert.Kernel13Ideal.Value Cert.Ffn
open Cert.Reference13Ideal.Read

/-! ## What one point writes -/

theorem before_at (y : Vec Ideal S512x1024 .f32) (w : Vec Ideal S1024x1024 .bf16) (b : Vec Ideal S1x1024 .f32) (r : Fin 512) (j : Fin 1024) :
    addf (shapeCast S512x1024 (k0_pay2 y w (k0_pay1 (F := Ideal))) shapeCasts_S1x512x1024_S512x1024) (broadcastTo S512x1024 b broadcasts_S1x1024_S512x1024) (ix2 r j)
      = (∑ k : Fin 1024, y (ix2 r k) * w (ix2 k j)) + b (ix2 0 j) := by
  pointwise [k0_pay2, k0_pay1]
theorem gate_at (y : Vec Ideal S512x1024 .f32) (w : Vec Ideal S1024x1024 .bf16) (b : Vec Ideal S1x1024 .f32) (r : Fin 512) (j : Fin 1024) :
    k0_pay3 (k0_pay2 y w (k0_pay1 (F := Ideal))) b (ix2 r j) = logistic ((∑ k : Fin 1024, y (ix2 r k) * w (ix2 k j)) + b (ix2 0 j)) := by
  rw [← before_at, ← logistic_call]
  rfl
theorem times_at (z : Vec Ideal S1x512x1024 .f32) (y : Vec Ideal S512x1024 .f32) (b : Vec Ideal S1x1024 .f32) (r : Fin 512) (j : Fin 1024) :
    k0_pay4 z y b (ix2 r j) = y (ix2 r j) * k0_pay3 z b (ix2 r j) := rfl

variable (m : (ℓ : Loc nD τ sig) → Buf (Elt Ideal) ℓ) (c : Dev nD)

/-- The values, the weights and the bias. -/
abbrev y : FVec Ideal S16384x1024 .f32 := m ((c.tc : Thread nD τ).loc main_arg0)
abbrev w : FVec Ideal S1024x1024 .bf16 := m ((c.tc : Thread nD τ).loc main_arg1)
abbrev b : FVec Ideal S1x1024 .f32 := m ((c.tc : Thread nD τ).loc main_arg2)

/-- One element of the gate. -/
def gate (r : Fin 16384) (j : Fin 1024) : EReal := logistic ((∑ k : Fin 1024, y m c (ix2 r k) * w m c (ix2 k j)) + b m c (ix2 0 j))

variable (t : Fin cfg0.N)

theorem writes : outsAt0 m c t = (k0_pay4 (F := Ideal) (k0_pay2 (iblk m c 0 t) (iblk m c 1 t) (k0_pay1 (F := Ideal))) (iblk m c 2 t) (iblk m c 3 t),
    k0_pay3 (F := Ideal) (k0_pay2 (iblk m c 0 t) (iblk m c 1 t) (k0_pay1 (F := Ideal))) (iblk m c 3 t)) := by
  unfold outsAt0
  frame_out

/-! ## The blocks, as parts of the arrays -/

theorem lt_N : t.val < 32 := Nat.lt_of_lt_of_eq t.isLt N_0

abbrev rowAt (r : Fin 512) : Fin 16384 := ⟨512 * t.val + r.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![0, 0] := by decide +kernel
theorem place4 : ∀ t : Fin cfg0.N, win0_4.index t = ![t.val, 0] := by decide +kernel
theorem place5 : ∀ t : Fin cfg0.N, win0_5.index t = ![t.val, 0] := by decide +kernel

theorem read0 (A : Vec Ideal S16384x1024 .f32) (r : Fin 512) (k : Fin 1024) :
    ((cfg0.win 0).blk t).view.read (Elt Ideal) A (ix2 r k) = A (ix2 (rowAt t r) k) := by
  blk_ext [place0]
theorem read1 (A : Vec Ideal S1024x1024 .bf16) (k j : Fin 1024) :
    ((cfg0.win 1).blk t).view.read (Elt Ideal) A (ix2 k j) = A (ix2 k j) := by
  blk_ext [place1]
theorem read2 (A : Vec Ideal S16384x1024 .f32) (r : Fin 512) (j : Fin 1024) :
    ((cfg0.win 2).blk t).view.read (Elt Ideal) A (ix2 r j) = A (ix2 (rowAt t r) j) := by
  blk_ext [place2]
theorem read3 (A : Vec Ideal S1x1024 .f32) (j : Fin 1024) :
    ((cfg0.win 3).blk t).view.read (Elt Ideal) A (ix2 0 j) = A (ix2 0 j) := by
  blk_ext [place3]
theorem read4 (A : Vec Ideal S16384x1024 .bf16) (r : Fin 512) (j : Fin 1024) :
    ((cfg0.win 4).blk t).view.read (Elt Ideal) A (ix2 r j) = A (ix2 (rowAt t r) j) := by
  blk_ext [place4]
theorem read5 (A : Vec Ideal S16384x1024 .f32) (r : Fin 512) (j : Fin 1024) :
    ((cfg0.win 5).blk t).view.read (Elt Ideal) A (ix2 r j) = A (ix2 (rowAt t r) j) := by
  blk_ext [place5]

theorem point_gate (r : Fin 512) (j : Fin 1024) :
    k0_pay3 (F := Ideal) (k0_pay2 (iblk m c 0 t) (iblk m c 1 t) (k0_pay1 (F := Ideal))) (iblk m c 3 t) (ix2 r j) = gate m c (rowAt t r) j := by
  rw [gate_at]
  exact congrArg₂ (fun s b => logistic (s + b)) (Finset.sum_congr rfl fun k _ => congrArg₂ (· * ·) (read0 t (y m c) r k) (read1 t (w m c) k j)) (read3 t (b m c) j)

/-! ## The two arrays after the run, element by element -/

/-- The point that writes a row, and the row's place in its block. -/
abbrev ptOf (r : Fin 16384) : Fin cfg0.N := ⟨r.val / 512, lt_of_lt_of_eq (show r.val / 512 < 32 by omega) N_0.symm⟩
abbrev rowIn (r : Fin 16384) : Fin 512 := ⟨r.val % 512, Nat.mod_lt _ (by decide)⟩
theorem row_back (r : Fin 16384) : rowAt (ptOf r) (rowIn r) = r :=
  Fin.ext (by show 512 * (r.val / 512) + r.val % 512 = r.val; omega)

variable (r : Fin 16384) (j : Fin 1024)

theorem left4 : (dats m 0 c).arrAt 4 cfg0.N (ix2 r j) = y m c (ix2 r j) * gate m c r j := by
  have h := congrFun (blocks4 m c (ptOf r) (flush0_4 _)) (ix2 (rowIn r) j)
  rw [read4, row_back, flushed4, writes] at h
  refine h.trans ((times_at _ _ _ (rowIn r) j).trans ?_)
  rw [point_gate, row_back]
  exact congrArg (· * gate m c r j) ((read2 (ptOf r) (y m c) (rowIn r) j).trans (by rw [row_back]))
theorem left5 : (dats m 0 c).arrAt 5 cfg0.N (ix2 r j) = gate m c r j := by
  have h := congrFun (blocks5 m c (ptOf r) (flush0_5 _)) (ix2 (rowIn r) j)
  rw [read5, row_back, flushed5, writes] at h
  exact h.trans ((point_gate m c _ (rowIn r) j).trans (by rw [row_back]))

/-! ## The reference, and that the two are the same -/

theorem reference_before : val_main_v3 (F := Ideal) (y m c) (w m c) (b m c) (ix2 r j) = (∑ k : Fin 1024, y m c (ix2 r k) * w m c (ix2 k j)) + b m c (ix2 0 j) := by
  rw [val_main_v3_apply, val_main_v1_apply, val_main_v2_apply]
  exact congrArg₂ (· + ·) (Finset.sum_congr rfl fun k _ => congrArg₂ (· * ·) (congrArg (y m c) (same rfl rfl)) (congrArg (w m c) (same rfl rfl)))
    (congrArg (b m c) (same rfl rfl))
theorem reference_gate : val_main_v9 (F := Ideal) (y m c) (w m c) (b m c) (ix2 r j) = gate m c r j := by
  rw [val_main_v9_apply, val_main_v8_apply, val_main_cst_0_apply, val_main_v7_apply, val_main_v6_apply, val_main_cst_apply, val_main_v5_apply,
    val_main_v4_apply, reference_before, show FloatOps.ofBits (F := Ideal) .f32 0x3F800000#32 = 1 from ofBits_one]
  rfl
theorem reference_times : val_main_v11 (F := Ideal) (y m c) (w m c) (b m c) (ix2 r j) = y m c (ix2 r j) * gate m c r j := by
  rw [val_main_v11_apply, val_main_v10_apply, reference_gate]
  rfl

theorem times_eq : (dats m 0 c).arrAt 4 cfg0.N = val_main_v11 (F := Ideal) (y m c) (w m c) (b m c) := by
  funext q
  obtain ⟨r, j, rfl⟩ : ∃ (r : Fin 16384) (j : Fin 1024), q = ix2 r j := ⟨q 0, q 1, same rfl rfl⟩
  exact (left4 m c r j).trans (reference_times m c r j).symm
theorem gate_eq : (dats m 0 c).arrAt 5 cfg0.N = val_main_v9 (F := Ideal) (y m c) (w m c) (b m c) := by
  funext q
  obtain ⟨r, j, rfl⟩ : ∃ (r : Fin 16384) (j : Fin 1024), q = ix2 r j := ⟨q 0, q 1, same rfl rfl⟩
  exact (left5 m c r j).trans (reference_gate m c r j).symm

/-- The two programs' results are the same, in the extended reals. -/
theorem equal : @Cert.algebraic_Kernel13Ideal_Reference13Ideal Cert.Kernel13Ideal.Gen.facts Cert.Reference13Ideal.Gen.facts := by
  intro m g m' g' hp hargs
  refine ⟨fun c => (dats m 0 c).arrAt 4 cfg0.N, fun c => (dats m 0 c).arrAt 5 cfg0.N, run_blocks m g, ?_⟩
  refine (θ_run _ _ _).mono (fun r hr c => ?_) (Cert.Reference13Ideal.Value.run (F := Ideal) m' g')
  obtain ⟨e0, e1, e2⟩ := hargs c
  obtain ⟨h11, h9, hrest⟩ := hr c
  refine ⟨h11.trans ?_, h9.trans ?_, hrest⟩
  · rw [val_main_v11_eq, e0, e1, e2]
    exact (times_eq m c).symm
  · rw [val_main_v9_eq, e0, e1, e2]
    exact (gate_eq m c).symm

end Cert.Kernel13Ideal.Mixers

end
-- ==== Proof.Mixers.S5GateGrad.lean ====
/- The gradients at an S5 layer's gate: of what the gate is the logistic function of, of the values it multiplies, and the first one's sums
   over each block of rows. What the call writes, and that the reference has the same. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Ffn.Sums
public import proofs.«01_k».proof.Proof.Ffn.Sigmoid
public import proofs.«01_k».proof.Defs
public import Idealize.ShloMosaic.Lib.Pipeline.ValueKit.Acc

@[expose] public section

set_option maxRecDepth 16384

noncomputable section

namespace Cert.Kernel14Ideal.Mixers

open Idealize.ShloMosaic Idealize.ShloMosaic.TcCoe Idealize.SL.Sem Cert.Kernel14Ideal.Gen Cert.Kernel14Ideal.Value Cert.Ffn
open Cert.Reference14Ideal.Read

/-! ## What one point writes -/

section Point

variable (d : Vec Ideal S512x1024 .f32) (w : Vec Ideal S1024x1024 .bf16) (y s : Vec Ideal S512x1024 .f32) (z : Vec Ideal S1x512x1024 .f32)
variable (r : Fin 512) (j : Fin 1024)

/-- The product the point leaves in its scratch memory. -/
abbrev product : Vec Ideal S1x512x1024 .f32 := k0_pay2 d w (k0_pay1 (F := Ideal))

theorem product_at : product d w (ix3 0 r j) = ∑ k : Fin 1024, d (ix2 r k) * w (ix2 j k) := by
  pointwise [product, k0_pay2, k0_pay1]
theorem before_at : k0_pay5 z y s (ix2 r j) = z (ix3 0 r j) * y (ix2 r j) * s (ix2 r j) * (1 - s (ix2 r j)) := by
  rw [← ofBits_one]
  pointwise [k0_pay5, k0_pay4, k0_pay3]
theorem values_at : k0_pay6 z s (ix2 r j) = z (ix3 0 r j) * s (ix2 r j) := by
  pointwise [k0_pay6, k0_pay4, k0_pay3]
theorem sums_at (q : Fin 8) : k0_pay7 z y s (ix2 q j) = ∑ i : Fin 512, k0_pay5 z y s (ix2 i j) := by
  unfold k0_pay7
  generalize k0_pay5 z y s = v
  pointwise []

end Point

variable (m : (ℓ : Loc nD τ sig) → Buf (Elt Ideal) ℓ) (c : Dev nD)

/-- The gradient of the sum, the output weights, the values, and what the gate is the logistic function of. -/
abbrev dz : FVec Ideal S16384x1024 .f32 := m ((c.tc : Thread nD τ).loc main_arg0)
abbrev w : FVec Ideal S1024x1024 .bf16 := m ((c.tc : Thread nD τ).loc main_arg1)
abbrev y : FVec Ideal S16384x1024 .f32 := m ((c.tc : Thread nD τ).loc main_arg2)
abbrev pre : FVec Ideal S16384x1024 .f32 := m ((c.tc : Thread nD τ).loc main_arg3)

/-- The gate, as the call finds it: the reference takes it with the same operations. -/
def gate : Vec Ideal S16384x1024 .f32 := V m c main_v5
theorem gate_eq : gate m c = val_main_v5 (F := Ideal) (pre m c) := by
  show StableHlo.after hostOps0 _ _ = _
  after_results_simp <;> rfl

/-- One element of the product's gradient, of the values' and of what comes before the gate. -/
def product' (r : Fin 16384) (j : Fin 1024) : EReal := ∑ k : Fin 1024, dz m c (ix2 r k) * w m c (ix2 j k)
def values' (r : Fin 16384) (j : Fin 1024) : EReal := product' m c r j * gate m c (ix2 r j)
def before' (r : Fin 16384) (j : Fin 1024) : EReal := product' m c r j * y m c (ix2 r j) * gate m c (ix2 r j) * (1 - gate m c (ix2 r j))

/-- A row's place among the 512 rows of block `b`, and the block's sum of the last one. -/
abbrev rowIn (b : Fin 32) (i : Fin 512) : Fin 16384 := ⟨512 * b.val + i.val, by omega⟩
def sums' (b : Fin 32) (j : Fin 1024) : EReal := ∑ i : Fin 512, before' m c (rowIn b i) j

/-! ## The blocks, as parts of the arrays -/

variable (t : Fin cfg0.N)

theorem lt_N : t.val < 32 := Nat.lt_of_lt_of_eq t.isLt N_0

/-- The block a point works on, and the point's eight rows of the sums. -/
abbrev block : Fin 32 := ⟨t.val, lt_N t⟩
abbrev partAt (q : Fin 8) : Fin 256 := ⟨8 * t.val + q.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel
theorem place4 : ∀ t : Fin cfg0.N, win0_4.index t = ![t.val, 0] := by decide +kernel
theorem place5 : ∀ t : Fin cfg0.N, win0_5.index t = ![t.val, 0] := by decide +kernel
theorem place6 : ∀ t : Fin cfg0.N, win0_6.index t = ![t.val, 0] := by decide +kernel

section Blocks

variable (A : Vec Ideal S16384x1024 .f32) (r : Fin 512) (j : Fin 1024)

theorem read0 : ((cfg0.win 0).blk t).view.read (Elt Ideal) A (ix2 r j) = A (ix2 (rowIn (block t) r) j) := by
  blk_ext [place0]
theorem read1 (B : Vec Ideal S1024x1024 .bf16) (k : Fin 1024) : ((cfg0.win 1).blk t).view.read (Elt Ideal) B (ix2 j k) = B (ix2 j k) := by
  blk_ext [place1]
theorem read2 : ((cfg0.win 2).blk t).view.read (Elt Ideal) A (ix2 r j) = A (ix2 (rowIn (block t) r) j) := by
  blk_ext [place2]
theorem read3 : ((cfg0.win 3).blk t).view.read (Elt Ideal) A (ix2 r j) = A (ix2 (rowIn (block t) r) j) := by
  blk_ext [place3]
theorem read4 (B : Vec Ideal S16384x1024 .bf16) : ((cfg0.win 4).blk t).view.read (Elt Ideal) B (ix2 r j) = B (ix2 (rowIn (block t) r) j) := by
  blk_ext [place4]
theorem read5 : ((cfg0.win 5).blk t).view.read (Elt Ideal) A (ix2 r j) = A (ix2 (rowIn (block t) r) j) := by
  blk_ext [place5]
theorem read6 (B : Vec Ideal S256x1024 .f32) (q : Fin 8) : ((cfg0.win 6).blk t).view.read (Elt Ideal) B (ix2 q j) = B (ix2 (partAt t q) j) := by
  blk_ext [place6]

/-! What a point computes of its blocks. -/

theorem point_product : product (iblk m c 0 t) (iblk m c 1 t) (ix3 0 r j) = product' m c (rowIn (block t) r) j := by
  rw [product_at]
  exact Finset.sum_congr rfl fun k _ => congrArg₂ (· * ·) (read0 t (dz m c) r k) (read1 t j (w m c) k)
theorem point_values : k0_pay6 (product (iblk m c 0 t) (iblk m c 1 t)) (iblk m c 3 t) (ix2 r j) = values' m c (rowIn (block t) r) j := by
  rw [values_at, point_product]
  exact congrArg (product' m c (rowIn (block t) r) j * ·) (read3 t (gate m c) r j)
theorem point_before : k0_pay5 (product (iblk m c 0 t) (iblk m c 1 t)) (iblk m c 2 t) (iblk m c 3 t) (ix2 r j) = before' m c (rowIn (block t) r) j := by
  rw [before_at, point_product]
  exact congrArg₂ (fun y s => product' m c (rowIn (block t) r) j * y * s * (1 - s)) (read2 t (y m c) r j) (read3 t (gate m c) r j)
theorem point_sums (q : Fin 8) :
    k0_pay7 (product (iblk m c 0 t) (iblk m c 1 t)) (iblk m c 2 t) (iblk m c 3 t) (ix2 q j) = sums' m c (block t) j :=
  (sums_at _ _ _ j q).trans (Finset.sum_congr rfl fun i _ => point_before m c t i j)

end Blocks

theorem writes : outsAt0 m c t = (k0_pay8 (F := Ideal) (product (iblk m c 0 t) (iblk m c 1 t)) (iblk m c 2 t) (iblk m c 3 t),
    k0_pay6 (F := Ideal) (product (iblk m c 0 t) (iblk m c 1 t)) (iblk m c 3 t),
    k0_pay7 (F := Ideal) (product (iblk m c 0 t) (iblk m c 1 t)) (iblk m c 2 t) (iblk m c 3 t)) := by
  unfold outsAt0
  frame_out

/-! ## The three arrays after the run, element by element -/

/-- The point that writes a row, and the row's place in its block; the same of the sums' rows, eight a block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (block (ptOf r)) (inOf r) = r :=
  Fin.ext (by show 512 * (r.val / 512) + r.val % 512 = r.val; omega)
abbrev ptOf' (q : Fin 256) : Fin cfg0.N := ⟨q.val / 8, lt_of_lt_of_eq (show q.val / 8 < 32 by omega) N_0.symm⟩
abbrev inOf' (q : Fin 256) : Fin 8 := ⟨q.val % 8, Nat.mod_lt _ (by decide)⟩
theorem part_back (q : Fin 256) : partAt (ptOf' q) (inOf' q) = q :=
  Fin.ext (by show 8 * (q.val / 8) + q.val % 8 = q.val; omega)
abbrev blockOf (q : Fin 256) : Fin 32 := ⟨q.val / 8, by omega⟩

variable (r : Fin 16384) (q : Fin 256) (j : Fin 1024)

theorem left4 : (dats m 0 c).arrAt 4 cfg0.N (ix2 r j) = before' m c r j := by
  have h := congrFun (blocks4 m c (ptOf r) (flush0_4 _)) (ix2 (inOf r) j)
  rw [read4, row_back, flushed4, writes] at h
  exact h.trans ((point_before m c _ (inOf r) j).trans (by rw [row_back]))
theorem left5 : (dats m 0 c).arrAt 5 cfg0.N (ix2 r j) = values' m c r j := by
  have h := congrFun (blocks5 m c (ptOf r) (flush0_5 _)) (ix2 (inOf r) j)
  rw [read5, row_back, flushed5, writes] at h
  exact h.trans ((point_values m c _ (inOf r) j).trans (by rw [row_back]))
theorem left6 : (dats m 0 c).arrAt 6 cfg0.N (ix2 q j) = sums' m c (blockOf q) j := by
  have h := congrFun (blocks6 m c (ptOf' q) (flush0_6 _)) (ix2 (inOf' q) j)
  rw [read6, part_back, flushed6, writes] at h
  exact h.trans (point_sums m c _ j (inOf' q))

/-! ## The reference, and that the two are the same -/

theorem reference_product : val_main_v12 (F := Ideal) (dz m c) (w m c) (ix2 r j) = product' m c r j := by
  rw [val_main_v12_apply]
  refine Finset.sum_congr rfl fun k _ => ?_
  rw [val_main_v10_apply]
  exact congrArg₂ (· * ·) (congrArg (dz m c) (same rfl rfl)) (congrArg (w m c) (same rfl rfl))
theorem reference_values : val_main_v14 (F := Ideal) (dz m c) (w m c) (pre m c) (ix2 r j) = values' m c r j := by
  rw [val_main_v14_apply, reference_product, ← gate_eq]
  rfl
/-- The reference's product has the values first, and the gate's slope as one factor. -/
theorem reference_before : val_main_v15 (F := Ideal) (dz m c) (w m c) (y m c) (pre m c) (ix2 r j) = before' m c r j := by
  rw [val_main_v15_apply, val_main_v13_apply, reference_product, val_main_v8_apply, val_main_v7_apply, val_main_v6_apply, val_main_cst_1_apply,
    show FloatOps.ofBits (F := Ideal) .f32 0x3F800000#32 = 1 from ofBits_one, ← gate_eq]
  exact ((congrArg (· * _) (mul_comm _ _)).trans (mul_assoc _ _ _).symm)

/-- Row `k` of the block that row `q` of the sums belongs to. -/
theorem place_in (k : Fin 512) : idx_main_v16 (idx_main_v17 (idx_main_v18 (idx_main_v19 (ix2 q j))) k) = ix2 (rowIn (blockOf q) k) j :=
  same (Fin.ext (by
    show ((((q.val * 1024 + j.val) / 8192 * 1 + 0) * 512 + k.val) * 1024 + (q.val * 1024 + j.val) % 1024) / 1024 = 512 * (q.val / 8) + k.val
    omega)) (Fin.ext (by
    show ((((q.val * 1024 + j.val) / 8192 * 1 + 0) * 512 + k.val) * 1024 + (q.val * 1024 + j.val) % 1024) % 1024 = j.val
    omega))
theorem reference_sums : val_main_v19 (F := Ideal) (dz m c) (w m c) (y m c) (pre m c) (ix2 q j) = sums' m c (blockOf q) j := by
  rw [val_main_v19_apply, val_main_v18_apply, val_main_v17_apply, val_main_cst_2_apply,
    show FloatOps.ofBits (F := Ideal) .f32 0x00000000#32 = (0 : EReal) from Ideal.ofBits_zero_f32, zero_add]
  refine Finset.sum_congr rfl fun k _ => ?_
  rw [val_main_v16_apply, place_in, reference_before]

theorem before_eq : (dats m 0 c).arrAt 4 cfg0.N = val_main_v20 (F := Ideal) (dz m c) (w m c) (y m c) (pre m c) := by
  funext p
  obtain ⟨r, j, rfl⟩ : ∃ (r : Fin 16384) (j : Fin 1024), p = ix2 r j := ⟨p 0, p 1, same rfl rfl⟩
  exact (left4 m c r j).trans (reference_before m c r j).symm
theorem values_eq : (dats m 0 c).arrAt 5 cfg0.N = val_main_v14 (F := Ideal) (dz m c) (w m c) (pre m c) := by
  funext p
  obtain ⟨r, j, rfl⟩ : ∃ (r : Fin 16384) (j : Fin 1024), p = ix2 r j := ⟨p 0, p 1, same rfl rfl⟩
  exact (left5 m c r j).trans (reference_values m c r j).symm
theorem sums_eq : (dats m 0 c).arrAt 6 cfg0.N = val_main_v19 (F := Ideal) (dz m c) (w m c) (y m c) (pre m c) := by
  funext p
  obtain ⟨q, j, rfl⟩ : ∃ (q : Fin 256) (j : Fin 1024), p = ix2 q j := ⟨p 0, p 1, same rfl rfl⟩
  exact (left6 m c q j).trans (reference_sums m c q j).symm

/-- The two programs' results are the same, in the extended reals. -/
theorem equal : @Cert.algebraic_Kernel14Ideal_Reference14Ideal Cert.Kernel14Ideal.Gen.facts Cert.Reference14Ideal.Gen.facts := by
  intro m g m' g' hp hargs
  refine ⟨fun c => (dats m 0 c).arrAt 4 cfg0.N, fun c => (dats m 0 c).arrAt 5 cfg0.N, fun c => (dats m 0 c).arrAt 6 cfg0.N, run_blocks m g, ?_⟩
  refine (θ_run _ _ _).mono (fun r hr c => ?_) (Cert.Reference14Ideal.Value.run (F := Ideal) m' g')
  obtain ⟨e0, e1, e2, e3⟩ := hargs c
  obtain ⟨h20, h14, h19, hrest⟩ := hr c
  refine ⟨h20.trans ?_, h14.trans ?_, h19.trans ?_, hrest⟩
  · rw [val_main_v20_eq, e0, e1, e2, e3]
    exact (before_eq m c).symm
  · rw [val_main_v14_eq, e0, e1, e3]
    exact (values_eq m c).symm
  · rw [val_main_v19_eq, e0, e1, e2, e3]
    exact (sums_eq m c).symm

end Cert.Kernel14Ideal.Mixers

end
-- ==== Proof.Mixers.S5GeluGrad.lean ====
/- The gradient through an S5 layer's GELU: of what the GELU is of, of the skip's input, and the sums over each block of rows that make the
   gradient of the skip's weights. What the call writes, and that the reference has the same. -/
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel22Ideal.Mixers

open Idealize.ShloMosaic Idealize.ShloMosaic.TcCoe Idealize.SL.Sem Cert.Kernel22Ideal.Gen Cert.Kernel22Ideal.Value Cert.Ffn
open Cert.Reference22Ideal.Read

/-! ## The GELU's slope -/

section Slope

variable (x t : EReal)

/-- The constants, as the extended reals the two programs' float32 words stand for. -/
abbrev half : EReal := Ideal.ofBits .f32 0x3F000000#32
abbrev one : EReal := Ideal.ofBits .f32 0x3F800000#32
abbrev root : EReal := Ideal.ofBits .f32 0x3F4C422A#32
abbrev cubic : EReal := Ideal.ofBits .f32 0x3D372713#32
abbrev cubic' : EReal := Ideal.ofBits .f32 0x3E095D4F#32

/-- The hyperbolic tangent in the GELU of `x`, and the slope there once the tangent is known. -/
def bend : EReal := Ideal.tanh (root * (x + cubic * x * x * x))
def slopeOf : EReal := half * (one + t) + half * x * (one - t * t) * root * (one + cubic' * x * x)
def slope : EReal := slopeOf x (bend x)

/-- The root, one half, and the half of the root, as real numbers. -/
theorem half_value : half = (((1 : ℝ) / 2 : ℝ) : EReal) := by
  simp [Ideal.ofBits, Ideal.ieee, -EReal.coe_mul]; norm_num
theorem root_value : root = (((13386282 : ℝ) / 16777216 : ℝ) : EReal) := by
  simp [Ideal.ofBits, Ideal.ieee, -EReal.coe_mul]; norm_num
theorem half_root_value : Ideal.ofBits .f32 0x3ECC422A#32 = (((13386282 : ℝ) / 33554432 : ℝ) : EReal) := by
  simp [Ideal.ofBits, Ideal.ieee, -EReal.coe_mul]; norm_num
/-- The reference holds half of the root as one constant: half of a float32 is a float32. -/
theorem half_root : Ideal.ofBits .f32 0x3ECC422A#32 = half * root := by
  rw [half_value, root_value, half_root_value, ← EReal.coe_mul]
  norm_num

theorem bend_eq : Ideal.tanh (root * (x + cubic * (x * x * x))) = bend x := by
  unfold bend
  rw [← mul_assoc cubic, ← mul_assoc cubic]
theorem slopeOf_eq : half * (one + t) + Ideal.ofBits .f32 0x3ECC422A#32 * (one - t * t) * (one + cubic' * (x * x)) * x = slopeOf x t := by
  unfold slopeOf
  rw [half_root, ← mul_assoc cubic']
  generalize one - t * t = p
  generalize one + cubic' * x * x = q
  congr 1
  ac_rfl

end Slope

/-! ## What one point writes -/

section Point

variable (d : Vec Ideal S512x1024 .bf16) (w : Vec Ideal S1024x1024 .bf16) (z : Vec Ideal S1x512x1024 .f32) (e y u : Vec Ideal S512x1024 .f32)
variable (s : Vec Ideal S1x1024 .f32) (r : Fin 512) (j : Fin 1024)

/-- The product the point leaves in its scratch memory. -/
abbrev product : Vec Ideal S1x512x1024 .f32 := k0_pay2 d w (k0_pay1 (F := Ideal))

theorem product_at : product d w (ix3 0 r j) = ∑ k : Fin 1024, d (ix2 r k) * w (ix2 j k) := by
  pointwise [product, k0_pay2, k0_pay1]
theorem grad_at : k0_pay4 z e y u s (ix2 r j) = (z (ix3 0 r j) + e (ix2 r j)) * slope (y (ix2 r j) + s (ix2 0 j) * u (ix2 r j)) := by
  pointwise [k0_pay4, slope, slopeOf, bend]
theorem skip_at : k0_pay5 z e y u s (ix2 r j) = k0_pay4 z e y u s (ix2 r j) * s (ix2 0 j) := by
  unfold k0_pay5
  generalize k0_pay4 z e y u s = v
  pointwise []
theorem sums_at (v : Vec Ideal S512x1024 .f32) (q : Fin 8) : k0_pay3 u v (ix2 q j) = ∑ i : Fin 512, v (ix2 i j) * u (ix2 i j) := by
  pointwise [k0_pay3]

end Point

variable (m : (ℓ : Loc nD τ sig) → Buf (Elt Ideal) ℓ) (c : Dev nD)

/-- The gradient of what comes before the gate, the gate's weights, the GELU's gradient without the gate, the scan's values, the layer's
    input and the skip's weights. -/
abbrev dpre : FVec Ideal S16384x1024 .bf16 := m ((c.tc : Thread nD τ).loc main_arg0)
abbrev w : FVec Ideal S1024x1024 .bf16 := m ((c.tc : Thread nD τ).loc main_arg1)
abbrev de : FVec Ideal S16384x1024 .f32 := m ((c.tc : Thread nD τ).loc main_arg2)
abbrev y : FVec Ideal S16384x1024 .f32 := m ((c.tc : Thread nD τ).loc main_arg3)
abbrev u : FVec Ideal S16384x1024 .f32 := m ((c.tc : Thread nD τ).loc main_arg4)
abbrev skip : FVec Ideal S1x1024 .f32 := m ((c.tc : Thread nD τ).loc main_arg5)

/-- One element of what the GELU is of, of the product, and of the gradient of what the GELU is of. -/
def inner' (r : Fin 16384) (j : Fin 1024) : EReal := y m c (ix2 r j) + skip m c (ix2 0 j) * u m c (ix2 r j)
def product' (r : Fin 16384) (j : Fin 1024) : EReal := ∑ k : Fin 1024, dpre m c (ix2 r k) * w m c (ix2 j k)
def grad' (r : Fin 16384) (j : Fin 1024) : EReal := (product' m c r j + de m c (ix2 r j)) * slope (inner' m c r j)
def skip' (r : Fin 16384) (j : Fin 1024) : EReal := grad' m c r j * skip m c (ix2 0 j)
def part' (r : Fin 16384) (j : Fin 1024) : EReal := grad' m c r j * u m c (ix2 r j)

/-- A row's place among the 512 rows of block `b`, and the block's sum of the gradient times the input. -/
abbrev rowIn (b : Fin 32) (i : Fin 512) : Fin 16384 := ⟨512 * b.val + i.val, by omega⟩
def sums' (b : Fin 32) (j : Fin 1024) : EReal := ∑ i : Fin 512, part' m c (rowIn b i) j

/-! ## The blocks, as parts of the arrays -/

variable (t : Fin cfg0.N)

theorem lt_N : t.val < 32 := Nat.lt_of_lt_of_eq t.isLt N_0

/-- The block a point works on, and the point's eight rows of the sums. -/
abbrev block : Fin 32 := ⟨t.val, lt_N t⟩
abbrev partAt (q : Fin 8) : Fin 256 := ⟨8 * t.val + q.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel
theorem place4 : ∀ t : Fin cfg0.N, win0_4.index t = ![t.val, 0] := by decide +kernel
theorem place5 : ∀ t : Fin cfg0.N, win0_5.index t = ![0, 0] := by decide +kernel
theorem place6 : ∀ t : Fin cfg0.N, win0_6.index t = ![t.val, 0] := by decide +kernel
theorem place7 : ∀ t : Fin cfg0.N, win0_7.index t = ![t.val, 0] := by decide +kernel
theorem place8 : ∀ t : Fin cfg0.N, win0_8.index t = ![t.val, 0] := by decide +kernel

section Blocks

variable (A : Vec Ideal S16384x1024 .f32) (r : Fin 512) (j : Fin 1024)

theorem read0 (B : Vec Ideal S16384x1024 .bf16) : ((cfg0.win 0).blk t).view.read (Elt Ideal) B (ix2 r j) = B (ix2 (rowIn (block t) r) j) := by
  blk_ext [place0]
theorem read1 (B : Vec Ideal S1024x1024 .bf16) (k : Fin 1024) : ((cfg0.win 1).blk t).view.read (Elt Ideal) B (ix2 j k) = B (ix2 j k) := by
  blk_ext [place1]
theorem read2 : ((cfg0.win 2).blk t).view.read (Elt Ideal) A (ix2 r j) = A (ix2 (rowIn (block t) r) j) := by
  blk_ext [place2]
theorem read3 : ((cfg0.win 3).blk t).view.read (Elt Ideal) A (ix2 r j) = A (ix2 (rowIn (block t) r) j) := by
  blk_ext [place3]
theorem read4 : ((cfg0.win 4).blk t).view.read (Elt Ideal) A (ix2 r j) = A (ix2 (rowIn (block t) r) j) := by
  blk_ext [place4]
theorem read5 (B : Vec Ideal S1x1024 .f32) : ((cfg0.win 5).blk t).view.read (Elt Ideal) B (ix2 0 j) = B (ix2 0 j) := by
  blk_ext [place5]
theorem read6 : ((cfg0.win 6).blk t).view.read (Elt Ideal) A (ix2 r j) = A (ix2 (rowIn (block t) r) j) := by
  blk_ext [place6]
theorem read7 : ((cfg0.win 7).blk t).view.read (Elt Ideal) A (ix2 r j) = A (ix2 (rowIn (block t) r) j) := by
  blk_ext [place7]
theorem read8 (B : Vec Ideal S256x1024 .f32) (q : Fin 8) : ((cfg0.win 8).blk t).view.read (Elt Ideal) B (ix2 q j) = B (ix2 (partAt t q) j) := by
  blk_ext [place8]

/-! What a point computes of its blocks. -/

/-- The point's block of the gradient, and of the gradient of the skip's input. -/
abbrev gradOf : FVec Ideal S512x1024 .f32 :=
  k0_pay4 (product (iblk m c 0 t) (iblk m c 1 t)) (iblk m c 2 t) (iblk m c 3 t) (iblk m c 4 t) (iblk m c 5 t)
abbrev skipOf : FVec Ideal S512x1024 .f32 :=
  k0_pay5 (product (iblk m c 0 t) (iblk m c 1 t)) (iblk m c 2 t) (iblk m c 3 t) (iblk m c 4 t) (iblk m c 5 t)

theorem point_product : product (iblk m c 0 t) (iblk m c 1 t) (ix3 0 r j) = product' m c (rowIn (block t) r) j := by
  rw [product_at]
  exact Finset.sum_congr rfl fun k _ => congrArg₂ (· * ·) (read0 t r k (dpre m c)) (read1 t j (w m c) k)
theorem point_grad : gradOf m c t (ix2 r j) = grad' m c (rowIn (block t) r) j :=
  (grad_at _ _ _ _ _ r j).trans (congrArg₂ (fun a x : EReal => a * slope x)
    (congrArg₂ (fun a b : EReal => a + b) (point_product m c t r j) (read2 t (de m c) r j))
    (congrArg₂ (fun a b : EReal => a + b) (read3 t (y m c) r j)
      (congrArg₂ (fun a b : EReal => a * b) (read5 t j (skip m c)) (read4 t (u m c) r j))))
theorem point_skip : skipOf m c t (ix2 r j) = skip' m c (rowIn (block t) r) j :=
  (skip_at _ _ _ _ _ r j).trans (congrArg₂ (fun a b : EReal => a * b) (point_grad m c t r j) (read5 t j (skip m c)))
theorem point_sums (q : Fin 8) : k0_pay3 (iblk m c 4 t) (gradOf m c t) (ix2 q j) = sums' m c (block t) j :=
  (sums_at _ j _ q).trans (Finset.sum_congr rfl fun i _ => congrArg₂ (fun a b : EReal => a * b) (point_grad m c t i j) (read4 t (u m c) i j))

end Blocks

theorem writes : outsAt0 m c t = (gradOf m c t, skipOf m c t, k0_pay3 (F := Ideal) (iblk m c 4 t) (gradOf m c t)) := by
  unfold outsAt0
  frame_out

/-! ## The three arrays after the run, element by element -/

/-- The point that writes a row, and the row's place in its block; the same of the sums' rows, eight a block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (block (ptOf r)) (inOf r) = r :=
  Fin.ext (by show 512 * (r.val / 512) + r.val % 512 = r.val; omega)
abbrev ptOf' (q : Fin 256) : Fin cfg0.N := ⟨q.val / 8, lt_of_lt_of_eq (show q.val / 8 < 32 by omega) N_0.symm⟩
abbrev inOf' (q : Fin 256) : Fin 8 := ⟨q.val % 8, Nat.mod_lt _ (by decide)⟩
theorem part_back (q : Fin 256) : partAt (ptOf' q) (inOf' q) = q :=
  Fin.ext (by show 8 * (q.val / 8) + q.val % 8 = q.val; omega)
abbrev blockOf (q : Fin 256) : Fin 32 := ⟨q.val / 8, by omega⟩

variable (r : Fin 16384) (q : Fin 256) (j : Fin 1024)

theorem left6 : (dats m 0 c).arrAt 6 cfg0.N (ix2 r j) = grad' m c r j := by
  have h := congrFun (blocks6 m c (ptOf r) (flush0_6 _)) (ix2 (inOf r) j)
  rw [read6, row_back, flushed6, writes] at h
  exact h.trans ((point_grad m c _ (inOf r) j).trans (by rw [row_back]))
theorem left7 : (dats m 0 c).arrAt 7 cfg0.N (ix2 r j) = skip' m c r j := by
  have h := congrFun (blocks7 m c (ptOf r) (flush0_7 _)) (ix2 (inOf r) j)
  rw [read7, row_back, flushed7, writes] at h
  exact h.trans ((point_skip m c _ (inOf r) j).trans (by rw [row_back]))
theorem left8 : (dats m 0 c).arrAt 8 cfg0.N (ix2 q j) = sums' m c (blockOf q) j := by
  have h := congrFun (blocks8 m c (ptOf' q) (flush0_8 _)) (ix2 (inOf' q) j)
  rw [read8, part_back, flushed8, writes] at h
  exact h.trans (point_sums m c _ j (inOf' q))

/-! ## The reference, and that the two are the same -/

theorem reference_inner : val_main_v2 (F := Ideal) (y m c) (u m c) (skip m c) (ix2 r j) = inner' m c r j := by
  rw [val_main_v2_apply, val_main_v1_apply, val_main_v0_apply]
  exact congrArg (fun s => y m c (ix2 r j) + s * u m c (ix2 r j)) (congrArg (skip m c) (same rfl rfl))
theorem reference_bend : val_main_v10 (F := Ideal) (y m c) (u m c) (skip m c) (ix2 r j) = bend (inner' m c r j) := by
  rw [val_main_v10_apply, val_main_v9_apply, val_main_v8_apply, val_main_cst_0_apply, val_main_v7_apply, val_main_v6_apply, val_main_v5_apply,
    val_main_cst_apply, val_main_v4_apply, val_main_v3_apply, reference_inner]
  exact bend_eq (inner' m c r j)
theorem reference_slope : val_main_v40 (F := Ideal) (y m c) (u m c) (skip m c) (ix2 r j) = slope (inner' m c r j) := by
  rw [val_main_v40_apply, val_main_v27_apply, val_main_v26_apply, val_main_cst_6_apply, val_main_v25_apply, val_main_v24_apply, val_main_cst_5_apply,
    val_main_v39_apply, val_main_v38_apply, val_main_v32_apply, val_main_v31_apply, val_main_cst_8_apply, val_main_v30_apply, val_main_v29_apply,
    val_main_cst_7_apply, val_main_v28_apply, val_main_v37_apply, val_main_v36_apply, val_main_cst_10_apply, val_main_v35_apply, val_main_v34_apply,
    val_main_cst_9_apply, val_main_v33_apply, reference_bend, reference_inner]
  exact slopeOf_eq (inner' m c r j) (bend (inner' m c r j))
theorem reference_product : val_main_v44 (F := Ideal) (dpre m c) (w m c) (ix2 r j) = product' m c r j := by
  rw [val_main_v44_apply]
  refine Finset.sum_congr rfl fun k _ => ?_
  rw [val_main_v43_apply, val_main_v41_apply]
  exact congrArg₂ (· * ·) (congrArg (dpre m c) (same rfl rfl)) (congrArg (w m c) (same rfl rfl))
/-- The reference adds the product to the gradient it is given, the call the other way round. -/
theorem reference_grad : val_main_v46 (F := Ideal) (dpre m c) (w m c) (de m c) (y m c) (u m c) (skip m c) (ix2 r j) = grad' m c r j := by
  rw [val_main_v46_apply, val_main_v45_apply, reference_product, reference_slope]
  exact congrArg (· * slope (inner' m c r j)) (add_comm _ _)
theorem reference_skip : val_main_v48 (F := Ideal) (dpre m c) (w m c) (de m c) (y m c) (u m c) (skip m c) (ix2 r j) = skip' m c r j := by
  rw [val_main_v48_apply, val_main_v47_apply, reference_grad]
  exact (mul_comm _ _).trans (congrArg (grad' m c r j * ·) (congrArg (skip m c) (same rfl rfl)))

/-- Row `k` of the block that row `q` of the sums belongs to. -/
theorem place_in (k : Fin 512) : idx_main_v50 (idx_main_v51 (idx_main_v52 (idx_main_v53 (ix2 q j))) k) = ix2 (rowIn (blockOf q) k) j :=
  same (Fin.ext (by
    show ((((q.val * 1024 + j.val) / 8192 * 1 + 0) * 512 + k.val) * 1024 + (q.val * 1024 + j.val) % 1024) / 1024 = 512 * (q.val / 8) + k.val
    omega)) (Fin.ext (by
    show ((((q.val * 1024 + j.val) / 8192 * 1 + 0) * 512 + k.val) * 1024 + (q.val * 1024 + j.val) % 1024) % 1024 = j.val
    omega))
theorem reference_sums : val_main_v53 (F := Ideal) (dpre m c) (w m c) (de m c) (y m c) (u m c) (skip m c) (ix2 q j) = sums' m c (blockOf q) j := by
  rw [val_main_v53_apply, val_main_v52_apply, val_main_v51_apply, val_main_cst_11_apply,
    show FloatOps.ofBits (F := Ideal) .f32 0x00000000#32 = (0 : EReal) from Ideal.ofBits_zero_f32, zero_add]
  refine Finset.sum_congr rfl fun k _ => ?_
  rw [val_main_v50_apply, place_in, val_main_v49_apply, reference_grad]
  rfl

theorem grad_eq : (dats m 0 c).arrAt 6 cfg0.N = val_main_v46 (F := Ideal) (dpre m c) (w m c) (de m c) (y m c) (u m c) (skip m c) := by
  funext p
  obtain ⟨r, j, rfl⟩ : ∃ (r : Fin 16384) (j : Fin 1024), p = ix2 r j := ⟨p 0, p 1, same rfl rfl⟩
  exact (left6 m c r j).trans (reference_grad m c r j).symm
theorem skip_eq : (dats m 0 c).arrAt 7 cfg0.N = val_main_v48 (F := Ideal) (dpre m c) (w m c) (de m c) (y m c) (u m c) (skip m c) := by
  funext p
  obtain ⟨r, j, rfl⟩ : ∃ (r : Fin 16384) (j : Fin 1024), p = ix2 r j := ⟨p 0, p 1, same rfl rfl⟩
  exact (left7 m c r j).trans (reference_skip m c r j).symm
theorem sums_eq : (dats m 0 c).arrAt 8 cfg0.N = val_main_v53 (F := Ideal) (dpre m c) (w m c) (de m c) (y m c) (u m c) (skip m c) := by
  funext p
  obtain ⟨q, j, rfl⟩ : ∃ (q : Fin 256) (j : Fin 1024), p = ix2 q j := ⟨p 0, p 1, same rfl rfl⟩
  exact (left8 m c q j).trans (reference_sums m c q j).symm

/-- The two programs' results are the same, in the extended reals. -/
theorem equal : @Cert.algebraic_Kernel22Ideal_Reference22Ideal Cert.Kernel22Ideal.Gen.facts Cert.Reference22Ideal.Gen.facts := by
  intro m g m' g' hp hargs
  refine ⟨fun c => (dats m 0 c).arrAt 6 cfg0.N, fun c => (dats m 0 c).arrAt 7 cfg0.N, fun c => (dats m 0 c).arrAt 8 cfg0.N, run_blocks m g, ?_⟩
  refine (θ_run _ _ _).mono (fun r hr c => ?_) (Cert.Reference22Ideal.Value.run (F := Ideal) m' g')
  obtain ⟨e0, e1, e2, e3, e4, e5⟩ := hargs c
  obtain ⟨h46, h48, h53, hrest⟩ := hr c
  refine ⟨h46.trans ?_, h48.trans ?_, h53.trans ?_, hrest⟩
  · rw [val_main_v46_eq, e0, e1, e2, e3, e4, e5]
    exact (grad_eq m c).symm
  · rw [val_main_v48_eq, e0, e1, e2, e3, e4, e5]
    exact (skip_eq m c).symm
  · rw [val_main_v53_eq, e0, e1, e2, e3, e4, e5]
    exact (sums_eq m c).symm

end Cert.Kernel22Ideal.Mixers

end
-- ==== Proof.Mixers.Rms.lean ====
/- The root-mean-square norm of a row of 128 numbers, and its gradient as a call computes it and by the chain rule. -/
module

public import proofs.«01_k».proof.Proof.Ffn.Norm

@[expose] public section

noncomputable section

namespace Cert.Mixers.Rms

open Idealize.ShloMosaic Cert.Kernel2Ideal.Fwd Cert.Ffn

/-- A row's mean. -/
def mean (x : Fin 128 → EReal) : EReal := Ideal.div (∑ k, x k) (Ideal.ofBits .f32 0x43000000#32)

/-- The mean of a row's squares, a small number added. -/
def square (z : Fin 128 → EReal) : EReal := mean (fun k => z k * z k) + Ideal.ofBits .f32 0x358637BD#32

/-- One over a row's root mean square. -/
def scale (z : Fin 128 → EReal) : EReal := Ideal.rsqrt (square z)

/-- The gradient with respect to a row `z`, from the gradient `x` with respect to the row's norm: as the call computes it. -/
def gradient (x z : Fin 128 → EReal) (j : Fin 128) : EReal :=
  scale z * x j - z j * (scale z * scale z * scale z) * mean fun k => x k * z k

/-- The same gradient by the chain rule: straight, and through the mean square. -/
def chain (x z : Fin 128 → EReal) (j : Fin 128) : EReal :=
  x j * scale z + Ideal.div ((∑ k, z k * x k) * (Ideal.ofBits .f32 0xBF000000#32 * Ideal.div (scale z) (square z))) (Ideal.ofBits .f32 0x43000000#32)
    * (Ideal.ofBits .f32 0x40000000#32 * z j)

theorem length : Ideal.ofBits .f32 0x43000000#32 = ((128 : ℝ) : EReal) := by
  simp [Ideal.ofBits, Ideal.ieee]
  rw [← EReal.coe_mul]
  norm_num
theorem small : ∃ e : ℝ, 0 < e ∧ Ideal.ofBits .f32 0x358637BD#32 = (e : EReal) := by
  refine ⟨1 * (2 ^ 23 + 407485 : ℕ) * 2 ^ ((107 : ℤ) - 127 - 23), by positivity, ?_⟩
  simp [Ideal.ofBits, Ideal.ieee]

/-- Of a row of numbers, the mean square is a number above zero, and one over its root is a number. -/
theorem scale_number (z : Fin 128 → ℝ) : ∃ s d : ℝ, 0 < s ∧ d * d * s = 1 ∧ scale (fun k => (z k : EReal)) = (d : EReal)
    ∧ square (fun k => (z k : EReal)) = (s : EReal) := by
  obtain ⟨e, he, e'⟩ := small
  have v : square (fun k => (z k : EReal)) = (((∑ k, z k * z k) / 128 + e : ℝ) : EReal) := by
    simp only [square, mean, ← EReal.coe_mul, sum_coe]
    rw [length, div_number _ (by norm_num), e', ← EReal.coe_add]
  have p : 0 < (∑ k, z k * z k) / 128 + e := add_pos_of_nonneg_of_pos (div_nonneg (Finset.sum_nonneg fun k _ => mul_self_nonneg _) (by norm_num)) he
  generalize (∑ k, z k * z k) / 128 + e = s at v p
  refine ⟨s, (Real.sqrt s)⁻¹, p, ?_, ?_, v⟩
  · rw [← mul_inv, Real.mul_self_sqrt p.le, inv_mul_cancel₀ p.ne']
  · rw [scale, v, Ideal.rsqrt_coe, if_neg (not_lt.mpr p.le), if_neg p.ne']

/-- Of a row with an infinity, the mean square is infinite. -/
theorem square_infinite {z : Fin 128 → EReal} (h : ∃ k, z k = ⊤ ∨ z k = ⊥) : square z = ⊤ := by
  have n : ∀ k, 0 ≤ z k * z k := fun k => by
    generalize z k = a
    induction a using EReal.rec with
    | bot => exact le_top.trans_eq (show (⊤ : EReal) = ⊥ * ⊥ from rfl)
    | top => exact le_top.trans_eq (show (⊤ : EReal) = ⊤ * ⊤ from rfl)
    | coe r => rw [← EReal.coe_mul]; exact EReal.coe_nonneg.mpr (mul_self_nonneg r)
  have s : (∑ k, z k * z k) = ⊤ := by
    obtain ⟨k, hk⟩ := h
    refine top_le_iff.mp (le_trans (le_of_eq ?_) (Finset.single_le_sum (fun i _ => n i) (Finset.mem_univ k)))
    rcases hk with e | e <;> rw [e] <;> rfl
  obtain ⟨e, -, he⟩ := small
  rw [square, mean, s, length, Ideal.div_coe (by norm_num), EReal.top_mul_coe_of_pos (by norm_num), he]
  rfl

/-- A row is of numbers, or its norm is all zeros. -/
theorem numbers (z : Fin 128 → EReal) : (∃ y : Fin 128 → ℝ, z = fun k => (y k : EReal)) ∨ scale z = 0 ∧ square z = ⊤ := by
  by_cases h : ∃ k, z k = ⊤ ∨ z k = ⊥
  · have v := square_infinite h
    exact .inr ⟨by rw [scale, v, Ideal.rsqrt_top], v⟩
  · exact .inl ⟨fun k => (z k).toReal, funext fun k => (EReal.coe_toReal (fun e => h ⟨k, .inl e⟩) (fun e => h ⟨k, .inr e⟩)).symm⟩

/-- Every element of a row's norm is a number. -/
theorem normed_number (z : Fin 128 → EReal) (j : Fin 128) : ∃ r : ℝ, z j * scale z = (r : EReal) := by
  rcases numbers z with ⟨y, rfl⟩ | ⟨e, -⟩
  · obtain ⟨s, d, -, -, e, -⟩ := scale_number y
    exact ⟨y j * d, by rw [e, EReal.coe_mul]⟩
  · exact ⟨0, by rw [e, mul_zero]; rfl⟩

/-- The two gradients are one, whatever the row and the incoming gradient hold. -/
theorem gradient_eq (x z : Fin 128 → EReal) (j : Fin 128) : gradient x z j = chain x z j := by
  rcases numbers z with ⟨y, rfl⟩ | ⟨e, v⟩
  · obtain ⟨s, d, hs, hd, e, v⟩ := scale_number y
    have h : (y j * (d * d * d)) * (1 / 128) = -((-1 / 2 * (d * (1 / s))) * (1 / 128) * (2 * y j)) := by
      have : d * (1 / s) = d * d * d := by
        rw [mul_one_div, div_eq_iff hs.ne', mul_assoc, mul_assoc, ← mul_assoc d d s, hd, mul_one]
      rw [this]
      ring
    rw [gradient, chain, mean, e, v, swapped x fun k => (y k : EReal)]
    generalize (∑ k, (y k : EReal) * x k) = S
    rw [length, minus_half, two, Ideal.div_coe (by norm_num), Ideal.div_coe (by norm_num), Ideal.div_coe hs.ne', sub_eq_add_neg, mul_comm (d : EReal)]
    refine congrArg _ ?_
    rw [mul_comm S, ← mul_assoc, mul_assoc S, mul_assoc S, mul_comm S]
    simp only [← EReal.coe_mul]
    rw [h, EReal.coe_neg, EReal.neg_mul, neg_neg]
  · rw [gradient, chain, e, v, show Ideal.div 0 ⊤ = 0 by simp [Ideal.div], length]
    simp only [mul_zero, zero_mul, Ideal.div_coe (show (128 : ℝ) ≠ 0 by norm_num), sub_zero, add_zero]

end Cert.Mixers.Rms

end
-- ==== Proof.Mixers.HgGateHead.lean ====
/- The gradients at the norm and the gate before an HGRN2 layer's last product: what one point of the call writes. -/
module

public import proofs.«01_k».proof.Proof.Gen.Kernel21Ideal.Value
public import proofs.«01_k».proof.Proof.Mixers.Rms
public import proofs.«01_k».proof.Proof.Ffn.Sigmoid
public import proofs.«01_k».proof.Defs
public import Idealize.ShloMosaic.Lib.Pipeline.ValueKit.Acc

@[expose] public section

set_option maxRecDepth 16384

noncomputable section

namespace Cert.Kernel21Ideal.Mixers

open Idealize.ShloMosaic Idealize.ShloMosaic.TcCoe Idealize.SL.Sem Cert.Kernel21Ideal.Gen Cert.Kernel21Ideal.Value Cert.Ffn Cert.Mixers

/-! ## One head

    The call works on eight heads of 128 columns in turn. Here is what it does of one, once for all of them. -/

/-- Column `k` of head `h`. -/
abbrev col (h : Fin 8) (k : Fin 128) : Fin 1024 := ⟨128 * h.val + k.val, by omega⟩

/-- Each column is one of a head's. -/
theorem in_a_head (j : Fin 1024) : ∃ h k, j = col h k :=
  ⟨⟨j.val / 128, by omega⟩, ⟨j.val % 128, Nat.mod_lt _ (by decide)⟩, Fin.ext (by show j.val = 128 * (j.val / 128) + j.val % 128; omega)⟩

theorem slices (h : Fin 8) : S512x1024.Slices ![0, 128 * h.val] S512x128 := by revert h; decide

/-- A head's columns. -/
def part (x : FVec Ideal S512x1024 .f32) (h : Fin 8) : FVec Ideal S512x128 .f32 := extractStridedSlice S512x128 ![0, 128 * h.val] x (slices h)

section Head

variable (d o g : FVec Ideal S512x128 .f32) (n : FVec Ideal S1x128 .f32)

/-- The logistic function of the gate, and the gate times it. -/
def gateOf : FVec Ideal S512x128 .f32 :=
  divf (broadcast S512x128 (Scalar.ofBits .f32 0x3F800000#32)) (addf (broadcast S512x128 (Scalar.ofBits .f32 0x3F800000#32))
    (exp (subf (broadcast S512x128 (Scalar.ofBits .f32 0x00000000#32)) g)))
def backOf : FVec Ideal S512x128 .f32 := mulf d (mulf g (gateOf g))

/-- A row's mean, and one over its root mean square. -/
def meanOf : FVec Ideal S512x1 .f32 :=
  divf (shapeCast S512x1 (multiReduction .add [1] S512 o 0x00000000#32 reduces_S512x128_S512 (.inl rfl) rfl) shapeCasts_S512_S512x1)
    (broadcast S512x1 (Scalar.ofBits .f32 0x43000000#32))
def scaleOf : FVec Ideal S512x1 .f32 := rsqrt (addf (meanOf (mulf o o)) (broadcast S512x1 (Scalar.ofBits .f32 0x358637BD#32)))

/-- A row number in every column, and the gain in every row. -/
def rows (v : FVec Ideal S512x1 .f32) : FVec Ideal S512x128 .f32 := broadcastTo S512x128 v broadcasts_S512x1_S512x128
def gains : FVec Ideal S512x128 .f32 := broadcastTo S512x128 n broadcasts_S1x128_S512x128

/-- A column's sum. -/
def sumOf : FVec Ideal S1x128 .f32 :=
  shapeCast S1x128 (multiReduction .add [0] S128 o 0x00000000#32 reduces_S512x128_S128 (.inl rfl) rfl) shapeCasts_S128_S1x128

/-- The gradient of what the norm is of, the gate's, and the sums of the gain's. -/
def headIn : FVec Ideal S512x128 .f32 :=
  subf (mulf (rows (scaleOf o)) (mulf (backOf d g) (gains n)))
    (mulf (mulf o (rows (mulf (mulf (scaleOf o) (scaleOf o)) (scaleOf o)))) (rows (meanOf (mulf (mulf (backOf d g) (gains n)) o))))
def headGate : FVec Ideal S512x128 .f32 :=
  mulf (mulf d (mulf (mulf o (rows (scaleOf o))) (gains n))) (mulf (gateOf g) (addf (broadcast S512x128 (Scalar.ofBits .f32 0x3F800000#32))
    (mulf g (subf (broadcast S512x128 (Scalar.ofBits .f32 0x3F800000#32)) (gateOf g)))))
def headGain : FVec Ideal S1x128 .f32 := sumOf (mulf (mulf (backOf d g) o) (rows (scaleOf o)))

variable (r : Fin 512) (k : Fin 128)

theorem part_at (x : FVec Ideal S512x1024 .f32) (h : Fin 8) : part x h (ix2 r k) = x (ix2 r (col h k)) := by
  pointwise [part]
theorem gateOf_at : gateOf g (ix2 r k) = logistic (g (ix2 r k)) := by
  rw [← logistic_call]
  pointwise [gateOf]
theorem backOf_at : backOf d g (ix2 r k) = d (ix2 r k) * (g (ix2 r k) * logistic (g (ix2 r k))) := by
  rw [← gateOf_at]
  rfl
theorem meanOf_at : meanOf o (ix2 r 0) = Rms.mean fun k => o (ix2 r k) := by
  unfold Rms.mean
  pointwise [meanOf]
theorem scaleOf_at : scaleOf o (ix2 r 0) = Rms.scale fun k => o (ix2 r k) :=
  congrArg (fun v => Ideal.rsqrt (v + Ideal.ofBits .f32 0x358637BD#32)) (meanOf_at (mulf o o) r)
theorem rows_at (v : FVec Ideal S512x1 .f32) : rows v (ix2 r k) = v (ix2 r 0) := by
  pointwise [rows]
theorem gains_at : gains n (ix2 r k) = n (ix2 0 k) := by
  pointwise [gains]

theorem sumOf_at : sumOf o (ix2 0 k) = ∑ i : Fin 512, o (ix2 i k) := by
  pointwise [sumOf]

theorem headIn_at : headIn d o g n (ix2 r k)
    = Rms.gradient (fun k => d (ix2 r k) * (g (ix2 r k) * logistic (g (ix2 r k))) * n (ix2 0 k)) (fun k => o (ix2 r k)) k := by
  have e : (fun k => mulf (mulf (backOf d g) (gains n)) o (ix2 r k)) = fun k => d (ix2 r k) * (g (ix2 r k) * logistic (g (ix2 r k))) * n (ix2 0 k) * o (ix2 r k) :=
    funext fun k => by
      show backOf d g (ix2 r k) * gains n (ix2 r k) * o (ix2 r k) = _
      rw [backOf_at, gains_at]
  show rows (scaleOf o) (ix2 r k) * (backOf d g (ix2 r k) * gains n (ix2 r k))
    - o (ix2 r k) * rows (mulf (mulf (scaleOf o) (scaleOf o)) (scaleOf o)) (ix2 r k) * rows (meanOf (mulf (mulf (backOf d g) (gains n)) o)) (ix2 r k) = _
  rw [rows_at, rows_at, rows_at, backOf_at, gains_at, meanOf_at, e, Rms.gradient, ← scaleOf_at o r]
  rfl
theorem headGate_at : headGate d o g n (ix2 r k) = d (ix2 r k) * (o (ix2 r k) * Rms.scale (fun k => o (ix2 r k)) * n (ix2 0 k))
    * (logistic (g (ix2 r k)) * (1 + g (ix2 r k) * (1 - logistic (g (ix2 r k))))) := by
  rw [← gateOf_at, ← scaleOf_at, ← gains_at n r k, ← rows_at r k (scaleOf o), ← ofBits_one]
  rfl
theorem headGain_at : headGain d o g (ix2 0 k)
    = ∑ i : Fin 512, d (ix2 i k) * (g (ix2 i k) * logistic (g (ix2 i k))) * o (ix2 i k) * Rms.scale (fun k => o (ix2 i k)) := by
  refine (sumOf_at _ k).trans (Finset.sum_congr rfl fun i _ => ?_)
  rw [← backOf_at, ← scaleOf_at, ← rows_at i k (scaleOf o)]
  rfl

end Head

/-! ## The eight heads side by side -/

/-- Eight blocks of columns, one after another. -/
def joined (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
    concatenates_S512x128_S512x128_S512x128_S512x128_S512x128_S512x128_S512x128_S512x128_S512x1024_d1
/-- The same of one row, and that row in each of eight rows. -/
def inRow (f : Fin 8 → FVec Ideal S1x128 .f32) : FVec Ideal S1x1024 .f32 :=
  concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S1x1024_d1
def eight (v : FVec Ideal S1x1024 .f32) : FVec Ideal S8x1024 .f32 :=
  broadcastTo S8x1024 (shapeCast S1x1024 v shapeCasts_S1x1024_S1x1024) broadcasts_S1x1024_S8x1024

theorem in_head (h : Fin 8) (k : Fin 128) : (128 * h.val + k.val) / 128 = h.val ∧ k.val = (128 * h.val + k.val) % 128 := by omega

theorem joined_at (f : Fin 8 → FVec Ideal S512x128 .f32) (r : Fin 512) (h : Fin 8) (k : Fin 128) : joined f (ix2 r (col h k)) = f h (ix2 r k) :=
  concatenate_ofFn_apply (t := S512x1024) (s₁ := S512x128) 1 f concatenates_S512x128_S512x128_S512x128_S512x128_S512x128_S512x128_S512x128_S512x128_S512x1024_d1 rfl 128 rfl
    (ix2 r (col h k)) h (in_head h k).1 (ix2 r k) (in_head h k).2 fun b hb => match b, hb with
      | 0, _ => rfl
      | 1, hb => absurd rfl hb
theorem inRow_at (f : Fin 8 → FVec Ideal S1x128 .f32) (h : Fin 8) (k : Fin 128) : inRow f (ix2 0 (col h k)) = f h (ix2 0 k) :=
  concatenate_ofFn_apply (t := S1x1024) (s₁ := S1x128) 1 f concatenates_S1x128_S1x128_S1x128_S1x128_S1x128_S1x128_S1x128_S1x128_S1x1024_d1 rfl 128 rfl
    (ix2 0 (col h k)) h (in_head h k).1 (ix2 0 k) (in_head h k).2 fun b hb => match b, hb with
      | 0, _ => rfl
      | 1, hb => absurd rfl hb
theorem eight_at (v : FVec Ideal S1x1024 .f32) (q : Fin 8) (j : Fin 1024) : eight v (ix2 q j) = v (ix2 0 j) := by
  pointwise [eight]

/-! ## One point -/

variable (m : (ℓ : Loc nD τ sig) → Buf (Elt Ideal) ℓ) (c : Dev nD) (t : Fin cfg0.N)

/-- The product a point leaves in its scratch memory. -/
abbrev product (d : Vec Ideal S512x1024 .f32) (w : Vec Ideal S1024x1024 .bf16) : FVec Ideal S512x1024 .f32 :=
  k0_pay3 (F := Ideal) (k0_pay2 (F := Ideal) d w (k0_pay1 (F := Ideal)) : FVec Ideal S1x512x1024 .f32)

theorem product_at (d : Vec Ideal S512x1024 .f32) (w : Vec Ideal S1024x1024 .bf16) (r : Fin 512) (j : Fin 1024) :
    product d w (ix2 r j) = ∑ k : Fin 1024, d (ix2 r k) * w (ix2 j k) := by
  pointwise [product, k0_pay3, k0_pay2, k0_pay1]

/-- What a point has of a head: the product's columns, the recurrence's output, and the gate. -/
abbrev headD (h : Fin 8) : FVec Ideal S512x128 .f32 := part (product (iblk m c 0 t) (iblk m c 1 t)) h
abbrev headO (h : Fin 8) : FVec Ideal S512x128 .f32 := addf (part (iblk m c 2 t) h) (part (iblk m c 3 t) h)
abbrev headG (h : Fin 8) : FVec Ideal S512x128 .f32 := part (iblk m c 4 t) h

theorem writes : outsAt0 m c t = (joined fun h => headIn (headD m c t h) (headO m c t h) (headG m c t h) (iblk m c 5 t),
    joined fun h => headGate (headD m c t h) (headO m c t h) (headG m c t h) (iblk m c 5 t),
    eight (inRow fun h => headGain (headD m c t h) (headO m c t h) (headG m c t h))) := by
  unfold outsAt0
  frame_out
  rfl

end Cert.Kernel21Ideal.Mixers

end
-- ==== Proof.Mixers.AttnResultGrad.lean ====
/- What the gradient of the attention starts from: the gradient of the attention's result, and for each row of each head the product of the two.
   What the call writes, and that the reference has the same. -/
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Mixers.HgGateHead
public import proofs.«01_k».proof.Proof.Ffn.Sums
public import proofs.«01_k».proof.Proof.Fwd.Ref
public import proofs.«01_k».proof.Defs
public import Idealize.ShloMosaic.Lib.Pipeline.ValueKit.Acc

@[expose] public section

set_option maxRecDepth 16384

noncomputable section

namespace Cert.Kernel23Ideal.Mixers

open Idealize.ShloMosaic Idealize.ShloMosaic.TcCoe Idealize.SL.Sem Cert.Kernel23Ideal.Gen Cert.Kernel23Ideal.Value Cert.Ffn
open Cert.Reference23Ideal.Read
open Cert.Reference2Ideal.Fwd (same3)
open Cert.Kernel21Ideal.Mixers (col in_a_head part part_at joined joined_at)

/-! ## What one point writes -/

section Point

variable (d : Vec Ideal S512x1024 .f32) (w : Vec Ideal S1024x1024 .bf16) (r : Fin 512) (j : Fin 1024)

/-- The product a point leaves in its scratch memory. -/
abbrev product : FVec Ideal S512x1024 .f32 := k0_pay5 (F := Ideal) (k0_pay2 (F := Ideal) d w (k0_pay1 (F := Ideal)) : FVec Ideal S1x512x1024 .f32)

theorem product_at : product d w (ix2 r j) = ∑ k : Fin 1024, d (ix2 r k) * w (ix2 j k) := by
  pointwise [product, k0_pay5, k0_pay2, k0_pay1]

/-- Of one head: every row's product of gradient and result, in each of the head's columns. -/
def rowsOf (d o : FVec Ideal S512x128 .f32) : FVec Ideal S512x128 .f32 :=
  broadcastTo S512x128 (shapeCast S512x1 (shapeCast S512x1 (multiReduction (F := Ideal) .add [1] S512 (mulf d o) 0x00000000#32 reduces_S512x128_S512 (.inl rfl) rfl)
    shapeCasts_S512_S512x1) shapeCasts_S512x1_S512x1) broadcasts_S512x1_S512x128

theorem rowsOf_at (d o : FVec Ideal S512x128 .f32) (k : Fin 128) : rowsOf d o (ix2 r k) = ∑ l : Fin 128, d (ix2 r l) * o (ix2 r l) := by
  pointwise [rowsOf]

end Point

variable (m : (ℓ : Loc nD τ sig) → Buf (Elt Ideal) ℓ) (c : Dev nD)

/-- The gradient of the sum after the layer, the last weights, and the attention's result. -/
abbrev dz : FVec Ideal S16384x1024 .f32 := m ((c.tc : Thread nD τ).loc main_arg0)
abbrev w : FVec Ideal S1024x1024 .bf16 := m ((c.tc : Thread nD τ).loc main_arg1)
abbrev o : FVec Ideal S16384x1024 .f32 := m ((c.tc : Thread nD τ).loc main_arg2)

/-- One element of the gradient, and the product of one row of one head. -/
def product' (r : Fin 16384) (j : Fin 1024) : EReal := ∑ k : Fin 1024, dz m c (ix2 r k) * w m c (ix2 j k)
def row' (r : Fin 16384) (h : Fin 8) : EReal := ∑ k : Fin 128, product' m c r (col h k) * o m c (ix2 r (col h k))

/-! ## The blocks, as parts of the arrays -/

variable (t : Fin cfg0.N)

theorem lt_N : t.val < 32 := Nat.lt_of_lt_of_eq t.isLt N_0

/-- A row's place among the 512 rows of the block a point works on. -/
abbrev rowIn (i : Fin 512) : Fin 16384 := ⟨512 * t.val + i.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel
theorem place4 : ∀ t : Fin cfg0.N, win0_4.index t = ![t.val, 0] := by decide +kernel

section Blocks

variable (A : Vec Ideal S16384x1024 .f32) (r : Fin 512) (j : Fin 1024)

theorem read0 : ((cfg0.win 0).blk t).view.read (Elt Ideal) A (ix2 r j) = A (ix2 (rowIn t r) j) := by
  blk_ext [place0]
theorem read1 (B : Vec Ideal S1024x1024 .bf16) (k : Fin 1024) : ((cfg0.win 1).blk t).view.read (Elt Ideal) B (ix2 j k) = B (ix2 j k) := by
  blk_ext [place1]
theorem read2 : ((cfg0.win 2).blk t).view.read (Elt Ideal) A (ix2 r j) = A (ix2 (rowIn t r) j) := by
  blk_ext [place2]
theorem read3 (B : Vec Ideal S16384x1024 .bf16) : ((cfg0.win 3).blk t).view.read (Elt Ideal) B (ix2 r j) = B (ix2 (rowIn t r) j) := by
  blk_ext [place3]
theorem read4 : ((cfg0.win 4).blk t).view.read (Elt Ideal) A (ix2 r j) = A (ix2 (rowIn t r) j) := by
  blk_ext [place4]

end Blocks

/-! What a point has of a head, and computes of it. -/

abbrev headD (h : Fin 8) : FVec Ideal S512x128 .f32 := part (product (iblk m c 0 t) (iblk m c 1 t)) h
abbrev headO (h : Fin 8) : FVec Ideal S512x128 .f32 := part (iblk m c 2 t) h

section Heads

variable (r : Fin 512) (j : Fin 1024) (h : Fin 8) (k : Fin 128)

theorem point_product : product (iblk m c 0 t) (iblk m c 1 t) (ix2 r j) = product' m c (rowIn t r) j := by
  rw [product_at]
  exact Finset.sum_congr rfl fun l _ => congrArg₂ (· * ·) (read0 t (dz m c) r l) (read1 t j (w m c) l)
theorem point_rows : joined (fun h => rowsOf (headD m c t h) (headO m c t h)) (ix2 r (col h k)) = row' m c (rowIn t r) h :=
  (joined_at _ r h k).trans ((rowsOf_at r _ _ k).trans (Finset.sum_congr rfl fun l _ => congrArg₂ (fun a b : EReal => a * b)
    ((part_at r l _ h).trans (point_product m c t r (col h l))) ((part_at r l _ h).trans (read2 t (o m c) r (col h l)))))

end Heads

theorem writes : outsAt0 m c t = (k0_pay4 (product (iblk m c 0 t) (iblk m c 1 t)), joined fun h => rowsOf (headD m c t h) (headO m c t h)) := by
  unfold outsAt0
  frame_out
  rfl

/-! ## The two arrays after the run, element by element -/

/-- The point that writes a row, and the row's place in its block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (ptOf r) (inOf r) = r :=
  Fin.ext (by show 512 * (r.val / 512) + r.val % 512 = r.val; omega)

variable (r : Fin 16384) (j : Fin 1024) (h : Fin 8) (k : Fin 128)

theorem left3 : (dats m 0 c).arrAt 3 cfg0.N (ix2 r j) = product' m c r j := by
  have e := congrFun (blocks3 m c (ptOf r) (flush0_3 _)) (ix2 (inOf r) j)
  rw [read3, row_back, flushed3, writes] at e
  exact e.trans ((point_product m c _ (inOf r) j).trans (by rw [row_back]))
theorem left4 : (dats m 0 c).arrAt 4 cfg0.N (ix2 r (col h k)) = row' m c r h := by
  have e := congrFun (blocks4 m c (ptOf r) (flush0_4 _)) (ix2 (inOf r) (col h k))
  rw [read4, row_back, flushed4, writes] at e
  exact e.trans ((point_rows m c _ (inOf r) h k).trans (by rw [row_back]))

/-! ## The reference, and that the two are the same -/

theorem reference_product : val_main_v2 (F := Ideal) (dz m c) (w m c) (ix2 r j) = product' m c r j := by
  rw [val_main_v2_apply]
  refine Finset.sum_congr rfl fun l _ => ?_
  rw [val_main_v0_apply]
  exact congrArg₂ (· * ·) (congrArg (dz m c) (same rfl rfl)) (congrArg (w m c) (same rfl rfl))

/-- Heads and their columns, from a row's columns and back. -/
theorem heads : idx_main_v4 (ix3 r h k) = ix2 r (col h k) :=
  same (Fin.ext (by show ((r.val * 8 + h.val) * 128 + k.val) / 1024 = r.val; omega))
    (Fin.ext (by show ((r.val * 8 + h.val) * 128 + k.val) % 1024 = 128 * h.val + k.val; omega))
theorem columns : idx_main_v9 (ix2 r (col h k)) = ix3 r h k :=
  same3 (Fin.ext (by show (r.val * 1024 + (128 * h.val + k.val)) / 1024 = r.val; omega))
    (Fin.ext (by show (r.val * 1024 + (128 * h.val + k.val)) / 128 % 8 = h.val; omega))
    (Fin.ext (by show (r.val * 1024 + (128 * h.val + k.val)) % 128 = k.val; omega))

theorem reference_rows : val_main_v9 (F := Ideal) (dz m c) (w m c) (o m c) (ix2 r (col h k)) = row' m c r h := by
  rw [val_main_v9_apply, columns, val_main_v8_apply, val_main_v6_apply, val_main_v5_apply, val_main_cst_apply,
    show FloatOps.ofBits (F := Ideal) .f32 0x00000000#32 = (0 : EReal) from Ideal.ofBits_zero_f32, zero_add]
  refine Finset.sum_congr rfl fun l _ => ?_
  rw [show idx_main_v5 (idx_main_v6 (idx_main_v8 (ix3 r h k))) l = ix3 r h l from same3 rfl rfl rfl, val_main_v4_apply, heads, val_main_v3_apply,
    reference_product]
  rfl

theorem product_eq : (dats m 0 c).arrAt 3 cfg0.N = val_main_v7 (F := Ideal) (dz m c) (w m c) := by
  funext p
  obtain ⟨r, j, rfl⟩ : ∃ (r : Fin 16384) (j : Fin 1024), p = ix2 r j := ⟨p 0, p 1, same rfl rfl⟩
  exact (left3 m c r j).trans (reference_product m c r j).symm
theorem rows_eq : (dats m 0 c).arrAt 4 cfg0.N = val_main_v9 (F := Ideal) (dz m c) (w m c) (o m c) := by
  funext p
  obtain ⟨r, j, rfl⟩ : ∃ (r : Fin 16384) (j : Fin 1024), p = ix2 r j := ⟨p 0, p 1, same rfl rfl⟩
  obtain ⟨h, k, rfl⟩ := in_a_head j
  exact (left4 m c r h k).trans (reference_rows m c r h k).symm

/-- The two programs' results are the same, in the extended reals. -/
theorem equal : @Cert.algebraic_Kernel23Ideal_Reference23Ideal Cert.Kernel23Ideal.Gen.facts Cert.Reference23Ideal.Gen.facts := by
  intro m g m' g' hp hargs
  refine ⟨fun c => (dats m 0 c).arrAt 3 cfg0.N, fun c => (dats m 0 c).arrAt 4 cfg0.N, run_blocks m g, ?_⟩
  refine (θ_run _ _ _).mono (fun r hr c => ?_) (Cert.Reference23Ideal.Value.run (F := Ideal) m' g')
  obtain ⟨e0, e1, e2⟩ := hargs c
  obtain ⟨h7, h9, hrest⟩ := hr c
  refine ⟨h7.trans ?_, h9.trans ?_, hrest⟩
  · rw [val_main_v7_eq, e0, e1]
    exact (product_eq m c).symm
  · rw [val_main_v9_eq, e0, e1, e2]
    exact (rows_eq m c).symm

end Cert.Kernel23Ideal.Mixers

end
-- ==== Proof.Mixers.HgNorm.lean ====
/- The norm and the gate between an HGRN2 layer's scan and its last product: what the call writes, what the reference computes, and that the
   two are the same. -/
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Mixers.HgGateHead
public import proofs.«01_k».proof.Proof.Ffn.Sums
public import proofs.«01_k».proof.Proof.Fwd.Ref
public import proofs.«01_k».proof.Defs

@[expose] public section

set_option maxRecDepth 16384

noncomputable section

namespace Cert.Kernel24Ideal.Mixers

open Idealize.ShloMosaic Idealize.ShloMosaic.TcCoe Idealize.SL.Sem Cert.Kernel24Ideal.Gen Cert.Kernel24Ideal.Value Cert.Ffn Cert.Mixers
open Cert.Reference24Ideal.Read
open Cert.Reference2Ideal.Fwd (same3)
open Cert.Kernel21Ideal.Mixers (col in_a_head part part_at joined joined_at gateOf gateOf_at scaleOf scaleOf_at rows rows_at gains gains_at)

/-! ## The norm and the gate of any arrays, and the reference

    Here are the two halves of what the norm is of, the projections the gate is among, and the gain. -/

section Arrays

variable (a b : FVec Ideal S16384x1024 .f32) (p : FVec Ideal S16384x5120 .f32) (n : FVec Ideal S1x128 .f32)

/-- A column of the gate, among the projections' columns: the last fifth of them. -/
abbrev gateCol (j : Fin 1024) : Fin 5120 := ⟨4096 + j.val, by omega⟩

/-- What the norm is of in one row of one head, one element of the gate, and one element of the result. -/
def row (r : Fin 16384) (h : Fin 8) (k : Fin 128) : EReal := a (ix2 r (col h k)) + b (ix2 r (col h k))
def gate (r : Fin 16384) (j : Fin 1024) : EReal := p (ix2 r (gateCol j))
def result (r : Fin 16384) (h : Fin 8) (k : Fin 128) : EReal :=
  row a b r h k * Rms.scale (row a b r h) * n (ix2 0 k) * (gate p r (col h k) * logistic (gate p r (col h k)))

theorem nought : FloatOps.ofBits (F := Ideal) .f32 0x00000000#32 = (0 : EReal) := Ideal.ofBits_zero_f32
theorem one : FloatOps.ofBits (F := Ideal) .f32 0x3F800000#32 = (1 : EReal) := ofBits_one

variable (r : Fin 16384) (h : Fin 8) (k : Fin 128) (j : Fin 1024)

/-- Heads and their columns, from a row's columns and back. -/
theorem heads : idx_main_v1 (ix3 r h k) = ix2 r (col h k) :=
  same (Fin.ext (by show ((r.val * 8 + h.val) * 128 + k.val) / 1024 = r.val; omega))
    (Fin.ext (by show ((r.val * 8 + h.val) * 128 + k.val) % 1024 = 128 * h.val + k.val; omega))
theorem columns : idx_main_v15 (ix2 r (col h k)) = ix3 r h k :=
  same3 (Fin.ext (by show (r.val * 1024 + (128 * h.val + k.val)) / 1024 = r.val; omega))
    (Fin.ext (by show (r.val * 1024 + (128 * h.val + k.val)) / 128 % 8 = h.val; omega))
    (Fin.ext (by show (r.val * 1024 + (128 * h.val + k.val)) % 128 = k.val; omega))

theorem reference_row : val_main_v1 (F := Ideal) a b (ix3 r h k) = row a b r h k := by
  rw [val_main_v1_apply, heads]
  rfl
theorem reference_square : val_main_v8 (F := Ideal) a b (ix3 r h 0) = Rms.square (row a b r h) := by
  have e : val_main_v4 (F := Ideal) a b (ix3 r h 0) = ∑ k, row a b r h k * row a b r h k := by
    rw [val_main_v4_apply, val_main_v3_apply, val_main_cst_apply, nought, zero_add]
    refine Finset.sum_congr rfl fun k _ => ?_
    rw [val_main_v2_apply, show idx_main_v3 (idx_main_v4 (ix3 r h 0)) k = ix3 r h k from same3 rfl rfl rfl, reference_row]
    rfl
  rw [val_main_v8_apply, val_main_v6_apply, e, val_main_v5_apply, val_main_v7_apply]
  rfl
theorem reference_scale : val_main_v9 (F := Ideal) a b (ix3 r h 0) = Rms.scale (row a b r h) := by
  rw [val_main_v9_apply, reference_square]
  rfl
theorem reference_scales : val_main_v10 (F := Ideal) a b (ix3 r h k) = Rms.scale (row a b r h) := by
  rw [val_main_v10_apply, ← reference_scale]
  exact congrArg _ (same3 rfl rfl rfl)
theorem reference_gain : val_main_v13 (F := Ideal) n (ix3 r h k) = n (ix2 0 k) := by
  rw [val_main_v13_apply, val_main_v12_apply]
  exact congrArg _ (same rfl rfl)
theorem reference_normed : val_main_v15 (F := Ideal) a b n (ix2 r (col h k)) = row a b r h k * Rms.scale (row a b r h) * n (ix2 0 k) := by
  rw [val_main_v15_apply, columns, val_main_v14_apply, val_main_v11_apply, reference_row, reference_scales, reference_gain]
  rfl
theorem reference_gate : val_main_v16 (F := Ideal) p (ix2 r j) = gate p r j := by
  rw [val_main_v16_apply]
  exact congrArg p (same rfl rfl)
theorem reference_logistic : val_main_call0_v5 (F := Ideal) p (ix2 r j) = logistic (gate p r j) := by
  rw [val_main_call0_v5_apply, val_main_call0_v4_apply, val_main_call0_cst_0_apply, val_main_call0_v3_apply, val_main_call0_v2_apply, val_main_call0_cst_apply,
    val_main_call0_v1_apply, val_main_call0_v0_apply, reference_gate, one]
  rfl
theorem reference_result : val_main_v19 (F := Ideal) a b p n (ix2 r (col h k)) = result a b p n r h k := by
  rw [val_main_v19_apply, val_main_v18_apply, reference_normed, val_main_v17_apply, reference_gate, reference_logistic]
  rfl

end Arrays

/-! ## What one point writes -/

section Point

variable (o g : FVec Ideal S512x128 .f32) (n : FVec Ideal S1x128 .f32)

/-- Of one head: the norm, times the gate and its logistic function. -/
def headOut : FVec Ideal S512x128 .f32 := mulf (mulf (mulf o (rows (scaleOf o))) (gains n)) (mulf g (gateOf g))

theorem headOut_at (r : Fin 512) (k : Fin 128) : headOut o g n (ix2 r k)
    = o (ix2 r k) * Rms.scale (fun k => o (ix2 r k)) * n (ix2 0 k) * (g (ix2 r k) * logistic (g (ix2 r k))) := by
  rw [← gateOf_at, ← scaleOf_at, ← gains_at n r k, ← rows_at r k (scaleOf o)]
  rfl

theorem writes (x y z : Vec Ideal S512x1024 .f32) :
    out0_4 x y z n = truncf .bf16 (joined fun h => headOut (addf (part x h) (part y h)) (part z h) n) bitsLt_bf16_f32 := by
  unfold out0_4
  frame_out
  rfl

end Point

variable (m : (ℓ : Loc nD τ sig) → Buf (Elt Ideal) ℓ) (c : Dev nD)

/-- The arguments. -/
abbrev ofw : FVec Ideal S16384x1024 .f32 := m ((c.tc : Thread nD τ).loc main_arg0)
abbrev obw : FVec Ideal S16384x1024 .f32 := m ((c.tc : Thread nD τ).loc main_arg1)
abbrev proj : FVec Ideal S16384x5120 .f32 := m ((c.tc : Thread nD τ).loc main_arg2)
abbrev gain : FVec Ideal S1x128 .f32 := m ((c.tc : Thread nD τ).loc main_arg3)

/-! ## The blocks, as parts of the arrays -/

variable (t : Fin cfg0.N)

theorem lt_N : t.val < 32 := Nat.lt_of_lt_of_eq t.isLt N_0

/-- A row's place among the 512 rows of the block a point works on. -/
abbrev rowIn (i : Fin 512) : Fin 16384 := ⟨512 * t.val + i.val, by have := lt_N t; omega⟩

theorem place0 : ∀ t : Fin cfg0.N, win0_0.index t = ![t.val, 0] := by decide +kernel
theorem place1 : ∀ t : Fin cfg0.N, win0_1.index t = ![t.val, 0] := by decide +kernel
theorem place2 : ∀ t : Fin cfg0.N, win0_2.index t = ![t.val, 4] := by decide +kernel
theorem place3 : ∀ t : Fin cfg0.N, win0_3.index t = ![0, 0] := by decide +kernel
theorem place4 : ∀ t : Fin cfg0.N, win0_4.index t = ![t.val, 0] := by decide +kernel

section Blocks

variable (A : Vec Ideal S16384x1024 .f32) (r : Fin 512) (j : Fin 1024)

theorem read0 : ((cfg0.win 0).blk t).view.read (Elt Ideal) A (ix2 r j) = A (ix2 (rowIn t r) j) := by
  blk_ext [place0]
theorem read1 : ((cfg0.win 1).blk t).view.read (Elt Ideal) A (ix2 r j) = A (ix2 (rowIn t r) j) := by
  blk_ext [place1]
theorem read2 (B : Vec Ideal S16384x5120 .f32) : ((cfg0.win 2).blk t).view.read (Elt Ideal) B (ix2 r j) = B (ix2 (rowIn t r) (gateCol j)) := by
  blk_ext [place2]
theorem read3 (B : Vec Ideal S1x128 .f32) (k : Fin 128) : ((cfg0.win 3).blk t).view.read (Elt Ideal) B (ix2 0 k) = B (ix2 0 k) := by
  blk_ext [place3]
theorem read4 (B : Vec Ideal S16384x1024 .bf16) : ((cfg0.win 4).blk t).view.read (Elt Ideal) B (ix2 r j) = B (ix2 (rowIn t r) j) := by
  blk_ext [place4]

end Blocks

/-! What a point has of a head, and computes of it. -/

abbrev headO (h : Fin 8) : FVec Ideal S512x128 .f32 := addf (part (iblk m c 0 t) h) (part (iblk m c 1 t) h)
abbrev headG (h : Fin 8) : FVec Ideal S512x128 .f32 := part (iblk m c 2 t) h

section Heads

variable (r : Fin 512) (h : Fin 8) (k : Fin 128)

theorem point_row : headO m c t h (ix2 r k) = row (ofw m c) (obw m c) (rowIn t r) h k := by
  show part (iblk m c 0 t) h (ix2 r k) + part (iblk m c 1 t) h (ix2 r k) = _
  rw [part_at, part_at]
  exact congrArg₂ (· + ·) (read0 t (ofw m c) r (col h k)) (read1 t (obw m c) r (col h k))
theorem point_gate : headG m c t h (ix2 r k) = gate (proj m c) (rowIn t r) (col h k) :=
  (part_at r k _ h).trans (read2 t r (col h k) (proj m c))
theorem point_result : joined (fun h => headOut (headO m c t h) (headG m c t h) (iblk m c 3 t)) (ix2 r (col h k))
    = result (ofw m c) (obw m c) (proj m c) (gain m c) (rowIn t r) h k := by
  have e : (iblk m c 3 t : Vec Ideal S1x128 .f32) (ix2 0 k) = gain m c (ix2 0 k) := read3 t (gain m c) k
  rw [joined_at, headOut_at, point_row, point_gate, e, funext fun l => point_row m c t r h l]
  rfl

end Heads

/-! ## The array after the run, element by element, and that the two are the same -/

/-- The point that writes a row, and the row's place in its block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (ptOf r) (inOf r) = r :=
  Fin.ext (by show 512 * (r.val / 512) + r.val % 512 = r.val; omega)

theorem left (r : Fin 16384) (h : Fin 8) (k : Fin 128) :
    (dats m 0 c).arrAt 4 cfg0.N (ix2 r (col h k)) = result (ofw m c) (obw m c) (proj m c) (gain m c) r h k := by
  have e := congrFun (blocks4 m c (ptOf r) (flush0_4 _)) (ix2 (inOf r) (col h k))
  rw [read4, row_back, flushed4, writes] at e
  exact e.trans ((point_result m c _ (inOf r) h k).trans (by rw [row_back]))

theorem result_eq : (dats m 0 c).arrAt 4 cfg0.N = val_main_v19 (F := Ideal) (ofw m c) (obw m c) (proj m c) (gain m c) := by
  funext p
  obtain ⟨r, j, rfl⟩ : ∃ (r : Fin 16384) (j : Fin 1024), p = ix2 r j := ⟨p 0, p 1, same rfl rfl⟩
  obtain ⟨h, k, rfl⟩ := in_a_head j
  exact (left m c r h k).trans (reference_result _ _ _ _ r h k).symm

/-- The two programs' results are the same, in the extended reals. -/
theorem equal : @Cert.algebraic_Kernel24Ideal_Reference24Ideal Cert.Kernel24Ideal.Gen.facts Cert.Reference24Ideal.Gen.facts := by
  intro m g m' g' hp hargs
  refine ⟨fun c => (dats m 0 c).arrAt 4 cfg0.N, run_blocks m g, ?_⟩
  refine (θ_run _ _ _).mono (fun r hr c => ?_) (Cert.Reference24Ideal.Value.run (F := Ideal) m' g')
  obtain ⟨e0, e1, e2, e3⟩ := hargs c
  obtain ⟨h19, hrest⟩ := hr c
  refine ⟨h19.trans ?_, hrest⟩
  rw [val_main_v19_eq, e0, e1, e2, e3]
  exact (result_eq m c).symm

end Cert.Kernel24Ideal.Mixers

end
-- ==== Proof.Mixers.AttnIn.lean ====
/- The attention layer's first product, with the RMS norms of its two latents: what the call writes, and that the reference has the same. -/
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel25Ideal.Mixers

open Idealize.ShloMosaic Idealize.ShloMosaic.TcCoe Idealize.SL.Sem Cert.Kernel25Ideal.Gen Cert.Kernel25Ideal.Value Cert.Ffn
open Cert.Reference25Ideal.Read

/-! ## A row's norm

    The two latents have rows of 384 and of 256 numbers; `len` is the number as the programs write it. -/

/-- One over the root mean square of a row, and one element of the row's norm times the gain there. -/
def scale {n : ℕ} (len : BitVec 32) (z : Fin n → EReal) : EReal :=
  Ideal.rsqrt (Ideal.div (∑ k, z k * z k) (Ideal.ofBits .f32 len) + Ideal.ofBits .f32 0x358637BD#32)
def normed {n : ℕ} (len : BitVec 32) (z : Fin n → EReal) (g : EReal) (k : Fin n) : EReal := z k * scale len z * g

/-- The columns of the product that the first latent, the second, and the rotary part are. -/
abbrev qCol (k : Fin 384) : Fin 768 := ⟨k.val, by omega⟩
abbrev kvCol (k : Fin 256) : Fin 768 := ⟨384 + k.val, by omega⟩
abbrev peCol (k : Fin 128) : Fin 768 := ⟨640 + k.val, by omega⟩

/-! ## What one point writes -/

section Point

variable (d : Vec Ideal S512x1024 .f32) (w : Vec Ideal S1024x768 .bf16) (v : FVec Ideal S1x512x768 .f32) (r : Fin 512)

/-- What a point leaves in its scratch memory. -/
abbrev kept : FVec Ideal S1x512x768 .f32 := k0_pay2 (F := Ideal) d w (k0_pay1 (F := Ideal))

theorem kept_at (j : Fin 768) : k0_pay4 (F := Ideal) (kept d w) (ix2 r j) = ∑ k : Fin 1024, d (ix2 r k) * w (ix2 k j) := by
  pointwise [kept, k0_pay4, k0_pay2, k0_pay1]
theorem q_at (k : Fin 384) : k0_pay5 (F := Ideal) v (ix2 r k) = k0_pay4 (F := Ideal) v (ix2 r (qCol k)) := by
  unfold k0_pay5
  generalize k0_pay4 (F := Ideal) v = y
  pointwise []
theorem kv_at (k : Fin 256) : k0_pay6 (F := Ideal) v (ix2 r k) = k0_pay4 (F := Ideal) v (ix2 r (kvCol k)) := by
  unfold k0_pay6
  generalize k0_pay4 (F := Ideal) v = y
  pointwise []
theorem pe_at (k : Fin 128) : k0_pay7 (F := Ideal) v (ix2 r k) = k0_pay4 (F := Ideal) v (ix2 r (peCol k)) := by
  unfold k0_pay7
  generalize k0_pay4 (F := Ideal) v = y
  pointwise []
theorem qNorm_at (g : Vec Ideal S1x384 .f32) (k : Fin 384) :
    k0_pay9 (F := Ideal) v g (ix2 r k) = normed 0x43C00000#32 (fun k => k0_pay5 (F := Ideal) v (ix2 r k)) (g (ix2 0 k)) k := by
  unfold normed scale k0_pay9
  generalize k0_pay5 (F := Ideal) v = y
  pointwise []
theorem kvNorm_at (g : Vec Ideal S1x256 .f32) (k : Fin 256) :
    k0_pay3 (F := Ideal) (k0_pay8 (F := Ideal) v g) (ix2 r k) = normed 0x43800000#32 (fun k => k0_pay6 (F := Ideal) v (ix2 r k)) (g (ix2 0 k)) k := by
  unfold normed scale k0_pay3 k0_pay8
  generalize k0_pay6 (F := Ideal) v = y
  pointwise []

end Point

variable (m : (ℓ : Loc nD τ sig) → Buf (Elt Ideal) ℓ) (c : Dev nD)

/-- The layer's input, the weights, and the two gains. -/
abbrev h : FVec Ideal S16384x1024 .f32 := m ((c.tc : Thread nD τ).loc main_arg0)
abbrev w : FVec Ideal S1024x768 .bf16 := m ((c.tc : Thread nD τ).loc main_arg1)
abbrev gq : FVec Ideal S1x384 .f32 := m ((c.tc : Thread nD τ).loc main_arg2)
abbrev gkv : FVec Ideal S1x256 .f32 := m ((c.tc : Thread nD τ).loc main_arg3)

/-- One element of the product, and of the two norms. -/
def product' (r : Fin 16384) (j : Fin 768) : EReal := ∑ k : Fin 1024, h m c (ix2 r k) * w m c (ix2 k j)
def qNorm' (r : Fin 16384) (k : Fin 384) : EReal := normed 0x43C00000#32 (fun k => product' m c r (qCol k)) (gq m c (ix2 0 k)) k
def kvNorm' (r : Fin 16384) (k : Fin 256) : EReal := normed 0x43800000#32 (fun k => product' m c r (kvCol k)) (gkv m c (ix2 0 k)) k

/-! ## The blocks, as parts of the arrays -/

variable (t : Fin cfg0.N)

theorem lt_N : t.val < 32 := Nat.lt_of_lt_of_eq t.isLt N_0

/-- A row's place among the 512 rows of the block a point works on. -/
abbrev rowIn (i : Fin 512) : Fin 16384 := ⟨512 * t.val + i.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![0, 0] := by decide +kernel
theorem place3 : ∀ t : Fin cfg0.N, win0_3.index t = ![0, 0] := by decide +kernel
theorem place4 : ∀ t : Fin cfg0.N, win0_4.index t = ![t.val, 0] := by decide +kernel
theorem place5 : ∀ t : Fin cfg0.N, win0_5.index t = ![t.val, 0] := by decide +kernel
theorem place6 : ∀ t : Fin cfg0.N, win0_6.index t = ![t.val, 0] := by decide +kernel
theorem place7 : ∀ t : Fin cfg0.N, win0_7.index t = ![t.val, 0] := by decide +kernel
theorem place8 : ∀ t : Fin cfg0.N, win0_8.index t = ![t.val, 0] := by decide +kernel

section Blocks

variable (r : Fin 512)

theorem read0 (A : Vec Ideal S16384x1024 .f32) (l : Fin 1024) : ((cfg0.win 0).blk t).view.read (Elt Ideal) A (ix2 r l) = A (ix2 (rowIn t r) l) := by
  blk_ext [place0]
theorem read1 (A : Vec Ideal S1024x768 .bf16) (l : Fin 1024) (j : Fin 768) : ((cfg0.win 1).blk t).view.read (Elt Ideal) A (ix2 l j) = A (ix2 l j) := by
  blk_ext [place1]
theorem read2 (A : Vec Ideal S1x384 .f32) (k : Fin 384) : ((cfg0.win 2).blk t).view.read (Elt Ideal) A (ix2 0 k) = A (ix2 0 k) := by
  blk_ext [place2]
theorem read3 (A : Vec Ideal S1x256 .f32) (k : Fin 256) : ((cfg0.win 3).blk t).view.read (Elt Ideal) A (ix2 0 k) = A (ix2 0 k) := by
  blk_ext [place3]
theorem read4 (A : Vec Ideal S16384x384 .f32) (k : Fin 384) : ((cfg0.win 4).blk t).view.read (Elt Ideal) A (ix2 r k) = A (ix2 (rowIn t r) k) := by
  blk_ext [place4]
theorem read5 (A : Vec Ideal S16384x256 .f32) (k : Fin 256) : ((cfg0.win 5).blk t).view.read (Elt Ideal) A (ix2 r k) = A (ix2 (rowIn t r) k) := by
  blk_ext [place5]
theorem read6 (A : Vec Ideal S16384x128 .f32) (k : Fin 128) : ((cfg0.win 6).blk t).view.read (Elt Ideal) A (ix2 r k) = A (ix2 (rowIn t r) k) := by
  blk_ext [place6]
theorem read7 (A : Vec Ideal S16384x384 .bf16) (k : Fin 384) : ((cfg0.win 7).blk t).view.read (Elt Ideal) A (ix2 r k) = A (ix2 (rowIn t r) k) := by
  blk_ext [place7]
theorem read8 (A : Vec Ideal S16384x256 .bf16) (k : Fin 256) : ((cfg0.win 8).blk t).view.read (Elt Ideal) A (ix2 r k) = A (ix2 (rowIn t r) k) := by
  blk_ext [place8]

/-! What a point computes. -/

abbrev left' : FVec Ideal S1x512x768 .f32 := kept (iblk m c 0 t) (iblk m c 1 t)

theorem point_product (j : Fin 768) : k0_pay4 (F := Ideal) (left' m c t) (ix2 r j) = product' m c (rowIn t r) j := by
  rw [kept_at]
  exact Finset.sum_congr rfl fun l _ => congrArg₂ (fun a b : EReal => a * b) (read0 t r (h m c) l) (read1 t (w m c) l j)
theorem point_q (k : Fin 384) : k0_pay5 (F := Ideal) (left' m c t) (ix2 r k) = product' m c (rowIn t r) (qCol k) := (q_at _ r k).trans (point_product m c t r _)
theorem point_kv (k : Fin 256) : k0_pay6 (F := Ideal) (left' m c t) (ix2 r k) = product' m c (rowIn t r) (kvCol k) := (kv_at _ r k).trans (point_product m c t r _)
theorem point_pe (k : Fin 128) : k0_pay7 (F := Ideal) (left' m c t) (ix2 r k) = product' m c (rowIn t r) (peCol k) := (pe_at _ r k).trans (point_product m c t r _)
theorem point_qNorm (k : Fin 384) : k0_pay9 (F := Ideal) (left' m c t) (iblk m c 2 t) (ix2 r k) = qNorm' m c (rowIn t r) k :=
  (qNorm_at _ r _ k).trans (congrArg₂ (normed 0x43C00000#32 · · k) (funext fun l => point_q m c t r l) (read2 t (gq m c) k))
theorem point_kvNorm (k : Fin 256) : k0_pay3 (F := Ideal) (k0_pay8 (F := Ideal) (left' m c t) (iblk m c 3 t)) (ix2 r k) = kvNorm' m c (rowIn t r) k :=
  (kvNorm_at _ r _ k).trans (congrArg₂ (normed 0x43800000#32 · · k) (funext fun l => point_kv m c t r l) (read3 t (gkv m c) k))

end Blocks

theorem writes : outsAt0 m c t = (k0_pay5 (F := Ideal) (left' m c t), k0_pay6 (F := Ideal) (left' m c t), k0_pay7 (F := Ideal) (left' m c t), k0_pay9 (F := Ideal) (left' m c t) (iblk m c 2 t),
    k0_pay3 (F := Ideal) (k0_pay8 (F := Ideal) (left' m c t) (iblk m c 3 t))) := by
  unfold outsAt0
  frame_out

/-! ## The five arrays after the run, element by element -/

/-- The point that writes a row, and the row's place in its block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (ptOf r) (inOf r) = r :=
  Fin.ext (by show 512 * (r.val / 512) + r.val % 512 = r.val; omega)

variable (r : Fin 16384)

theorem left4 (k : Fin 384) : (dats m 0 c).arrAt 4 cfg0.N (ix2 r k) = product' m c r (qCol k) := by
  have e := congrFun (blocks4 m c (ptOf r) (flush0_4 _)) (ix2 (inOf r) k)
  rw [read4, row_back, flushed4, writes] at e
  exact e.trans ((point_q m c _ (inOf r) k).trans (by rw [row_back]))
theorem left5 (k : Fin 256) : (dats m 0 c).arrAt 5 cfg0.N (ix2 r k) = product' m c r (kvCol k) := by
  have e := congrFun (blocks5 m c (ptOf r) (flush0_5 _)) (ix2 (inOf r) k)
  rw [read5, row_back, flushed5, writes] at e
  exact e.trans ((point_kv m c _ (inOf r) k).trans (by rw [row_back]))
theorem left6 (k : Fin 128) : (dats m 0 c).arrAt 6 cfg0.N (ix2 r k) = product' m c r (peCol k) := by
  have e := congrFun (blocks6 m c (ptOf r) (flush0_6 _)) (ix2 (inOf r) k)
  rw [read6, row_back, flushed6, writes] at e
  exact e.trans ((point_pe m c _ (inOf r) k).trans (by rw [row_back]))
theorem left7 (k : Fin 384) : (dats m 0 c).arrAt 7 cfg0.N (ix2 r k) = qNorm' m c r k := by
  have e := congrFun (blocks7 m c (ptOf r) (flush0_7 _)) (ix2 (inOf r) k)
  rw [read7, row_back, flushed7, writes] at e
  exact e.trans ((point_qNorm m c _ (inOf r) k).trans (by rw [row_back]))
theorem left8 (k : Fin 256) : (dats m 0 c).arrAt 8 cfg0.N (ix2 r k) = kvNorm' m c r k := by
  have e := congrFun (blocks8 m c (ptOf r) (flush0_8 _)) (ix2 (inOf r) k)
  rw [read8, row_back, flushed8, writes] at e
  exact e.trans ((point_kvNorm m c _ (inOf r) k).trans (by rw [row_back]))

/-! ## The reference -/

theorem nought : FloatOps.ofBits (F := Ideal) .f32 0x00000000#32 = (0 : EReal) := Ideal.ofBits_zero_f32

theorem reference_product (j : Fin 768) : val_main_v1 (F := Ideal) (h m c) (w m c) (ix2 r j) = product' m c r j := by
  rw [val_main_v1_apply]
  refine Finset.sum_congr rfl fun l _ => ?_
  rw [val_main_v0_apply]
  exact congrArg₂ (fun a b : EReal => a * b) (congrArg (h m c) (same rfl rfl)) (congrArg (w m c) (same rfl rfl))
theorem reference_q (k : Fin 384) : val_main_v2 (F := Ideal) (h m c) (w m c) (ix2 r k) = product' m c r (qCol k) := by
  rw [val_main_v2_apply, ← reference_product]
  exact congrArg _ (same rfl rfl)
theorem reference_kv (k : Fin 256) : val_main_v3 (F := Ideal) (h m c) (w m c) (ix2 r k) = product' m c r (kvCol k) := by
  rw [val_main_v3_apply, ← reference_product]
  exact congrArg _ (same rfl rfl)
theorem reference_pe (k : Fin 128) : val_main_v4 (F := Ideal) (h m c) (w m c) (ix2 r k) = product' m c r (peCol k) := by
  rw [val_main_v4_apply, ← reference_product]
  exact congrArg _ (same rfl rfl)
theorem reference_qNorm (k : Fin 384) : val_main_v17 (F := Ideal) (h m c) (w m c) (gq m c) (ix2 r k) = qNorm' m c r k := by
  have e : val_main_v6 (F := Ideal) (h m c) (w m c) (idx_main_v7 (idx_main_v13 (ix2 r k))) = ∑ k, product' m c r (qCol k) * product' m c r (qCol k) := by
    rw [val_main_v6_apply, val_main_cst_apply, nought, zero_add]
    refine Finset.sum_congr rfl fun l _ => ?_
    rw [val_main_v5_apply, show idx_main_v6 (idx_main_v7 (idx_main_v13 (ix2 r k))) l = ix2 r l from same rfl rfl, reference_q]
    rfl
  rw [val_main_v17_apply, val_main_v16_apply, val_main_v14_apply, reference_q, val_main_v13_apply, val_main_v12_apply, val_main_v11_apply, val_main_v9_apply,
    val_main_v7_apply, e, val_main_v8_apply, val_main_v10_apply, val_main_v15_apply, show idx_main_v15 (ix2 r k) = ix2 0 k from same rfl rfl]
  rfl
theorem reference_kvNorm (k : Fin 256) : val_main_v30 (F := Ideal) (h m c) (w m c) (gkv m c) (ix2 r k) = kvNorm' m c r k := by
  have e : val_main_v19 (F := Ideal) (h m c) (w m c) (idx_main_v20 (idx_main_v26 (ix2 r k))) = ∑ k, product' m c r (kvCol k) * product' m c r (kvCol k) := by
    rw [val_main_v19_apply, val_main_cst_2_apply, nought, zero_add]
    refine Finset.sum_congr rfl fun l _ => ?_
    rw [val_main_v18_apply, show idx_main_v19 (idx_main_v20 (idx_main_v26 (ix2 r k))) l = ix2 r l from same rfl rfl, reference_kv]
    rfl
  rw [val_main_v30_apply, val_main_v29_apply, val_main_v27_apply, reference_kv, val_main_v26_apply, val_main_v25_apply, val_main_v24_apply, val_main_v22_apply,
    val_main_v20_apply, e, val_main_v21_apply, val_main_v23_apply, val_main_v28_apply, show idx_main_v28 (ix2 r k) = ix2 0 k from same rfl rfl]
  rfl

/-! ## That the two are the same -/

/-- Two arrays with the same elements are one. -/
theorem rows_same {n : ℕ} {e : EltTy} {A B : Vec Ideal ⟨2, ![16384, n]⟩ e} (H : ∀ (r : Fin 16384) (k : Fin n), A (ix2 r k) = B (ix2 r k)) : A = B :=
  funext fun p => by
    rw [show p = ix2 (p 0) (p 1) from same rfl rfl]
    exact H (p 0) (p 1)

/-- The two programs' results are the same, in the extended reals. -/
theorem equal : @Cert.algebraic_Kernel25Ideal_Reference25Ideal Cert.Kernel25Ideal.Gen.facts Cert.Reference25Ideal.Gen.facts := by
  intro m g m' g' hp hargs
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, run_blocks m g, ?_⟩
  refine (θ_run _ _ _).mono (fun r hr c => ?_) (Cert.Reference25Ideal.Value.run (F := Ideal) m' g')
  obtain ⟨e0, e1, e2, e3⟩ := hargs c
  obtain ⟨h2, h3, h4, h17, h30, hrest⟩ := hr c
  refine ⟨h2.trans ?_, h3.trans ?_, h4.trans ?_, h17.trans ?_, h30.trans ?_, hrest⟩
  · rw [val_main_v2_eq, e0, e1]
    exact rows_same fun r k => (reference_q m c r k).trans (left4 m c r k).symm
  · rw [val_main_v3_eq, e0, e1]
    exact rows_same fun r k => (reference_kv m c r k).trans (left5 m c r k).symm
  · rw [val_main_v4_eq, e0, e1]
    exact rows_same fun r k => (reference_pe m c r k).trans (left6 m c r k).symm
  · rw [val_main_v17_eq, e0, e1, e2]
    exact rows_same fun r k => (reference_qNorm m c r k).trans (left7 m c r k).symm
  · rw [val_main_v30_eq, e0, e1, e3]
    exact rows_same fun r k => (reference_kvNorm m c r k).trans (left8 m c r k).symm

end Cert.Kernel25Ideal.Mixers

end
-- ==== Proof.Mixers.AttnInput.lean ====
/- The gradient of the input of the attention's layer, from those of its first product and of the sum after the layer: what the call
   writes, and that the reference has the same. -/
module

public import proofs.«01_k».proof.Proof.Gen.Kernel26Ideal.Value
public import proofs.«01_k».proof.Proof.Gen.Reference26Ideal.Run
public import proofs.«01_k».proof.Proof.Gen.Reference26Ideal.Read
public import proofs.«01_k».proof.Proof.Mixers.AttnIn

@[expose] public section

set_option maxRecDepth 16384

noncomputable section

namespace Cert.Kernel26Ideal.Mixers

open Idealize.ShloMosaic Idealize.ShloMosaic.TcCoe Idealize.SL.Sem Cert.Kernel26Ideal.Gen Cert.Kernel26Ideal.Value Cert.Ffn
open Cert.Reference26Ideal.Read
open Cert.Kernel25Ideal.Mixers (ptOf inOf row_back rows_same)

/-- The number that the layer's input is scaled with in the sum. -/
abbrev alpha : EReal := Ideal.ofBits .f32 0x3FD744FD#32

variable (m : (ℓ : Loc nD τ sig) → Buf (Elt Ideal) ℓ) (c : Dev nD)

/-- The gradient of the product, the weights, and the gradient of the sum. -/
abbrev dlat : FVec Ideal S16384x768 .bf16 := m ((c.tc : Thread nD τ).loc main_arg0)
abbrev w : FVec Ideal S1024x768 .bf16 := m ((c.tc : Thread nD τ).loc main_arg1)
abbrev dz : FVec Ideal S16384x1024 .f32 := m ((c.tc : Thread nD τ).loc main_arg2)

/-- One element of the gradient. -/
def grad' (r : Fin 16384) (j : Fin 1024) : EReal :=
  (∑ k : Fin 768, dlat m c (ix2 r k) * w m c (ix2 j k)) + alpha * dz m c (ix2 r j)

/-! ## The blocks, as parts of the arrays -/

variable (t : Fin cfg0.N)

/-- A row's place among the 512 rows of the block a point works on: the points are those of the call forward. -/
abbrev rowIn (i : Fin 512) : Fin 16384 := Cert.Kernel25Ideal.Mixers.rowIn t i

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel

variable (i : Fin 512) (j : Fin 1024)

theorem read0 (A : Vec Ideal S16384x768 .bf16) (k : Fin 768) : ((cfg0.win 0).blk t).view.read (Elt Ideal) A (ix2 i k) = A (ix2 (rowIn t i) k) := by
  blk_ext [place0]
theorem read1 (A : Vec Ideal S1024x768 .bf16) (k : Fin 768) : ((cfg0.win 1).blk t).view.read (Elt Ideal) A (ix2 j k) = A (ix2 j k) := by
  blk_ext [place1]
theorem read2 (A : Vec Ideal S16384x1024 .f32) : ((cfg0.win 2).blk t).view.read (Elt Ideal) A (ix2 i j) = A (ix2 (rowIn t i) j) := by
  blk_ext [place2]
theorem read3 (A : Vec Ideal S16384x1024 .f32) : ((cfg0.win 3).blk t).view.read (Elt Ideal) A (ix2 i j) = A (ix2 (rowIn t i) j) := by
  blk_ext [place3]

/-! ## What one point writes, and the array after the run -/

theorem point_at (x : Vec Ideal S512x768 .bf16) (y : Vec Ideal S1024x768 .bf16) (z : Vec Ideal S512x1024 .f32) :
    k0_pay3 (k0_pay2 x y (k0_pay1 (F := Ideal))) z (ix2 i j) = (∑ k : Fin 768, x (ix2 i k) * y (ix2 j k)) + alpha * z (ix2 i j) := by
  pointwise [k0_pay3, k0_pay2, k0_pay1]

theorem writes : outsAt0 m c t = k0_pay3 (F := Ideal) (k0_pay2 (iblk m c 0 t) (iblk m c 1 t) (k0_pay1 (F := Ideal))) (iblk m c 2 t) := by
  unfold outsAt0
  frame_out

theorem left3 (r : Fin 16384) : (dats m 0 c).arrAt 3 cfg0.N (ix2 r j) = grad' m c r j := by
  have e := congrFun (blocks3 m c (ptOf r) (flush0_3 _)) (ix2 (inOf r) j)
  rw [read3, show rowIn (ptOf r) (inOf r) = r from row_back r, flushed3, writes] at e
  refine e.trans ((point_at (inOf r) j _ _ _).trans ?_)
  unfold grad'
  exact congrArg₂ (fun a b : EReal => a + b)
    (Finset.sum_congr rfl fun k _ => congrArg₂ (fun a b : EReal => a * b) ((read0 (ptOf r) (inOf r) (dlat m c) k).trans (congrArg (fun q => dlat m c (ix2 q k)) (row_back r))) (read1 (ptOf r) j (w m c) k))
    (congrArg (fun a : EReal => alpha * a) ((read2 (ptOf r) (inOf r) j (dz m c)).trans (congrArg (fun q => dz m c (ix2 q j)) (row_back r))))

/-! ## The reference, and that the two are the same -/

theorem reference_grad (r : Fin 16384) : val_main_v9 (F := Ideal) (dlat m c) (w m c) (dz m c) (ix2 r j) = grad' m c r j := by
  rw [val_main_v9_apply, val_main_v6_apply, val_main_v8_apply, val_main_v7_apply, val_main_cst_1_apply]
  refine congrArg (fun a : EReal => a + _) (Finset.sum_congr rfl fun k _ => ?_)
  rw [val_main_v5_apply, val_main_v3_apply]
  exact congrArg₂ (fun a b : EReal => a * b) (congrArg (dlat m c) (same rfl rfl)) (congrArg (w m c) (same rfl rfl))

/-- The two programs' results are the same, in the extended reals. -/
theorem equal : @Cert.algebraic_Kernel26Ideal_Reference26Ideal Cert.Kernel26Ideal.Gen.facts Cert.Reference26Ideal.Gen.facts := by
  intro m g m' g' hp hargs
  refine ⟨fun c => (dats m 0 c).arrAt 3 cfg0.N, run_blocks m g, ?_⟩
  refine (θ_run _ _ _).mono (fun r hr c => ?_) (Cert.Reference26Ideal.Value.run (F := Ideal) m' g')
  obtain ⟨e0, e1, e2⟩ := hargs c
  obtain ⟨h9, hrest⟩ := hr c
  refine ⟨h9.trans ?_, hrest⟩
  rw [val_main_v9_eq, e0, e1, e2]
  exact rows_same fun r k => (reference_grad m c k r).trans (left3 m c k r).symm

end Cert.Kernel26Ideal.Mixers

end
-- ==== Proof.Mixers.AttnWeightIn.lean ====
/- The gradient of the first weights of the attention's layer: the sums the call keeps over the rows, and that the reference's gradient
   is the same. -/
module

public import proofs.«01_k».proof.Proof.Gen.Kernel27Ideal.Value
public import proofs.«01_k».proof.Proof.Gen.Reference27Ideal.Run
public import proofs.«01_k».proof.Proof.Gen.Reference27Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel27Ideal.Mixers

open Idealize.ShloMosaic Idealize.ShloMosaic.TcCoe Idealize.SL.Sem Cert.Kernel27Ideal.Gen Cert.Kernel27Ideal.Value Cert.Ffn
open Cert.Reference27Ideal.Read

variable (m : (ℓ : Loc nD τ sig) → Buf (Elt Ideal) ℓ) (c : Dev nD)

/-- The layer's input, and the gradient of its product with the weights. -/
abbrev h : FVec Ideal S16384x1024 .f32 := m ((c.tc : Thread nD τ).loc main_arg0)
abbrev dlat : FVec Ideal S16384x768 .bf16 := m ((c.tc : Thread nD τ).loc main_arg1)

variable (t : Fin cfg0.N) (i : Fin 1024) (j : Fin 768)

/-- What one row adds to an element of the gradient. -/
def term (r : Fin 16384) : EReal := h m c (ix2 r i) * dlat m c (ix2 r j)

/-! ## What a point adds -/

theorem place0 : ∀ t : Fin cfg0.N, win0_0.index t = ![t.val % 32, 0] := by decide +kernel
theorem place1 : ∀ t : Fin cfg0.N, win0_1.index t = ![t.val % 32, 0] := by decide +kernel

/-- A row of the block a point reads. -/
abbrev rowIn (k : Fin 512) : Fin 16384 := ⟨512 * (t.val % 32) + k.val, by omega⟩

theorem read0 (A : Vec Ideal S16384x1024 .f32) (k : Fin 512) : ((cfg0.win 0).blk t).view.read (Elt Ideal) A (ix2 k i) = A (ix2 (rowIn t k) i) := by
  blk_ext [place0]
theorem read1 (A : Vec Ideal S16384x768 .bf16) (k : Fin 512) : ((cfg0.win 1).blk t).view.read (Elt Ideal) A (ix2 k j) = A (ix2 (rowIn t k) j) := by
  blk_ext [place1]

theorem product_at (x : Vec Ideal S512x1024 .f32) (y : Vec Ideal S512x768 .bf16) (z : Vec Ideal S1x1024x768 .f32) :
    k0_pay2 x y z (ix3 0 i j) = z (ix3 0 i j) + ∑ k : Fin 512, x (ix2 k i) * y (ix2 k j) := by
  pointwise [k0_pay2]
theorem out_at (z : Vec Ideal S1x1024x768 .f32) : k0_pay3 z (ix2 i j) = z (ix3 0 i j) := by
  pointwise [k0_pay3]

/-- The sums after a point, from those before it. -/
abbrev more (z : Vec Ideal S1x1024x768 .f32) : FVec Ideal S1x1024x768 .f32 := k0_pay2 (iblk m c 0 t) (iblk m c 1 t) z

theorem more_at (z : Vec Ideal S1x1024x768 .f32) : more m c t z (ix3 0 i j) = z (ix3 0 i j) + ∑ k : Fin 512, term m c i j (rowIn t k) :=
  (product_at i j _ _ z).trans (congrArg (fun a : EReal => z (ix3 0 i j) + a)
    (Finset.sum_congr rfl fun k _ => congrArg₂ (fun a b : EReal => a * b) (read0 t i (h m c) k) (read1 t j (dlat m c) k)))

/-! ## The sums kept -/

abbrev kept (n : ℕ) (hn : n < cfg0.N) : FVec Ideal S1x1024x768 .f32 := (outsAt0 m c n hn).2

theorem read_back (x : FVec Ideal S1x1024x768 .f32) : View.read (Elt Ideal) (View.whole cc0_scratch0) ((Memref.isWhole_whole cc0_scratch0).unread x) = x :=
  Memref.IsWhole.read_unread (Val := Elt Ideal) (Memref.isWhole_whole cc0_scratch0) x

theorem begins (h0 : t.val % 32 = 0) : kept m c t.val t.isLt = more m c t (k0_pay1 (F := Ideal)) := by
  rw [kept, outsAt0_A m c t h0 (by omega)]
  dsimp only
  frame_out
/-- The last point keeps its sums as the others do. -/
theorem goes_on (h0 : ¬t.val % 32 = 0) : kept m c t.val t.isLt = more m c t (kept m c (t.val - 1) (by omega)) := by
  by_cases h1 : t.val % 32 = 31
  · rw [kept, outsAt0_C m c t h0 h1]
    dsimp only
    frame_out
    rw [read_back]
  · rw [kept, outsAt0_B m c t h0 h1]
    dsimp only
    frame_out
    rw [read_back]
theorem ends (h1 : t.val % 32 = 31) : (outsAt0 m c t.val t.isLt).1 = k0_pay3 (F := Ideal) (kept m c t.val t.isLt) := by
  rw [goes_on m c t (by omega), outsAt0_C m c t (by omega) h1]
  dsimp only
  frame_out
  rw [read_back]

theorem kept_last : kept m c 31 (lt_of_lt_of_eq (by decide) N_0.symm) (ix3 0 i j) = ∑ r, term m c i j r := by
  refine swept (N := 32) (fun n hn => kept m c n (lt_of_lt_of_eq hn N_0.symm) (ix3 0 i j)) (fun _ => term m c i j) (fun n hn h0 => ?_) (fun n hn h0 => ?_) 0 (by decide)
  · exact (congrFun (begins m c ⟨n, lt_of_lt_of_eq hn N_0.symm⟩ h0) _).trans
      ((more_at m c ⟨n, lt_of_lt_of_eq hn N_0.symm⟩ i j _).trans (congrArg (· + _) (by pointwise [k0_pay1])))
  · exact (congrFun (goes_on m c ⟨n, lt_of_lt_of_eq hn N_0.symm⟩ h0) _).trans (more_at m c ⟨n, lt_of_lt_of_eq hn N_0.symm⟩ i j _)

/-! ## What is written, and that it is the reference's gradient -/

theorem left2 : G2 m c (ix2 i j) = ∑ r, term m c i j r := by
  have e : Pipeline.accAt (fun n h => stAt0 m c n h junk0) (stAt0 m c) 0 31 (lt_of_lt_of_eq (by decide) N_0.symm) = outsAt0 m c 31 (lt_of_lt_of_eq (by decide) N_0.symm) :=
    (outsAt0_sweep m c 31 _).symm
  rw [G2_last, e]
  exact (congrFun (ends m c ⟨31, lt_of_lt_of_eq (by decide) N_0.symm⟩ rfl) _).trans ((out_at i j _).trans (kept_last m c i j))

theorem reference_grad : val_main_v5 (F := Ideal) (h m c) (dlat m c) (ix2 i j) = ∑ r, term m c i j r := by
  rw [val_main_v5_apply, val_main_v4_apply, val_main_v3_apply]
  refine Finset.sum_congr rfl fun r _ => (mul_comm _ _).trans ?_
  rw [val_main_v2_apply]
  exact congrArg₂ (fun a b : EReal => a * b) (congrArg (h m c) (same rfl rfl)) (congrArg (dlat m c) (same rfl rfl))

theorem gradient_eq : G2 m c = val_main_v5 (F := Ideal) (h m c) (dlat m c) := by
  funext p
  obtain ⟨i, j, rfl⟩ : ∃ (i : Fin 1024) (j : Fin 768), p = ix2 i j := ⟨p 0, p 1, same rfl rfl⟩
  exact (left2 m c i j).trans (reference_grad m c i j).symm

/-- The two programs' results are the same, in the extended reals. -/
theorem equal : @Cert.algebraic_Kernel27Ideal_Reference27Ideal Cert.Kernel27Ideal.Gen.facts Cert.Reference27Ideal.Gen.facts := by
  intro m g m' g' hp hargs
  refine ⟨fun c => G2 m c, Value.run m g, ?_⟩
  refine (θ_run _ _ _).mono (fun r hr c => ?_) (Cert.Reference27Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel27Ideal.Mixers

end
-- ==== Proof.Mixers.S5Input.lean ====
/- The gradient of an S5 layer's input: the product with the input weights' columns, and the scaled gradient of the sum. What the call
   writes, and that it is the reference's gradient. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel15Ideal.Mixers

open Idealize.ShloMosaic Idealize.ShloMosaic.TcCoe Idealize.SL.Sem Cert.Kernel15Ideal.Gen Cert.Kernel15Ideal.Value Cert.Ffn
open Cert.Reference15Ideal.Read

variable (m : (ℓ : Loc nD τ sig) → Buf (Elt Ideal) ℓ) (c : Dev nD) (t : Fin cfg0.N)

/-- The gradient of the product, the input weights, and the gradient of the sum. -/
abbrev du : FVec Ideal S16384x1024 .f32 := m ((c.tc : Thread nD τ).loc main_arg0)
abbrev w : FVec Ideal S1024x1024 .bf16 := m ((c.tc : Thread nD τ).loc main_arg1)
abbrev dz : FVec Ideal S16384x1024 .f32 := m ((c.tc : Thread nD τ).loc main_arg2)

/-- One element of the gradient. -/
def value (r : Fin 16384) (j : Fin 1024) : EReal :=
  (∑ k : Fin 1024, du m c (ix2 r k) * w m c (ix2 j k)) + Ideal.ofBits .f32 0x3FD744FD#32 * dz m c (ix2 r j)

/-! ## What one point writes -/

theorem element (x : Vec Ideal S512x1024 .f32) (y : Vec Ideal S1024x1024 .bf16) (z : Vec Ideal S512x1024 .f32) (r : Fin 512) (j : Fin 1024) :
    k0_pay3 (k0_pay2 x y (k0_pay1 (F := Ideal))) z (ix2 r j)
      = 0 + (∑ k : Fin 1024, x (ix2 r k) * y (ix2 j k)) + Ideal.ofBits .f32 0x3FD744FD#32 * z (ix2 r j) := by
  pointwise [k0_pay3, k0_pay2, k0_pay1]

theorem writes : outsAt0 m c t = k0_pay3 (F := Ideal) (k0_pay2 (iblk m c 0 t) (iblk m c 1 t) (k0_pay1 (F := Ideal))) (iblk m c 2 t) := by
  unfold outsAt0
  frame_out

/-- Row `r` of the 512 rows a point works on. -/
abbrev rowAt (r : Fin 512) : Fin 16384 := ⟨512 * t.val + r.val, by have : t.val < 32 := Nat.lt_of_lt_of_eq t.isLt N_0; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel

variable (r : Fin 512) (j : Fin 1024)

theorem read0 (A : Vec Ideal S16384x1024 .f32) : ((cfg0.win 0).blk t).view.read (Elt Ideal) A (ix2 r j) = A (ix2 (rowAt t r) j) := by
  blk_ext [place0]
theorem read1 (A : Vec Ideal S1024x1024 .bf16) (k : Fin 1024) : ((cfg0.win 1).blk t).view.read (Elt Ideal) A (ix2 j k) = A (ix2 j k) := by
  blk_ext [place1]
theorem read2 (A : Vec Ideal S16384x1024 .f32) : ((cfg0.win 2).blk t).view.read (Elt Ideal) A (ix2 r j) = A (ix2 (rowAt t r) j) := by
  blk_ext [place2]
theorem read3 (A : Vec Ideal S16384x1024 .f32) : ((cfg0.win 3).blk t).view.read (Elt Ideal) A (ix2 r j) = A (ix2 (rowAt t r) j) := by
  blk_ext [place3]

theorem writes_at : outsAt0 m c t (ix2 r j) = value m c (rowAt t r) j := by
  rw [writes, element, zero_add]
  exact congrArg₂ (· + ·) (Finset.sum_congr rfl fun k _ => congrArg₂ (· * ·) (read0 t r k (du m c)) (read1 t j (w m c) k))
    (congrArg (Ideal.ofBits .f32 0x3FD744FD#32 * ·) (read2 t r j (dz m c)))

/-! ## The array after the run, and the reference's -/

theorem left_at (q : Fin 16384) : (dats m 0 c).arrAt 3 cfg0.N (ix2 q j) = value m c q j := by
  let t : Fin cfg0.N := ⟨q.val / 512, lt_of_lt_of_eq (show q.val / 512 < 32 by omega) N_0.symm⟩
  let x : Fin 512 := ⟨q.val % 512, Nat.mod_lt _ (by decide)⟩
  have e : rowAt t x = q := Fin.ext (by show 512 * (q.val / 512) + q.val % 512 = q.val; omega)
  have b := congrFun (blocks3 m c t (flush0_3 t)) (ix2 x j)
  rw [read3 t, e, flushed3] at b
  exact b.trans ((writes_at m c t x j).trans (by rw [e]))

theorem reference_at (q : Fin 16384) : val_main_v8 (F := Ideal) (du m c) (w m c) (dz m c) (ix2 q j) = value m c q j := by
  rw [val_main_v8_apply, val_main_v5_apply, val_main_v7_apply, val_main_v6_apply, val_main_cst_1_apply]
  refine congrArg (· + _) (Finset.sum_congr rfl fun k _ => ?_)
  rw [val_main_v3_apply]
  exact congrArg₂ (· * ·) (congrArg (du m c) (same rfl rfl)) (congrArg (w m c) (same rfl rfl))

theorem gradient_eq : (dats m 0 c).arrAt 3 cfg0.N = val_main_v8 (F := Ideal) (du m c) (w m c) (dz m c) := by
  funext p
  obtain ⟨q, j, rfl⟩ : ∃ (q : Fin 16384) (j : Fin 1024), p = ix2 q j := ⟨p 0, p 1, same rfl rfl⟩
  exact (left_at m c j q).trans (reference_at m c j q).symm

/-- The two programs' results are the same, in the extended reals. -/
theorem equal : @Cert.algebraic_Kernel15Ideal_Reference15Ideal Cert.Kernel15Ideal.Gen.facts Cert.Reference15Ideal.Gen.facts := by
  intro m g m' g' hp hargs
  refine ⟨fun c => (dats m 0 c).arrAt 3 cfg0.N, run_blocks m g, ?_⟩
  refine (θ_run _ _ _).mono (fun r hr c => ?_) (Cert.Reference15Ideal.Value.run (F := Ideal) m' g')
  obtain ⟨e0, e1, e2⟩ := hargs c
  obtain ⟨h8, hrest⟩ := hr c
  refine ⟨h8.trans ?_, hrest⟩
  rw [val_main_v8_eq, e0, e1, e2]
  exact (gradient_eq m c).symm

end Cert.Kernel15Ideal.Mixers

end
-- ==== Proof.Mixers.HgWeightOut.lean ====
/- The gradient of a mixer's output weights, the HGRN2 layer's and the S5 layers': the sums the call keeps over the rows, and that the
   reference's gradient is the same. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel16Ideal.Mixers

open Idealize.ShloMosaic Idealize.ShloMosaic.TcCoe Idealize.SL.Sem Cert.Kernel16Ideal.Gen Cert.Kernel16Ideal.Value Cert.Ffn
open Cert.Reference16Ideal.Read

variable (m : (ℓ : Loc nD τ sig) → Buf (Elt Ideal) ℓ) (c : Dev nD)

/-- The mixer's output before the product, and the gradient of the sum. -/
abbrev og : FVec Ideal S16384x1024 .bf16 := m ((c.tc : Thread nD τ).loc main_arg0)
abbrev dz : FVec Ideal S16384x1024 .f32 := m ((c.tc : Thread nD τ).loc main_arg1)

variable (t : Fin cfg0.N) (i j : Fin 1024)

/-- One row's part of an element of the gradient. -/
def term (r : Fin 16384) : EReal := og m c (ix2 r i) * dz m c (ix2 r j)

/-! ## What one point adds -/

theorem place0 : ∀ t : Fin cfg0.N, win0_0.index t = ![t.val % 32, 0] := by decide +kernel
theorem place1 : ∀ t : Fin cfg0.N, win0_1.index t = ![t.val % 32, 0] := by decide +kernel

theorem read0 (A : Vec Ideal S16384x1024 .bf16) (k : Fin 512) :
    ((cfg0.win 0).blk t).view.read (Elt Ideal) A (ix2 k i) = A (ix2 ⟨512 * (t.val % 32) + k.val, by omega⟩ i) := by
  blk_ext [place0]
theorem read1 (A : Vec Ideal S16384x1024 .f32) (k : Fin 512) :
    ((cfg0.win 1).blk t).view.read (Elt Ideal) A (ix2 k j) = A (ix2 ⟨512 * (t.val % 32) + k.val, by omega⟩ j) := by
  blk_ext [place1]

theorem product_at (x : Vec Ideal S512x1024 .bf16) (y : Vec Ideal S512x1024 .f32) (z : Vec Ideal S1x1024x1024 .f32) :
    k0_pay2 x y z (ix3 0 i j) = z (ix3 0 i j) + ∑ k : Fin 512, x (ix2 k i) * y (ix2 k j) := by
  pointwise [k0_pay2]

theorem adds (z : Vec Ideal S1x1024x1024 .f32) : k0_pay2 (iblk m c 0 t) (iblk m c 1 t) z (ix3 0 i j)
    = z (ix3 0 i j) + ∑ k : Fin 512, term m c i j ⟨512 * (t.val % 32) + k.val, by omega⟩ :=
  (product_at i j _ _ z).trans (congrArg (z (ix3 0 i j) + ·)
    (Finset.sum_congr rfl fun k _ => congrArg₂ (· * ·) (read0 t i (og m c) k) (read1 t j (dz m c) k)))

/-! ## What is kept, and what is written at the last point -/

theorem read_sum (x : FVec Ideal S1x1024x1024 .f32) : View.read (Elt Ideal) (View.whole cc0_scratch0) ((Memref.isWhole_whole cc0_scratch0).unread x) = x :=
  Memref.IsWhole.read_unread (Val := Elt Ideal) (Memref.isWhole_whole cc0_scratch0) x

/-- The sums kept after a point. -/
abbrev kept (n : ℕ) (hn : n < cfg0.N) : FVec Ideal S1x1024x1024 .f32 := (outsAt0 m c n hn).2

theorem first (h0 : t.val % 32 = 0) : kept m c t.val t.isLt = k0_pay2 (iblk m c 0 t) (iblk m c 1 t) (k0_pay1 (F := Ideal)) := by
  unfold kept
  rw [outsAt0_A m c t h0 (by omega)]
  dsimp only
  frame_out
theorem next (h0 : ¬t.val % 32 = 0) :
    kept m c t.val t.isLt = k0_pay2 (iblk m c 0 t) (iblk m c 1 t) (kept m c (t.val - 1) (by omega)) := by
  unfold kept
  by_cases h1 : t.val % 32 = 31
  · rw [outsAt0_C m c t h0 h1]
    dsimp only
    frame_out
    rw [read_sum]
  · rw [outsAt0_B m c t h0 h1]
    dsimp only
    frame_out
    rw [read_sum]
theorem written (h1 : t.val % 32 = 31) : (outsAt0 m c t.val t.isLt).1 = k0_pay3 (F := Ideal) (kept m c t.val t.isLt) := by
  rw [next m c t (by omega), outsAt0_C m c t (by omega) h1]
  dsimp only
  frame_out
  rw [read_sum]

/-- What is kept after the last point: `swept`, of the one block there is. -/
theorem kept_last : kept m c 31 (lt_of_lt_of_eq (by decide) N_0.symm) (ix3 0 i j) = ∑ r, term m c i j r :=
  swept (N := 32) (fun n hn => kept m c n (lt_of_lt_of_eq hn N_0.symm) (ix3 0 i j)) (fun _ => term m c i j)
    (fun n hn h0 => (congrFun (first m c ⟨n, lt_of_lt_of_eq hn N_0.symm⟩ h0) _).trans
      ((adds m c ⟨n, lt_of_lt_of_eq hn N_0.symm⟩ i j _).trans (congrArg (· + _) (by pointwise [k0_pay1]))))
    (fun n hn h0 => (congrFun (next m c ⟨n, lt_of_lt_of_eq hn N_0.symm⟩ h0) _).trans (adds m c ⟨n, lt_of_lt_of_eq hn N_0.symm⟩ i j _)) 0 (by decide)

theorem out_at (z : Vec Ideal S1x1024x1024 .f32) : k0_pay3 z (ix2 i j) = z (ix3 0 i j) := by
  pointwise [k0_pay3]

theorem fold_kept (n : ℕ) (hn : 0 + n < cfg0.N) : Pipeline.accAt (fun n h => stAt0 m c n h junk0) (stAt0 m c) 0 n hn = outsAt0 m c n (by omega) :=
  (outsAt0_sweep m c n (by omega)).symm

/-- The array after the run, element by element. -/
theorem left_at : G2 m c (ix2 i j) = ∑ r, term m c i j r := by
  have hN : cfg0.N = 32 := N_0
  have e : pt2Of (ix2 i j) = 31 := by
    show 32 * (1 * (i.val / 1024 - 0) + 1 * (j.val / 1024 - 0)) + 31 = 31; omega
  have el : loc2Of (ix2 i j) = ix2 i j :=
    same (Fin.ext (by show i.val % 1024 = i.val; omega)) (Fin.ext (by show j.val % 1024 = j.val; omega))
  have w := written m c ⟨31, by omega⟩ rfl
  dsimp only at w
  unfold G2
  rw [dif_pos (by rw [e]; omega), el, fold_kept]
  simp only [e]
  rw [w, out_at, kept_last]

/-! ## That the reference's gradient is the same -/

theorem reference_at : val_main_v5 (F := Ideal) (og m c) (dz m c) (ix2 i j) = ∑ r, term m c i j r := by
  rw [val_main_v5_apply, val_main_v4_apply, val_main_v3_apply]
  refine Finset.sum_congr rfl fun r _ => (mul_comm _ _).trans ?_
  rw [val_main_v1_apply]
  exact congrArg₂ (· * ·) (congrArg (og m c) (same rfl rfl)) (congrArg (dz m c) (same rfl rfl))

theorem gradient_eq : G2 m c = val_main_v5 (F := Ideal) (og m c) (dz m c) := by
  funext p
  obtain ⟨i, j, rfl⟩ : ∃ i j : Fin 1024, p = ix2 i j := ⟨p 0, p 1, same rfl rfl⟩
  exact (left_at m c i j).trans (reference_at m c i j).symm

/-- The two programs' results are the same, in the extended reals. -/
theorem equal : @Cert.algebraic_Kernel16Ideal_Reference16Ideal Cert.Kernel16Ideal.Gen.facts Cert.Reference16Ideal.Gen.facts := by
  intro m g m' g' hp hargs
  refine ⟨fun c => G2 m c, Value.run m g, ?_⟩
  refine (θ_run _ _ _).mono (fun r hr c => ?_) (Cert.Reference16Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel16Ideal.Mixers

end
-- ==== Proof.Mixers.HgOut.lean ====
/- A mixer's last product, its sum with the layer's input, and the norm, the HGRN2 layer's and the S5 layers': what the call writes, and
   that the reference has the same. After its product the call does what the SwiGLU layer's does. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Ffn.Output

@[expose] public section

set_option maxRecDepth 16384

noncomputable section

namespace Cert.Kernel17Ideal.Mixers

open Idealize.ShloMosaic Idealize.ShloMosaic.TcCoe Idealize.SL.Sem Cert.Kernel17Ideal.Gen Cert.Kernel17Ideal.Value Cert.Ffn
open Cert.Reference17Ideal.Read

variable (m : (ℓ : Loc nD τ sig) → Buf (Elt Ideal) ℓ) (c : Dev nD)

/-- The mixer's output, the weights, the layer's input, the gain and the offset. -/
abbrev og : FVec Ideal S16384x1024 .bf16 := m ((c.tc : Thread nD τ).loc main_arg0)
abbrev w : FVec Ideal S1024x1024 .bf16 := m ((c.tc : Thread nD τ).loc main_arg1)
abbrev h : FVec Ideal S16384x1024 .f32 := m ((c.tc : Thread nD τ).loc main_arg2)
abbrev g : FVec Ideal S1x1024 .f32 := m ((c.tc : Thread nD τ).loc main_arg3)
abbrev b : FVec Ideal S1x1024 .f32 := m ((c.tc : Thread nD τ).loc main_arg4)

/-- A row of the sum, and the row's norm. -/
def sum (r : Fin 16384) (j : Fin 1024) : EReal :=
  Ideal.ofBits .f32 0x3FD744FD#32 * h m c (ix2 r j) + ∑ k : Fin 1024, og m c (ix2 r k) * w m c (ix2 k j)
def norm (r : Fin 16384) (j : Fin 1024) : EReal := centred (sum m c r) j * scale (sum m c r) * g m c (ix2 0 j) + b m c (ix2 0 j)

/-! ## What one point writes -/

variable (t : Fin cfg0.N)

abbrev product : FVec Ideal S1x512x1024 .f32 := k0_pay2 (iblk m c 0 t) (iblk m c 1 t) (k0_pay1 (F := Ideal))

theorem writes : outsAt0 m c t = (k0_pay3 (F := Ideal) (product m c t) (iblk m c 2 t), k0_pay4 (F := Ideal) (product m c t) (iblk m c 2 t) (iblk m c 3 t) (iblk m c 4 t)) := by
  unfold outsAt0
  frame_out

abbrev rowAt (r : Fin 512) : Fin 16384 := ⟨512 * t.val + r.val, by have : t.val < 32 := Nat.lt_of_lt_of_eq t.isLt N_0; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![0, 0] := by decide +kernel
theorem place4 : ∀ t : Fin cfg0.N, win0_4.index t = ![0, 0] := by decide +kernel
theorem place5 : ∀ t : Fin cfg0.N, win0_5.index t = ![t.val, 0] := by decide +kernel
theorem place6 : ∀ t : Fin cfg0.N, win0_6.index t = ![t.val, 0] := by decide +kernel

section Blocks

variable (A : Vec Ideal S16384x1024 .f32) (B : Vec Ideal S1x1024 .f32) (r : Fin 512) (j : Fin 1024)

theorem read0 (A : Vec Ideal S16384x1024 .bf16) : ((cfg0.win 0).blk t).view.read (Elt Ideal) A (ix2 r j) = A (ix2 (rowAt t r) j) := by
  blk_ext [place0]
theorem read1 (A : Vec Ideal S1024x1024 .bf16) (k : Fin 1024) : ((cfg0.win 1).blk t).view.read (Elt Ideal) A (ix2 k j) = A (ix2 k j) := by
  blk_ext [place1]
theorem read2 : ((cfg0.win 2).blk t).view.read (Elt Ideal) A (ix2 r j) = A (ix2 (rowAt t r) j) := by
  blk_ext [place2]
theorem read3 : ((cfg0.win 3).blk t).view.read (Elt Ideal) B (ix2 0 j) = B (ix2 0 j) := by
  blk_ext [place3]
theorem read4 : ((cfg0.win 4).blk t).view.read (Elt Ideal) B (ix2 0 j) = B (ix2 0 j) := by
  blk_ext [place4]
theorem read5 : ((cfg0.win 5).blk t).view.read (Elt Ideal) A (ix2 r j) = A (ix2 (rowAt t r) j) := by
  blk_ext [place5]
theorem read6 : ((cfg0.win 6).blk t).view.read (Elt Ideal) A (ix2 r j) = A (ix2 (rowAt t r) j) := by
  blk_ext [place6]

theorem product_at (x : Vec Ideal S512x1024 .bf16) (y : Vec Ideal S1024x1024 .bf16) :
    k0_pay2 x y (k0_pay1 (F := Ideal)) (ix3 0 r j) = 0 + ∑ k : Fin 1024, x (ix2 r k) * y (ix2 k j) := by
  pointwise [k0_pay2, k0_pay1]

theorem point_sum : k0_pay3 (F := Ideal) (product m c t) (iblk m c 2 t) (ix2 r j) = sum m c (rowAt t r) j := by
  refine (Cert.Kernel8Ideal.Ffn.sum_at (product m c t) (iblk m c 2 t) r j).trans ?_
  rw [product, product_at, zero_add]
  exact congrArg₂ (fun a b => Ideal.ofBits .f32 0x3FD744FD#32 * a + b) (read2 t (h m c) r j)
    (Finset.sum_congr rfl fun k _ => congrArg₂ (· * ·) (read0 t r k (og m c)) (read1 t j (w m c) k))
theorem point_norm : k0_pay4 (F := Ideal) (product m c t) (iblk m c 2 t) (iblk m c 3 t) (iblk m c 4 t) (ix2 r j) = norm m c (rowAt t r) j := by
  refine (Cert.Kernel8Ideal.Ffn.norm_at (product m c t) (iblk m c 2 t) (iblk m c 3 t) (iblk m c 4 t) r j).trans ?_
  rw [show (fun k => Cert.Kernel8Ideal.Gen.k0_pay3 (F := Ideal) (product m c t) (iblk m c 2 t) (ix2 r k)) = sum m c (rowAt t r) from
    funext fun k => point_sum m c t r k]
  exact congrArg₂ (fun a b => centred (sum m c (rowAt t r)) j * scale (sum m c (rowAt t r)) * a + b) (read3 t (g m c) j) (read4 t (b m c) j)

end Blocks

/-! ## The two arrays after the run, element by element -/

/-- The point that writes a row, and the row's place in its block. -/
abbrev ptOf (r : Fin 16384) : Fin cfg0.N := ⟨r.val / 512, lt_of_lt_of_eq (show r.val / 512 < 32 by omega) N_0.symm⟩
abbrev rowIn (r : Fin 16384) : Fin 512 := ⟨r.val % 512, Nat.mod_lt _ (by decide)⟩
theorem row_back (r : Fin 16384) : rowAt (ptOf r) (rowIn r) = r :=
  Fin.ext (by show 512 * (r.val / 512) + r.val % 512 = r.val; omega)

variable (r : Fin 16384) (j : Fin 1024)

theorem left5 : (dats m 0 c).arrAt 5 cfg0.N (ix2 r j) = sum m c r j := by
  have h := congrFun (blocks5 m c (ptOf r) (flush0_5 _)) (ix2 (rowIn r) j)
  rw [read5, row_back, flushed5, writes] at h
  exact h.trans ((point_sum m c _ (rowIn r) j).trans (by rw [row_back]))
theorem left6 : (dats m 0 c).arrAt 6 cfg0.N (ix2 r j) = norm m c r j := by
  have h := congrFun (blocks6 m c (ptOf r) (flush0_6 _)) (ix2 (rowIn r) j)
  rw [read6, row_back, flushed6, writes] at h
  exact h.trans ((point_norm m c _ (rowIn r) j).trans (by rw [row_back]))

/-! ## The reference, and that the two are the same -/

theorem reference_sum : val_main_v5 (F := Ideal) (og m c) (w m c) (h m c) (ix2 r j) = sum m c r j := by
  rw [val_main_v5_apply, val_main_v1_apply, val_main_v0_apply, val_main_cst_apply, val_main_v4_apply]
  exact congrArg (Ideal.ofBits .f32 0x3FD744FD#32 * h m c (ix2 r j) + ·)
    (Finset.sum_congr rfl fun k _ => congrArg₂ (· * ·) (congrArg (og m c) (same rfl rfl)) (congrArg (w m c) (same rfl rfl)))
theorem reference_norm : val_main_v27 (F := Ideal) (og m c) (w m c) (h m c) (g m c) (b m c) (ix2 r j) = norm m c r j := by
  rw [show val_main_v27 (F := Ideal) (og m c) (w m c) (h m c) (g m c) (b m c)
      = norms (val_main_v5 (F := Ideal) (og m c) (w m c) (h m c)) (g m c) (b m c) from rfl, norms_at,
    show row (val_main_v5 (F := Ideal) (og m c) (w m c) (h m c)) r = sum m c r from funext fun k => reference_sum m c r k]
  rfl

theorem sum_eq : (dats m 0 c).arrAt 5 cfg0.N = val_main_v5 (F := Ideal) (og m c) (w m c) (h m c) := by
  funext q
  obtain ⟨r, j, rfl⟩ : ∃ (r : Fin 16384) (j : Fin 1024), q = ix2 r j := ⟨q 0, q 1, same rfl rfl⟩
  exact (left5 m c r j).trans (reference_sum m c r j).symm
theorem norm_eq : (dats m 0 c).arrAt 6 cfg0.N = val_main_v27 (F := Ideal) (og m c) (w m c) (h m c) (g m c) (b m c) := by
  funext q
  obtain ⟨r, j, rfl⟩ : ∃ (r : Fin 16384) (j : Fin 1024), q = ix2 r j := ⟨q 0, q 1, same rfl rfl⟩
  exact (left6 m c r j).trans (reference_norm m c r j).symm

/-- The two programs' results are the same, in the extended reals. -/
theorem equal : @Cert.algebraic_Kernel17Ideal_Reference17Ideal Cert.Kernel17Ideal.Gen.facts Cert.Reference17Ideal.Gen.facts := by
  intro m g m' g' hp hargs
  refine ⟨fun c => (dats m 0 c).arrAt 5 cfg0.N, fun c => (dats m 0 c).arrAt 6 cfg0.N, run_blocks m g, ?_⟩
  refine (θ_run _ _ _).mono (fun r hr c => ?_) (Cert.Reference17Ideal.Value.run (F := Ideal) m' g')
  obtain ⟨e0, e1, e2, e3, e4⟩ := hargs c
  obtain ⟨h5, h27, hrest⟩ := hr c
  refine ⟨h5.trans ?_, h27.trans ?_, hrest⟩
  · rw [val_main_v5_eq, e0, e1, e2]
    exact (sum_eq m c).symm
  · rw [val_main_v27_eq, e0, e1, e2, e3, e4]
    exact (norm_eq m c).symm

end Cert.Kernel17Ideal.Mixers

end
-- ==== Proof.Mixers.S5In.lean ====
/- An S5 layer's first product: what the call writes, and that it is the reference's product. -/
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Ffn.Sums
public import proofs.«01_k».proof.Defs
public import Idealize.ShloMosaic.Lib.Pipeline.ValueKit.Acc

@[expose] public section

set_option maxRecDepth 16384

noncomputable section

namespace Cert.Kernel18Ideal.Mixers

open Idealize.ShloMosaic Idealize.ShloMosaic.TcCoe Idealize.SL.Sem Cert.Kernel18Ideal.Gen Cert.Kernel18Ideal.Value Cert.Ffn
open Cert.Reference18Ideal.Read

variable (m : (ℓ : Loc nD τ sig) → Buf (Elt Ideal) ℓ) (c : Dev nD) (t : Fin cfg0.N)

/-- The layer's input, and the weights. -/
abbrev h : FVec Ideal S16384x1024 .f32 := m ((c.tc : Thread nD τ).loc main_arg0)
abbrev w : FVec Ideal S1024x1024 .bf16 := m ((c.tc : Thread nD τ).loc main_arg1)

/-- One element of the product. -/
def value (q : Fin 16384) (j : Fin 1024) : EReal := ∑ k : Fin 1024, h m c (ix2 q k) * w m c (ix2 k j)

/-! ## What one point writes: 512 rows of the product -/

theorem product_at (x : Vec Ideal S512x1024 .f32) (y : Vec Ideal S1024x1024 .bf16) (r : Fin 512) (j : Fin 1024) :
    k0_pay3 (k0_pay2 x y (k0_pay1 (F := Ideal))) (ix2 r j) = 0 + ∑ k : Fin 1024, x (ix2 r k) * y (ix2 k j) := by
  pointwise [k0_pay3, k0_pay2, k0_pay1]

theorem writes : outsAt0 m c t = k0_pay3 (F := Ideal) (k0_pay2 (iblk m c 0 t) (iblk m c 1 t) (k0_pay1 (F := Ideal))) := by
  unfold outsAt0
  frame_out

/-- Row `r` of the rows a point works on. -/
abbrev rowAt (r : Fin 512) : Fin 16384 := ⟨512 * t.val + r.val, by have : t.val < 32 := Nat.lt_of_lt_of_eq t.isLt N_0; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel

variable (r : Fin 512) (j : Fin 1024)

theorem read0 (A : Vec Ideal S16384x1024 .f32) (k : Fin 1024) : ((cfg0.win 0).blk t).view.read (Elt Ideal) A (ix2 r k) = A (ix2 (rowAt t r) k) := by
  blk_ext [place0]
theorem read1 (A : Vec Ideal S1024x1024 .bf16) (k : Fin 1024) : ((cfg0.win 1).blk t).view.read (Elt Ideal) A (ix2 k j) = A (ix2 k j) := by
  blk_ext [place1]
theorem read2 (A : Vec Ideal S16384x1024 .f32) : ((cfg0.win 2).blk t).view.read (Elt Ideal) A (ix2 r j) = A (ix2 (rowAt t r) j) := by
  blk_ext [place2]

theorem writes_at : outsAt0 m c t (ix2 r j) = value m c (rowAt t r) j := by
  rw [writes, product_at, zero_add]
  exact Finset.sum_congr rfl fun k _ => congrArg₂ (· * ·) (read0 t r (h m c) k) (read1 t j (w m c) k)

/-! ## That the array after the run is the reference's -/

theorem left_at (q : Fin 16384) : (dats m 0 c).arrAt 2 cfg0.N (ix2 q j) = value m c q j := by
  let t : Fin cfg0.N := ⟨q.val / 512, lt_of_lt_of_eq (show q.val / 512 < 32 by omega) N_0.symm⟩
  let x : Fin 512 := ⟨q.val % 512, Nat.mod_lt _ (by decide)⟩
  have e : rowAt t x = q := Fin.ext (by show 512 * (q.val / 512) + q.val % 512 = q.val; omega)
  have b := congrFun (blocks2 m c t (flush0_2 t)) (ix2 x j)
  rw [read2 t, e, flushed2] at b
  exact b.trans ((writes_at m c t x j).trans (by rw [e]))

theorem reference_at (q : Fin 16384) : val_main_v1 (F := Ideal) (h m c) (w m c) (ix2 q j) = value m c q j := by
  rw [val_main_v1_apply]
  refine Finset.sum_congr rfl fun k _ => ?_
  rw [val_main_v0_apply]
  exact congrArg₂ (· * ·) (congrArg (h m c) (same rfl rfl)) (congrArg (w m c) (same rfl rfl))

theorem product_eq : (dats m 0 c).arrAt 2 cfg0.N = val_main_v1 (F := Ideal) (h m c) (w m c) := by
  funext p
  obtain ⟨q, j, rfl⟩ : ∃ (q : Fin 16384) (j : Fin 1024), p = ix2 q j := ⟨p 0, p 1, same rfl rfl⟩
  exact (left_at m c j q).trans (reference_at m c j q).symm

/-- The two programs' results are the same, in the extended reals. -/
theorem equal : @Cert.algebraic_Kernel18Ideal_Reference18Ideal Cert.Kernel18Ideal.Gen.facts Cert.Reference18Ideal.Gen.facts := by
  intro m g m' g' hp hargs
  refine ⟨fun c => (dats m 0 c).arrAt 2 cfg0.N, run_blocks m g, ?_⟩
  refine (θ_run _ _ _).mono (fun r hr c => ?_) (Cert.Reference18Ideal.Value.run (F := Ideal) m' g')
  obtain ⟨e0, e1⟩ := hargs c
  obtain ⟨h1, hrest⟩ := hr c
  refine ⟨h1.trans ?_, hrest⟩
  rw [val_main_v1_eq, e0, e1]
  exact (product_eq m c).symm

end Cert.Kernel18Ideal.Mixers

end
-- ==== Proof.Mixers.S5WeightIn.lean ====
/- The gradient of an S5 layer's first weights: the sums the call keeps over the rows, and that the reference's gradient is the same. What
   a point adds, and how the last point's sums are written, is what it is in the gradient of the last weights (HgWeightOut). -/
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Mixers.HgWeightOut

@[expose] public section

set_option maxRecDepth 16384

noncomputable section

namespace Cert.Kernel19Ideal.Mixers

open Idealize.ShloMosaic Idealize.ShloMosaic.TcCoe Idealize.SL.Sem Cert.Kernel19Ideal.Gen Cert.Kernel19Ideal.Value Cert.Ffn
open Cert.Reference19Ideal.Read

variable (m : (ℓ : Loc nD τ sig) → Buf (Elt Ideal) ℓ) (c : Dev nD)

/-- The layer's input, and the gradient of the product. -/
abbrev h : FVec Ideal S16384x1024 .f32 := m ((c.tc : Thread nD τ).loc main_arg0)
abbrev du : FVec Ideal S16384x1024 .f32 := m ((c.tc : Thread nD τ).loc main_arg1)

variable (t : Fin cfg0.N) (i j : Fin 1024)

/-- One row's part of an element of the gradient. -/
def part (r : Fin 16384) : EReal := h m c (ix2 r i) * du m c (ix2 r j)

/-! ## The sums kept -/

theorem place0 : ∀ t : Fin cfg0.N, win0_0.index t = ![t.val % 32, 0] := by decide +kernel
theorem place1 : ∀ t : Fin cfg0.N, win0_1.index t = ![t.val % 32, 0] := by decide +kernel

theorem read0 (A : Vec Ideal S16384x1024 .f32) (k : Fin 512) :
    ((cfg0.win 0).blk t).view.read (Elt Ideal) A (ix2 k i) = A (ix2 ⟨512 * (t.val % 32) + k.val, by omega⟩ i) := by
  blk_ext [place0]
theorem read1 (A : Vec Ideal S16384x1024 .f32) (k : Fin 512) :
    ((cfg0.win 1).blk t).view.read (Elt Ideal) A (ix2 k j) = A (ix2 ⟨512 * (t.val % 32) + k.val, by omega⟩ j) := by
  blk_ext [place1]

/-- A point adds its rows' parts. -/
theorem adds (z : Vec Ideal S1x1024x1024 .f32) : k0_pay2 (iblk m c 0 t) (iblk m c 1 t) z (ix3 0 i j)
    = z (ix3 0 i j) + ∑ k : Fin 512, part m c i j ⟨512 * (t.val % 32) + k.val, by omega⟩ :=
  (Cert.Kernel16Ideal.Mixers.product_at i j (iblk m c 0 t) (iblk m c 1 t) z).trans (congrArg (z (ix3 0 i j) + ·)
    (Finset.sum_congr rfl fun k _ => congrArg₂ (· * ·) (read0 t i (h m c) k) (read1 t j (du m c) k)))

abbrev kept (n : ℕ) (hn : n < cfg0.N) : FVec Ideal S1x1024x1024 .f32 := (outsAt0 m c n hn).2

theorem read_kept (x : FVec Ideal S1x1024x1024 .f32) : View.read (Elt Ideal) (View.whole cc0_scratch0) ((Memref.isWhole_whole cc0_scratch0).unread x) = x :=
  Memref.IsWhole.read_unread (Val := Elt Ideal) (Memref.isWhole_whole cc0_scratch0) x

theorem first (h0 : t.val % 32 = 0) : kept m c t.val t.isLt = k0_pay2 (iblk m c 0 t) (iblk m c 1 t) (k0_pay1 (F := Ideal)) := by
  rw [kept, outsAt0_A m c t h0 (by omega)]
  dsimp only
  frame_out
theorem middle (h0 : ¬t.val % 32 = 0) (h1 : ¬t.val % 32 = 31) :
    kept m c t.val t.isLt = k0_pay2 (iblk m c 0 t) (iblk m c 1 t) (kept m c (t.val - 1) (by omega)) := by
  rw [kept, outsAt0_B m c t h0 h1]
  dsimp only
  frame_out
  rw [read_kept]
/-- The last point keeps its sums too, and writes them. -/
theorem last (h1 : t.val % 32 = 31) :
    kept m c t.val t.isLt = k0_pay2 (iblk m c 0 t) (iblk m c 1 t) (kept m c (t.val - 1) (by omega))
      ∧ (outsAt0 m c t.val t.isLt).1 = k0_pay3 (F := Ideal) (k0_pay2 (iblk m c 0 t) (iblk m c 1 t) (kept m c (t.val - 1) (by omega))) := by
  rw [kept, outsAt0_C m c t (by omega) h1]
  dsimp only
  constructor <;> frame_out <;> rw [read_kept]

theorem kept_last : kept m c 31 (lt_of_lt_of_eq (by decide) N_0.symm) (ix3 0 i j) = ∑ r, part m c i j r := by
  refine swept (N := 32) (fun n hn => kept m c n (lt_of_lt_of_eq hn N_0.symm) (ix3 0 i j)) (fun _ => part m c i j) (fun n hn h0 => ?_) (fun n hn h0 => ?_) 0 (by decide)
  · exact (congrFun (first m c ⟨n, lt_of_lt_of_eq hn N_0.symm⟩ h0) _).trans
      ((adds m c ⟨n, lt_of_lt_of_eq hn N_0.symm⟩ i j _).trans (congrArg (· + _) (by pointwise [k0_pay1])))
  · have e := if h1 : n % 32 = 31 then (last m c ⟨n, lt_of_lt_of_eq hn N_0.symm⟩ h1).1 else middle m c ⟨n, lt_of_lt_of_eq hn N_0.symm⟩ h0 h1
    exact (congrFun e _).trans (adds m c ⟨n, lt_of_lt_of_eq hn N_0.symm⟩ i j _)

/-! ## What is written, and that it is the reference's gradient -/

theorem written_at (z : Vec Ideal S1x1024x1024 .f32) : k0_pay3 z (ix2 i j) = z (ix3 0 i j) := Cert.Kernel16Ideal.Mixers.out_at i j z

theorem fold_kept (n : ℕ) (hn : 0 + n < cfg0.N) : Pipeline.accAt (fun n h => stAt0 m c n h junk0) (stAt0 m c) 0 n hn = outsAt0 m c n (by omega) :=
  (outsAt0_sweep m c n (by omega)).symm

theorem left_at : G2 m c (ix2 i j) = ∑ r, part m c i j r := by
  have hN : cfg0.N = 32 := N_0
  have e : pt2Of (ix2 i j) = 31 := by
    show 32 * (1 * (i.val / 1024 - 0) + 1 * (j.val / 1024 - 0)) + 31 = 31; omega
  have el : loc2Of (ix2 i j) = ix2 i j :=
    same (Fin.ext (by show i.val % 1024 = i.val; omega)) (Fin.ext (by show j.val % 1024 = j.val; omega))
  obtain ⟨k, w⟩ := last m c ⟨31, by omega⟩ rfl
  rw [← k] at w
  dsimp only at w
  unfold G2
  rw [dif_pos (by rw [e]; omega), el, fold_kept]
  simp only [e]
  rw [w, written_at, kept_last]

theorem reference_at : val_main_v4 (F := Ideal) (h m c) (du m c) (ix2 i j) = ∑ r, part m c i j r := by
  rw [val_main_v4_apply, val_main_v3_apply, val_main_v2_apply]
  exact Finset.sum_congr rfl fun r _ => (mul_comm _ _).trans (congrArg₂ (· * ·) (congrArg (h m c) (same rfl rfl)) (congrArg (du m c) (same rfl rfl)))

theorem gradient_eq : G2 m c = val_main_v4 (F := Ideal) (h m c) (du m c) := by
  funext p
  obtain ⟨i, j, rfl⟩ : ∃ i j : Fin 1024, p = ix2 i j := ⟨p 0, p 1, same rfl rfl⟩
  exact (left_at m c i j).trans (reference_at m c i j).symm

/-- The two programs' results are the same, in the extended reals. -/
theorem equal : @Cert.algebraic_Kernel19Ideal_Reference19Ideal Cert.Kernel19Ideal.Gen.facts Cert.Reference19Ideal.Gen.facts := by
  intro m g m' g' hp hargs
  refine ⟨fun c => G2 m c, Value.run m g, ?_⟩
  refine (θ_run _ _ _).mono (fun r hr c => ?_) (Cert.Reference19Ideal.Value.run (F := Ideal) m' g')
  obtain ⟨e0, e1⟩ := hargs c
  obtain ⟨h4, hrest⟩ := hr c
  refine ⟨h4.trans ?_, hrest⟩
  rw [val_main_v4_eq, e0, e1]
  exact (gradient_eq m c).symm

end Cert.Kernel19Ideal.Mixers

end
-- ==== Proof.Mixers.S5WeightGate.lean ====
/- The gradient of the weights of an S5 layer's gate: the sums the call keeps over the rows, and that the reference's gradient is the same.
   What a point adds, and how the last point's sums are written, is what it is in the gradient of the last weights (HgWeightOut). -/
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Mixers.HgWeightOut

@[expose] public section

set_option maxRecDepth 16384

noncomputable section

namespace Cert.Kernel20Ideal.Mixers

open Idealize.ShloMosaic Idealize.ShloMosaic.TcCoe Idealize.SL.Sem Cert.Kernel20Ideal.Gen Cert.Kernel20Ideal.Value Cert.Ffn
open Cert.Reference20Ideal.Read

variable (m : (ℓ : Loc nD τ sig) → Buf (Elt Ideal) ℓ) (c : Dev nD)

/-- The values the gate's product is of, and the gradient of what the gate is the sigmoid of. -/
abbrev y : FVec Ideal S16384x1024 .f32 := m ((c.tc : Thread nD τ).loc main_arg0)
abbrev dpre : FVec Ideal S16384x1024 .bf16 := m ((c.tc : Thread nD τ).loc main_arg1)

variable (t : Fin cfg0.N) (i j : Fin 1024)

/-- One row's part of an element of the gradient. -/
def part (r : Fin 16384) : EReal := y m c (ix2 r i) * dpre m c (ix2 r j)

/-! ## The sums kept -/

theorem place0 : ∀ t : Fin cfg0.N, win0_0.index t = ![t.val % 32, 0] := by decide +kernel
theorem place1 : ∀ t : Fin cfg0.N, win0_1.index t = ![t.val % 32, 0] := by decide +kernel

theorem read0 (A : Vec Ideal S16384x1024 .f32) (k : Fin 512) :
    ((cfg0.win 0).blk t).view.read (Elt Ideal) A (ix2 k i) = A (ix2 ⟨512 * (t.val % 32) + k.val, by omega⟩ i) := by
  blk_ext [place0]
theorem read1 (A : Vec Ideal S16384x1024 .bf16) (k : Fin 512) :
    ((cfg0.win 1).blk t).view.read (Elt Ideal) A (ix2 k j) = A (ix2 ⟨512 * (t.val % 32) + k.val, by omega⟩ j) := by
  blk_ext [place1]

/-- What a point makes of the sums kept before it, and the sums kept after point `n`. -/
abbrev more (z : Vec Ideal S1x1024x1024 .f32) : FVec Ideal S1x1024x1024 .f32 := k0_pay2 (iblk m c 0 t) (iblk m c 1 t) z
abbrev kept (n : ℕ) (hn : n < cfg0.N) : FVec Ideal S1x1024x1024 .f32 := (outsAt0 m c n hn).2

theorem more_at (z : Vec Ideal S1x1024x1024 .f32) :
    more m c t z (ix3 0 i j) = z (ix3 0 i j) + ∑ k : Fin 512, part m c i j ⟨512 * (t.val % 32) + k.val, by omega⟩ :=
  (Cert.Kernel16Ideal.Mixers.product_at i j (iblk m c 0 t) (iblk m c 1 t) z).trans (congrArg (z (ix3 0 i j) + ·)
    (Finset.sum_congr rfl fun k _ => congrArg₂ (· * ·) (read0 t i (y m c) k) (read1 t j (dpre m c) k)))
theorem written_at (z : Vec Ideal S1x1024x1024 .f32) : k0_pay3 z (ix2 i j) = z (ix3 0 i j) := Cert.Kernel16Ideal.Mixers.out_at i j z

theorem read_kept (x : FVec Ideal S1x1024x1024 .f32) : View.read (Elt Ideal) (View.whole cc0_scratch0) ((Memref.isWhole_whole cc0_scratch0).unread x) = x :=
  Memref.IsWhole.read_unread (Val := Elt Ideal) (Memref.isWhole_whole cc0_scratch0) x

theorem first (h0 : t.val % 32 = 0) : kept m c t.val t.isLt = more m c t (k0_pay1 (F := Ideal)) := by
  rw [kept, outsAt0_A m c t h0 (by omega)]
  dsimp only
  frame_out
theorem middle (h0 : ¬t.val % 32 = 0) (h1 : ¬t.val % 32 = 31) : kept m c t.val t.isLt = more m c t (kept m c (t.val - 1) (by omega)) := by
  rw [kept, outsAt0_B m c t h0 h1]
  dsimp only
  frame_out
  rw [read_kept]
/-- The last point keeps its sums too, and writes them. -/
theorem last (h1 : t.val % 32 = 31) : kept m c t.val t.isLt = more m c t (kept m c (t.val - 1) (by omega))
    ∧ (outsAt0 m c t.val t.isLt).1 = k0_pay3 (F := Ideal) (more m c t (kept m c (t.val - 1) (by omega))) := by
  rw [kept, outsAt0_C m c t (by omega) h1]
  dsimp only
  constructor <;> frame_out <;> rw [read_kept]

theorem kept_last : kept m c 31 (lt_of_lt_of_eq (by decide) N_0.symm) (ix3 0 i j) = ∑ r, part m c i j r := by
  refine swept (N := 32) (fun n hn => kept m c n (lt_of_lt_of_eq hn N_0.symm) (ix3 0 i j)) (fun _ => part m c i j) (fun n hn h0 => ?_) (fun n hn h0 => ?_) 0 (by decide)
  · exact (congrFun (first m c ⟨n, lt_of_lt_of_eq hn N_0.symm⟩ h0) _).trans
      ((more_at m c ⟨n, lt_of_lt_of_eq hn N_0.symm⟩ i j _).trans (congrArg (· + _) (by pointwise [k0_pay1])))
  · have e := if h1 : n % 32 = 31 then (last m c ⟨n, lt_of_lt_of_eq hn N_0.symm⟩ h1).1 else middle m c ⟨n, lt_of_lt_of_eq hn N_0.symm⟩ h0 h1
    exact (congrFun e _).trans (more_at m c ⟨n, lt_of_lt_of_eq hn N_0.symm⟩ i j _)

/-! ## What is written, and that it is the reference's gradient -/

theorem fold_kept (n : ℕ) (hn : 0 + n < cfg0.N) : Pipeline.accAt (fun n h => stAt0 m c n h junk0) (stAt0 m c) 0 n hn = outsAt0 m c n (by omega) :=
  (outsAt0_sweep m c n (by omega)).symm

theorem left_at : G2 m c (ix2 i j) = ∑ r, part m c i j r := by
  have hN : cfg0.N = 32 := N_0
  have e : pt2Of (ix2 i j) = 31 := by
    show 32 * (1 * (i.val / 1024 - 0) + 1 * (j.val / 1024 - 0)) + 31 = 31; omega
  have el : loc2Of (ix2 i j) = ix2 i j :=
    same (Fin.ext (by show i.val % 1024 = i.val; omega)) (Fin.ext (by show j.val % 1024 = j.val; omega))
  obtain ⟨k, w⟩ := last m c ⟨31, by omega⟩ rfl
  rw [← k] at w
  dsimp only at w
  unfold G2
  rw [dif_pos (by rw [e]; omega), el, fold_kept]
  simp only [e]
  rw [w, written_at, kept_last]

theorem reference_at : val_main_v5 (F := Ideal) (y m c) (dpre m c) (ix2 i j) = ∑ r, part m c i j r := by
  rw [val_main_v5_apply, val_main_v4_apply, val_main_v3_apply]
  refine Finset.sum_congr rfl fun r _ => (mul_comm _ _).trans ?_
  rw [val_main_v2_apply]
  exact congrArg₂ (· * ·) (congrArg (y m c) (same rfl rfl)) (congrArg (dpre m c) (same rfl rfl))

theorem gradient_eq : G2 m c = val_main_v5 (F := Ideal) (y m c) (dpre m c) := by
  funext p
  obtain ⟨i, j, rfl⟩ : ∃ i j : Fin 1024, p = ix2 i j := ⟨p 0, p 1, same rfl rfl⟩
  exact (left_at m c i j).trans (reference_at m c i j).symm

/-- The two programs' results are the same, in the extended reals. -/
theorem equal : @Cert.algebraic_Kernel20Ideal_Reference20Ideal Cert.Kernel20Ideal.Gen.facts Cert.Reference20Ideal.Gen.facts := by
  intro m g m' g' hp hargs
  refine ⟨fun c => G2 m c, Value.run m g, ?_⟩
  refine (θ_run _ _ _).mono (fun r hr c => ?_) (Cert.Reference20Ideal.Value.run (F := Ideal) m' g')
  obtain ⟨e0, e1⟩ := hargs c
  obtain ⟨h5, hrest⟩ := hr c
  refine ⟨h5.trans ?_, hrest⟩
  rw [val_main_v5_eq, e0, e1]
  exact (gradient_eq m c).symm

end Cert.Kernel20Ideal.Mixers

end
-- ==== Proof.Mixers.HgGateGrad.lean ====
/- The gradients at the norm and the gate before an HGRN2 layer's last product: what the call leaves in its three arrays, what the
   reference computes, and that the two are the same where the gradient that comes in, the weights and the gain are numbers. -/
module

public import proofs.«01_k».proof.Proof.Gen.Reference21Ideal.Run
public import proofs.«01_k».proof.Proof.Gen.Reference21Ideal.Read
public import proofs.«01_k».proof.Proof.Mixers.HgGateHead
public import proofs.«01_k».proof.Proof.Mixers.HgNorm
public import proofs.«01_k».proof.Proof.Ffn.Sums
public import proofs.«01_k».proof.Proof.Fwd.Ref
public import proofs.«01_k».proof.Proof.Fwd.Equal

@[expose] public section

set_option maxRecDepth 16384

noncomputable section

namespace Cert.Kernel21Ideal.Mixers

open Idealize.ShloMosaic Idealize.ShloMosaic.TcCoe Idealize.SL.Sem Cert.Kernel21Ideal.Gen Cert.Kernel21Ideal.Value Cert.Ffn Cert.Mixers
open Cert.Reference21Ideal.Read
open Cert.Kernel2Ideal.Fwd (number_of_lt sum_number)
open Cert.Reference2Ideal.Fwd (same3)
open Cert.Kernel24Ideal.Mixers (gateCol nought one)

variable (m : (ℓ : Loc nD τ sig) → Buf (Elt Ideal) ℓ) (c : Dev nD)

/-- The gradient of the product, the weights, the two halves of what the norm is of, the projections the gate is among, and the gain. -/
abbrev dz : FVec Ideal S16384x1024 .f32 := m ((c.tc : Thread nD τ).loc main_arg0)
abbrev w : FVec Ideal S1024x1024 .bf16 := m ((c.tc : Thread nD τ).loc main_arg1)
abbrev ofw : FVec Ideal S16384x1024 .f32 := m ((c.tc : Thread nD τ).loc main_arg2)
abbrev obw : FVec Ideal S16384x1024 .f32 := m ((c.tc : Thread nD τ).loc main_arg3)
abbrev proj : FVec Ideal S16384x5120 .f32 := m ((c.tc : Thread nD τ).loc main_arg4)
abbrev gain : FVec Ideal S1x128 .f32 := m ((c.tc : Thread nD τ).loc main_arg5)

/-- One element of what the product's gradient gives, of the gate, and of the gradient of what the gate multiplies. -/
def product' (r : Fin 16384) (j : Fin 1024) : EReal := ∑ k : Fin 1024, dz m c (ix2 r k) * w m c (ix2 j k)
abbrev gate' : Fin 16384 → Fin 1024 → EReal := Cert.Kernel24Ideal.Mixers.gate (proj m c)
def back' (r : Fin 16384) (j : Fin 1024) : EReal := product' m c r j * (gate' m c r j * logistic (gate' m c r j))

/-- What the norm is of in one row of one head. -/
abbrev row : Fin 16384 → Fin 8 → Fin 128 → EReal := Cert.Kernel24Ideal.Mixers.row (ofw m c) (obw m c)

/-- The gradient of the norm of that row. -/
def normed (r : Fin 16384) (h : Fin 8) (k : Fin 128) : EReal := back' m c r (col h k) * gain m c (ix2 0 k)

/-- One element of each result, as the call has it. -/
def in' (r : Fin 16384) (h : Fin 8) (k : Fin 128) : EReal := Rms.gradient (normed m c r h) (row m c r h) k
def gateGrad' (r : Fin 16384) (h : Fin 8) (k : Fin 128) : EReal :=
  product' m c r (col h k) * (row m c r h k * Rms.scale (row m c r h) * gain m c (ix2 0 k))
    * (logistic (gate' m c r (col h k)) * (1 + gate' m c r (col h k) * (1 - logistic (gate' m c r (col h k)))))
def gainTerm (r : Fin 16384) (h : Fin 8) (k : Fin 128) : EReal := back' m c r (col h k) * row m c r h k * Rms.scale (row m c r h)

/-- A row's place among the 512 rows of block `b`, and the block's sum of the last one. -/
abbrev rowIn (b : Fin 32) (i : Fin 512) : Fin 16384 := ⟨512 * b.val + i.val, by omega⟩
def gain' (b : Fin 32) (h : Fin 8) (k : Fin 128) : EReal := ∑ i : Fin 512, gainTerm m c (rowIn b i) h k

/-! ## The blocks, as parts of the arrays -/

variable (t : Fin cfg0.N)

theorem lt_N : t.val < 32 := Nat.lt_of_lt_of_eq t.isLt N_0

/-- The block a point works on, and the point's eight rows of the sums. -/
abbrev block : Fin 32 := ⟨t.val, lt_N t⟩
abbrev partAt (q : Fin 8) : Fin 256 := ⟨8 * t.val + q.val, by have := lt_N t; omega⟩

theorem place0 : ∀ t : Fin cfg0.N, win0_0.index t = ![t.val, 0] := by decide +kernel
theorem place1 : ∀ t : Fin cfg0.N, win0_1.index t = ![0, 0] := by decide +kernel
theorem place2 : ∀ t : Fin cfg0.N, win0_2.index t = ![t.val, 0] := by decide +kernel
theorem place3 : ∀ t : Fin cfg0.N, win0_3.index t = ![t.val, 0] := by decide +kernel
theorem place4 : ∀ t : Fin cfg0.N, win0_4.index t = ![t.val, 4] := by decide +kernel
theorem place5 : ∀ t : Fin cfg0.N, win0_5.index t = ![0, 0] := by decide +kernel
theorem place6 : ∀ t : Fin cfg0.N, win0_6.index t = ![t.val, 0] := by decide +kernel
theorem place7 : ∀ t : Fin cfg0.N, win0_7.index t = ![t.val, 0] := by decide +kernel
theorem place8 : ∀ t : Fin cfg0.N, win0_8.index t = ![t.val, 0] := by decide +kernel

section Blocks

variable (A : Vec Ideal S16384x1024 .f32) (r : Fin 512) (j : Fin 1024)

theorem read0 : ((cfg0.win 0).blk t).view.read (Elt Ideal) A (ix2 r j) = A (ix2 (rowIn (block t) r) j) := by
  blk_ext [place0]
theorem read1 (B : Vec Ideal S1024x1024 .bf16) (k : Fin 1024) : ((cfg0.win 1).blk t).view.read (Elt Ideal) B (ix2 j k) = B (ix2 j k) := by
  blk_ext [place1]
theorem read2 : ((cfg0.win 2).blk t).view.read (Elt Ideal) A (ix2 r j) = A (ix2 (rowIn (block t) r) j) := by
  blk_ext [place2]
theorem read3 : ((cfg0.win 3).blk t).view.read (Elt Ideal) A (ix2 r j) = A (ix2 (rowIn (block t) r) j) := by
  blk_ext [place3]
theorem read4 (B : Vec Ideal S16384x5120 .f32) : ((cfg0.win 4).blk t).view.read (Elt Ideal) B (ix2 r j) = B (ix2 (rowIn (block t) r) (gateCol j)) := by
  blk_ext [place4]
theorem read5 (B : Vec Ideal S1x128 .f32) (k : Fin 128) : ((cfg0.win 5).blk t).view.read (Elt Ideal) B (ix2 0 k) = B (ix2 0 k) := by
  blk_ext [place5]
theorem read6 : ((cfg0.win 6).blk t).view.read (Elt Ideal) A (ix2 r j) = A (ix2 (rowIn (block t) r) j) := by
  blk_ext [place6]
theorem read7 : ((cfg0.win 7).blk t).view.read (Elt Ideal) A (ix2 r j) = A (ix2 (rowIn (block t) r) j) := by
  blk_ext [place7]
theorem read8 (B : Vec Ideal S256x1024 .f32) (q : Fin 8) : ((cfg0.win 8).blk t).view.read (Elt Ideal) B (ix2 q j) = B (ix2 (partAt t q) j) := by
  blk_ext [place8]

end Blocks

/-! What a point has of a head, and computes of it. -/

section Heads

variable (r : Fin 512) (h : Fin 8) (k : Fin 128)

theorem point_product : headD m c t h (ix2 r k) = product' m c (rowIn (block t) r) (col h k) := by
  rw [headD, part_at, product_at]
  exact Finset.sum_congr rfl fun l _ => congrArg₂ (· * ·) (read0 t (dz m c) r l) (read1 t (col h k) (w m c) l)
theorem point_row : headO m c t h (ix2 r k) = row m c (rowIn (block t) r) h k := by
  show part (iblk m c 2 t) h (ix2 r k) + part (iblk m c 3 t) h (ix2 r k) = _
  rw [part_at, part_at]
  exact congrArg₂ (· + ·) (read2 t (ofw m c) r (col h k)) (read3 t (obw m c) r (col h k))
theorem point_gate : headG m c t h (ix2 r k) = gate' m c (rowIn (block t) r) (col h k) := by
  rw [headG, part_at]
  exact read4 t r (col h k) (proj m c)
theorem point_gain : (iblk m c 5 t : Vec Ideal S1x128 .f32) (ix2 0 k) = gain m c (ix2 0 k) := read5 t (gain m c) k

theorem point_in : joined (fun h => headIn (headD m c t h) (headO m c t h) (headG m c t h) (iblk m c 5 t)) (ix2 r (col h k))
    = in' m c (rowIn (block t) r) h k := by
  rw [joined_at]
  refine (headIn_at _ _ _ _ r k).trans (congrArg₂ (Rms.gradient · · k) (funext fun l => ?_) (funext fun l => point_row m c t r h l))
  rw [point_product, point_gate, point_gain]
  rfl
theorem point_gateGrad : joined (fun h => headGate (headD m c t h) (headO m c t h) (headG m c t h) (iblk m c 5 t)) (ix2 r (col h k))
    = gateGrad' m c (rowIn (block t) r) h k := by
  rw [joined_at, headGate_at, point_product, point_row, point_gate, point_gain, funext fun l => point_row m c t r h l]
  rfl
theorem point_gainSum (q : Fin 8) : eight (inRow fun h => headGain (headD m c t h) (headO m c t h) (headG m c t h)) (ix2 q (col h k)) = gain' m c (block t) h k := by
  rw [eight_at, inRow_at]
  refine (headGain_at _ _ _ k).trans (Finset.sum_congr rfl fun i _ => ?_)
  rw [point_product, point_row, point_gate, funext fun l => point_row m c t i h l]
  rfl

end Heads

/-! ## The three arrays after the run, element by element -/

/-- The point that writes a row, and the row's place in its block; the same of the sums' rows, eight a block. -/
abbrev ptOf (r : Fin 16384) : Fin cfg0.N := ⟨r.val / 512, lt_of_lt_of_eq (show r.val / 512 < 32 by omega) N_0.symm⟩
abbrev inOf (r : Fin 16384) : Fin 512 := ⟨r.val % 512, Nat.mod_lt _ (by decide)⟩
theorem row_back (r : Fin 16384) : rowIn (block (ptOf r)) (inOf r) = r :=
  Fin.ext (by show 512 * (r.val / 512) + r.val % 512 = r.val; omega)
abbrev ptOf' (q : Fin 256) : Fin cfg0.N := ⟨q.val / 8, lt_of_lt_of_eq (show q.val / 8 < 32 by omega) N_0.symm⟩
abbrev inOf' (q : Fin 256) : Fin 8 := ⟨q.val % 8, Nat.mod_lt _ (by decide)⟩
theorem part_back (q : Fin 256) : partAt (ptOf' q) (inOf' q) = q :=
  Fin.ext (by show 8 * (q.val / 8) + q.val % 8 = q.val; omega)
abbrev blockOf (q : Fin 256) : Fin 32 := ⟨q.val / 8, by omega⟩

variable (r : Fin 16384) (q : Fin 256) (h : Fin 8) (k : Fin 128)

theorem left6 : (dats m 0 c).arrAt 6 cfg0.N (ix2 r (col h k)) = in' m c r h k := by
  have e := congrFun (blocks6 m c (ptOf r) (flush0_6 _)) (ix2 (inOf r) (col h k))
  rw [read6, row_back, flushed6, writes] at e
  exact e.trans ((point_in m c _ (inOf r) h k).trans (by rw [row_back]))
theorem left7 : (dats m 0 c).arrAt 7 cfg0.N (ix2 r (col h k)) = gateGrad' m c r h k := by
  have e := congrFun (blocks7 m c (ptOf r) (flush0_7 _)) (ix2 (inOf r) (col h k))
  rw [read7, row_back, flushed7, writes] at e
  exact e.trans ((point_gateGrad m c _ (inOf r) h k).trans (by rw [row_back]))
theorem left8 : (dats m 0 c).arrAt 8 cfg0.N (ix2 q (col h k)) = gain' m c (blockOf q) h k := by
  have e := congrFun (blocks8 m c (ptOf' q) (flush0_8 _)) (ix2 (inOf' q) (col h k))
  rw [read8, part_back, flushed8, writes] at e
  exact e.trans (point_gainSum m c _ h k (inOf' q))

/-! ## The reference: what the norm is of, and the gate

    The reference computes them with the operations of the call on the way forward. -/

theorem heads : idx_main_v2 (ix3 r h k) = ix2 r (col h k) := Cert.Kernel24Ideal.Mixers.heads r h k
theorem columns : idx_main_v22 (ix2 r (col h k)) = ix3 r h k := Cert.Kernel24Ideal.Mixers.columns r h k
theorem reference_row : val_main_v2 (F := Ideal) (ofw m c) (obw m c) (ix3 r h k) = row m c r h k :=
  Cert.Kernel24Ideal.Mixers.reference_row (ofw m c) (obw m c) r h k
theorem reference_square : val_main_v12 (F := Ideal) (ofw m c) (obw m c) (ix3 r h 0) = Rms.square (row m c r h) :=
  Cert.Kernel24Ideal.Mixers.reference_square (ofw m c) (obw m c) r h
theorem reference_scale : val_main_v13 (F := Ideal) (ofw m c) (obw m c) (ix3 r h 0) = Rms.scale (row m c r h) :=
  Cert.Kernel24Ideal.Mixers.reference_scale (ofw m c) (obw m c) r h
theorem reference_scales : val_main_v17 (F := Ideal) (ofw m c) (obw m c) (ix3 r h k) = Rms.scale (row m c r h) :=
  Cert.Kernel24Ideal.Mixers.reference_scales (ofw m c) (obw m c) r h k
theorem reference_gain : val_main_v20 (F := Ideal) (gain m c) (ix3 r h k) = gain m c (ix2 0 k) :=
  Cert.Kernel24Ideal.Mixers.reference_gain (gain m c) r h k
theorem reference_normed' : val_main_v22 (F := Ideal) (ofw m c) (obw m c) (gain m c) (ix2 r (col h k))
    = row m c r h k * Rms.scale (row m c r h) * gain m c (ix2 0 k) :=
  Cert.Kernel24Ideal.Mixers.reference_normed (ofw m c) (obw m c) (gain m c) r h k

variable (j : Fin 1024)

theorem reference_product : val_main_v26 (F := Ideal) (dz m c) (w m c) (ix2 r j) = product' m c r j := by
  rw [val_main_v26_apply]
  refine Finset.sum_congr rfl fun l _ => ?_
  rw [val_main_v0_apply]
  exact congrArg₂ (· * ·) (congrArg (dz m c) (same rfl rfl)) (congrArg (w m c) (same rfl rfl))
theorem reference_gate : val_main_v3 (F := Ideal) (proj m c) (ix2 r j) = gate' m c r j :=
  Cert.Kernel24Ideal.Mixers.reference_gate (proj m c) r j
theorem reference_logistic : val_main_v23_2 (F := Ideal) (proj m c) (ix2 r j) = logistic (gate' m c r j) :=
  Cert.Kernel24Ideal.Mixers.reference_logistic (proj m c) r j
theorem reference_rest : val_main_v23_1 (F := Ideal) (proj m c) (ix2 r j) = logistic (gate' m c r j) * (1 - logistic (gate' m c r j)) := by
  rw [val_main_v23_1_apply, val_main_call0_v7_apply, val_main_call0_v6_apply, val_main_call0_cst_1_apply, reference_logistic, one]
  rfl
theorem reference_back : val_main_v28 (F := Ideal) (dz m c) (w m c) (proj m c) (ix2 r j) = back' m c r j := by
  rw [val_main_v28_apply, val_main_v23_0_apply, reference_product, reference_logistic, reference_gate]
  rfl

/-! ## The reference: its three results -/

theorem reference_normed : val_main_v32 (F := Ideal) (dz m c) (w m c) (proj m c) (gain m c) (ix3 r h k) = normed m c r h k := by
  have e : val_main_v31 (F := Ideal) (gain m c) (ix3 r h k) = gain m c (ix2 0 k) := reference_gain m c r h k
  rw [val_main_v32_apply, val_main_v30_apply, show idx_main_v30 (ix3 r h k) = ix2 r (col h k) from heads r h k, reference_back, e]
  rfl

/-- What goes back through a row's mean square, over the row's length. -/
def through : EReal :=
  Ideal.div ((∑ k, row m c r h k * normed m c r h k) * (Ideal.ofBits .f32 0xBF000000#32 * Ideal.div (Rms.scale (row m c r h)) (Rms.square (row m c r h))))
    (Ideal.ofBits .f32 0x43000000#32)
theorem reference_through :
    val_main_v40 (F := Ideal) (dz m c) (w m c) (ofw m c) (obw m c) (proj m c) (gain m c) (ix3 r h 0) = through m c r h := by
  have e : val_main_v35 (F := Ideal) (dz m c) (w m c) (ofw m c) (obw m c) (proj m c) (gain m c) (ix3 r h 0)
      = ∑ k, row m c r h k * normed m c r h k := by
    rw [val_main_v35_apply, val_main_v34_apply, val_main_cst_4_apply, nought, zero_add]
    refine Finset.sum_congr rfl fun k _ => ?_
    rw [val_main_v33_apply, show idx_main_v34 (idx_main_v35 (ix3 r h 0)) k = ix3 r h k from
      same3 (Fin.ext (by show ((r.val * 8 + h.val) * 1 + 0) / 8 = r.val; omega)) (Fin.ext (by show ((r.val * 8 + h.val) * 1 + 0) % 8 = h.val; omega)) rfl,
      reference_row, reference_normed]
    rfl
  rw [val_main_v40_apply, val_main_v38_apply, e, val_main_v16_apply, val_main_v14_apply, reference_scale, reference_square]
  rfl
theorem reference_in : val_main_v69 (F := Ideal) (dz m c) (w m c) (ofw m c) (obw m c) (proj m c) (gain m c) (ix2 r (col h k))
    = Rms.chain (normed m c r h) (row m c r h) k := by
  have e : val_main_v36 (F := Ideal) (ofw m c) (obw m c) (ix3 r h k) = Rms.scale (row m c r h) := reference_scales m c r h k
  have e' : val_main_v42 (F := Ideal) (dz m c) (w m c) (ofw m c) (obw m c) (proj m c) (gain m c) (ix3 r h k) = through m c r h := by
    rw [val_main_v42_apply, val_main_v41_apply, val_main_cst_6_apply, nought, zero_add, Fin.sum_univ_one, ← reference_through]
    exact congrArg _ (same3 rfl rfl rfl)
  rw [val_main_v69_apply, show idx_main_v69 (ix2 r (col h k)) = ix3 r h k from columns r h k, val_main_v44_apply, val_main_v37_apply, val_main_v43_apply,
    val_main_v6_apply, reference_normed, e, e', reference_row]
  rfl
theorem reference_gateGrad : val_main_v29 (F := Ideal) (dz m c) (w m c) (ofw m c) (obw m c) (proj m c) (gain m c) (ix2 r (col h k))
    = row m c r h k * Rms.scale (row m c r h) * gain m c (ix2 0 k) * product' m c r (col h k) * logistic (gate' m c r (col h k))
      + gate' m c r (col h k) * (row m c r h k * Rms.scale (row m c r h) * gain m c (ix2 0 k) * product' m c r (col h k))
        * (logistic (gate' m c r (col h k)) * (1 - logistic (gate' m c r (col h k)))) := by
  rw [val_main_v29_apply, val_main_call1_v1_apply, val_main_call1_v2_apply, val_main_call1_v0_apply, val_main_v27_apply, reference_normed', reference_product, reference_gate, reference_logistic,
    reference_rest]
  rfl
/-- The gain's gradient takes the norm and the gate again, with the same operations, and a gain of one. -/
theorem reference_gainTerm : val_main_v64 (F := Ideal) (dz m c) (w m c) (ofw m c) (obw m c) (proj m c) (ix3 r h k) = gainTerm m c r h k := by
  have e : val_main_v50 (F := Ideal) (dz m c) (w m c) (proj m c) (ix2 r (col h k)) = back' m c r (col h k) := reference_back m c r (col h k)
  have e' : val_main_v60 (F := Ideal) (ofw m c) (obw m c) (ix3 r h k) = Rms.scale (row m c r h) := reference_scales m c r h k
  rw [val_main_v64_apply, val_main_v51_apply, show idx_main_v51 (ix3 r h k) = ix2 r (col h k) from heads r h k, e, val_main_v63_apply, val_main_v61_apply, e',
    reference_row, val_main_v62_apply, val_main_cst_10_apply, one]
  exact (congrArg (back' m c r (col h k) * ·) (mul_one _)).trans (mul_assoc _ _ _).symm

/-- Row `i` of the block that row `q` of the sums belongs to. -/
theorem place_in (i : Fin 512) : idx_main_v65 (idx_main_v66 (idx_main_v67 (idx_main_v68 (ix2 q (col h k)))) i) = ix3 (rowIn (blockOf q) i) h k :=
  same3 (Fin.ext (by
    show ((((q.val * 1024 + (128 * h.val + k.val)) / 8192 * 1 + 0) * 512 + i.val) * 1024 + (q.val * 1024 + (128 * h.val + k.val)) % 1024) / 1024
      = 512 * (q.val / 8) + i.val
    omega)) (Fin.ext (by
    show ((((q.val * 1024 + (128 * h.val + k.val)) / 8192 * 1 + 0) * 512 + i.val) * 1024 + (q.val * 1024 + (128 * h.val + k.val)) % 1024) / 128 % 8 = h.val
    omega)) (Fin.ext (by
    show ((((q.val * 1024 + (128 * h.val + k.val)) / 8192 * 1 + 0) * 512 + i.val) * 1024 + (q.val * 1024 + (128 * h.val + k.val)) % 1024) % 128 = k.val
    omega))
theorem reference_gainSum : val_main_v68 (F := Ideal) (dz m c) (w m c) (ofw m c) (obw m c) (proj m c) (ix2 q (col h k)) = gain' m c (blockOf q) h k := by
  rw [val_main_v68_apply, val_main_v67_apply, val_main_v66_apply, val_main_cst_11_apply, nought, zero_add]
  refine Finset.sum_congr rfl fun i _ => ?_
  rw [val_main_v65_apply, place_in, reference_gainTerm]

/-! ## That the two are the same -/

theorem factsGain : Cert.Pre_finite_gain.Facts := ⟨by decide, by decide, by decide, by decide⟩

/-- Where the precondition holds, the gradient of the gate's product is a number: a row over its root mean square is one whatever the row. -/
theorem number (hp : @Cert.Pre_Kernel21Ideal_finite_gain factsGain m) :
    ∃ y : ℝ, product' m c r (col h k) * (row m c r h k * Rms.scale (row m c r h) * gain m c (ix2 0 k)) = (y : EReal) := by
  obtain ⟨h0, h1, h5⟩ := hp c
  have n0 : ∀ q, ∃ y : ℝ, dz m c q = (y : EReal) := fun q => number_of_lt _ (congrFun h0 q)
  have n1 : ∀ q, ∃ y : ℝ, w m c q = (y : EReal) := fun q => number_of_lt _ (congrFun h1 q)
  have n5 : ∀ q, ∃ y : ℝ, gain m c q = (y : EReal) := fun q => number_of_lt _ (congrFun h5 q)
  obtain ⟨a, ha⟩ := sum_number (fun l : Fin 1024 => n0 (ix2 r l)) (fun l => n1 (ix2 (col h k) l))
  obtain ⟨b, hb⟩ := Rms.normed_number (row m c r h) k
  obtain ⟨g, hg⟩ := n5 (ix2 0 k)
  exact ⟨a * (b * g), by rw [product', ha, hb, hg, EReal.coe_mul, EReal.coe_mul]⟩

theorem in_eq : (dats m 0 c).arrAt 6 cfg0.N = val_main_v69 (F := Ideal) (dz m c) (w m c) (ofw m c) (obw m c) (proj m c) (gain m c) := by
  funext p
  obtain ⟨r, j, rfl⟩ : ∃ (r : Fin 16384) (j : Fin 1024), p = ix2 r j := ⟨p 0, p 1, same rfl rfl⟩
  obtain ⟨h, k, rfl⟩ := in_a_head j
  exact (left6 m c r h k).trans ((Rms.gradient_eq _ _ k).trans (reference_in m c r h k).symm)
theorem gateGrad_eq (hp : @Cert.Pre_Kernel21Ideal_finite_gain factsGain m) :
    (dats m 0 c).arrAt 7 cfg0.N = val_main_v29 (F := Ideal) (dz m c) (w m c) (ofw m c) (obw m c) (proj m c) (gain m c) := by
  funext p
  obtain ⟨r, j, rfl⟩ : ∃ (r : Fin 16384) (j : Fin 1024), p = ix2 r j := ⟨p 0, p 1, same rfl rfl⟩
  obtain ⟨h, k, rfl⟩ := in_a_head j
  obtain ⟨y, hy⟩ := number m c r h k hp
  refine (left7 m c r h k).trans (Eq.trans ?_ (reference_gateGrad m c r h k).symm)
  rw [gateGrad', mul_comm (row m c r h k * Rms.scale (row m c r h) * gain m c (ix2 0 k)) (product' m c r (col h k)), hy]
  exact slope y _
theorem gain_eq : (dats m 0 c).arrAt 8 cfg0.N = val_main_v68 (F := Ideal) (dz m c) (w m c) (ofw m c) (obw m c) (proj m c) := by
  funext p
  obtain ⟨q, j, rfl⟩ : ∃ (q : Fin 256) (j : Fin 1024), p = ix2 q j := ⟨p 0, p 1, same rfl rfl⟩
  obtain ⟨h, k, rfl⟩ := in_a_head j
  exact (left8 m c q h k).trans (reference_gainSum m c q h k).symm

/-- The two programs' results are the same, in the extended reals. -/
theorem equal : @Cert.algebraic_Kernel21Ideal_Reference21Ideal_pre_finite_gain Cert.Kernel21Ideal.Gen.facts Cert.Reference21Ideal.Gen.facts factsGain := by
  intro m g m' g' hp hargs
  refine ⟨fun c => (dats m 0 c).arrAt 6 cfg0.N, fun c => (dats m 0 c).arrAt 7 cfg0.N, fun c => (dats m 0 c).arrAt 8 cfg0.N, run_blocks m g, ?_⟩
  refine (θ_run _ _ _).mono (fun r hr c => ?_) (Cert.Reference21Ideal.Value.run (F := Ideal) m' g')
  obtain ⟨e0, e1, e2, e3, e4, e5⟩ := hargs c
  obtain ⟨h69, h29, h68, hrest⟩ := hr c
  refine ⟨h69.trans ?_, h29.trans ?_, h68.trans ?_, hrest⟩
  · rw [val_main_v69_eq, e0, e1, e2, e3, e4, e5]
    exact (in_eq m c).symm
  · rw [val_main_v29_eq, e0, e1, e2, e3, e4, e5]
    exact (gateGrad_eq m c hp).symm
  · rw [val_main_v68_eq, e0, e1, e2, e3, e4]
    exact (gain_eq m c).symm

end Cert.Kernel21Ideal.Mixers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal.Value
public import proofs.«01_k».proof.Proof.Gen.Reference27Ideal.Run
public import proofs.«01_k».proof.Proof.Gen.Reference27Ideal.Read
public import proofs.«01_k».proof.Proof.Grad.Frames
public import proofs.«01_k».proof.Proof.Grad.Equal
public import proofs.«01_k».proof.Proof.Fwd.Frames
public import proofs.«01_k».proof.Proof.Fwd.Equal
public import proofs.«01_k».proof.Proof.Ffn.Frames
public import proofs.«01_k».proof.Proof.Ffn.Input
public import proofs.«01_k».proof.Proof.Ffn.WeightIn
public import proofs.«01_k».proof.Proof.Ffn.WeightOut
public import proofs.«01_k».proof.Proof.Ffn.Hidden
public import proofs.«01_k».proof.Proof.Ffn.HiddenGrad
public import proofs.«01_k».proof.Proof.Ffn.Output
public import proofs.«01_k».proof.Proof.Ffn.NormGrad
public import proofs.«01_k».proof.Proof.Mixers.Frames
public import proofs.«01_k».proof.Proof.Mixers.HgIn
public import proofs.«01_k».proof.Proof.Mixers.HgInput
public import proofs.«01_k».proof.Proof.Mixers.HgWeightIn
public import proofs.«01_k».proof.Proof.Mixers.S5Gate
public import proofs.«01_k».proof.Proof.Mixers.S5GateGrad
public import proofs.«01_k».proof.Proof.Mixers.S5GeluGrad
public import proofs.«01_k».proof.Proof.Mixers.AttnResultGrad
public import proofs.«01_k».proof.Proof.Mixers.HgNorm
public import proofs.«01_k».proof.Proof.Mixers.AttnIn
public import proofs.«01_k».proof.Proof.Mixers.AttnInput
public import proofs.«01_k».proof.Proof.Mixers.AttnWeightIn
public import proofs.«01_k».proof.Proof.Mixers.S5Input
public import proofs.«01_k».proof.Proof.Mixers.HgWeightOut
public import proofs.«01_k».proof.Proof.Mixers.HgOut
public import proofs.«01_k».proof.Proof.Mixers.S5In
public import proofs.«01_k».proof.Proof.Mixers.S5WeightIn
public import proofs.«01_k».proof.Proof.Mixers.S5WeightGate
public import proofs.«01_k».proof.Proof.Mixers.HgGateGrad
public import Idealize.ShloMosaic.Adequacy
public import Idealize.ShloMosaic.Init

@[expose] public section

noncomputable section

namespace Cert.Proof

open Idealize.ShloMosaic Idealize.SL.Sem Cert.Kernel

/-- `Cert.Claim`: of the attention's gradient, of the attention, of the SwiGLU layer's calls and of the HGRN2 and S5 layers' calls, the frames (the
    Frames modules), each also under its precondition where there is one, and the equality of the results (the theorems `equal`). -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.KernelIdeal.Grad.factsFinite, Cert.Kernel2Ideal.Fwd.factsScores, Cert.Kernel7Ideal.Ffn.factsGate,
  Cert.Kernel9Ideal.Ffn.factsNorm, Cert.Kernel21Ideal.Mixers.factsGain,
  Cert.KernelIdeal.Grad.frame_kernel, Cert.KernelIdeal.Grad.frame_ideal, fun m g _ => Cert.KernelIdeal.Grad.frame_ideal m g trivial,
  Cert.KernelIdeal.Grad.frame_reference, fun m g _ => Cert.KernelIdeal.Grad.frame_reference m g trivial,
  Cert.Kernel2Ideal.Fwd.frame_kernel, Cert.Kernel2Ideal.Fwd.frame_ideal, fun m g _ => Cert.Kernel2Ideal.Fwd.frame_ideal m g trivial,
  Cert.Kernel2Ideal.Fwd.frame_reference, fun m g _ => Cert.Kernel2Ideal.Fwd.frame_reference m g trivial,
  Cert.Kernel3Ideal.Ffn.frame_kernel, Cert.Kernel3Ideal.Ffn.frame_ideal, Cert.Kernel3Ideal.Ffn.frame_reference,
  Cert.Kernel4Ideal.Ffn.frame_kernel, Cert.Kernel4Ideal.Ffn.frame_ideal, Cert.Kernel4Ideal.Ffn.frame_reference,
  Cert.Kernel5Ideal.Ffn.frame_kernel, Cert.Kernel5Ideal.Ffn.frame_ideal, Cert.Kernel5Ideal.Ffn.frame_reference,
  Cert.Kernel6Ideal.Ffn.frame_kernel, Cert.Kernel6Ideal.Ffn.frame_ideal, Cert.Kernel6Ideal.Ffn.frame_reference,
  Cert.Kernel7Ideal.Ffn.frame_kernel, Cert.Kernel7Ideal.Ffn.frame_ideal, fun m g _ => Cert.Kernel7Ideal.Ffn.frame_ideal m g trivial,
  Cert.Kernel7Ideal.Ffn.frame_reference, fun m g _ => Cert.Kernel7Ideal.Ffn.frame_reference m g trivial,
  Cert.Kernel8Ideal.Ffn.frame_kernel, Cert.Kernel8Ideal.Ffn.frame_ideal, Cert.Kernel8Ideal.Ffn.frame_reference,
  Cert.Kernel9Ideal.Ffn.frame_kernel, Cert.Kernel9Ideal.Ffn.frame_ideal, fun m g _ => Cert.Kernel9Ideal.Ffn.frame_ideal m g trivial,
  Cert.Kernel9Ideal.Ffn.frame_reference, fun m g _ => Cert.Kernel9Ideal.Ffn.frame_reference m g trivial,
  Cert.Kernel10Ideal.Mixers.frame_kernel, Cert.Kernel10Ideal.Mixers.frame_ideal, Cert.Kernel10Ideal.Mixers.frame_reference,
  Cert.Kernel11Ideal.Mixers.frame_kernel, Cert.Kernel11Ideal.Mixers.frame_ideal, Cert.Kernel11Ideal.Mixers.frame_reference,
  Cert.Kernel12Ideal.Mixers.frame_kernel, Cert.Kernel12Ideal.Mixers.frame_ideal, Cert.Kernel12Ideal.Mixers.frame_reference,
  Cert.Kernel13Ideal.Mixers.frame_kernel, Cert.Kernel13Ideal.Mixers.frame_ideal, Cert.Kernel13Ideal.Mixers.frame_reference,
  Cert.Kernel14Ideal.Mixers.frame_kernel, Cert.Kernel14Ideal.Mixers.frame_ideal, Cert.Kernel14Ideal.Mixers.frame_reference,
  Cert.Kernel15Ideal.Mixers.frame_kernel, Cert.Kernel15Ideal.Mixers.frame_ideal, Cert.Kernel15Ideal.Mixers.frame_reference,
  Cert.Kernel16Ideal.Mixers.frame_kernel, Cert.Kernel16Ideal.Mixers.frame_ideal, Cert.Kernel16Ideal.Mixers.frame_reference,
  Cert.Kernel17Ideal.Mixers.frame_kernel, Cert.Kernel17Ideal.Mixers.frame_ideal, Cert.Kernel17Ideal.Mixers.frame_reference,
  Cert.Kernel18Ideal.Mixers.frame_kernel, Cert.Kernel18Ideal.Mixers.frame_ideal, Cert.Kernel18Ideal.Mixers.frame_reference,
  Cert.Kernel19Ideal.Mixers.frame_kernel, Cert.Kernel19Ideal.Mixers.frame_ideal, Cert.Kernel19Ideal.Mixers.frame_reference,
  Cert.Kernel20Ideal.Mixers.frame_kernel, Cert.Kernel20Ideal.Mixers.frame_ideal, Cert.Kernel20Ideal.Mixers.frame_reference,
  Cert.Kernel21Ideal.Mixers.frame_kernel, Cert.Kernel21Ideal.Mixers.frame_ideal, fun m g _ => Cert.Kernel21Ideal.Mixers.frame_ideal m g trivial,
  Cert.Kernel21Ideal.Mixers.frame_reference, fun m g _ => Cert.Kernel21Ideal.Mixers.frame_reference m g trivial,
  Cert.Kernel22Ideal.Mixers.frame_kernel, Cert.Kernel22Ideal.Mixers.frame_ideal, Cert.Kernel22Ideal.Mixers.frame_reference,
  Cert.Kernel23Ideal.Mixers.frame_kernel, Cert.Kernel23Ideal.Mixers.frame_ideal, Cert.Kernel23Ideal.Mixers.frame_reference,
  Cert.Kernel24Ideal.Mixers.frame_kernel, Cert.Kernel24Ideal.Mixers.frame_ideal, Cert.Kernel24Ideal.Mixers.frame_reference,
  Cert.Kernel25Ideal.Mixers.frame_kernel, Cert.Kernel25Ideal.Mixers.frame_ideal, Cert.Kernel25Ideal.Mixers.frame_reference,
  Cert.Kernel26Ideal.Mixers.frame_kernel, Cert.Kernel26Ideal.Mixers.frame_ideal, Cert.Kernel26Ideal.Mixers.frame_reference,
  Cert.Kernel27Ideal.Mixers.frame_kernel, Cert.Kernel27Ideal.Mixers.frame_ideal, Cert.Kernel27Ideal.Mixers.frame_reference,
  trivial, Cert.KernelIdeal.Grad.equal, trivial, Cert.Kernel2Ideal.Fwd.equal,
  trivial, Cert.Kernel3Ideal.Ffn.equal, trivial, Cert.Kernel4Ideal.Ffn.equal, trivial, Cert.Kernel5Ideal.Ffn.equal,
  trivial, Cert.Kernel6Ideal.Ffn.equal, trivial, Cert.Kernel7Ideal.Ffn.equal, trivial, Cert.Kernel8Ideal.Ffn.equal,
  trivial, Cert.Kernel9Ideal.Ffn.equal,
  trivial, Cert.Kernel10Ideal.Mixers.equal, trivial, Cert.Kernel11Ideal.Mixers.equal, trivial, Cert.Kernel12Ideal.Mixers.equal,
  trivial, Cert.Kernel13Ideal.Mixers.equal, trivial, Cert.Kernel14Ideal.Mixers.equal, trivial, Cert.Kernel15Ideal.Mixers.equal,
  trivial, Cert.Kernel16Ideal.Mixers.equal, trivial, Cert.Kernel17Ideal.Mixers.equal, trivial, Cert.Kernel18Ideal.Mixers.equal,
  trivial, Cert.Kernel19Ideal.Mixers.equal, trivial, Cert.Kernel20Ideal.Mixers.equal,
  trivial, Cert.Kernel21Ideal.Mixers.equal, trivial, Cert.Kernel22Ideal.Mixers.equal, trivial, Cert.Kernel23Ideal.Mixers.equal, trivial, Cert.Kernel24Ideal.Mixers.equal,
  trivial, Cert.Kernel25Ideal.Mixers.equal, trivial, Cert.Kernel26Ideal.Mixers.equal, trivial, Cert.Kernel27Ideal.Mixers.equal⟩

end Cert.Proof

end
